-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Project1 (m : (ℓ : Loc Cert.Project1.nD Cert.Project1.τ Cert.Project1.sig) → Buf (Elt Bits) ℓ) : Prop :=
  True

def Pre_Project1Ideal (m : (ℓ : Loc Cert.Project1Ideal.nD Cert.Project1Ideal.τ Cert.Project1Ideal.sig) → Buf (Elt Ideal) ℓ) : Prop :=
  True

def Pre_Project1RefIdeal (m : (ℓ : Loc Cert.Project1RefIdeal.nD Cert.Project1RefIdeal.τ Cert.Project1RefIdeal.sig) → Buf (Elt Ideal) ℓ) : Prop :=
  True

def Pre_Project0 (m : (ℓ : Loc Cert.Project0.nD Cert.Project0.τ Cert.Project0.sig) → Buf (Elt Bits) ℓ) : Prop :=
  True

def Pre_Project0Ideal (m : (ℓ : Loc Cert.Project0Ideal.nD Cert.Project0Ideal.τ Cert.Project0Ideal.sig) → Buf (Elt Ideal) ℓ) : Prop :=
  True

def Pre_Project0RefIdeal (m : (ℓ : Loc Cert.Project0RefIdeal.nD Cert.Project0RefIdeal.τ Cert.Project0RefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Readout (m : (ℓ : Loc Cert.Readout.nD Cert.Readout.τ Cert.Readout.sig) → Buf (Elt Bits) ℓ) : Prop :=
  True

def Pre_ReadoutIdeal (m : (ℓ : Loc Cert.ReadoutIdeal.nD Cert.ReadoutIdeal.τ Cert.ReadoutIdeal.sig) → Buf (Elt Ideal) ℓ) : Prop :=
  True

def Pre_ReadoutRefIdeal (m : (ℓ : Loc Cert.ReadoutRefIdeal.nD Cert.ReadoutRefIdeal.τ Cert.ReadoutRefIdeal.sig) → Buf (Elt Ideal) ℓ) : Prop :=
  True

def Pre_Project1Ctx (m : (ℓ : Loc Cert.Project1Ctx.nD Cert.Project1Ctx.τ Cert.Project1Ctx.sig) → Buf (Elt Bits) ℓ) : Prop :=
  True

def Pre_Project1CtxIdeal (m : (ℓ : Loc Cert.Project1CtxIdeal.nD Cert.Project1CtxIdeal.τ Cert.Project1CtxIdeal.sig) → Buf (Elt Ideal) ℓ) : Prop :=
  True

def Pre_Project1CtxRefIdeal (m : (ℓ : Loc Cert.Project1CtxRefIdeal.nD Cert.Project1CtxRefIdeal.τ Cert.Project1CtxRefIdeal.sig) → Buf (Elt Ideal) ℓ) : Prop :=
  True

def Pre_Project0Ctx (m : (ℓ : Loc Cert.Project0Ctx.nD Cert.Project0Ctx.τ Cert.Project0Ctx.sig) → Buf (Elt Bits) ℓ) : Prop :=
  True

def Pre_Project0CtxIdeal (m : (ℓ : Loc Cert.Project0CtxIdeal.nD Cert.Project0CtxIdeal.τ Cert.Project0CtxIdeal.sig) → Buf (Elt Ideal) ℓ) : Prop :=
  True

def Pre_Project0CtxRefIdeal (m : (ℓ : Loc Cert.Project0CtxRefIdeal.nD Cert.Project0CtxRefIdeal.τ Cert.Project0CtxRefIdeal.sig) → Buf (Elt Ideal) ℓ) : Prop :=
  True

def Pre_OutProjCtx (m : (ℓ : Loc Cert.OutProjCtx.nD Cert.OutProjCtx.τ Cert.OutProjCtx.sig) → Buf (Elt Bits) ℓ) : Prop :=
  True

def Pre_OutProjCtxIdeal (m : (ℓ : Loc Cert.OutProjCtxIdeal.nD Cert.OutProjCtxIdeal.τ Cert.OutProjCtxIdeal.sig) → Buf (Elt Ideal) ℓ) : Prop :=
  True

def Pre_OutProjCtxRefIdeal (m : (ℓ : Loc Cert.OutProjCtxRefIdeal.nD Cert.OutProjCtxRefIdeal.τ Cert.OutProjCtxRefIdeal.sig) → Buf (Elt Ideal) ℓ) : Prop :=
  True

def Pre_Peer (m : (ℓ : Loc Cert.Peer.nD Cert.Peer.τ Cert.Peer.sig) → Buf (Elt Bits) ℓ) : Prop :=
  True

def Pre_PeerIdeal (m : (ℓ : Loc Cert.PeerIdeal.nD Cert.PeerIdeal.τ Cert.PeerIdeal.sig) → Buf (Elt Ideal) ℓ) : Prop :=
  True

def Pre_PeerRefIdeal (m : (ℓ : Loc Cert.PeerRefIdeal.nD Cert.PeerRefIdeal.τ Cert.PeerRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Project1 [hProject1 : Cert.Project1.Facts] : Prop :=
  ∀ (m : (ℓ : Loc Cert.Project1.nD Cert.Project1.τ Cert.Project1.sig) → Buf (Elt Bits) ℓ) (g : Dev Cert.Project1.nD → PrngReg), Pre_Project1 m →
    θ_run (Cert.Project1.defs (F := Bits)) (onTc (τ := Cert.Project1.τ) (Cert.Project1.main (F := Bits))) ⟨m, fun _ => 0, g⟩ (fun r => (∀ c : Dev Cert.Project1.nD,
      r.2.mem ((c.tc : Thread Cert.Project1.nD Cert.Project1.τ).loc Cert.Project1.main_arg0) = m ((c.tc : Thread Cert.Project1.nD Cert.Project1.τ).loc Cert.Project1.main_arg0)
      ∧ r.2.mem ((c.tc : Thread Cert.Project1.nD Cert.Project1.τ).loc Cert.Project1.main_arg1) = m ((c.tc : Thread Cert.Project1.nD Cert.Project1.τ).loc Cert.Project1.main_arg1)
      ∧ r.2.mem ((c.tc : Thread Cert.Project1.nD Cert.Project1.τ).loc Cert.Project1.main_arg2) = m ((c.tc : Thread Cert.Project1.nD Cert.Project1.τ).loc Cert.Project1.main_arg2)
      ∧ r.2.mem ((c.tc : Thread Cert.Project1.nD Cert.Project1.τ).loc Cert.Project1.main_arg3) = m ((c.tc : Thread Cert.Project1.nD Cert.Project1.τ).loc Cert.Project1.main_arg3)
      ∧ r.2.mem ((c.tc : Thread Cert.Project1.nD Cert.Project1.τ).loc Cert.Project1.main_arg4) = m ((c.tc : Thread Cert.Project1.nD Cert.Project1.τ).loc Cert.Project1.main_arg4))
      ∧ r.2.sem = fun _ => 0)

def quiescent_Project1Ideal [hProject1Ideal : Cert.Project1Ideal.Facts] : Prop :=
  ∀ (m : (ℓ : Loc Cert.Project1Ideal.nD Cert.Project1Ideal.τ Cert.Project1Ideal.sig) → Buf (Elt Ideal) ℓ) (g : Dev Cert.Project1Ideal.nD → PrngReg), Pre_Project1Ideal m →
    θ_run (Cert.Project1Ideal.defs (F := Ideal)) (onTc (τ := Cert.Project1Ideal.τ) (Cert.Project1Ideal.main (F := Ideal))) ⟨m, fun _ => 0, g⟩ (fun r => (∀ c : Dev Cert.Project1Ideal.nD,
      r.2.mem ((c.tc : Thread Cert.Project1Ideal.nD Cert.Project1Ideal.τ).loc Cert.Project1Ideal.main_arg0) = m ((c.tc : Thread Cert.Project1Ideal.nD Cert.Project1Ideal.τ).loc Cert.Project1Ideal.main_arg0)
      ∧ r.2.mem ((c.tc : Thread Cert.Project1Ideal.nD Cert.Project1Ideal.τ).loc Cert.Project1Ideal.main_arg1) = m ((c.tc : Thread Cert.Project1Ideal.nD Cert.Project1Ideal.τ).loc Cert.Project1Ideal.main_arg1)
      ∧ r.2.mem ((c.tc : Thread Cert.Project1Ideal.nD Cert.Project1Ideal.τ).loc Cert.Project1Ideal.main_arg2) = m ((c.tc : Thread Cert.Project1Ideal.nD Cert.Project1Ideal.τ).loc Cert.Project1Ideal.main_arg2)
      ∧ r.2.mem ((c.tc : Thread Cert.Project1Ideal.nD Cert.Project1Ideal.τ).loc Cert.Project1Ideal.main_arg3) = m ((c.tc : Thread Cert.Project1Ideal.nD Cert.Project1Ideal.τ).loc Cert.Project1Ideal.main_arg3)
      ∧ r.2.mem ((c.tc : Thread Cert.Project1Ideal.nD Cert.Project1Ideal.τ).loc Cert.Project1Ideal.main_arg4) = m ((c.tc : Thread Cert.Project1Ideal.nD Cert.Project1Ideal.τ).loc Cert.Project1Ideal.main_arg4))
      ∧ r.2.sem = fun _ => 0)

def quiescent_Project1RefIdeal [hProject1RefIdeal : Cert.Project1RefIdeal.Facts] : Prop :=
  ∀ (m : (ℓ : Loc Cert.Project1RefIdeal.nD Cert.Project1RefIdeal.τ Cert.Project1RefIdeal.sig) → Buf (Elt Ideal) ℓ) (g : Dev Cert.Project1RefIdeal.nD → PrngReg), Pre_Project1RefIdeal m →
    θ_run (Cert.Project1RefIdeal.defs (F := Ideal)) (onTc (τ := Cert.Project1RefIdeal.τ) (Cert.Project1RefIdeal.main (F := Ideal))) ⟨m, fun _ => 0, g⟩ (fun r => (∀ c : Dev Cert.Project1RefIdeal.nD,
      r.2.mem ((c.tc : Thread Cert.Project1RefIdeal.nD Cert.Project1RefIdeal.τ).loc Cert.Project1RefIdeal.main_arg0) = m ((c.tc : Thread Cert.Project1RefIdeal.nD Cert.Project1RefIdeal.τ).loc Cert.Project1RefIdeal.main_arg0)
      ∧ r.2.mem ((c.tc : Thread Cert.Project1RefIdeal.nD Cert.Project1RefIdeal.τ).loc Cert.Project1RefIdeal.main_arg1) = m ((c.tc : Thread Cert.Project1RefIdeal.nD Cert.Project1RefIdeal.τ).loc Cert.Project1RefIdeal.main_arg1)
      ∧ r.2.mem ((c.tc : Thread Cert.Project1RefIdeal.nD Cert.Project1RefIdeal.τ).loc Cert.Project1RefIdeal.main_arg2) = m ((c.tc : Thread Cert.Project1RefIdeal.nD Cert.Project1RefIdeal.τ).loc Cert.Project1RefIdeal.main_arg2)
      ∧ r.2.mem ((c.tc : Thread Cert.Project1RefIdeal.nD Cert.Project1RefIdeal.τ).loc Cert.Project1RefIdeal.main_arg3) = m ((c.tc : Thread Cert.Project1RefIdeal.nD Cert.Project1RefIdeal.τ).loc Cert.Project1RefIdeal.main_arg3)
      ∧ r.2.mem ((c.tc : Thread Cert.Project1RefIdeal.nD Cert.Project1RefIdeal.τ).loc Cert.Project1RefIdeal.main_arg4) = m ((c.tc : Thread Cert.Project1RefIdeal.nD Cert.Project1RefIdeal.τ).loc Cert.Project1RefIdeal.main_arg4))
      ∧ r.2.sem = fun _ => 0)

def quiescent_Project0 [hProject0 : Cert.Project0.Facts] : Prop :=
  ∀ (m : (ℓ : Loc Cert.Project0.nD Cert.Project0.τ Cert.Project0.sig) → Buf (Elt Bits) ℓ) (g : Dev Cert.Project0.nD → PrngReg), Pre_Project0 m →
    θ_run (Cert.Project0.defs (F := Bits)) (onTc (τ := Cert.Project0.τ) (Cert.Project0.main (F := Bits))) ⟨m, fun _ => 0, g⟩ (fun r => (∀ c : Dev Cert.Project0.nD,
      r.2.mem ((c.tc : Thread Cert.Project0.nD Cert.Project0.τ).loc Cert.Project0.main_arg0) = m ((c.tc : Thread Cert.Project0.nD Cert.Project0.τ).loc Cert.Project0.main_arg0)
      ∧ r.2.mem ((c.tc : Thread Cert.Project0.nD Cert.Project0.τ).loc Cert.Project0.main_arg1) = m ((c.tc : Thread Cert.Project0.nD Cert.Project0.τ).loc Cert.Project0.main_arg1)
      ∧ r.2.mem ((c.tc : Thread Cert.Project0.nD Cert.Project0.τ).loc Cert.Project0.main_arg2) = m ((c.tc : Thread Cert.Project0.nD Cert.Project0.τ).loc Cert.Project0.main_arg2)
      ∧ r.2.mem ((c.tc : Thread Cert.Project0.nD Cert.Project0.τ).loc Cert.Project0.main_arg3) = m ((c.tc : Thread Cert.Project0.nD Cert.Project0.τ).loc Cert.Project0.main_arg3)
      ∧ r.2.mem ((c.tc : Thread Cert.Project0.nD Cert.Project0.τ).loc Cert.Project0.main_arg4) = m ((c.tc : Thread Cert.Project0.nD Cert.Project0.τ).loc Cert.Project0.main_arg4))
      ∧ r.2.sem = fun _ => 0)

def quiescent_Project0Ideal [hProject0Ideal : Cert.Project0Ideal.Facts] : Prop :=
  ∀ (m : (ℓ : Loc Cert.Project0Ideal.nD Cert.Project0Ideal.τ Cert.Project0Ideal.sig) → Buf (Elt Ideal) ℓ) (g : Dev Cert.Project0Ideal.nD → PrngReg), Pre_Project0Ideal m →
    θ_run (Cert.Project0Ideal.defs (F := Ideal)) (onTc (τ := Cert.Project0Ideal.τ) (Cert.Project0Ideal.main (F := Ideal))) ⟨m, fun _ => 0, g⟩ (fun r => (∀ c : Dev Cert.Project0Ideal.nD,
      r.2.mem ((c.tc : Thread Cert.Project0Ideal.nD Cert.Project0Ideal.τ).loc Cert.Project0Ideal.main_arg0) = m ((c.tc : Thread Cert.Project0Ideal.nD Cert.Project0Ideal.τ).loc Cert.Project0Ideal.main_arg0)
      ∧ r.2.mem ((c.tc : Thread Cert.Project0Ideal.nD Cert.Project0Ideal.τ).loc Cert.Project0Ideal.main_arg1) = m ((c.tc : Thread Cert.Project0Ideal.nD Cert.Project0Ideal.τ).loc Cert.Project0Ideal.main_arg1)
      ∧ r.2.mem ((c.tc : Thread Cert.Project0Ideal.nD Cert.Project0Ideal.τ).loc Cert.Project0Ideal.main_arg2) = m ((c.tc : Thread Cert.Project0Ideal.nD Cert.Project0Ideal.τ).loc Cert.Project0Ideal.main_arg2)
      ∧ r.2.mem ((c.tc : Thread Cert.Project0Ideal.nD Cert.Project0Ideal.τ).loc Cert.Project0Ideal.main_arg3) = m ((c.tc : Thread Cert.Project0Ideal.nD Cert.Project0Ideal.τ).loc Cert.Project0Ideal.main_arg3)
      ∧ r.2.mem ((c.tc : Thread Cert.Project0Ideal.nD Cert.Project0Ideal.τ).loc Cert.Project0Ideal.main_arg4) = m ((c.tc : Thread Cert.Project0Ideal.nD Cert.Project0Ideal.τ).loc Cert.Project0Ideal.main_arg4))
      ∧ r.2.sem = fun _ => 0)

def quiescent_Project0RefIdeal [hProject0RefIdeal : Cert.Project0RefIdeal.Facts] : Prop :=
  ∀ (m : (ℓ : Loc Cert.Project0RefIdeal.nD Cert.Project0RefIdeal.τ Cert.Project0RefIdeal.sig) → Buf (Elt Ideal) ℓ) (g : Dev Cert.Project0RefIdeal.nD → PrngReg), Pre_Project0RefIdeal m →
    θ_run (Cert.Project0RefIdeal.defs (F := Ideal)) (onTc (τ := Cert.Project0RefIdeal.τ) (Cert.Project0RefIdeal.main (F := Ideal))) ⟨m, fun _ => 0, g⟩ (fun r => (∀ c : Dev Cert.Project0RefIdeal.nD,
      r.2.mem ((c.tc : Thread Cert.Project0RefIdeal.nD Cert.Project0RefIdeal.τ).loc Cert.Project0RefIdeal.main_arg0) = m ((c.tc : Thread Cert.Project0RefIdeal.nD Cert.Project0RefIdeal.τ).loc Cert.Project0RefIdeal.main_arg0)
      ∧ r.2.mem ((c.tc : Thread Cert.Project0RefIdeal.nD Cert.Project0RefIdeal.τ).loc Cert.Project0RefIdeal.main_arg1) = m ((c.tc : Thread Cert.Project0RefIdeal.nD Cert.Project0RefIdeal.τ).loc Cert.Project0RefIdeal.main_arg1)
      ∧ r.2.mem ((c.tc : Thread Cert.Project0RefIdeal.nD Cert.Project0RefIdeal.τ).loc Cert.Project0RefIdeal.main_arg2) = m ((c.tc : Thread Cert.Project0RefIdeal.nD Cert.Project0RefIdeal.τ).loc Cert.Project0RefIdeal.main_arg2)
      ∧ r.2.mem ((c.tc : Thread Cert.Project0RefIdeal.nD Cert.Project0RefIdeal.τ).loc Cert.Project0RefIdeal.main_arg3) = m ((c.tc : Thread Cert.Project0RefIdeal.nD Cert.Project0RefIdeal.τ).loc Cert.Project0RefIdeal.main_arg3)
      ∧ r.2.mem ((c.tc : Thread Cert.Project0RefIdeal.nD Cert.Project0RefIdeal.τ).loc Cert.Project0RefIdeal.main_arg4) = m ((c.tc : Thread Cert.Project0RefIdeal.nD Cert.Project0RefIdeal.τ).loc Cert.Project0RefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7))
      ∧ r.2.sem = fun _ => 0)

def quiescent_Readout [hReadout : Cert.Readout.Facts] : Prop :=
  ∀ (m : (ℓ : Loc Cert.Readout.nD Cert.Readout.τ Cert.Readout.sig) → Buf (Elt Bits) ℓ) (g : Dev Cert.Readout.nD → PrngReg), Pre_Readout m →
    θ_run (Cert.Readout.defs (F := Bits)) (onTc (τ := Cert.Readout.τ) (Cert.Readout.main (F := Bits))) ⟨m, fun _ => 0, g⟩ (fun r => (∀ c : Dev Cert.Readout.nD,
      r.2.mem ((c.tc : Thread Cert.Readout.nD Cert.Readout.τ).loc Cert.Readout.main_arg0) = m ((c.tc : Thread Cert.Readout.nD Cert.Readout.τ).loc Cert.Readout.main_arg0)
      ∧ r.2.mem ((c.tc : Thread Cert.Readout.nD Cert.Readout.τ).loc Cert.Readout.main_arg1) = m ((c.tc : Thread Cert.Readout.nD Cert.Readout.τ).loc Cert.Readout.main_arg1)
      ∧ r.2.mem ((c.tc : Thread Cert.Readout.nD Cert.Readout.τ).loc Cert.Readout.main_arg2) = m ((c.tc : Thread Cert.Readout.nD Cert.Readout.τ).loc Cert.Readout.main_arg2)
      ∧ r.2.mem ((c.tc : Thread Cert.Readout.nD Cert.Readout.τ).loc Cert.Readout.main_arg3) = m ((c.tc : Thread Cert.Readout.nD Cert.Readout.τ).loc Cert.Readout.main_arg3)
      ∧ r.2.mem ((c.tc : Thread Cert.Readout.nD Cert.Readout.τ).loc Cert.Readout.main_arg4) = m ((c.tc : Thread Cert.Readout.nD Cert.Readout.τ).loc Cert.Readout.main_arg4)
      ∧ r.2.mem ((c.tc : Thread Cert.Readout.nD Cert.Readout.τ).loc Cert.Readout.main_arg5) = m ((c.tc : Thread Cert.Readout.nD Cert.Readout.τ).loc Cert.Readout.main_arg5)
      ∧ r.2.mem ((c.tc : Thread Cert.Readout.nD Cert.Readout.τ).loc Cert.Readout.main_arg6) = m ((c.tc : Thread Cert.Readout.nD Cert.Readout.τ).loc Cert.Readout.main_arg6)
      ∧ r.2.mem ((c.tc : Thread Cert.Readout.nD Cert.Readout.τ).loc Cert.Readout.main_arg7) = m ((c.tc : Thread Cert.Readout.nD Cert.Readout.τ).loc Cert.Readout.main_arg7)
      ∧ r.2.mem ((c.tc : Thread Cert.Readout.nD Cert.Readout.τ).loc Cert.Readout.main_arg8) = m ((c.tc : Thread Cert.Readout.nD Cert.Readout.τ).loc Cert.Readout.main_arg8)
      ∧ r.2.mem ((c.tc : Thread Cert.Readout.nD Cert.Readout.τ).loc Cert.Readout.main_arg9) = m ((c.tc : Thread Cert.Readout.nD Cert.Readout.τ).loc Cert.Readout.main_arg9))
      ∧ r.2.sem = fun _ => 0)

def quiescent_ReadoutIdeal [hReadoutIdeal : Cert.ReadoutIdeal.Facts] : Prop :=
  ∀ (m : (ℓ : Loc Cert.ReadoutIdeal.nD Cert.ReadoutIdeal.τ Cert.ReadoutIdeal.sig) → Buf (Elt Ideal) ℓ) (g : Dev Cert.ReadoutIdeal.nD → PrngReg), Pre_ReadoutIdeal m →
    θ_run (Cert.ReadoutIdeal.defs (F := Ideal)) (onTc (τ := Cert.ReadoutIdeal.τ) (Cert.ReadoutIdeal.main (F := Ideal))) ⟨m, fun _ => 0, g⟩ (fun r => (∀ c : Dev Cert.ReadoutIdeal.nD,
      r.2.mem ((c.tc : Thread Cert.ReadoutIdeal.nD Cert.ReadoutIdeal.τ).loc Cert.ReadoutIdeal.main_arg0) = m ((c.tc : Thread Cert.ReadoutIdeal.nD Cert.ReadoutIdeal.τ).loc Cert.ReadoutIdeal.main_arg0)
      ∧ r.2.mem ((c.tc : Thread Cert.ReadoutIdeal.nD Cert.ReadoutIdeal.τ).loc Cert.ReadoutIdeal.main_arg1) = m ((c.tc : Thread Cert.ReadoutIdeal.nD Cert.ReadoutIdeal.τ).loc Cert.ReadoutIdeal.main_arg1)
      ∧ r.2.mem ((c.tc : Thread Cert.ReadoutIdeal.nD Cert.ReadoutIdeal.τ).loc Cert.ReadoutIdeal.main_arg2) = m ((c.tc : Thread Cert.ReadoutIdeal.nD Cert.ReadoutIdeal.τ).loc Cert.ReadoutIdeal.main_arg2)
      ∧ r.2.mem ((c.tc : Thread Cert.ReadoutIdeal.nD Cert.ReadoutIdeal.τ).loc Cert.ReadoutIdeal.main_arg3) = m ((c.tc : Thread Cert.ReadoutIdeal.nD Cert.ReadoutIdeal.τ).loc Cert.ReadoutIdeal.main_arg3)
      ∧ r.2.mem ((c.tc : Thread Cert.ReadoutIdeal.nD Cert.ReadoutIdeal.τ).loc Cert.ReadoutIdeal.main_arg4) = m ((c.tc : Thread Cert.ReadoutIdeal.nD Cert.ReadoutIdeal.τ).loc Cert.ReadoutIdeal.main_arg4)
      ∧ r.2.mem ((c.tc : Thread Cert.ReadoutIdeal.nD Cert.ReadoutIdeal.τ).loc Cert.ReadoutIdeal.main_arg5) = m ((c.tc : Thread Cert.ReadoutIdeal.nD Cert.ReadoutIdeal.τ).loc Cert.ReadoutIdeal.main_arg5)
      ∧ r.2.mem ((c.tc : Thread Cert.ReadoutIdeal.nD Cert.ReadoutIdeal.τ).loc Cert.ReadoutIdeal.main_arg6) = m ((c.tc : Thread Cert.ReadoutIdeal.nD Cert.ReadoutIdeal.τ).loc Cert.ReadoutIdeal.main_arg6)
      ∧ r.2.mem ((c.tc : Thread Cert.ReadoutIdeal.nD Cert.ReadoutIdeal.τ).loc Cert.ReadoutIdeal.main_arg7) = m ((c.tc : Thread Cert.ReadoutIdeal.nD Cert.ReadoutIdeal.τ).loc Cert.ReadoutIdeal.main_arg7)
      ∧ r.2.mem ((c.tc : Thread Cert.ReadoutIdeal.nD Cert.ReadoutIdeal.τ).loc Cert.ReadoutIdeal.main_arg8) = m ((c.tc : Thread Cert.ReadoutIdeal.nD Cert.ReadoutIdeal.τ).loc Cert.ReadoutIdeal.main_arg8)
      ∧ r.2.mem ((c.tc : Thread Cert.ReadoutIdeal.nD Cert.ReadoutIdeal.τ).loc Cert.ReadoutIdeal.main_arg9) = m ((c.tc : Thread Cert.ReadoutIdeal.nD Cert.ReadoutIdeal.τ).loc Cert.ReadoutIdeal.main_arg9))
      ∧ r.2.sem = fun _ => 0)

def quiescent_ReadoutRefIdeal [hReadoutRefIdeal : Cert.ReadoutRefIdeal.Facts] : Prop :=
  ∀ (m : (ℓ : Loc Cert.ReadoutRefIdeal.nD Cert.ReadoutRefIdeal.τ Cert.ReadoutRefIdeal.sig) → Buf (Elt Ideal) ℓ) (g : Dev Cert.ReadoutRefIdeal.nD → PrngReg), Pre_ReadoutRefIdeal m →
    θ_run (Cert.ReadoutRefIdeal.defs (F := Ideal)) (onTc (τ := Cert.ReadoutRefIdeal.τ) (Cert.ReadoutRefIdeal.main (F := Ideal))) ⟨m, fun _ => 0, g⟩ (fun r => (∀ c : Dev Cert.ReadoutRefIdeal.nD,
      r.2.mem ((c.tc : Thread Cert.ReadoutRefIdeal.nD Cert.ReadoutRefIdeal.τ).loc Cert.ReadoutRefIdeal.main_arg0) = m ((c.tc : Thread Cert.ReadoutRefIdeal.nD Cert.ReadoutRefIdeal.τ).loc Cert.ReadoutRefIdeal.main_arg0)
      ∧ r.2.mem ((c.tc : Thread Cert.ReadoutRefIdeal.nD Cert.ReadoutRefIdeal.τ).loc Cert.ReadoutRefIdeal.main_arg1) = m ((c.tc : Thread Cert.ReadoutRefIdeal.nD Cert.ReadoutRefIdeal.τ).loc Cert.ReadoutRefIdeal.main_arg1)
      ∧ r.2.mem ((c.tc : Thread Cert.ReadoutRefIdeal.nD Cert.ReadoutRefIdeal.τ).loc Cert.ReadoutRefIdeal.main_arg2) = m ((c.tc : Thread Cert.ReadoutRefIdeal.nD Cert.ReadoutRefIdeal.τ).loc Cert.ReadoutRefIdeal.main_arg2)
      ∧ r.2.mem ((c.tc : Thread Cert.ReadoutRefIdeal.nD Cert.ReadoutRefIdeal.τ).loc Cert.ReadoutRefIdeal.main_arg3) = m ((c.tc : Thread Cert.ReadoutRefIdeal.nD Cert.ReadoutRefIdeal.τ).loc Cert.ReadoutRefIdeal.main_arg3)
      ∧ r.2.mem ((c.tc : Thread Cert.ReadoutRefIdeal.nD Cert.ReadoutRefIdeal.τ).loc Cert.ReadoutRefIdeal.main_arg4) = m ((c.tc : Thread Cert.ReadoutRefIdeal.nD Cert.ReadoutRefIdeal.τ).loc Cert.ReadoutRefIdeal.main_arg4)
      ∧ r.2.mem ((c.tc : Thread Cert.ReadoutRefIdeal.nD Cert.ReadoutRefIdeal.τ).loc Cert.ReadoutRefIdeal.main_arg5) = m ((c.tc : Thread Cert.ReadoutRefIdeal.nD Cert.ReadoutRefIdeal.τ).loc Cert.ReadoutRefIdeal.main_arg5)
      ∧ r.2.mem ((c.tc : Thread Cert.ReadoutRefIdeal.nD Cert.ReadoutRefIdeal.τ).loc Cert.ReadoutRefIdeal.main_arg6) = m ((c.tc : Thread Cert.ReadoutRefIdeal.nD Cert.ReadoutRefIdeal.τ).loc Cert.ReadoutRefIdeal.main_arg6)
      ∧ r.2.mem ((c.tc : Thread Cert.ReadoutRefIdeal.nD Cert.ReadoutRefIdeal.τ).loc Cert.ReadoutRefIdeal.main_arg7) = m ((c.tc : Thread Cert.ReadoutRefIdeal.nD Cert.ReadoutRefIdeal.τ).loc Cert.ReadoutRefIdeal.main_arg7)
      ∧ r.2.mem ((c.tc : Thread Cert.ReadoutRefIdeal.nD Cert.ReadoutRefIdeal.τ).loc Cert.ReadoutRefIdeal.main_arg8) = m ((c.tc : Thread Cert.ReadoutRefIdeal.nD Cert.ReadoutRefIdeal.τ).loc Cert.ReadoutRefIdeal.main_arg8)
      ∧ r.2.mem ((c.tc : Thread Cert.ReadoutRefIdeal.nD Cert.ReadoutRefIdeal.τ).loc Cert.ReadoutRefIdeal.main_arg9) = m ((c.tc : Thread Cert.ReadoutRefIdeal.nD Cert.ReadoutRefIdeal.τ).loc Cert.ReadoutRefIdeal.main_arg9))
      ∧ r.2.sem = fun _ => 0)

def quiescent_Project1Ctx [hProject1Ctx : Cert.Project1Ctx.Facts] : Prop :=
  ∀ (m : (ℓ : Loc Cert.Project1Ctx.nD Cert.Project1Ctx.τ Cert.Project1Ctx.sig) → Buf (Elt Bits) ℓ) (g : Dev Cert.Project1Ctx.nD → PrngReg), Pre_Project1Ctx m →
    θ_run (Cert.Project1Ctx.defs (F := Bits)) (onTc (τ := Cert.Project1Ctx.τ) (Cert.Project1Ctx.main (F := Bits))) ⟨m, fun _ => 0, g⟩ (fun r => (∀ c : Dev Cert.Project1Ctx.nD,
      r.2.mem ((c.tc : Thread Cert.Project1Ctx.nD Cert.Project1Ctx.τ).loc Cert.Project1Ctx.main_arg0) = m ((c.tc : Thread Cert.Project1Ctx.nD Cert.Project1Ctx.τ).loc Cert.Project1Ctx.main_arg0)
      ∧ r.2.mem ((c.tc : Thread Cert.Project1Ctx.nD Cert.Project1Ctx.τ).loc Cert.Project1Ctx.main_arg1) = m ((c.tc : Thread Cert.Project1Ctx.nD Cert.Project1Ctx.τ).loc Cert.Project1Ctx.main_arg1)
      ∧ r.2.mem ((c.tc : Thread Cert.Project1Ctx.nD Cert.Project1Ctx.τ).loc Cert.Project1Ctx.main_arg2) = m ((c.tc : Thread Cert.Project1Ctx.nD Cert.Project1Ctx.τ).loc Cert.Project1Ctx.main_arg2)
      ∧ r.2.mem ((c.tc : Thread Cert.Project1Ctx.nD Cert.Project1Ctx.τ).loc Cert.Project1Ctx.main_arg3) = m ((c.tc : Thread Cert.Project1Ctx.nD Cert.Project1Ctx.τ).loc Cert.Project1Ctx.main_arg3)
      ∧ r.2.mem ((c.tc : Thread Cert.Project1Ctx.nD Cert.Project1Ctx.τ).loc Cert.Project1Ctx.main_arg4) = m ((c.tc : Thread Cert.Project1Ctx.nD Cert.Project1Ctx.τ).loc Cert.Project1Ctx.main_arg4))
      ∧ r.2.sem = fun _ => 0)

def quiescent_Project1CtxIdeal [hProject1CtxIdeal : Cert.Project1CtxIdeal.Facts] : Prop :=
  ∀ (m : (ℓ : Loc Cert.Project1CtxIdeal.nD Cert.Project1CtxIdeal.τ Cert.Project1CtxIdeal.sig) → Buf (Elt Ideal) ℓ) (g : Dev Cert.Project1CtxIdeal.nD → PrngReg), Pre_Project1CtxIdeal m →
    θ_run (Cert.Project1CtxIdeal.defs (F := Ideal)) (onTc (τ := Cert.Project1CtxIdeal.τ) (Cert.Project1CtxIdeal.main (F := Ideal))) ⟨m, fun _ => 0, g⟩ (fun r => (∀ c : Dev Cert.Project1CtxIdeal.nD,
      r.2.mem ((c.tc : Thread Cert.Project1CtxIdeal.nD Cert.Project1CtxIdeal.τ).loc Cert.Project1CtxIdeal.main_arg0) = m ((c.tc : Thread Cert.Project1CtxIdeal.nD Cert.Project1CtxIdeal.τ).loc Cert.Project1CtxIdeal.main_arg0)
      ∧ r.2.mem ((c.tc : Thread Cert.Project1CtxIdeal.nD Cert.Project1CtxIdeal.τ).loc Cert.Project1CtxIdeal.main_arg1) = m ((c.tc : Thread Cert.Project1CtxIdeal.nD Cert.Project1CtxIdeal.τ).loc Cert.Project1CtxIdeal.main_arg1)
      ∧ r.2.mem ((c.tc : Thread Cert.Project1CtxIdeal.nD Cert.Project1CtxIdeal.τ).loc Cert.Project1CtxIdeal.main_arg2) = m ((c.tc : Thread Cert.Project1CtxIdeal.nD Cert.Project1CtxIdeal.τ).loc Cert.Project1CtxIdeal.main_arg2)
      ∧ r.2.mem ((c.tc : Thread Cert.Project1CtxIdeal.nD Cert.Project1CtxIdeal.τ).loc Cert.Project1CtxIdeal.main_arg3) = m ((c.tc : Thread Cert.Project1CtxIdeal.nD Cert.Project1CtxIdeal.τ).loc Cert.Project1CtxIdeal.main_arg3)
      ∧ r.2.mem ((c.tc : Thread Cert.Project1CtxIdeal.nD Cert.Project1CtxIdeal.τ).loc Cert.Project1CtxIdeal.main_arg4) = m ((c.tc : Thread Cert.Project1CtxIdeal.nD Cert.Project1CtxIdeal.τ).loc Cert.Project1CtxIdeal.main_arg4))
      ∧ r.2.sem = fun _ => 0)

def quiescent_Project1CtxRefIdeal [hProject1CtxRefIdeal : Cert.Project1CtxRefIdeal.Facts] : Prop :=
  ∀ (m : (ℓ : Loc Cert.Project1CtxRefIdeal.nD Cert.Project1CtxRefIdeal.τ Cert.Project1CtxRefIdeal.sig) → Buf (Elt Ideal) ℓ) (g : Dev Cert.Project1CtxRefIdeal.nD → PrngReg), Pre_Project1CtxRefIdeal m →
    θ_run (Cert.Project1CtxRefIdeal.defs (F := Ideal)) (onTc (τ := Cert.Project1CtxRefIdeal.τ) (Cert.Project1CtxRefIdeal.main (F := Ideal))) ⟨m, fun _ => 0, g⟩ (fun r => (∀ c : Dev Cert.Project1CtxRefIdeal.nD,
      r.2.mem ((c.tc : Thread Cert.Project1CtxRefIdeal.nD Cert.Project1CtxRefIdeal.τ).loc Cert.Project1CtxRefIdeal.main_arg0) = m ((c.tc : Thread Cert.Project1CtxRefIdeal.nD Cert.Project1CtxRefIdeal.τ).loc Cert.Project1CtxRefIdeal.main_arg0)
      ∧ r.2.mem ((c.tc : Thread Cert.Project1CtxRefIdeal.nD Cert.Project1CtxRefIdeal.τ).loc Cert.Project1CtxRefIdeal.main_arg1) = m ((c.tc : Thread Cert.Project1CtxRefIdeal.nD Cert.Project1CtxRefIdeal.τ).loc Cert.Project1CtxRefIdeal.main_arg1)
      ∧ r.2.mem ((c.tc : Thread Cert.Project1CtxRefIdeal.nD Cert.Project1CtxRefIdeal.τ).loc Cert.Project1CtxRefIdeal.main_arg2) = m ((c.tc : Thread Cert.Project1CtxRefIdeal.nD Cert.Project1CtxRefIdeal.τ).loc Cert.Project1CtxRefIdeal.main_arg2)
      ∧ r.2.mem ((c.tc : Thread Cert.Project1CtxRefIdeal.nD Cert.Project1CtxRefIdeal.τ).loc Cert.Project1CtxRefIdeal.main_arg3) = m ((c.tc : Thread Cert.Project1CtxRefIdeal.nD Cert.Project1CtxRefIdeal.τ).loc Cert.Project1CtxRefIdeal.main_arg3)
      ∧ r.2.mem ((c.tc : Thread Cert.Project1CtxRefIdeal.nD Cert.Project1CtxRefIdeal.τ).loc Cert.Project1CtxRefIdeal.main_arg4) = m ((c.tc : Thread Cert.Project1CtxRefIdeal.nD Cert.Project1CtxRefIdeal.τ).loc Cert.Project1CtxRefIdeal.main_arg4))
      ∧ r.2.sem = fun _ => 0)

def quiescent_Project0Ctx [hProject0Ctx : Cert.Project0Ctx.Facts] : Prop :=
  ∀ (m : (ℓ : Loc Cert.Project0Ctx.nD Cert.Project0Ctx.τ Cert.Project0Ctx.sig) → Buf (Elt Bits) ℓ) (g : Dev Cert.Project0Ctx.nD → PrngReg), Pre_Project0Ctx m →
    θ_run (Cert.Project0Ctx.defs (F := Bits)) (onTc (τ := Cert.Project0Ctx.τ) (Cert.Project0Ctx.main (F := Bits))) ⟨m, fun _ => 0, g⟩ (fun r => (∀ c : Dev Cert.Project0Ctx.nD,
      r.2.mem ((c.tc : Thread Cert.Project0Ctx.nD Cert.Project0Ctx.τ).loc Cert.Project0Ctx.main_arg0) = m ((c.tc : Thread Cert.Project0Ctx.nD Cert.Project0Ctx.τ).loc Cert.Project0Ctx.main_arg0)
      ∧ r.2.mem ((c.tc : Thread Cert.Project0Ctx.nD Cert.Project0Ctx.τ).loc Cert.Project0Ctx.main_arg1) = m ((c.tc : Thread Cert.Project0Ctx.nD Cert.Project0Ctx.τ).loc Cert.Project0Ctx.main_arg1)
      ∧ r.2.mem ((c.tc : Thread Cert.Project0Ctx.nD Cert.Project0Ctx.τ).loc Cert.Project0Ctx.main_arg2) = m ((c.tc : Thread Cert.Project0Ctx.nD Cert.Project0Ctx.τ).loc Cert.Project0Ctx.main_arg2)
      ∧ r.2.mem ((c.tc : Thread Cert.Project0Ctx.nD Cert.Project0Ctx.τ).loc Cert.Project0Ctx.main_arg3) = m ((c.tc : Thread Cert.Project0Ctx.nD Cert.Project0Ctx.τ).loc Cert.Project0Ctx.main_arg3)
      ∧ r.2.mem ((c.tc : Thread Cert.Project0Ctx.nD Cert.Project0Ctx.τ).loc Cert.Project0Ctx.main_arg4) = m ((c.tc : Thread Cert.Project0Ctx.nD Cert.Project0Ctx.τ).loc Cert.Project0Ctx.main_arg4))
      ∧ r.2.sem = fun _ => 0)

def quiescent_Project0CtxIdeal [hProject0CtxIdeal : Cert.Project0CtxIdeal.Facts] : Prop :=
  ∀ (m : (ℓ : Loc Cert.Project0CtxIdeal.nD Cert.Project0CtxIdeal.τ Cert.Project0CtxIdeal.sig) → Buf (Elt Ideal) ℓ) (g : Dev Cert.Project0CtxIdeal.nD → PrngReg), Pre_Project0CtxIdeal m →
    θ_run (Cert.Project0CtxIdeal.defs (F := Ideal)) (onTc (τ := Cert.Project0CtxIdeal.τ) (Cert.Project0CtxIdeal.main (F := Ideal))) ⟨m, fun _ => 0, g⟩ (fun r => (∀ c : Dev Cert.Project0CtxIdeal.nD,
      r.2.mem ((c.tc : Thread Cert.Project0CtxIdeal.nD Cert.Project0CtxIdeal.τ).loc Cert.Project0CtxIdeal.main_arg0) = m ((c.tc : Thread Cert.Project0CtxIdeal.nD Cert.Project0CtxIdeal.τ).loc Cert.Project0CtxIdeal.main_arg0)
      ∧ r.2.mem ((c.tc : Thread Cert.Project0CtxIdeal.nD Cert.Project0CtxIdeal.τ).loc Cert.Project0CtxIdeal.main_arg1) = m ((c.tc : Thread Cert.Project0CtxIdeal.nD Cert.Project0CtxIdeal.τ).loc Cert.Project0CtxIdeal.main_arg1)
      ∧ r.2.mem ((c.tc : Thread Cert.Project0CtxIdeal.nD Cert.Project0CtxIdeal.τ).loc Cert.Project0CtxIdeal.main_arg2) = m ((c.tc : Thread Cert.Project0CtxIdeal.nD Cert.Project0CtxIdeal.τ).loc Cert.Project0CtxIdeal.main_arg2)
      ∧ r.2.mem ((c.tc : Thread Cert.Project0CtxIdeal.nD Cert.Project0CtxIdeal.τ).loc Cert.Project0CtxIdeal.main_arg3) = m ((c.tc : Thread Cert.Project0CtxIdeal.nD Cert.Project0CtxIdeal.τ).loc Cert.Project0CtxIdeal.main_arg3)
      ∧ r.2.mem ((c.tc : Thread Cert.Project0CtxIdeal.nD Cert.Project0CtxIdeal.τ).loc Cert.Project0CtxIdeal.main_arg4) = m ((c.tc : Thread Cert.Project0CtxIdeal.nD Cert.Project0CtxIdeal.τ).loc Cert.Project0CtxIdeal.main_arg4))
      ∧ r.2.sem = fun _ => 0)

def quiescent_Project0CtxRefIdeal [hProject0CtxRefIdeal : Cert.Project0CtxRefIdeal.Facts] : Prop :=
  ∀ (m : (ℓ : Loc Cert.Project0CtxRefIdeal.nD Cert.Project0CtxRefIdeal.τ Cert.Project0CtxRefIdeal.sig) → Buf (Elt Ideal) ℓ) (g : Dev Cert.Project0CtxRefIdeal.nD → PrngReg), Pre_Project0CtxRefIdeal m →
    θ_run (Cert.Project0CtxRefIdeal.defs (F := Ideal)) (onTc (τ := Cert.Project0CtxRefIdeal.τ) (Cert.Project0CtxRefIdeal.main (F := Ideal))) ⟨m, fun _ => 0, g⟩ (fun r => (∀ c : Dev Cert.Project0CtxRefIdeal.nD,
      r.2.mem ((c.tc : Thread Cert.Project0CtxRefIdeal.nD Cert.Project0CtxRefIdeal.τ).loc Cert.Project0CtxRefIdeal.main_arg0) = m ((c.tc : Thread Cert.Project0CtxRefIdeal.nD Cert.Project0CtxRefIdeal.τ).loc Cert.Project0CtxRefIdeal.main_arg0)
      ∧ r.2.mem ((c.tc : Thread Cert.Project0CtxRefIdeal.nD Cert.Project0CtxRefIdeal.τ).loc Cert.Project0CtxRefIdeal.main_arg1) = m ((c.tc : Thread Cert.Project0CtxRefIdeal.nD Cert.Project0CtxRefIdeal.τ).loc Cert.Project0CtxRefIdeal.main_arg1)
      ∧ r.2.mem ((c.tc : Thread Cert.Project0CtxRefIdeal.nD Cert.Project0CtxRefIdeal.τ).loc Cert.Project0CtxRefIdeal.main_arg2) = m ((c.tc : Thread Cert.Project0CtxRefIdeal.nD Cert.Project0CtxRefIdeal.τ).loc Cert.Project0CtxRefIdeal.main_arg2)
      ∧ r.2.mem ((c.tc : Thread Cert.Project0CtxRefIdeal.nD Cert.Project0CtxRefIdeal.τ).loc Cert.Project0CtxRefIdeal.main_arg3) = m ((c.tc : Thread Cert.Project0CtxRefIdeal.nD Cert.Project0CtxRefIdeal.τ).loc Cert.Project0CtxRefIdeal.main_arg3)
      ∧ r.2.mem ((c.tc : Thread Cert.Project0CtxRefIdeal.nD Cert.Project0CtxRefIdeal.τ).loc Cert.Project0CtxRefIdeal.main_arg4) = m ((c.tc : Thread Cert.Project0CtxRefIdeal.nD Cert.Project0CtxRefIdeal.τ).loc Cert.Project0CtxRefIdeal.main_arg4))
      ∧ r.2.sem = fun _ => 0)

def quiescent_OutProjCtx [hOutProjCtx : Cert.OutProjCtx.Facts] : Prop :=
  ∀ (m : (ℓ : Loc Cert.OutProjCtx.nD Cert.OutProjCtx.τ Cert.OutProjCtx.sig) → Buf (Elt Bits) ℓ) (g : Dev Cert.OutProjCtx.nD → PrngReg), Pre_OutProjCtx m →
    θ_run (Cert.OutProjCtx.defs (F := Bits)) (onTc (τ := Cert.OutProjCtx.τ) (Cert.OutProjCtx.main (F := Bits))) ⟨m, fun _ => 0, g⟩ (fun r => (∀ c : Dev Cert.OutProjCtx.nD,
      r.2.mem ((c.tc : Thread Cert.OutProjCtx.nD Cert.OutProjCtx.τ).loc Cert.OutProjCtx.main_arg0) = m ((c.tc : Thread Cert.OutProjCtx.nD Cert.OutProjCtx.τ).loc Cert.OutProjCtx.main_arg0)
      ∧ r.2.mem ((c.tc : Thread Cert.OutProjCtx.nD Cert.OutProjCtx.τ).loc Cert.OutProjCtx.main_arg1) = m ((c.tc : Thread Cert.OutProjCtx.nD Cert.OutProjCtx.τ).loc Cert.OutProjCtx.main_arg1)
      ∧ r.2.mem ((c.tc : Thread Cert.OutProjCtx.nD Cert.OutProjCtx.τ).loc Cert.OutProjCtx.main_arg2) = m ((c.tc : Thread Cert.OutProjCtx.nD Cert.OutProjCtx.τ).loc Cert.OutProjCtx.main_arg2)
      ∧ r.2.mem ((c.tc : Thread Cert.OutProjCtx.nD Cert.OutProjCtx.τ).loc Cert.OutProjCtx.main_arg3) = m ((c.tc : Thread Cert.OutProjCtx.nD Cert.OutProjCtx.τ).loc Cert.OutProjCtx.main_arg3)
      ∧ r.2.mem ((c.tc : Thread Cert.OutProjCtx.nD Cert.OutProjCtx.τ).loc Cert.OutProjCtx.main_arg4) = m ((c.tc : Thread Cert.OutProjCtx.nD Cert.OutProjCtx.τ).loc Cert.OutProjCtx.main_arg4)
      ∧ r.2.mem ((c.tc : Thread Cert.OutProjCtx.nD Cert.OutProjCtx.τ).loc Cert.OutProjCtx.main_arg5) = m ((c.tc : Thread Cert.OutProjCtx.nD Cert.OutProjCtx.τ).loc Cert.OutProjCtx.main_arg5)
      ∧ r.2.mem ((c.tc : Thread Cert.OutProjCtx.nD Cert.OutProjCtx.τ).loc Cert.OutProjCtx.main_arg6) = m ((c.tc : Thread Cert.OutProjCtx.nD Cert.OutProjCtx.τ).loc Cert.OutProjCtx.main_arg6)
      ∧ r.2.mem ((c.tc : Thread Cert.OutProjCtx.nD Cert.OutProjCtx.τ).loc Cert.OutProjCtx.main_arg7) = m ((c.tc : Thread Cert.OutProjCtx.nD Cert.OutProjCtx.τ).loc Cert.OutProjCtx.main_arg7))
      ∧ r.2.sem = fun _ => 0)

def quiescent_OutProjCtxIdeal [hOutProjCtxIdeal : Cert.OutProjCtxIdeal.Facts] : Prop :=
  ∀ (m : (ℓ : Loc Cert.OutProjCtxIdeal.nD Cert.OutProjCtxIdeal.τ Cert.OutProjCtxIdeal.sig) → Buf (Elt Ideal) ℓ) (g : Dev Cert.OutProjCtxIdeal.nD → PrngReg), Pre_OutProjCtxIdeal m →
    θ_run (Cert.OutProjCtxIdeal.defs (F := Ideal)) (onTc (τ := Cert.OutProjCtxIdeal.τ) (Cert.OutProjCtxIdeal.main (F := Ideal))) ⟨m, fun _ => 0, g⟩ (fun r => (∀ c : Dev Cert.OutProjCtxIdeal.nD,
      r.2.mem ((c.tc : Thread Cert.OutProjCtxIdeal.nD Cert.OutProjCtxIdeal.τ).loc Cert.OutProjCtxIdeal.main_arg0) = m ((c.tc : Thread Cert.OutProjCtxIdeal.nD Cert.OutProjCtxIdeal.τ).loc Cert.OutProjCtxIdeal.main_arg0)
      ∧ r.2.mem ((c.tc : Thread Cert.OutProjCtxIdeal.nD Cert.OutProjCtxIdeal.τ).loc Cert.OutProjCtxIdeal.main_arg1) = m ((c.tc : Thread Cert.OutProjCtxIdeal.nD Cert.OutProjCtxIdeal.τ).loc Cert.OutProjCtxIdeal.main_arg1)
      ∧ r.2.mem ((c.tc : Thread Cert.OutProjCtxIdeal.nD Cert.OutProjCtxIdeal.τ).loc Cert.OutProjCtxIdeal.main_arg2) = m ((c.tc : Thread Cert.OutProjCtxIdeal.nD Cert.OutProjCtxIdeal.τ).loc Cert.OutProjCtxIdeal.main_arg2)
      ∧ r.2.mem ((c.tc : Thread Cert.OutProjCtxIdeal.nD Cert.OutProjCtxIdeal.τ).loc Cert.OutProjCtxIdeal.main_arg3) = m ((c.tc : Thread Cert.OutProjCtxIdeal.nD Cert.OutProjCtxIdeal.τ).loc Cert.OutProjCtxIdeal.main_arg3)
      ∧ r.2.mem ((c.tc : Thread Cert.OutProjCtxIdeal.nD Cert.OutProjCtxIdeal.τ).loc Cert.OutProjCtxIdeal.main_arg4) = m ((c.tc : Thread Cert.OutProjCtxIdeal.nD Cert.OutProjCtxIdeal.τ).loc Cert.OutProjCtxIdeal.main_arg4)
      ∧ r.2.mem ((c.tc : Thread Cert.OutProjCtxIdeal.nD Cert.OutProjCtxIdeal.τ).loc Cert.OutProjCtxIdeal.main_arg5) = m ((c.tc : Thread Cert.OutProjCtxIdeal.nD Cert.OutProjCtxIdeal.τ).loc Cert.OutProjCtxIdeal.main_arg5)
      ∧ r.2.mem ((c.tc : Thread Cert.OutProjCtxIdeal.nD Cert.OutProjCtxIdeal.τ).loc Cert.OutProjCtxIdeal.main_arg6) = m ((c.tc : Thread Cert.OutProjCtxIdeal.nD Cert.OutProjCtxIdeal.τ).loc Cert.OutProjCtxIdeal.main_arg6)
      ∧ r.2.mem ((c.tc : Thread Cert.OutProjCtxIdeal.nD Cert.OutProjCtxIdeal.τ).loc Cert.OutProjCtxIdeal.main_arg7) = m ((c.tc : Thread Cert.OutProjCtxIdeal.nD Cert.OutProjCtxIdeal.τ).loc Cert.OutProjCtxIdeal.main_arg7))
      ∧ r.2.sem = fun _ => 0)

def quiescent_OutProjCtxRefIdeal [hOutProjCtxRefIdeal : Cert.OutProjCtxRefIdeal.Facts] : Prop :=
  ∀ (m : (ℓ : Loc Cert.OutProjCtxRefIdeal.nD Cert.OutProjCtxRefIdeal.τ Cert.OutProjCtxRefIdeal.sig) → Buf (Elt Ideal) ℓ) (g : Dev Cert.OutProjCtxRefIdeal.nD → PrngReg), Pre_OutProjCtxRefIdeal m →
    θ_run (Cert.OutProjCtxRefIdeal.defs (F := Ideal)) (onTc (τ := Cert.OutProjCtxRefIdeal.τ) (Cert.OutProjCtxRefIdeal.main (F := Ideal))) ⟨m, fun _ => 0, g⟩ (fun r => (∀ c : Dev Cert.OutProjCtxRefIdeal.nD,
      r.2.mem ((c.tc : Thread Cert.OutProjCtxRefIdeal.nD Cert.OutProjCtxRefIdeal.τ).loc Cert.OutProjCtxRefIdeal.main_arg0) = m ((c.tc : Thread Cert.OutProjCtxRefIdeal.nD Cert.OutProjCtxRefIdeal.τ).loc Cert.OutProjCtxRefIdeal.main_arg0)
      ∧ r.2.mem ((c.tc : Thread Cert.OutProjCtxRefIdeal.nD Cert.OutProjCtxRefIdeal.τ).loc Cert.OutProjCtxRefIdeal.main_arg1) = m ((c.tc : Thread Cert.OutProjCtxRefIdeal.nD Cert.OutProjCtxRefIdeal.τ).loc Cert.OutProjCtxRefIdeal.main_arg1)
      ∧ r.2.mem ((c.tc : Thread Cert.OutProjCtxRefIdeal.nD Cert.OutProjCtxRefIdeal.τ).loc Cert.OutProjCtxRefIdeal.main_arg2) = m ((c.tc : Thread Cert.OutProjCtxRefIdeal.nD Cert.OutProjCtxRefIdeal.τ).loc Cert.OutProjCtxRefIdeal.main_arg2)
      ∧ r.2.mem ((c.tc : Thread Cert.OutProjCtxRefIdeal.nD Cert.OutProjCtxRefIdeal.τ).loc Cert.OutProjCtxRefIdeal.main_arg3) = m ((c.tc : Thread Cert.OutProjCtxRefIdeal.nD Cert.OutProjCtxRefIdeal.τ).loc Cert.OutProjCtxRefIdeal.main_arg3)
      ∧ r.2.mem ((c.tc : Thread Cert.OutProjCtxRefIdeal.nD Cert.OutProjCtxRefIdeal.τ).loc Cert.OutProjCtxRefIdeal.main_arg4) = m ((c.tc : Thread Cert.OutProjCtxRefIdeal.nD Cert.OutProjCtxRefIdeal.τ).loc Cert.OutProjCtxRefIdeal.main_arg4)
      ∧ r.2.mem ((c.tc : Thread Cert.OutProjCtxRefIdeal.nD Cert.OutProjCtxRefIdeal.τ).loc Cert.OutProjCtxRefIdeal.main_arg5) = m ((c.tc : Thread Cert.OutProjCtxRefIdeal.nD Cert.OutProjCtxRefIdeal.τ).loc Cert.OutProjCtxRefIdeal.main_arg5)
      ∧ r.2.mem ((c.tc : Thread Cert.OutProjCtxRefIdeal.nD Cert.OutProjCtxRefIdeal.τ).loc Cert.OutProjCtxRefIdeal.main_arg6) = m ((c.tc : Thread Cert.OutProjCtxRefIdeal.nD Cert.OutProjCtxRefIdeal.τ).loc Cert.OutProjCtxRefIdeal.main_arg6)
      ∧ r.2.mem ((c.tc : Thread Cert.OutProjCtxRefIdeal.nD Cert.OutProjCtxRefIdeal.τ).loc Cert.OutProjCtxRefIdeal.main_arg7) = m ((c.tc : Thread Cert.OutProjCtxRefIdeal.nD Cert.OutProjCtxRefIdeal.τ).loc Cert.OutProjCtxRefIdeal.main_arg7))
      ∧ r.2.sem = fun _ => 0)

def quiescent_Peer [hPeer : Cert.Peer.Facts] : Prop :=
  ∀ (m : (ℓ : Loc Cert.Peer.nD Cert.Peer.τ Cert.Peer.sig) → Buf (Elt Bits) ℓ) (g : Dev Cert.Peer.nD → PrngReg), Pre_Peer m →
    θ_run (Cert.Peer.defs (F := Bits)) (onTc (τ := Cert.Peer.τ) (Cert.Peer.main (F := Bits))) ⟨m, fun _ => 0, g⟩ (fun r => (∀ c : Dev Cert.Peer.nD,
      r.2.mem ((c.tc : Thread Cert.Peer.nD Cert.Peer.τ).loc Cert.Peer.main_arg0) = m ((c.tc : Thread Cert.Peer.nD Cert.Peer.τ).loc Cert.Peer.main_arg0)
      ∧ r.2.mem ((c.tc : Thread Cert.Peer.nD Cert.Peer.τ).loc Cert.Peer.main_arg1) = m ((c.tc : Thread Cert.Peer.nD Cert.Peer.τ).loc Cert.Peer.main_arg1)
      ∧ r.2.mem ((c.tc : Thread Cert.Peer.nD Cert.Peer.τ).loc Cert.Peer.main_arg2) = m ((c.tc : Thread Cert.Peer.nD Cert.Peer.τ).loc Cert.Peer.main_arg2)
      ∧ r.2.mem ((c.tc : Thread Cert.Peer.nD Cert.Peer.τ).loc Cert.Peer.main_arg3) = m ((c.tc : Thread Cert.Peer.nD Cert.Peer.τ).loc Cert.Peer.main_arg3)
      ∧ r.2.mem ((c.tc : Thread Cert.Peer.nD Cert.Peer.τ).loc Cert.Peer.main_arg4) = m ((c.tc : Thread Cert.Peer.nD Cert.Peer.τ).loc Cert.Peer.main_arg4)
      ∧ r.2.mem ((c.tc : Thread Cert.Peer.nD Cert.Peer.τ).loc Cert.Peer.main_arg5) = m ((c.tc : Thread Cert.Peer.nD Cert.Peer.τ).loc Cert.Peer.main_arg5)
      ∧ r.2.mem ((c.tc : Thread Cert.Peer.nD Cert.Peer.τ).loc Cert.Peer.main_arg6) = m ((c.tc : Thread Cert.Peer.nD Cert.Peer.τ).loc Cert.Peer.main_arg6)
      ∧ r.2.mem ((c.tc : Thread Cert.Peer.nD Cert.Peer.τ).loc Cert.Peer.main_arg7) = m ((c.tc : Thread Cert.Peer.nD Cert.Peer.τ).loc Cert.Peer.main_arg7)
      ∧ r.2.mem ((c.tc : Thread Cert.Peer.nD Cert.Peer.τ).loc Cert.Peer.main_arg8) = m ((c.tc : Thread Cert.Peer.nD Cert.Peer.τ).loc Cert.Peer.main_arg8)
      ∧ r.2.mem ((c.tc : Thread Cert.Peer.nD Cert.Peer.τ).loc Cert.Peer.main_arg9) = m ((c.tc : Thread Cert.Peer.nD Cert.Peer.τ).loc Cert.Peer.main_arg9))
      ∧ r.2.sem = fun _ => 0)

def quiescent_PeerIdeal [hPeerIdeal : Cert.PeerIdeal.Facts] : Prop :=
  ∀ (m : (ℓ : Loc Cert.PeerIdeal.nD Cert.PeerIdeal.τ Cert.PeerIdeal.sig) → Buf (Elt Ideal) ℓ) (g : Dev Cert.PeerIdeal.nD → PrngReg), Pre_PeerIdeal m →
    θ_run (Cert.PeerIdeal.defs (F := Ideal)) (onTc (τ := Cert.PeerIdeal.τ) (Cert.PeerIdeal.main (F := Ideal))) ⟨m, fun _ => 0, g⟩ (fun r => (∀ c : Dev Cert.PeerIdeal.nD,
      r.2.mem ((c.tc : Thread Cert.PeerIdeal.nD Cert.PeerIdeal.τ).loc Cert.PeerIdeal.main_arg0) = m ((c.tc : Thread Cert.PeerIdeal.nD Cert.PeerIdeal.τ).loc Cert.PeerIdeal.main_arg0)
      ∧ r.2.mem ((c.tc : Thread Cert.PeerIdeal.nD Cert.PeerIdeal.τ).loc Cert.PeerIdeal.main_arg1) = m ((c.tc : Thread Cert.PeerIdeal.nD Cert.PeerIdeal.τ).loc Cert.PeerIdeal.main_arg1)
      ∧ r.2.mem ((c.tc : Thread Cert.PeerIdeal.nD Cert.PeerIdeal.τ).loc Cert.PeerIdeal.main_arg2) = m ((c.tc : Thread Cert.PeerIdeal.nD Cert.PeerIdeal.τ).loc Cert.PeerIdeal.main_arg2)
      ∧ r.2.mem ((c.tc : Thread Cert.PeerIdeal.nD Cert.PeerIdeal.τ).loc Cert.PeerIdeal.main_arg3) = m ((c.tc : Thread Cert.PeerIdeal.nD Cert.PeerIdeal.τ).loc Cert.PeerIdeal.main_arg3)
      ∧ r.2.mem ((c.tc : Thread Cert.PeerIdeal.nD Cert.PeerIdeal.τ).loc Cert.PeerIdeal.main_arg4) = m ((c.tc : Thread Cert.PeerIdeal.nD Cert.PeerIdeal.τ).loc Cert.PeerIdeal.main_arg4)
      ∧ r.2.mem ((c.tc : Thread Cert.PeerIdeal.nD Cert.PeerIdeal.τ).loc Cert.PeerIdeal.main_arg5) = m ((c.tc : Thread Cert.PeerIdeal.nD Cert.PeerIdeal.τ).loc Cert.PeerIdeal.main_arg5)
      ∧ r.2.mem ((c.tc : Thread Cert.PeerIdeal.nD Cert.PeerIdeal.τ).loc Cert.PeerIdeal.main_arg6) = m ((c.tc : Thread Cert.PeerIdeal.nD Cert.PeerIdeal.τ).loc Cert.PeerIdeal.main_arg6)
      ∧ r.2.mem ((c.tc : Thread Cert.PeerIdeal.nD Cert.PeerIdeal.τ).loc Cert.PeerIdeal.main_arg7) = m ((c.tc : Thread Cert.PeerIdeal.nD Cert.PeerIdeal.τ).loc Cert.PeerIdeal.main_arg7)
      ∧ r.2.mem ((c.tc : Thread Cert.PeerIdeal.nD Cert.PeerIdeal.τ).loc Cert.PeerIdeal.main_arg8) = m ((c.tc : Thread Cert.PeerIdeal.nD Cert.PeerIdeal.τ).loc Cert.PeerIdeal.main_arg8)
      ∧ r.2.mem ((c.tc : Thread Cert.PeerIdeal.nD Cert.PeerIdeal.τ).loc Cert.PeerIdeal.main_arg9) = m ((c.tc : Thread Cert.PeerIdeal.nD Cert.PeerIdeal.τ).loc Cert.PeerIdeal.main_arg9))
      ∧ r.2.sem = fun _ => 0)

def quiescent_PeerRefIdeal [hPeerRefIdeal : Cert.PeerRefIdeal.Facts] : Prop :=
  ∀ (m : (ℓ : Loc Cert.PeerRefIdeal.nD Cert.PeerRefIdeal.τ Cert.PeerRefIdeal.sig) → Buf (Elt Ideal) ℓ) (g : Dev Cert.PeerRefIdeal.nD → PrngReg), Pre_PeerRefIdeal m →
    θ_run (Cert.PeerRefIdeal.defs (F := Ideal)) (onTc (τ := Cert.PeerRefIdeal.τ) (Cert.PeerRefIdeal.main (F := Ideal))) ⟨m, fun _ => 0, g⟩ (fun r => (∀ c : Dev Cert.PeerRefIdeal.nD,
      r.2.mem ((c.tc : Thread Cert.PeerRefIdeal.nD Cert.PeerRefIdeal.τ).loc Cert.PeerRefIdeal.main_arg0) = m ((c.tc : Thread Cert.PeerRefIdeal.nD Cert.PeerRefIdeal.τ).loc Cert.PeerRefIdeal.main_arg0)
      ∧ r.2.mem ((c.tc : Thread Cert.PeerRefIdeal.nD Cert.PeerRefIdeal.τ).loc Cert.PeerRefIdeal.main_arg1) = m ((c.tc : Thread Cert.PeerRefIdeal.nD Cert.PeerRefIdeal.τ).loc Cert.PeerRefIdeal.main_arg1)
      ∧ r.2.mem ((c.tc : Thread Cert.PeerRefIdeal.nD Cert.PeerRefIdeal.τ).loc Cert.PeerRefIdeal.main_arg2) = m ((c.tc : Thread Cert.PeerRefIdeal.nD Cert.PeerRefIdeal.τ).loc Cert.PeerRefIdeal.main_arg2)
      ∧ r.2.mem ((c.tc : Thread Cert.PeerRefIdeal.nD Cert.PeerRefIdeal.τ).loc Cert.PeerRefIdeal.main_arg3) = m ((c.tc : Thread Cert.PeerRefIdeal.nD Cert.PeerRefIdeal.τ).loc Cert.PeerRefIdeal.main_arg3)
      ∧ r.2.mem ((c.tc : Thread Cert.PeerRefIdeal.nD Cert.PeerRefIdeal.τ).loc Cert.PeerRefIdeal.main_arg4) = m ((c.tc : Thread Cert.PeerRefIdeal.nD Cert.PeerRefIdeal.τ).loc Cert.PeerRefIdeal.main_arg4)
      ∧ r.2.mem ((c.tc : Thread Cert.PeerRefIdeal.nD Cert.PeerRefIdeal.τ).loc Cert.PeerRefIdeal.main_arg5) = m ((c.tc : Thread Cert.PeerRefIdeal.nD Cert.PeerRefIdeal.τ).loc Cert.PeerRefIdeal.main_arg5)
      ∧ r.2.mem ((c.tc : Thread Cert.PeerRefIdeal.nD Cert.PeerRefIdeal.τ).loc Cert.PeerRefIdeal.main_arg6) = m ((c.tc : Thread Cert.PeerRefIdeal.nD Cert.PeerRefIdeal.τ).loc Cert.PeerRefIdeal.main_arg6)
      ∧ r.2.mem ((c.tc : Thread Cert.PeerRefIdeal.nD Cert.PeerRefIdeal.τ).loc Cert.PeerRefIdeal.main_arg7) = m ((c.tc : Thread Cert.PeerRefIdeal.nD Cert.PeerRefIdeal.τ).loc Cert.PeerRefIdeal.main_arg7)
      ∧ r.2.mem ((c.tc : Thread Cert.PeerRefIdeal.nD Cert.PeerRefIdeal.τ).loc Cert.PeerRefIdeal.main_arg8) = m ((c.tc : Thread Cert.PeerRefIdeal.nD Cert.PeerRefIdeal.τ).loc Cert.PeerRefIdeal.main_arg8)
      ∧ r.2.mem ((c.tc : Thread Cert.PeerRefIdeal.nD Cert.PeerRefIdeal.τ).loc Cert.PeerRefIdeal.main_arg9) = m ((c.tc : Thread Cert.PeerRefIdeal.nD Cert.PeerRefIdeal.τ).loc Cert.PeerRefIdeal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Project1_Project1Ideal : Prop :=
  True

def algebraic_Project1Ideal_Project1RefIdeal [hProject1Ideal : Cert.Project1Ideal.Facts] [hProject1RefIdeal : Cert.Project1RefIdeal.Facts] : Prop :=
  ∀ (m : (ℓ : Loc Cert.Project1Ideal.nD Cert.Project1Ideal.τ Cert.Project1Ideal.sig) → Buf (Elt Ideal) ℓ) (g : Dev Cert.Project1Ideal.nD → PrngReg)
    (m' : (ℓ : Loc Cert.Project1RefIdeal.nD Cert.Project1RefIdeal.τ Cert.Project1RefIdeal.sig) → Buf (Elt Ideal) ℓ) (g' : Dev Cert.Project1RefIdeal.nD → PrngReg), Pre_Project1Ideal m →
    (∀ c : Dev Cert.Project1Ideal.nD,
      m' ((c.tc : Thread Cert.Project1RefIdeal.nD Cert.Project1RefIdeal.τ).loc Cert.Project1RefIdeal.main_arg0) = m ((c.tc : Thread Cert.Project1Ideal.nD Cert.Project1Ideal.τ).loc Cert.Project1Ideal.main_arg0)
      ∧ m' ((c.tc : Thread Cert.Project1RefIdeal.nD Cert.Project1RefIdeal.τ).loc Cert.Project1RefIdeal.main_arg1) = m ((c.tc : Thread Cert.Project1Ideal.nD Cert.Project1Ideal.τ).loc Cert.Project1Ideal.main_arg1)
      ∧ m' ((c.tc : Thread Cert.Project1RefIdeal.nD Cert.Project1RefIdeal.τ).loc Cert.Project1RefIdeal.main_arg2) = m ((c.tc : Thread Cert.Project1Ideal.nD Cert.Project1Ideal.τ).loc Cert.Project1Ideal.main_arg2)
      ∧ m' ((c.tc : Thread Cert.Project1RefIdeal.nD Cert.Project1RefIdeal.τ).loc Cert.Project1RefIdeal.main_arg3) = m ((c.tc : Thread Cert.Project1Ideal.nD Cert.Project1Ideal.τ).loc Cert.Project1Ideal.main_arg3)
      ∧ m' ((c.tc : Thread Cert.Project1RefIdeal.nD Cert.Project1RefIdeal.τ).loc Cert.Project1RefIdeal.main_arg4) = m ((c.tc : Thread Cert.Project1Ideal.nD Cert.Project1Ideal.τ).loc Cert.Project1Ideal.main_arg4)) →
    ∃ (v0 : (c : Dev Cert.Project1Ideal.nD) → Buf (Elt Ideal) ((c.tc : Thread Cert.Project1Ideal.nD Cert.Project1Ideal.τ).loc Cert.Project1Ideal.main_v0)),
      θ_run (Cert.Project1Ideal.defs (F := Ideal)) (onTc (τ := Cert.Project1Ideal.τ) (Cert.Project1Ideal.main (F := Ideal))) ⟨m, fun _ => 0, g⟩ (fun r => ∀ c : Dev Cert.Project1Ideal.nD,
          r.2.mem ((c.tc : Thread Cert.Project1Ideal.nD Cert.Project1Ideal.τ).loc Cert.Project1Ideal.main_v0) = v0 c
          ∧ r.2.mem ((c.tc : Thread Cert.Project1Ideal.nD Cert.Project1Ideal.τ).loc Cert.Project1Ideal.main_arg0) = m ((c.tc : Thread Cert.Project1Ideal.nD Cert.Project1Ideal.τ).loc Cert.Project1Ideal.main_arg0)
          ∧ r.2.mem ((c.tc : Thread Cert.Project1Ideal.nD Cert.Project1Ideal.τ).loc Cert.Project1Ideal.main_arg1) = m ((c.tc : Thread Cert.Project1Ideal.nD Cert.Project1Ideal.τ).loc Cert.Project1Ideal.main_arg1)
          ∧ r.2.mem ((c.tc : Thread Cert.Project1Ideal.nD Cert.Project1Ideal.τ).loc Cert.Project1Ideal.main_arg2) = m ((c.tc : Thread Cert.Project1Ideal.nD Cert.Project1Ideal.τ).loc Cert.Project1Ideal.main_arg2)
          ∧ r.2.mem ((c.tc : Thread Cert.Project1Ideal.nD Cert.Project1Ideal.τ).loc Cert.Project1Ideal.main_arg3) = m ((c.tc : Thread Cert.Project1Ideal.nD Cert.Project1Ideal.τ).loc Cert.Project1Ideal.main_arg3)
          ∧ r.2.mem ((c.tc : Thread Cert.Project1Ideal.nD Cert.Project1Ideal.τ).loc Cert.Project1Ideal.main_arg4) = m ((c.tc : Thread Cert.Project1Ideal.nD Cert.Project1Ideal.τ).loc Cert.Project1Ideal.main_arg4))
      ∧ θ_run (Cert.Project1RefIdeal.defs (F := Ideal)) (onTc (τ := Cert.Project1RefIdeal.τ) (Cert.Project1RefIdeal.main (F := Ideal))) ⟨m', fun _ => 0, g'⟩ (fun r => ∀ c : Dev Cert.Project1RefIdeal.nD,
          r.2.mem ((c.tc : Thread Cert.Project1RefIdeal.nD Cert.Project1RefIdeal.τ).loc Cert.Project1RefIdeal.main_v20) = v0 c
          ∧ r.2.mem ((c.tc : Thread Cert.Project1RefIdeal.nD Cert.Project1RefIdeal.τ).loc Cert.Project1RefIdeal.main_arg0) = m' ((c.tc : Thread Cert.Project1RefIdeal.nD Cert.Project1RefIdeal.τ).loc Cert.Project1RefIdeal.main_arg0)
          ∧ r.2.mem ((c.tc : Thread Cert.Project1RefIdeal.nD Cert.Project1RefIdeal.τ).loc Cert.Project1RefIdeal.main_arg1) = m' ((c.tc : Thread Cert.Project1RefIdeal.nD Cert.Project1RefIdeal.τ).loc Cert.Project1RefIdeal.main_arg1)
          ∧ r.2.mem ((c.tc : Thread Cert.Project1RefIdeal.nD Cert.Project1RefIdeal.τ).loc Cert.Project1RefIdeal.main_arg2) = m' ((c.tc : Thread Cert.Project1RefIdeal.nD Cert.Project1RefIdeal.τ).loc Cert.Project1RefIdeal.main_arg2)
          ∧ r.2.mem ((c.tc : Thread Cert.Project1RefIdeal.nD Cert.Project1RefIdeal.τ).loc Cert.Project1RefIdeal.main_arg3) = m' ((c.tc : Thread Cert.Project1RefIdeal.nD Cert.Project1RefIdeal.τ).loc Cert.Project1RefIdeal.main_arg3)
          ∧ r.2.mem ((c.tc : Thread Cert.Project1RefIdeal.nD Cert.Project1RefIdeal.τ).loc Cert.Project1RefIdeal.main_arg4) = m' ((c.tc : Thread Cert.Project1RefIdeal.nD Cert.Project1RefIdeal.τ).loc Cert.Project1RefIdeal.main_arg4))

def preserves_Project0_Project0Ideal : Prop :=
  True

def algebraic_Project0Ideal_Project0RefIdeal [hProject0Ideal : Cert.Project0Ideal.Facts] [hProject0RefIdeal : Cert.Project0RefIdeal.Facts] : Prop :=
  ∀ (m : (ℓ : Loc Cert.Project0Ideal.nD Cert.Project0Ideal.τ Cert.Project0Ideal.sig) → Buf (Elt Ideal) ℓ) (g : Dev Cert.Project0Ideal.nD → PrngReg)
    (m' : (ℓ : Loc Cert.Project0RefIdeal.nD Cert.Project0RefIdeal.τ Cert.Project0RefIdeal.sig) → Buf (Elt Ideal) ℓ) (g' : Dev Cert.Project0RefIdeal.nD → PrngReg), Pre_Project0Ideal m →
    (∀ c : Dev Cert.Project0Ideal.nD,
      m' ((c.tc : Thread Cert.Project0RefIdeal.nD Cert.Project0RefIdeal.τ).loc Cert.Project0RefIdeal.main_arg0) = m ((c.tc : Thread Cert.Project0Ideal.nD Cert.Project0Ideal.τ).loc Cert.Project0Ideal.main_arg0)
      ∧ m' ((c.tc : Thread Cert.Project0RefIdeal.nD Cert.Project0RefIdeal.τ).loc Cert.Project0RefIdeal.main_arg1) = m ((c.tc : Thread Cert.Project0Ideal.nD Cert.Project0Ideal.τ).loc Cert.Project0Ideal.main_arg1)
      ∧ m' ((c.tc : Thread Cert.Project0RefIdeal.nD Cert.Project0RefIdeal.τ).loc Cert.Project0RefIdeal.main_arg2) = m ((c.tc : Thread Cert.Project0Ideal.nD Cert.Project0Ideal.τ).loc Cert.Project0Ideal.main_arg2)
      ∧ m' ((c.tc : Thread Cert.Project0RefIdeal.nD Cert.Project0RefIdeal.τ).loc Cert.Project0RefIdeal.main_arg3) = m ((c.tc : Thread Cert.Project0Ideal.nD Cert.Project0Ideal.τ).loc Cert.Project0Ideal.main_arg3)
      ∧ m' ((c.tc : Thread Cert.Project0RefIdeal.nD Cert.Project0RefIdeal.τ).loc Cert.Project0RefIdeal.main_arg4) = m ((c.tc : Thread Cert.Project0Ideal.nD Cert.Project0Ideal.τ).loc Cert.Project0Ideal.main_arg4)) →
    ∃ (v0 : (c : Dev Cert.Project0Ideal.nD) → Buf (Elt Ideal) ((c.tc : Thread Cert.Project0Ideal.nD Cert.Project0Ideal.τ).loc Cert.Project0Ideal.main_v0)),
      θ_run (Cert.Project0Ideal.defs (F := Ideal)) (onTc (τ := Cert.Project0Ideal.τ) (Cert.Project0Ideal.main (F := Ideal))) ⟨m, fun _ => 0, g⟩ (fun r => ∀ c : Dev Cert.Project0Ideal.nD,
          r.2.mem ((c.tc : Thread Cert.Project0Ideal.nD Cert.Project0Ideal.τ).loc Cert.Project0Ideal.main_v0) = v0 c
          ∧ r.2.mem ((c.tc : Thread Cert.Project0Ideal.nD Cert.Project0Ideal.τ).loc Cert.Project0Ideal.main_arg0) = m ((c.tc : Thread Cert.Project0Ideal.nD Cert.Project0Ideal.τ).loc Cert.Project0Ideal.main_arg0)
          ∧ r.2.mem ((c.tc : Thread Cert.Project0Ideal.nD Cert.Project0Ideal.τ).loc Cert.Project0Ideal.main_arg1) = m ((c.tc : Thread Cert.Project0Ideal.nD Cert.Project0Ideal.τ).loc Cert.Project0Ideal.main_arg1)
          ∧ r.2.mem ((c.tc : Thread Cert.Project0Ideal.nD Cert.Project0Ideal.τ).loc Cert.Project0Ideal.main_arg2) = m ((c.tc : Thread Cert.Project0Ideal.nD Cert.Project0Ideal.τ).loc Cert.Project0Ideal.main_arg2)
          ∧ r.2.mem ((c.tc : Thread Cert.Project0Ideal.nD Cert.Project0Ideal.τ).loc Cert.Project0Ideal.main_arg3) = m ((c.tc : Thread Cert.Project0Ideal.nD Cert.Project0Ideal.τ).loc Cert.Project0Ideal.main_arg3)
          ∧ r.2.mem ((c.tc : Thread Cert.Project0Ideal.nD Cert.Project0Ideal.τ).loc Cert.Project0Ideal.main_arg4) = m ((c.tc : Thread Cert.Project0Ideal.nD Cert.Project0Ideal.τ).loc Cert.Project0Ideal.main_arg4))
      ∧ θ_run (Cert.Project0RefIdeal.defs (F := Ideal)) (onTc (τ := Cert.Project0RefIdeal.τ) (Cert.Project0RefIdeal.main (F := Ideal))) ⟨m', fun _ => 0, g'⟩ (fun r => ∀ c : Dev Cert.Project0RefIdeal.nD,
          r.2.mem ((c.tc : Thread Cert.Project0RefIdeal.nD Cert.Project0RefIdeal.τ).loc Cert.Project0RefIdeal.main_v20) = v0 c
          ∧ r.2.mem ((c.tc : Thread Cert.Project0RefIdeal.nD Cert.Project0RefIdeal.τ).loc Cert.Project0RefIdeal.main_arg0) = m' ((c.tc : Thread Cert.Project0RefIdeal.nD Cert.Project0RefIdeal.τ).loc Cert.Project0RefIdeal.main_arg0)
          ∧ r.2.mem ((c.tc : Thread Cert.Project0RefIdeal.nD Cert.Project0RefIdeal.τ).loc Cert.Project0RefIdeal.main_arg1) = m' ((c.tc : Thread Cert.Project0RefIdeal.nD Cert.Project0RefIdeal.τ).loc Cert.Project0RefIdeal.main_arg1)
          ∧ r.2.mem ((c.tc : Thread Cert.Project0RefIdeal.nD Cert.Project0RefIdeal.τ).loc Cert.Project0RefIdeal.main_arg2) = m' ((c.tc : Thread Cert.Project0RefIdeal.nD Cert.Project0RefIdeal.τ).loc Cert.Project0RefIdeal.main_arg2)
          ∧ r.2.mem ((c.tc : Thread Cert.Project0RefIdeal.nD Cert.Project0RefIdeal.τ).loc Cert.Project0RefIdeal.main_arg3) = m' ((c.tc : Thread Cert.Project0RefIdeal.nD Cert.Project0RefIdeal.τ).loc Cert.Project0RefIdeal.main_arg3)
          ∧ r.2.mem ((c.tc : Thread Cert.Project0RefIdeal.nD Cert.Project0RefIdeal.τ).loc Cert.Project0RefIdeal.main_arg4) = m' ((c.tc : Thread Cert.Project0RefIdeal.nD Cert.Project0RefIdeal.τ).loc Cert.Project0RefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v5) = v0 c
          ∧ r.2.mem ((c.tc : Thread Cert.OutProjRefIdeal.nD Cert.OutProjRefIdeal.τ).loc Cert.OutProjRefIdeal.main_v27) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7))

def preserves_Readout_ReadoutIdeal : Prop :=
  True

def algebraic_ReadoutIdeal_ReadoutRefIdeal [hReadoutIdeal : Cert.ReadoutIdeal.Facts] [hReadoutRefIdeal : Cert.ReadoutRefIdeal.Facts] : Prop :=
  ∀ (m : (ℓ : Loc Cert.ReadoutIdeal.nD Cert.ReadoutIdeal.τ Cert.ReadoutIdeal.sig) → Buf (Elt Ideal) ℓ) (g : Dev Cert.ReadoutIdeal.nD → PrngReg)
    (m' : (ℓ : Loc Cert.ReadoutRefIdeal.nD Cert.ReadoutRefIdeal.τ Cert.ReadoutRefIdeal.sig) → Buf (Elt Ideal) ℓ) (g' : Dev Cert.ReadoutRefIdeal.nD → PrngReg), Pre_ReadoutIdeal m →
    (∀ c : Dev Cert.ReadoutIdeal.nD,
      m' ((c.tc : Thread Cert.ReadoutRefIdeal.nD Cert.ReadoutRefIdeal.τ).loc Cert.ReadoutRefIdeal.main_arg0) = m ((c.tc : Thread Cert.ReadoutIdeal.nD Cert.ReadoutIdeal.τ).loc Cert.ReadoutIdeal.main_arg0)
      ∧ m' ((c.tc : Thread Cert.ReadoutRefIdeal.nD Cert.ReadoutRefIdeal.τ).loc Cert.ReadoutRefIdeal.main_arg1) = m ((c.tc : Thread Cert.ReadoutIdeal.nD Cert.ReadoutIdeal.τ).loc Cert.ReadoutIdeal.main_arg1)
      ∧ m' ((c.tc : Thread Cert.ReadoutRefIdeal.nD Cert.ReadoutRefIdeal.τ).loc Cert.ReadoutRefIdeal.main_arg2) = m ((c.tc : Thread Cert.ReadoutIdeal.nD Cert.ReadoutIdeal.τ).loc Cert.ReadoutIdeal.main_arg2)
      ∧ m' ((c.tc : Thread Cert.ReadoutRefIdeal.nD Cert.ReadoutRefIdeal.τ).loc Cert.ReadoutRefIdeal.main_arg3) = m ((c.tc : Thread Cert.ReadoutIdeal.nD Cert.ReadoutIdeal.τ).loc Cert.ReadoutIdeal.main_arg3)
      ∧ m' ((c.tc : Thread Cert.ReadoutRefIdeal.nD Cert.ReadoutRefIdeal.τ).loc Cert.ReadoutRefIdeal.main_arg4) = m ((c.tc : Thread Cert.ReadoutIdeal.nD Cert.ReadoutIdeal.τ).loc Cert.ReadoutIdeal.main_arg4)
      ∧ m' ((c.tc : Thread Cert.ReadoutRefIdeal.nD Cert.ReadoutRefIdeal.τ).loc Cert.ReadoutRefIdeal.main_arg5) = m ((c.tc : Thread Cert.ReadoutIdeal.nD Cert.ReadoutIdeal.τ).loc Cert.ReadoutIdeal.main_arg5)
      ∧ m' ((c.tc : Thread Cert.ReadoutRefIdeal.nD Cert.ReadoutRefIdeal.τ).loc Cert.ReadoutRefIdeal.main_arg6) = m ((c.tc : Thread Cert.ReadoutIdeal.nD Cert.ReadoutIdeal.τ).loc Cert.ReadoutIdeal.main_arg6)
      ∧ m' ((c.tc : Thread Cert.ReadoutRefIdeal.nD Cert.ReadoutRefIdeal.τ).loc Cert.ReadoutRefIdeal.main_arg7) = m ((c.tc : Thread Cert.ReadoutIdeal.nD Cert.ReadoutIdeal.τ).loc Cert.ReadoutIdeal.main_arg7)
      ∧ m' ((c.tc : Thread Cert.ReadoutRefIdeal.nD Cert.ReadoutRefIdeal.τ).loc Cert.ReadoutRefIdeal.main_arg8) = m ((c.tc : Thread Cert.ReadoutIdeal.nD Cert.ReadoutIdeal.τ).loc Cert.ReadoutIdeal.main_arg8)
      ∧ m' ((c.tc : Thread Cert.ReadoutRefIdeal.nD Cert.ReadoutRefIdeal.τ).loc Cert.ReadoutRefIdeal.main_arg9) = m ((c.tc : Thread Cert.ReadoutIdeal.nD Cert.ReadoutIdeal.τ).loc Cert.ReadoutIdeal.main_arg9)) →
    ∃ (v0 : (c : Dev Cert.ReadoutIdeal.nD) → Buf (Elt Ideal) ((c.tc : Thread Cert.ReadoutIdeal.nD Cert.ReadoutIdeal.τ).loc Cert.ReadoutIdeal.main_v0_0)) (v1 : (c : Dev Cert.ReadoutIdeal.nD) → Buf (Elt Ideal) ((c.tc : Thread Cert.ReadoutIdeal.nD Cert.ReadoutIdeal.τ).loc Cert.ReadoutIdeal.main_v0_1)),
      θ_run (Cert.ReadoutIdeal.defs (F := Ideal)) (onTc (τ := Cert.ReadoutIdeal.τ) (Cert.ReadoutIdeal.main (F := Ideal))) ⟨m, fun _ => 0, g⟩ (fun r => ∀ c : Dev Cert.ReadoutIdeal.nD,
          r.2.mem ((c.tc : Thread Cert.ReadoutIdeal.nD Cert.ReadoutIdeal.τ).loc Cert.ReadoutIdeal.main_v0_0) = v0 c
          ∧ r.2.mem ((c.tc : Thread Cert.ReadoutIdeal.nD Cert.ReadoutIdeal.τ).loc Cert.ReadoutIdeal.main_v0_1) = v1 c
          ∧ r.2.mem ((c.tc : Thread Cert.ReadoutIdeal.nD Cert.ReadoutIdeal.τ).loc Cert.ReadoutIdeal.main_arg0) = m ((c.tc : Thread Cert.ReadoutIdeal.nD Cert.ReadoutIdeal.τ).loc Cert.ReadoutIdeal.main_arg0)
          ∧ r.2.mem ((c.tc : Thread Cert.ReadoutIdeal.nD Cert.ReadoutIdeal.τ).loc Cert.ReadoutIdeal.main_arg1) = m ((c.tc : Thread Cert.ReadoutIdeal.nD Cert.ReadoutIdeal.τ).loc Cert.ReadoutIdeal.main_arg1)
          ∧ r.2.mem ((c.tc : Thread Cert.ReadoutIdeal.nD Cert.ReadoutIdeal.τ).loc Cert.ReadoutIdeal.main_arg2) = m ((c.tc : Thread Cert.ReadoutIdeal.nD Cert.ReadoutIdeal.τ).loc Cert.ReadoutIdeal.main_arg2)
          ∧ r.2.mem ((c.tc : Thread Cert.ReadoutIdeal.nD Cert.ReadoutIdeal.τ).loc Cert.ReadoutIdeal.main_arg3) = m ((c.tc : Thread Cert.ReadoutIdeal.nD Cert.ReadoutIdeal.τ).loc Cert.ReadoutIdeal.main_arg3)
          ∧ r.2.mem ((c.tc : Thread Cert.ReadoutIdeal.nD Cert.ReadoutIdeal.τ).loc Cert.ReadoutIdeal.main_arg4) = m ((c.tc : Thread Cert.ReadoutIdeal.nD Cert.ReadoutIdeal.τ).loc Cert.ReadoutIdeal.main_arg4)
          ∧ r.2.mem ((c.tc : Thread Cert.ReadoutIdeal.nD Cert.ReadoutIdeal.τ).loc Cert.ReadoutIdeal.main_arg5) = m ((c.tc : Thread Cert.ReadoutIdeal.nD Cert.ReadoutIdeal.τ).loc Cert.ReadoutIdeal.main_arg5)
          ∧ r.2.mem ((c.tc : Thread Cert.ReadoutIdeal.nD Cert.ReadoutIdeal.τ).loc Cert.ReadoutIdeal.main_arg6) = m ((c.tc : Thread Cert.ReadoutIdeal.nD Cert.ReadoutIdeal.τ).loc Cert.ReadoutIdeal.main_arg6)
          ∧ r.2.mem ((c.tc : Thread Cert.ReadoutIdeal.nD Cert.ReadoutIdeal.τ).loc Cert.ReadoutIdeal.main_arg7) = m ((c.tc : Thread Cert.ReadoutIdeal.nD Cert.ReadoutIdeal.τ).loc Cert.ReadoutIdeal.main_arg7)
          ∧ r.2.mem ((c.tc : Thread Cert.ReadoutIdeal.nD Cert.ReadoutIdeal.τ).loc Cert.ReadoutIdeal.main_arg8) = m ((c.tc : Thread Cert.ReadoutIdeal.nD Cert.ReadoutIdeal.τ).loc Cert.ReadoutIdeal.main_arg8)
          ∧ r.2.mem ((c.tc : Thread Cert.ReadoutIdeal.nD Cert.ReadoutIdeal.τ).loc Cert.ReadoutIdeal.main_arg9) = m ((c.tc : Thread Cert.ReadoutIdeal.nD Cert.ReadoutIdeal.τ).loc Cert.ReadoutIdeal.main_arg9))
      ∧ θ_run (Cert.ReadoutRefIdeal.defs (F := Ideal)) (onTc (τ := Cert.ReadoutRefIdeal.τ) (Cert.ReadoutRefIdeal.main (F := Ideal))) ⟨m', fun _ => 0, g'⟩ (fun r => ∀ c : Dev Cert.ReadoutRefIdeal.nD,
          r.2.mem ((c.tc : Thread Cert.ReadoutRefIdeal.nD Cert.ReadoutRefIdeal.τ).loc Cert.ReadoutRefIdeal.main_v24) = v0 c
          ∧ r.2.mem ((c.tc : Thread Cert.ReadoutRefIdeal.nD Cert.ReadoutRefIdeal.τ).loc Cert.ReadoutRefIdeal.main_v46) = v1 c
          ∧ r.2.mem ((c.tc : Thread Cert.ReadoutRefIdeal.nD Cert.ReadoutRefIdeal.τ).loc Cert.ReadoutRefIdeal.main_arg0) = m' ((c.tc : Thread Cert.ReadoutRefIdeal.nD Cert.ReadoutRefIdeal.τ).loc Cert.ReadoutRefIdeal.main_arg0)
          ∧ r.2.mem ((c.tc : Thread Cert.ReadoutRefIdeal.nD Cert.ReadoutRefIdeal.τ).loc Cert.ReadoutRefIdeal.main_arg1) = m' ((c.tc : Thread Cert.ReadoutRefIdeal.nD Cert.ReadoutRefIdeal.τ).loc Cert.ReadoutRefIdeal.main_arg1)
          ∧ r.2.mem ((c.tc : Thread Cert.ReadoutRefIdeal.nD Cert.ReadoutRefIdeal.τ).loc Cert.ReadoutRefIdeal.main_arg2) = m' ((c.tc : Thread Cert.ReadoutRefIdeal.nD Cert.ReadoutRefIdeal.τ).loc Cert.ReadoutRefIdeal.main_arg2)
          ∧ r.2.mem ((c.tc : Thread Cert.ReadoutRefIdeal.nD Cert.ReadoutRefIdeal.τ).loc Cert.ReadoutRefIdeal.main_arg3) = m' ((c.tc : Thread Cert.ReadoutRefIdeal.nD Cert.ReadoutRefIdeal.τ).loc Cert.ReadoutRefIdeal.main_arg3)
          ∧ r.2.mem ((c.tc : Thread Cert.ReadoutRefIdeal.nD Cert.ReadoutRefIdeal.τ).loc Cert.ReadoutRefIdeal.main_arg4) = m' ((c.tc : Thread Cert.ReadoutRefIdeal.nD Cert.ReadoutRefIdeal.τ).loc Cert.ReadoutRefIdeal.main_arg4)
          ∧ r.2.mem ((c.tc : Thread Cert.ReadoutRefIdeal.nD Cert.ReadoutRefIdeal.τ).loc Cert.ReadoutRefIdeal.main_arg5) = m' ((c.tc : Thread Cert.ReadoutRefIdeal.nD Cert.ReadoutRefIdeal.τ).loc Cert.ReadoutRefIdeal.main_arg5)
          ∧ r.2.mem ((c.tc : Thread Cert.ReadoutRefIdeal.nD Cert.ReadoutRefIdeal.τ).loc Cert.ReadoutRefIdeal.main_arg6) = m' ((c.tc : Thread Cert.ReadoutRefIdeal.nD Cert.ReadoutRefIdeal.τ).loc Cert.ReadoutRefIdeal.main_arg6)
          ∧ r.2.mem ((c.tc : Thread Cert.ReadoutRefIdeal.nD Cert.ReadoutRefIdeal.τ).loc Cert.ReadoutRefIdeal.main_arg7) = m' ((c.tc : Thread Cert.ReadoutRefIdeal.nD Cert.ReadoutRefIdeal.τ).loc Cert.ReadoutRefIdeal.main_arg7)
          ∧ r.2.mem ((c.tc : Thread Cert.ReadoutRefIdeal.nD Cert.ReadoutRefIdeal.τ).loc Cert.ReadoutRefIdeal.main_arg8) = m' ((c.tc : Thread Cert.ReadoutRefIdeal.nD Cert.ReadoutRefIdeal.τ).loc Cert.ReadoutRefIdeal.main_arg8)
          ∧ r.2.mem ((c.tc : Thread Cert.ReadoutRefIdeal.nD Cert.ReadoutRefIdeal.τ).loc Cert.ReadoutRefIdeal.main_arg9) = m' ((c.tc : Thread Cert.ReadoutRefIdeal.nD Cert.ReadoutRefIdeal.τ).loc Cert.ReadoutRefIdeal.main_arg9))

def preserves_Project1Ctx_Project1CtxIdeal : Prop :=
  True

def algebraic_Project1CtxIdeal_Project1CtxRefIdeal [hProject1CtxIdeal : Cert.Project1CtxIdeal.Facts] [hProject1CtxRefIdeal : Cert.Project1CtxRefIdeal.Facts] : Prop :=
  ∀ (m : (ℓ : Loc Cert.Project1CtxIdeal.nD Cert.Project1CtxIdeal.τ Cert.Project1CtxIdeal.sig) → Buf (Elt Ideal) ℓ) (g : Dev Cert.Project1CtxIdeal.nD → PrngReg)
    (m' : (ℓ : Loc Cert.Project1CtxRefIdeal.nD Cert.Project1CtxRefIdeal.τ Cert.Project1CtxRefIdeal.sig) → Buf (Elt Ideal) ℓ) (g' : Dev Cert.Project1CtxRefIdeal.nD → PrngReg), Pre_Project1CtxIdeal m →
    (∀ c : Dev Cert.Project1CtxIdeal.nD,
      m' ((c.tc : Thread Cert.Project1CtxRefIdeal.nD Cert.Project1CtxRefIdeal.τ).loc Cert.Project1CtxRefIdeal.main_arg0) = m ((c.tc : Thread Cert.Project1CtxIdeal.nD Cert.Project1CtxIdeal.τ).loc Cert.Project1CtxIdeal.main_arg0)
      ∧ m' ((c.tc : Thread Cert.Project1CtxRefIdeal.nD Cert.Project1CtxRefIdeal.τ).loc Cert.Project1CtxRefIdeal.main_arg1) = m ((c.tc : Thread Cert.Project1CtxIdeal.nD Cert.Project1CtxIdeal.τ).loc Cert.Project1CtxIdeal.main_arg1)
      ∧ m' ((c.tc : Thread Cert.Project1CtxRefIdeal.nD Cert.Project1CtxRefIdeal.τ).loc Cert.Project1CtxRefIdeal.main_arg2) = m ((c.tc : Thread Cert.Project1CtxIdeal.nD Cert.Project1CtxIdeal.τ).loc Cert.Project1CtxIdeal.main_arg2)
      ∧ m' ((c.tc : Thread Cert.Project1CtxRefIdeal.nD Cert.Project1CtxRefIdeal.τ).loc Cert.Project1CtxRefIdeal.main_arg3) = m ((c.tc : Thread Cert.Project1CtxIdeal.nD Cert.Project1CtxIdeal.τ).loc Cert.Project1CtxIdeal.main_arg3)
      ∧ m' ((c.tc : Thread Cert.Project1CtxRefIdeal.nD Cert.Project1CtxRefIdeal.τ).loc Cert.Project1CtxRefIdeal.main_arg4) = m ((c.tc : Thread Cert.Project1CtxIdeal.nD Cert.Project1CtxIdeal.τ).loc Cert.Project1CtxIdeal.main_arg4)) →
    ∃ (v0 : (c : Dev Cert.Project1CtxIdeal.nD) → Buf (Elt Ideal) ((c.tc : Thread Cert.Project1CtxIdeal.nD Cert.Project1CtxIdeal.τ).loc Cert.Project1CtxIdeal.main_v0)),
      θ_run (Cert.Project1CtxIdeal.defs (F := Ideal)) (onTc (τ := Cert.Project1CtxIdeal.τ) (Cert.Project1CtxIdeal.main (F := Ideal))) ⟨m, fun _ => 0, g⟩ (fun r => ∀ c : Dev Cert.Project1CtxIdeal.nD,
          r.2.mem ((c.tc : Thread Cert.Project1CtxIdeal.nD Cert.Project1CtxIdeal.τ).loc Cert.Project1CtxIdeal.main_v0) = v0 c
          ∧ r.2.mem ((c.tc : Thread Cert.Project1CtxIdeal.nD Cert.Project1CtxIdeal.τ).loc Cert.Project1CtxIdeal.main_arg0) = m ((c.tc : Thread Cert.Project1CtxIdeal.nD Cert.Project1CtxIdeal.τ).loc Cert.Project1CtxIdeal.main_arg0)
          ∧ r.2.mem ((c.tc : Thread Cert.Project1CtxIdeal.nD Cert.Project1CtxIdeal.τ).loc Cert.Project1CtxIdeal.main_arg1) = m ((c.tc : Thread Cert.Project1CtxIdeal.nD Cert.Project1CtxIdeal.τ).loc Cert.Project1CtxIdeal.main_arg1)
          ∧ r.2.mem ((c.tc : Thread Cert.Project1CtxIdeal.nD Cert.Project1CtxIdeal.τ).loc Cert.Project1CtxIdeal.main_arg2) = m ((c.tc : Thread Cert.Project1CtxIdeal.nD Cert.Project1CtxIdeal.τ).loc Cert.Project1CtxIdeal.main_arg2)
          ∧ r.2.mem ((c.tc : Thread Cert.Project1CtxIdeal.nD Cert.Project1CtxIdeal.τ).loc Cert.Project1CtxIdeal.main_arg3) = m ((c.tc : Thread Cert.Project1CtxIdeal.nD Cert.Project1CtxIdeal.τ).loc Cert.Project1CtxIdeal.main_arg3)
          ∧ r.2.mem ((c.tc : Thread Cert.Project1CtxIdeal.nD Cert.Project1CtxIdeal.τ).loc Cert.Project1CtxIdeal.main_arg4) = m ((c.tc : Thread Cert.Project1CtxIdeal.nD Cert.Project1CtxIdeal.τ).loc Cert.Project1CtxIdeal.main_arg4))
      ∧ θ_run (Cert.Project1CtxRefIdeal.defs (F := Ideal)) (onTc (τ := Cert.Project1CtxRefIdeal.τ) (Cert.Project1CtxRefIdeal.main (F := Ideal))) ⟨m', fun _ => 0, g'⟩ (fun r => ∀ c : Dev Cert.Project1CtxRefIdeal.nD,
          r.2.mem ((c.tc : Thread Cert.Project1CtxRefIdeal.nD Cert.Project1CtxRefIdeal.τ).loc Cert.Project1CtxRefIdeal.main_v20) = v0 c
          ∧ r.2.mem ((c.tc : Thread Cert.Project1CtxRefIdeal.nD Cert.Project1CtxRefIdeal.τ).loc Cert.Project1CtxRefIdeal.main_arg0) = m' ((c.tc : Thread Cert.Project1CtxRefIdeal.nD Cert.Project1CtxRefIdeal.τ).loc Cert.Project1CtxRefIdeal.main_arg0)
          ∧ r.2.mem ((c.tc : Thread Cert.Project1CtxRefIdeal.nD Cert.Project1CtxRefIdeal.τ).loc Cert.Project1CtxRefIdeal.main_arg1) = m' ((c.tc : Thread Cert.Project1CtxRefIdeal.nD Cert.Project1CtxRefIdeal.τ).loc Cert.Project1CtxRefIdeal.main_arg1)
          ∧ r.2.mem ((c.tc : Thread Cert.Project1CtxRefIdeal.nD Cert.Project1CtxRefIdeal.τ).loc Cert.Project1CtxRefIdeal.main_arg2) = m' ((c.tc : Thread Cert.Project1CtxRefIdeal.nD Cert.Project1CtxRefIdeal.τ).loc Cert.Project1CtxRefIdeal.main_arg2)
          ∧ r.2.mem ((c.tc : Thread Cert.Project1CtxRefIdeal.nD Cert.Project1CtxRefIdeal.τ).loc Cert.Project1CtxRefIdeal.main_arg3) = m' ((c.tc : Thread Cert.Project1CtxRefIdeal.nD Cert.Project1CtxRefIdeal.τ).loc Cert.Project1CtxRefIdeal.main_arg3)
          ∧ r.2.mem ((c.tc : Thread Cert.Project1CtxRefIdeal.nD Cert.Project1CtxRefIdeal.τ).loc Cert.Project1CtxRefIdeal.main_arg4) = m' ((c.tc : Thread Cert.Project1CtxRefIdeal.nD Cert.Project1CtxRefIdeal.τ).loc Cert.Project1CtxRefIdeal.main_arg4))

def preserves_Project0Ctx_Project0CtxIdeal : Prop :=
  True

def algebraic_Project0CtxIdeal_Project0CtxRefIdeal [hProject0CtxIdeal : Cert.Project0CtxIdeal.Facts] [hProject0CtxRefIdeal : Cert.Project0CtxRefIdeal.Facts] : Prop :=
  ∀ (m : (ℓ : Loc Cert.Project0CtxIdeal.nD Cert.Project0CtxIdeal.τ Cert.Project0CtxIdeal.sig) → Buf (Elt Ideal) ℓ) (g : Dev Cert.Project0CtxIdeal.nD → PrngReg)
    (m' : (ℓ : Loc Cert.Project0CtxRefIdeal.nD Cert.Project0CtxRefIdeal.τ Cert.Project0CtxRefIdeal.sig) → Buf (Elt Ideal) ℓ) (g' : Dev Cert.Project0CtxRefIdeal.nD → PrngReg), Pre_Project0CtxIdeal m →
    (∀ c : Dev Cert.Project0CtxIdeal.nD,
      m' ((c.tc : Thread Cert.Project0CtxRefIdeal.nD Cert.Project0CtxRefIdeal.τ).loc Cert.Project0CtxRefIdeal.main_arg0) = m ((c.tc : Thread Cert.Project0CtxIdeal.nD Cert.Project0CtxIdeal.τ).loc Cert.Project0CtxIdeal.main_arg0)
      ∧ m' ((c.tc : Thread Cert.Project0CtxRefIdeal.nD Cert.Project0CtxRefIdeal.τ).loc Cert.Project0CtxRefIdeal.main_arg1) = m ((c.tc : Thread Cert.Project0CtxIdeal.nD Cert.Project0CtxIdeal.τ).loc Cert.Project0CtxIdeal.main_arg1)
      ∧ m' ((c.tc : Thread Cert.Project0CtxRefIdeal.nD Cert.Project0CtxRefIdeal.τ).loc Cert.Project0CtxRefIdeal.main_arg2) = m ((c.tc : Thread Cert.Project0CtxIdeal.nD Cert.Project0CtxIdeal.τ).loc Cert.Project0CtxIdeal.main_arg2)
      ∧ m' ((c.tc : Thread Cert.Project0CtxRefIdeal.nD Cert.Project0CtxRefIdeal.τ).loc Cert.Project0CtxRefIdeal.main_arg3) = m ((c.tc : Thread Cert.Project0CtxIdeal.nD Cert.Project0CtxIdeal.τ).loc Cert.Project0CtxIdeal.main_arg3)
      ∧ m' ((c.tc : Thread Cert.Project0CtxRefIdeal.nD Cert.Project0CtxRefIdeal.τ).loc Cert.Project0CtxRefIdeal.main_arg4) = m ((c.tc : Thread Cert.Project0CtxIdeal.nD Cert.Project0CtxIdeal.τ).loc Cert.Project0CtxIdeal.main_arg4)) →
    ∃ (v0 : (c : Dev Cert.Project0CtxIdeal.nD) → Buf (Elt Ideal) ((c.tc : Thread Cert.Project0CtxIdeal.nD Cert.Project0CtxIdeal.τ).loc Cert.Project0CtxIdeal.main_v0)),
      θ_run (Cert.Project0CtxIdeal.defs (F := Ideal)) (onTc (τ := Cert.Project0CtxIdeal.τ) (Cert.Project0CtxIdeal.main (F := Ideal))) ⟨m, fun _ => 0, g⟩ (fun r => ∀ c : Dev Cert.Project0CtxIdeal.nD,
          r.2.mem ((c.tc : Thread Cert.Project0CtxIdeal.nD Cert.Project0CtxIdeal.τ).loc Cert.Project0CtxIdeal.main_v0) = v0 c
          ∧ r.2.mem ((c.tc : Thread Cert.Project0CtxIdeal.nD Cert.Project0CtxIdeal.τ).loc Cert.Project0CtxIdeal.main_arg0) = m ((c.tc : Thread Cert.Project0CtxIdeal.nD Cert.Project0CtxIdeal.τ).loc Cert.Project0CtxIdeal.main_arg0)
          ∧ r.2.mem ((c.tc : Thread Cert.Project0CtxIdeal.nD Cert.Project0CtxIdeal.τ).loc Cert.Project0CtxIdeal.main_arg1) = m ((c.tc : Thread Cert.Project0CtxIdeal.nD Cert.Project0CtxIdeal.τ).loc Cert.Project0CtxIdeal.main_arg1)
          ∧ r.2.mem ((c.tc : Thread Cert.Project0CtxIdeal.nD Cert.Project0CtxIdeal.τ).loc Cert.Project0CtxIdeal.main_arg2) = m ((c.tc : Thread Cert.Project0CtxIdeal.nD Cert.Project0CtxIdeal.τ).loc Cert.Project0CtxIdeal.main_arg2)
          ∧ r.2.mem ((c.tc : Thread Cert.Project0CtxIdeal.nD Cert.Project0CtxIdeal.τ).loc Cert.Project0CtxIdeal.main_arg3) = m ((c.tc : Thread Cert.Project0CtxIdeal.nD Cert.Project0CtxIdeal.τ).loc Cert.Project0CtxIdeal.main_arg3)
          ∧ r.2.mem ((c.tc : Thread Cert.Project0CtxIdeal.nD Cert.Project0CtxIdeal.τ).loc Cert.Project0CtxIdeal.main_arg4) = m ((c.tc : Thread Cert.Project0CtxIdeal.nD Cert.Project0CtxIdeal.τ).loc Cert.Project0CtxIdeal.main_arg4))
      ∧ θ_run (Cert.Project0CtxRefIdeal.defs (F := Ideal)) (onTc (τ := Cert.Project0CtxRefIdeal.τ) (Cert.Project0CtxRefIdeal.main (F := Ideal))) ⟨m', fun _ => 0, g'⟩ (fun r => ∀ c : Dev Cert.Project0CtxRefIdeal.nD,
          r.2.mem ((c.tc : Thread Cert.Project0CtxRefIdeal.nD Cert.Project0CtxRefIdeal.τ).loc Cert.Project0CtxRefIdeal.main_v20) = v0 c
          ∧ r.2.mem ((c.tc : Thread Cert.Project0CtxRefIdeal.nD Cert.Project0CtxRefIdeal.τ).loc Cert.Project0CtxRefIdeal.main_arg0) = m' ((c.tc : Thread Cert.Project0CtxRefIdeal.nD Cert.Project0CtxRefIdeal.τ).loc Cert.Project0CtxRefIdeal.main_arg0)
          ∧ r.2.mem ((c.tc : Thread Cert.Project0CtxRefIdeal.nD Cert.Project0CtxRefIdeal.τ).loc Cert.Project0CtxRefIdeal.main_arg1) = m' ((c.tc : Thread Cert.Project0CtxRefIdeal.nD Cert.Project0CtxRefIdeal.τ).loc Cert.Project0CtxRefIdeal.main_arg1)
          ∧ r.2.mem ((c.tc : Thread Cert.Project0CtxRefIdeal.nD Cert.Project0CtxRefIdeal.τ).loc Cert.Project0CtxRefIdeal.main_arg2) = m' ((c.tc : Thread Cert.Project0CtxRefIdeal.nD Cert.Project0CtxRefIdeal.τ).loc Cert.Project0CtxRefIdeal.main_arg2)
          ∧ r.2.mem ((c.tc : Thread Cert.Project0CtxRefIdeal.nD Cert.Project0CtxRefIdeal.τ).loc Cert.Project0CtxRefIdeal.main_arg3) = m' ((c.tc : Thread Cert.Project0CtxRefIdeal.nD Cert.Project0CtxRefIdeal.τ).loc Cert.Project0CtxRefIdeal.main_arg3)
          ∧ r.2.mem ((c.tc : Thread Cert.Project0CtxRefIdeal.nD Cert.Project0CtxRefIdeal.τ).loc Cert.Project0CtxRefIdeal.main_arg4) = m' ((c.tc : Thread Cert.Project0CtxRefIdeal.nD Cert.Project0CtxRefIdeal.τ).loc Cert.Project0CtxRefIdeal.main_arg4))

def preserves_OutProjCtx_OutProjCtxIdeal : Prop :=
  True

def algebraic_OutProjCtxIdeal_OutProjCtxRefIdeal [hOutProjCtxIdeal : Cert.OutProjCtxIdeal.Facts] [hOutProjCtxRefIdeal : Cert.OutProjCtxRefIdeal.Facts] : Prop :=
  ∀ (m : (ℓ : Loc Cert.OutProjCtxIdeal.nD Cert.OutProjCtxIdeal.τ Cert.OutProjCtxIdeal.sig) → Buf (Elt Ideal) ℓ) (g : Dev Cert.OutProjCtxIdeal.nD → PrngReg)
    (m' : (ℓ : Loc Cert.OutProjCtxRefIdeal.nD Cert.OutProjCtxRefIdeal.τ Cert.OutProjCtxRefIdeal.sig) → Buf (Elt Ideal) ℓ) (g' : Dev Cert.OutProjCtxRefIdeal.nD → PrngReg), Pre_OutProjCtxIdeal m →
    (∀ c : Dev Cert.OutProjCtxIdeal.nD,
      m' ((c.tc : Thread Cert.OutProjCtxRefIdeal.nD Cert.OutProjCtxRefIdeal.τ).loc Cert.OutProjCtxRefIdeal.main_arg0) = m ((c.tc : Thread Cert.OutProjCtxIdeal.nD Cert.OutProjCtxIdeal.τ).loc Cert.OutProjCtxIdeal.main_arg0)
      ∧ m' ((c.tc : Thread Cert.OutProjCtxRefIdeal.nD Cert.OutProjCtxRefIdeal.τ).loc Cert.OutProjCtxRefIdeal.main_arg1) = m ((c.tc : Thread Cert.OutProjCtxIdeal.nD Cert.OutProjCtxIdeal.τ).loc Cert.OutProjCtxIdeal.main_arg1)
      ∧ m' ((c.tc : Thread Cert.OutProjCtxRefIdeal.nD Cert.OutProjCtxRefIdeal.τ).loc Cert.OutProjCtxRefIdeal.main_arg2) = m ((c.tc : Thread Cert.OutProjCtxIdeal.nD Cert.OutProjCtxIdeal.τ).loc Cert.OutProjCtxIdeal.main_arg2)
      ∧ m' ((c.tc : Thread Cert.OutProjCtxRefIdeal.nD Cert.OutProjCtxRefIdeal.τ).loc Cert.OutProjCtxRefIdeal.main_arg3) = m ((c.tc : Thread Cert.OutProjCtxIdeal.nD Cert.OutProjCtxIdeal.τ).loc Cert.OutProjCtxIdeal.main_arg3)
      ∧ m' ((c.tc : Thread Cert.OutProjCtxRefIdeal.nD Cert.OutProjCtxRefIdeal.τ).loc Cert.OutProjCtxRefIdeal.main_arg4) = m ((c.tc : Thread Cert.OutProjCtxIdeal.nD Cert.OutProjCtxIdeal.τ).loc Cert.OutProjCtxIdeal.main_arg4)
      ∧ m' ((c.tc : Thread Cert.OutProjCtxRefIdeal.nD Cert.OutProjCtxRefIdeal.τ).loc Cert.OutProjCtxRefIdeal.main_arg5) = m ((c.tc : Thread Cert.OutProjCtxIdeal.nD Cert.OutProjCtxIdeal.τ).loc Cert.OutProjCtxIdeal.main_arg5)
      ∧ m' ((c.tc : Thread Cert.OutProjCtxRefIdeal.nD Cert.OutProjCtxRefIdeal.τ).loc Cert.OutProjCtxRefIdeal.main_arg6) = m ((c.tc : Thread Cert.OutProjCtxIdeal.nD Cert.OutProjCtxIdeal.τ).loc Cert.OutProjCtxIdeal.main_arg6)
      ∧ m' ((c.tc : Thread Cert.OutProjCtxRefIdeal.nD Cert.OutProjCtxRefIdeal.τ).loc Cert.OutProjCtxRefIdeal.main_arg7) = m ((c.tc : Thread Cert.OutProjCtxIdeal.nD Cert.OutProjCtxIdeal.τ).loc Cert.OutProjCtxIdeal.main_arg7)) →
    ∃ (v0 : (c : Dev Cert.OutProjCtxIdeal.nD) → Buf (Elt Ideal) ((c.tc : Thread Cert.OutProjCtxIdeal.nD Cert.OutProjCtxIdeal.τ).loc Cert.OutProjCtxIdeal.main_v0_0)) (v1 : (c : Dev Cert.OutProjCtxIdeal.nD) → Buf (Elt Ideal) ((c.tc : Thread Cert.OutProjCtxIdeal.nD Cert.OutProjCtxIdeal.τ).loc Cert.OutProjCtxIdeal.main_v0_1)),
      θ_run (Cert.OutProjCtxIdeal.defs (F := Ideal)) (onTc (τ := Cert.OutProjCtxIdeal.τ) (Cert.OutProjCtxIdeal.main (F := Ideal))) ⟨m, fun _ => 0, g⟩ (fun r => ∀ c : Dev Cert.OutProjCtxIdeal.nD,
          r.2.mem ((c.tc : Thread Cert.OutProjCtxIdeal.nD Cert.OutProjCtxIdeal.τ).loc Cert.OutProjCtxIdeal.main_v0_0) = v0 c
          ∧ r.2.mem ((c.tc : Thread Cert.OutProjCtxIdeal.nD Cert.OutProjCtxIdeal.τ).loc Cert.OutProjCtxIdeal.main_v0_1) = v1 c
          ∧ r.2.mem ((c.tc : Thread Cert.OutProjCtxIdeal.nD Cert.OutProjCtxIdeal.τ).loc Cert.OutProjCtxIdeal.main_arg0) = m ((c.tc : Thread Cert.OutProjCtxIdeal.nD Cert.OutProjCtxIdeal.τ).loc Cert.OutProjCtxIdeal.main_arg0)
          ∧ r.2.mem ((c.tc : Thread Cert.OutProjCtxIdeal.nD Cert.OutProjCtxIdeal.τ).loc Cert.OutProjCtxIdeal.main_arg1) = m ((c.tc : Thread Cert.OutProjCtxIdeal.nD Cert.OutProjCtxIdeal.τ).loc Cert.OutProjCtxIdeal.main_arg1)
          ∧ r.2.mem ((c.tc : Thread Cert.OutProjCtxIdeal.nD Cert.OutProjCtxIdeal.τ).loc Cert.OutProjCtxIdeal.main_arg2) = m ((c.tc : Thread Cert.OutProjCtxIdeal.nD Cert.OutProjCtxIdeal.τ).loc Cert.OutProjCtxIdeal.main_arg2)
          ∧ r.2.mem ((c.tc : Thread Cert.OutProjCtxIdeal.nD Cert.OutProjCtxIdeal.τ).loc Cert.OutProjCtxIdeal.main_arg3) = m ((c.tc : Thread Cert.OutProjCtxIdeal.nD Cert.OutProjCtxIdeal.τ).loc Cert.OutProjCtxIdeal.main_arg3)
          ∧ r.2.mem ((c.tc : Thread Cert.OutProjCtxIdeal.nD Cert.OutProjCtxIdeal.τ).loc Cert.OutProjCtxIdeal.main_arg4) = m ((c.tc : Thread Cert.OutProjCtxIdeal.nD Cert.OutProjCtxIdeal.τ).loc Cert.OutProjCtxIdeal.main_arg4)
          ∧ r.2.mem ((c.tc : Thread Cert.OutProjCtxIdeal.nD Cert.OutProjCtxIdeal.τ).loc Cert.OutProjCtxIdeal.main_arg5) = m ((c.tc : Thread Cert.OutProjCtxIdeal.nD Cert.OutProjCtxIdeal.τ).loc Cert.OutProjCtxIdeal.main_arg5)
          ∧ r.2.mem ((c.tc : Thread Cert.OutProjCtxIdeal.nD Cert.OutProjCtxIdeal.τ).loc Cert.OutProjCtxIdeal.main_arg6) = m ((c.tc : Thread Cert.OutProjCtxIdeal.nD Cert.OutProjCtxIdeal.τ).loc Cert.OutProjCtxIdeal.main_arg6)
          ∧ r.2.mem ((c.tc : Thread Cert.OutProjCtxIdeal.nD Cert.OutProjCtxIdeal.τ).loc Cert.OutProjCtxIdeal.main_arg7) = m ((c.tc : Thread Cert.OutProjCtxIdeal.nD Cert.OutProjCtxIdeal.τ).loc Cert.OutProjCtxIdeal.main_arg7))
      ∧ θ_run (Cert.OutProjCtxRefIdeal.defs (F := Ideal)) (onTc (τ := Cert.OutProjCtxRefIdeal.τ) (Cert.OutProjCtxRefIdeal.main (F := Ideal))) ⟨m', fun _ => 0, g'⟩ (fun r => ∀ c : Dev Cert.OutProjCtxRefIdeal.nD,
          r.2.mem ((c.tc : Thread Cert.OutProjCtxRefIdeal.nD Cert.OutProjCtxRefIdeal.τ).loc Cert.OutProjCtxRefIdeal.main_v5) = v0 c
          ∧ r.2.mem ((c.tc : Thread Cert.OutProjCtxRefIdeal.nD Cert.OutProjCtxRefIdeal.τ).loc Cert.OutProjCtxRefIdeal.main_v27) = v1 c
          ∧ r.2.mem ((c.tc : Thread Cert.OutProjCtxRefIdeal.nD Cert.OutProjCtxRefIdeal.τ).loc Cert.OutProjCtxRefIdeal.main_arg0) = m' ((c.tc : Thread Cert.OutProjCtxRefIdeal.nD Cert.OutProjCtxRefIdeal.τ).loc Cert.OutProjCtxRefIdeal.main_arg0)
          ∧ r.2.mem ((c.tc : Thread Cert.OutProjCtxRefIdeal.nD Cert.OutProjCtxRefIdeal.τ).loc Cert.OutProjCtxRefIdeal.main_arg1) = m' ((c.tc : Thread Cert.OutProjCtxRefIdeal.nD Cert.OutProjCtxRefIdeal.τ).loc Cert.OutProjCtxRefIdeal.main_arg1)
          ∧ r.2.mem ((c.tc : Thread Cert.OutProjCtxRefIdeal.nD Cert.OutProjCtxRefIdeal.τ).loc Cert.OutProjCtxRefIdeal.main_arg2) = m' ((c.tc : Thread Cert.OutProjCtxRefIdeal.nD Cert.OutProjCtxRefIdeal.τ).loc Cert.OutProjCtxRefIdeal.main_arg2)
          ∧ r.2.mem ((c.tc : Thread Cert.OutProjCtxRefIdeal.nD Cert.OutProjCtxRefIdeal.τ).loc Cert.OutProjCtxRefIdeal.main_arg3) = m' ((c.tc : Thread Cert.OutProjCtxRefIdeal.nD Cert.OutProjCtxRefIdeal.τ).loc Cert.OutProjCtxRefIdeal.main_arg3)
          ∧ r.2.mem ((c.tc : Thread Cert.OutProjCtxRefIdeal.nD Cert.OutProjCtxRefIdeal.τ).loc Cert.OutProjCtxRefIdeal.main_arg4) = m' ((c.tc : Thread Cert.OutProjCtxRefIdeal.nD Cert.OutProjCtxRefIdeal.τ).loc Cert.OutProjCtxRefIdeal.main_arg4)
          ∧ r.2.mem ((c.tc : Thread Cert.OutProjCtxRefIdeal.nD Cert.OutProjCtxRefIdeal.τ).loc Cert.OutProjCtxRefIdeal.main_arg5) = m' ((c.tc : Thread Cert.OutProjCtxRefIdeal.nD Cert.OutProjCtxRefIdeal.τ).loc Cert.OutProjCtxRefIdeal.main_arg5)
          ∧ r.2.mem ((c.tc : Thread Cert.OutProjCtxRefIdeal.nD Cert.OutProjCtxRefIdeal.τ).loc Cert.OutProjCtxRefIdeal.main_arg6) = m' ((c.tc : Thread Cert.OutProjCtxRefIdeal.nD Cert.OutProjCtxRefIdeal.τ).loc Cert.OutProjCtxRefIdeal.main_arg6)
          ∧ r.2.mem ((c.tc : Thread Cert.OutProjCtxRefIdeal.nD Cert.OutProjCtxRefIdeal.τ).loc Cert.OutProjCtxRefIdeal.main_arg7) = m' ((c.tc : Thread Cert.OutProjCtxRefIdeal.nD Cert.OutProjCtxRefIdeal.τ).loc Cert.OutProjCtxRefIdeal.main_arg7))

def preserves_Peer_PeerIdeal : Prop :=
  True

def algebraic_PeerIdeal_PeerRefIdeal [hPeerIdeal : Cert.PeerIdeal.Facts] [hPeerRefIdeal : Cert.PeerRefIdeal.Facts] : Prop :=
  ∀ (m : (ℓ : Loc Cert.PeerIdeal.nD Cert.PeerIdeal.τ Cert.PeerIdeal.sig) → Buf (Elt Ideal) ℓ) (g : Dev Cert.PeerIdeal.nD → PrngReg)
    (m' : (ℓ : Loc Cert.PeerRefIdeal.nD Cert.PeerRefIdeal.τ Cert.PeerRefIdeal.sig) → Buf (Elt Ideal) ℓ) (g' : Dev Cert.PeerRefIdeal.nD → PrngReg), Pre_PeerIdeal m →
    (∀ c : Dev Cert.PeerIdeal.nD,
      m' ((c.tc : Thread Cert.PeerRefIdeal.nD Cert.PeerRefIdeal.τ).loc Cert.PeerRefIdeal.main_arg0) = m ((c.tc : Thread Cert.PeerIdeal.nD Cert.PeerIdeal.τ).loc Cert.PeerIdeal.main_arg0)
      ∧ m' ((c.tc : Thread Cert.PeerRefIdeal.nD Cert.PeerRefIdeal.τ).loc Cert.PeerRefIdeal.main_arg1) = m ((c.tc : Thread Cert.PeerIdeal.nD Cert.PeerIdeal.τ).loc Cert.PeerIdeal.main_arg1)
      ∧ m' ((c.tc : Thread Cert.PeerRefIdeal.nD Cert.PeerRefIdeal.τ).loc Cert.PeerRefIdeal.main_arg2) = m ((c.tc : Thread Cert.PeerIdeal.nD Cert.PeerIdeal.τ).loc Cert.PeerIdeal.main_arg2)
      ∧ m' ((c.tc : Thread Cert.PeerRefIdeal.nD Cert.PeerRefIdeal.τ).loc Cert.PeerRefIdeal.main_arg3) = m ((c.tc : Thread Cert.PeerIdeal.nD Cert.PeerIdeal.τ).loc Cert.PeerIdeal.main_arg3)
      ∧ m' ((c.tc : Thread Cert.PeerRefIdeal.nD Cert.PeerRefIdeal.τ).loc Cert.PeerRefIdeal.main_arg4) = m ((c.tc : Thread Cert.PeerIdeal.nD Cert.PeerIdeal.τ).loc Cert.PeerIdeal.main_arg4)
      ∧ m' ((c.tc : Thread Cert.PeerRefIdeal.nD Cert.PeerRefIdeal.τ).loc Cert.PeerRefIdeal.main_arg5) = m ((c.tc : Thread Cert.PeerIdeal.nD Cert.PeerIdeal.τ).loc Cert.PeerIdeal.main_arg5)
      ∧ m' ((c.tc : Thread Cert.PeerRefIdeal.nD Cert.PeerRefIdeal.τ).loc Cert.PeerRefIdeal.main_arg6) = m ((c.tc : Thread Cert.PeerIdeal.nD Cert.PeerIdeal.τ).loc Cert.PeerIdeal.main_arg6)
      ∧ m' ((c.tc : Thread Cert.PeerRefIdeal.nD Cert.PeerRefIdeal.τ).loc Cert.PeerRefIdeal.main_arg7) = m ((c.tc : Thread Cert.PeerIdeal.nD Cert.PeerIdeal.τ).loc Cert.PeerIdeal.main_arg7)
      ∧ m' ((c.tc : Thread Cert.PeerRefIdeal.nD Cert.PeerRefIdeal.τ).loc Cert.PeerRefIdeal.main_arg8) = m ((c.tc : Thread Cert.PeerIdeal.nD Cert.PeerIdeal.τ).loc Cert.PeerIdeal.main_arg8)
      ∧ m' ((c.tc : Thread Cert.PeerRefIdeal.nD Cert.PeerRefIdeal.τ).loc Cert.PeerRefIdeal.main_arg9) = m ((c.tc : Thread Cert.PeerIdeal.nD Cert.PeerIdeal.τ).loc Cert.PeerIdeal.main_arg9)) →
    ∃ (v0 : (c : Dev Cert.PeerIdeal.nD) → Buf (Elt Ideal) ((c.tc : Thread Cert.PeerIdeal.nD Cert.PeerIdeal.τ).loc Cert.PeerIdeal.main_v0)),
      θ_run (Cert.PeerIdeal.defs (F := Ideal)) (onTc (τ := Cert.PeerIdeal.τ) (Cert.PeerIdeal.main (F := Ideal))) ⟨m, fun _ => 0, g⟩ (fun r => ∀ c : Dev Cert.PeerIdeal.nD,
          r.2.mem ((c.tc : Thread Cert.PeerIdeal.nD Cert.PeerIdeal.τ).loc Cert.PeerIdeal.main_v0) = v0 c
          ∧ r.2.mem ((c.tc : Thread Cert.PeerIdeal.nD Cert.PeerIdeal.τ).loc Cert.PeerIdeal.main_arg0) = m ((c.tc : Thread Cert.PeerIdeal.nD Cert.PeerIdeal.τ).loc Cert.PeerIdeal.main_arg0)
          ∧ r.2.mem ((c.tc : Thread Cert.PeerIdeal.nD Cert.PeerIdeal.τ).loc Cert.PeerIdeal.main_arg1) = m ((c.tc : Thread Cert.PeerIdeal.nD Cert.PeerIdeal.τ).loc Cert.PeerIdeal.main_arg1)
          ∧ r.2.mem ((c.tc : Thread Cert.PeerIdeal.nD Cert.PeerIdeal.τ).loc Cert.PeerIdeal.main_arg2) = m ((c.tc : Thread Cert.PeerIdeal.nD Cert.PeerIdeal.τ).loc Cert.PeerIdeal.main_arg2)
          ∧ r.2.mem ((c.tc : Thread Cert.PeerIdeal.nD Cert.PeerIdeal.τ).loc Cert.PeerIdeal.main_arg3) = m ((c.tc : Thread Cert.PeerIdeal.nD Cert.PeerIdeal.τ).loc Cert.PeerIdeal.main_arg3)
          ∧ r.2.mem ((c.tc : Thread Cert.PeerIdeal.nD Cert.PeerIdeal.τ).loc Cert.PeerIdeal.main_arg4) = m ((c.tc : Thread Cert.PeerIdeal.nD Cert.PeerIdeal.τ).loc Cert.PeerIdeal.main_arg4)
          ∧ r.2.mem ((c.tc : Thread Cert.PeerIdeal.nD Cert.PeerIdeal.τ).loc Cert.PeerIdeal.main_arg5) = m ((c.tc : Thread Cert.PeerIdeal.nD Cert.PeerIdeal.τ).loc Cert.PeerIdeal.main_arg5)
          ∧ r.2.mem ((c.tc : Thread Cert.PeerIdeal.nD Cert.PeerIdeal.τ).loc Cert.PeerIdeal.main_arg6) = m ((c.tc : Thread Cert.PeerIdeal.nD Cert.PeerIdeal.τ).loc Cert.PeerIdeal.main_arg6)
          ∧ r.2.mem ((c.tc : Thread Cert.PeerIdeal.nD Cert.PeerIdeal.τ).loc Cert.PeerIdeal.main_arg7) = m ((c.tc : Thread Cert.PeerIdeal.nD Cert.PeerIdeal.τ).loc Cert.PeerIdeal.main_arg7)
          ∧ r.2.mem ((c.tc : Thread Cert.PeerIdeal.nD Cert.PeerIdeal.τ).loc Cert.PeerIdeal.main_arg8) = m ((c.tc : Thread Cert.PeerIdeal.nD Cert.PeerIdeal.τ).loc Cert.PeerIdeal.main_arg8)
          ∧ r.2.mem ((c.tc : Thread Cert.PeerIdeal.nD Cert.PeerIdeal.τ).loc Cert.PeerIdeal.main_arg9) = m ((c.tc : Thread Cert.PeerIdeal.nD Cert.PeerIdeal.τ).loc Cert.PeerIdeal.main_arg9))
      ∧ θ_run (Cert.PeerRefIdeal.defs (F := Ideal)) (onTc (τ := Cert.PeerRefIdeal.τ) (Cert.PeerRefIdeal.main (F := Ideal))) ⟨m', fun _ => 0, g'⟩ (fun r => ∀ c : Dev Cert.PeerRefIdeal.nD,
          r.2.mem ((c.tc : Thread Cert.PeerRefIdeal.nD Cert.PeerRefIdeal.τ).loc Cert.PeerRefIdeal.main_v49) = v0 c
          ∧ r.2.mem ((c.tc : Thread Cert.PeerRefIdeal.nD Cert.PeerRefIdeal.τ).loc Cert.PeerRefIdeal.main_arg0) = m' ((c.tc : Thread Cert.PeerRefIdeal.nD Cert.PeerRefIdeal.τ).loc Cert.PeerRefIdeal.main_arg0)
          ∧ r.2.mem ((c.tc : Thread Cert.PeerRefIdeal.nD Cert.PeerRefIdeal.τ).loc Cert.PeerRefIdeal.main_arg1) = m' ((c.tc : Thread Cert.PeerRefIdeal.nD Cert.PeerRefIdeal.τ).loc Cert.PeerRefIdeal.main_arg1)
          ∧ r.2.mem ((c.tc : Thread Cert.PeerRefIdeal.nD Cert.PeerRefIdeal.τ).loc Cert.PeerRefIdeal.main_arg2) = m' ((c.tc : Thread Cert.PeerRefIdeal.nD Cert.PeerRefIdeal.τ).loc Cert.PeerRefIdeal.main_arg2)
          ∧ r.2.mem ((c.tc : Thread Cert.PeerRefIdeal.nD Cert.PeerRefIdeal.τ).loc Cert.PeerRefIdeal.main_arg3) = m' ((c.tc : Thread Cert.PeerRefIdeal.nD Cert.PeerRefIdeal.τ).loc Cert.PeerRefIdeal.main_arg3)
          ∧ r.2.mem ((c.tc : Thread Cert.PeerRefIdeal.nD Cert.PeerRefIdeal.τ).loc Cert.PeerRefIdeal.main_arg4) = m' ((c.tc : Thread Cert.PeerRefIdeal.nD Cert.PeerRefIdeal.τ).loc Cert.PeerRefIdeal.main_arg4)
          ∧ r.2.mem ((c.tc : Thread Cert.PeerRefIdeal.nD Cert.PeerRefIdeal.τ).loc Cert.PeerRefIdeal.main_arg5) = m' ((c.tc : Thread Cert.PeerRefIdeal.nD Cert.PeerRefIdeal.τ).loc Cert.PeerRefIdeal.main_arg5)
          ∧ r.2.mem ((c.tc : Thread Cert.PeerRefIdeal.nD Cert.PeerRefIdeal.τ).loc Cert.PeerRefIdeal.main_arg6) = m' ((c.tc : Thread Cert.PeerRefIdeal.nD Cert.PeerRefIdeal.τ).loc Cert.PeerRefIdeal.main_arg6)
          ∧ r.2.mem ((c.tc : Thread Cert.PeerRefIdeal.nD Cert.PeerRefIdeal.τ).loc Cert.PeerRefIdeal.main_arg7) = m' ((c.tc : Thread Cert.PeerRefIdeal.nD Cert.PeerRefIdeal.τ).loc Cert.PeerRefIdeal.main_arg7)
          ∧ r.2.mem ((c.tc : Thread Cert.PeerRefIdeal.nD Cert.PeerRefIdeal.τ).loc Cert.PeerRefIdeal.main_arg8) = m' ((c.tc : Thread Cert.PeerRefIdeal.nD Cert.PeerRefIdeal.τ).loc Cert.PeerRefIdeal.main_arg8)
          ∧ r.2.mem ((c.tc : Thread Cert.PeerRefIdeal.nD Cert.PeerRefIdeal.τ).loc Cert.PeerRefIdeal.main_arg9) = m' ((c.tc : Thread Cert.PeerRefIdeal.nD Cert.PeerRefIdeal.τ).loc Cert.PeerRefIdeal.main_arg9))

def Claim : Prop :=
  ∃ (hKernel : Cert.Kernel.Facts) (hKernelIdeal : Cert.KernelIdeal.Facts) (hReferenceIdeal : Cert.ReferenceIdeal.Facts) (hProject1 : Cert.Project1.Facts) (hProject1Ideal : Cert.Project1Ideal.Facts) (hProject1RefIdeal : Cert.Project1RefIdeal.Facts) (hProject0 : Cert.Project0.Facts) (hProject0Ideal : Cert.Project0Ideal.Facts) (hProject0RefIdeal : Cert.Project0RefIdeal.Facts) (hOutProj : Cert.OutProj.Facts) (hOutProjIdeal : Cert.OutProjIdeal.Facts) (hOutProjRefIdeal : Cert.OutProjRefIdeal.Facts) (hReadout : Cert.Readout.Facts) (hReadoutIdeal : Cert.ReadoutIdeal.Facts) (hReadoutRefIdeal : Cert.ReadoutRefIdeal.Facts) (hProject1Ctx : Cert.Project1Ctx.Facts) (hProject1CtxIdeal : Cert.Project1CtxIdeal.Facts) (hProject1CtxRefIdeal : Cert.Project1CtxRefIdeal.Facts) (hProject0Ctx : Cert.Project0Ctx.Facts) (hProject0CtxIdeal : Cert.Project0CtxIdeal.Facts) (hProject0CtxRefIdeal : Cert.Project0CtxRefIdeal.Facts) (hOutProjCtx : Cert.OutProjCtx.Facts) (hOutProjCtxIdeal : Cert.OutProjCtxIdeal.Facts) (hOutProjCtxRefIdeal : Cert.OutProjCtxRefIdeal.Facts) (hPeer : Cert.Peer.Facts) (hPeerIdeal : Cert.PeerIdeal.Facts) (hPeerRefIdeal : Cert.PeerRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Project1 (hProject1 := hProject1)
    ∧ quiescent_Project1Ideal (hProject1Ideal := hProject1Ideal)
    ∧ quiescent_Project1RefIdeal (hProject1RefIdeal := hProject1RefIdeal)
    ∧ quiescent_Project0 (hProject0 := hProject0)
    ∧ quiescent_Project0Ideal (hProject0Ideal := hProject0Ideal)
    ∧ quiescent_Project0RefIdeal (hProject0RefIdeal := hProject0RefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Readout (hReadout := hReadout)
    ∧ quiescent_ReadoutIdeal (hReadoutIdeal := hReadoutIdeal)
    ∧ quiescent_ReadoutRefIdeal (hReadoutRefIdeal := hReadoutRefIdeal)
    ∧ quiescent_Project1Ctx (hProject1Ctx := hProject1Ctx)
    ∧ quiescent_Project1CtxIdeal (hProject1CtxIdeal := hProject1CtxIdeal)
    ∧ quiescent_Project1CtxRefIdeal (hProject1CtxRefIdeal := hProject1CtxRefIdeal)
    ∧ quiescent_Project0Ctx (hProject0Ctx := hProject0Ctx)
    ∧ quiescent_Project0CtxIdeal (hProject0CtxIdeal := hProject0CtxIdeal)
    ∧ quiescent_Project0CtxRefIdeal (hProject0CtxRefIdeal := hProject0CtxRefIdeal)
    ∧ quiescent_OutProjCtx (hOutProjCtx := hOutProjCtx)
    ∧ quiescent_OutProjCtxIdeal (hOutProjCtxIdeal := hOutProjCtxIdeal)
    ∧ quiescent_OutProjCtxRefIdeal (hOutProjCtxRefIdeal := hOutProjCtxRefIdeal)
    ∧ quiescent_Peer (hPeer := hPeer)
    ∧ quiescent_PeerIdeal (hPeerIdeal := hPeerIdeal)
    ∧ quiescent_PeerRefIdeal (hPeerRefIdeal := hPeerRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Project1_Project1Ideal
    ∧ algebraic_Project1Ideal_Project1RefIdeal (hProject1Ideal := hProject1Ideal) (hProject1RefIdeal := hProject1RefIdeal)
    ∧ preserves_Project0_Project0Ideal
    ∧ algebraic_Project0Ideal_Project0RefIdeal (hProject0Ideal := hProject0Ideal) (hProject0RefIdeal := hProject0RefIdeal)
    ∧ preserves_OutProj_OutProjIdeal
    ∧ algebraic_OutProjIdeal_OutProjRefIdeal (hOutProjIdeal := hOutProjIdeal) (hOutProjRefIdeal := hOutProjRefIdeal)
    ∧ preserves_Readout_ReadoutIdeal
    ∧ algebraic_ReadoutIdeal_ReadoutRefIdeal (hReadoutIdeal := hReadoutIdeal) (hReadoutRefIdeal := hReadoutRefIdeal)
    ∧ preserves_Project1Ctx_Project1CtxIdeal
    ∧ algebraic_Project1CtxIdeal_Project1CtxRefIdeal (hProject1CtxIdeal := hProject1CtxIdeal) (hProject1CtxRefIdeal := hProject1CtxRefIdeal)
    ∧ preserves_Project0Ctx_Project0CtxIdeal
    ∧ algebraic_Project0CtxIdeal_Project0CtxRefIdeal (hProject0CtxIdeal := hProject0CtxIdeal) (hProject0CtxRefIdeal := hProject0CtxRefIdeal)
    ∧ preserves_OutProjCtx_OutProjCtxIdeal
    ∧ algebraic_OutProjCtxIdeal_OutProjCtxRefIdeal (hOutProjCtxIdeal := hOutProjCtxIdeal) (hOutProjCtxRefIdeal := hOutProjCtxRefIdeal)
    ∧ preserves_Peer_PeerIdeal
    ∧ algebraic_PeerIdeal_PeerRefIdeal (hPeerIdeal := hPeerIdeal) (hPeerRefIdeal := hPeerRefIdeal)
-- ==== Pre_finite_scores.lean ====
abbrev S8x2048x512 : Shape := ⟨3, ![8, 2048, 512]⟩
abbrev S8x2048x128 : Shape := ⟨3, ![8, 2048, 128]⟩
abbrev S8x2048x2304 : Shape := ⟨3, ![8, 2048, 2304]⟩
abbrev S8x256x2304 : Shape := ⟨3, ![8, 256, 2304]⟩
abbrev S8 : Shape := ⟨1, ![8]⟩
abbrev S_ : Shape := ⟨0, ![]⟩

class Facts : Prop where
  bitsLt_bf16_f32 : FTy.bits .bf16 < FTy.bits .f32
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8x2048x128 : S_.BroadcastsInDim S8x2048x128 (![] : Fin 0 → Fin S8x2048x128.rank)
  reducesTo_S8x2048x128_S_d0_1_2 : S8x2048x128.ReducesTo [0, 1, 2] S_
  bcast_S_S8x256x2304 : S_.BroadcastsInDim S8x256x2304 (![] : Fin 0 → Fin S8x256x2304.rank)
  reducesTo_S8x256x2304_S_d0_1_2 : S8x256x2304.ReducesTo [0, 1, 2] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_v15 : IVec S_ 1) (main_v16 : FVec F S8 .f32) : IVec S_ 1 :=
  let main_v17 : IVec S8 1 := cmpf .olt main_arg4 main_v16
  let main_c_5 : IVec S_ 1 := constantI S_ 1 1#1
  let main_v18 : IVec S_ 1 := (fun x v => Host.reduce IntOp.andi x v reducesTo_S8_S_d0 h_S_) main_v17 main_c_5
  let main_v19 : IVec S_ 1 := andi main_v15 main_v18
  main_v19

def fn {F : FTy → Type} [FloatOps F] (main_arg0 : FVec F S8x2048x512 .bf16) (main_arg1 : FVec F S8x2048x128 .bf16) (main_arg2 : FVec F S8x2048x2304 .f32) (main_arg3 : FVec F S8x256x2304 .f32) (main_arg4 : FVec F S8 .f32) : IVec S_ 1 :=
  let main_v0 : FVec F S8x2048x512 .f32 := (extf .f32 · bitsLt_bf16_f32) main_arg0
  let main_v1 : FVec F S8x2048x512 .f32 := Host.absf main_v0
  let main_cst : FVec F S_ .f32 := constant S_ .f32 0x7F800000#32
  let main_v2 : FVec F S8x2048x512 .f32 := broadcastInDim S8x2048x512 ![] bcast_S_S8x2048x512 main_cst
  let main_v3 : IVec S8x2048x512 1 := cmpf .olt main_v1 main_v2
  let main_c : IVec S_ 1 := constantI S_ 1 1#1
  let main_v4 : IVec S_ 1 := (fun x v => Host.reduce IntOp.andi x v reducesTo_S8x2048x512_S_d0_1_2 h_S_) main_v3 main_c
  let main_v5 : FVec F S8x2048x128 .f32 := (extf .f32 · bitsLt_bf16_f32) main_arg1
  let main_v6 : FVec F S8x2048x128 .f32 := Host.absf main_v5
  let main_cst_0 : FVec F S_ .f32 := constant S_ .f32 0x7F800000#32
  let main_v7 : FVec F S8x2048x128 .f32 := broadcastInDim S8x2048x128 ![] bcast_S_S8x2048x128 main_cst_0
  let main_v8 : IVec S8x2048x128 1 := cmpf .olt main_v6 main_v7
  let main_c_1 : IVec S_ 1 := constantI S_ 1 1#1
  let main_v9 : IVec S_ 1 := (fun x v => Host.reduce IntOp.andi x v reducesTo_S8x2048x128_S_d0_1_2 h_S_) main_v8 main_c_1
  let main_v10 : IVec S_ 1 := andi main_v4 main_v9
  let main_v11 : FVec F S8x256x2304 .f32 := Host.absf main_arg3
  let main_cst_2 : FVec F S_ .f32 := constant S_ .f32 0x7F800000#32
  let main_v12 : FVec F S8x256x2304 .f32 := broadcastInDim S8x256x2304 ![] bcast_S_S8x256x2304 main_cst_2
  let main_v13 : IVec S8x256x2304 1 := cmpf .olt main_v11 main_v12
  let main_c_3 : IVec S_ 1 := constantI S_ 1 1#1
  let main_v14 : IVec S_ 1 := (fun x v => Host.reduce IntOp.andi x v reducesTo_S8x256x2304_S_d0_1_2 h_S_) main_v13 main_c_3
  let main_v15 : IVec S_ 1 := andi main_v10 main_v14
  let main_cst_4 : FVec F S_ .f32 := constant S_ .f32 0x7F800000#32
  let main_v16 : FVec F S8 .f32 := broadcastInDim S8 ![] bcast_S_S8 main_cst_4
  fn_part1 (F := F) main_arg4 main_v15 main_v16
-- ==== Kernel.lean ====
abbrev S8x2048x512 : Shape := ⟨3, ![8, 2048, 512]⟩
abbrev S8x2048x128 : Shape := ⟨3, ![8, 2048, 128]⟩
abbrev S8x2048x2304 : Shape := ⟨3, ![8, 2048, 2304]⟩
abbrev S8x256x2304 : Shape := ⟨3, ![8, 256, 2304]⟩
abbrev S8 : Shape := ⟨1, ![8]⟩
abbrev S1x128x512 : Shape := ⟨3, ![1, 128, 512]⟩
abbrev S1x128x128 : Shape := ⟨3, ![1, 128, 128]⟩
abbrev S1x256x128 : Shape := ⟨3, ![1, 256, 128]⟩
abbrev S128x128 : Shape := ⟨2, ![128, 128]⟩
abbrev S256x128 : Shape := ⟨2, ![256, 128]⟩
abbrev S640x128 : Shape := ⟨2, ![640, 128]⟩
abbrev S128x640 : Shape := ⟨2, ![128, 640]⟩
abbrev S512x640 : Shape := ⟨2, ![512, 640]⟩
abbrev S128x512 : Shape := ⟨2, ![128, 512]⟩
abbrev S128x64 : Shape := ⟨2, ![128, 64]⟩
abbrev S512x64 : Shape := ⟨2, ![512, 64]⟩
abbrev S1 : Shape := ⟨1, ![1]⟩
abbrev S128x1 : Shape := ⟨2, ![128, 1]⟩
abbrev S512x1 : Shape := ⟨2, ![512, 1]⟩
abbrev S640x64 : Shape := ⟨2, ![640, 64]⟩
abbrev S512 : Shape := ⟨1, ![512]⟩

abbrev nBuf : Space → Nat
  | .hbm => 6
  | .vmem => 20
  | .smem => 1
  | _ => 0

abbrev bufTy : (tb : Table) → Fin (tcTables nBuf tb) → BufTy
  | .hbm, ⟨0, _⟩ => ⟨S8x2048x512, .bf16⟩
  | .hbm, ⟨1, _⟩ => ⟨S8x2048x128, .bf16⟩
  | .hbm, ⟨2, _⟩ => ⟨S8x2048x2304, .f32⟩
  | .hbm, ⟨3, _⟩ => ⟨S8x256x2304, .f32⟩
  | .hbm, ⟨4, _⟩ => ⟨S8, .f32⟩
  | .hbm, ⟨5, _⟩ => ⟨S8x2048x512, .f32⟩
  | .local _ .vmem, ⟨0, _⟩ => ⟨S1x128x512, .bf16⟩
  | .local _ .vmem, ⟨1, _⟩ => ⟨S1x128x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | .local _ .vmem, ⟨18, _⟩ => ⟨S1x128x512, .f32⟩
  | .local _ .vmem, ⟨19, _⟩ => ⟨S1x128x512, .f32⟩
  | .local _ .smem, ⟨0, _⟩ => ⟨S8, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c17_i32 : BitVec 32 := 17#32
  let c0_i32_0 : BitVec 32 := 0#32
  ![arg0.toNat, v1.toNat, c17_i32.toNat]

def cc0_transform_6 (i : grid0.Coords) : Fin 3 → Nat :=
  let arg0 : BitVec 32 := BitVec.ofNat 32 (i 0).val
  let arg1 : BitVec 32 := BitVec.ofNat 32 (i 1).val
  let c17_i32 : BitVec 32 := 17#32
  let c0_i32 : BitVec 32 := 0#32
  ![arg0.toNat, arg1.toNat, c17_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c17_i32 : BitVec 32 := 17#32
  let c0_i32 : BitVec 32 := 0#32
  ![arg0.toNat, v1.toNat, c17_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c16_i32 : BitVec 32 := 16#32
  let c0_i32_0 : BitVec 32 := 0#32
  ![arg0.toNat, c0_i32.toNat, c16_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c17_i32 : BitVec 32 := 17#32
  let c0_i32_0 : BitVec 32 := 0#32
  ![arg0.toNat, c0_i32.toNat, c17_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x512 : Shape := ⟨3, ![8, 2048, 512]⟩
abbrev S8x2048x128 : Shape := ⟨3, ![8, 2048, 128]⟩
abbrev S8x2048x2304 : Shape := ⟨3, ![8, 2048, 2304]⟩
abbrev S8x256x2304 : Shape := ⟨3, ![8, 256, 2304]⟩
abbrev S8 : Shape := ⟨1, ![8]⟩
abbrev S8x2048x2x64 : Shape := ⟨4, ![8, 2048, 2, 64]⟩
abbrev S8x256x128 : Shape := ⟨3, ![8, 256, 128]⟩
abbrev S8x256x2x64 : Shape := ⟨4, ![8, 256, 2, 64]⟩
abbrev S2x4 : Shape := ⟨2, ![2, 4]⟩
abbrev S8x16x128x2x4x64 : Shape := ⟨6, ![8, 16, 128, 2, 4, 64]⟩
abbrev S_ : Shape := ⟨0, ![]⟩
abbrev S8x2304x2x64 : Shape := ⟨4, ![8, 2304, 2, 64]⟩
abbrev S8x18x128x2x64 : Shape := ⟨5, ![8, 18, 128, 2, 64]⟩
abbrev S8x16x128x2x64 : Shape := ⟨5, ![8, 16, 128, 2, 64]⟩
abbrev S8x16x384x2x64 : Shape := ⟨5, ![8, 16, 384, 2, 64]⟩
abbrev S8x16x2x384x128x4 : Shape := ⟨6, ![8, 16, 2, 384, 128, 4]⟩
abbrev S8x16x2x4x128x384 : Shape := ⟨6, ![8, 16, 2, 4, 128, 384]⟩
abbrev S16 : Shape := ⟨1, ![16]⟩
abbrev S16x1x1 : Shape := ⟨3, ![16, 1, 1]⟩
abbrev S128 : Shape := ⟨1, ![128]⟩
abbrev S1x128x1 : Shape := ⟨3, ![1, 128, 1]⟩
abbrev S16x128x1 : Shape := ⟨3, ![16, 128, 1]⟩
abbrev S384 : Shape := ⟨1, ![384]⟩
abbrev S1x1x384 : Shape := ⟨3, ![1, 1, 384]⟩
abbrev S16x1x384 : Shape := ⟨3, ![16, 1, 384]⟩
abbrev S16x128x384 : Shape := ⟨3, ![16, 128, 384]⟩
abbrev S1x16x1x1x128x384 : Shape := ⟨6, ![1, 16, 1, 1, 128, 384]⟩
abbrev S8x2x256x16x128x4 : Shape := ⟨6, ![8, 2, 256, 16, 128, 4]⟩
abbrev S8x16x2x4x128x256 : Shape := ⟨6, ![8, 16, 2, 4, 128, 256]⟩
abbrev S1x1x2x4x1x1 : Shape := ⟨6, ![1, 1, 2, 4, 1, 1]⟩
abbrev S8x16x2x4x128x1 : Shape := ⟨6, ![8, 16, 2, 4, 128, 1]⟩
abbrev S8x16x2x4x128x641 : Shape := ⟨6, ![8, 16, 2, 4, 128, 641]⟩
abbrev S8x16x2x4x128 : Shape := ⟨5, ![8, 16, 2, 4, 128]⟩
abbrev S8x16x2x64x4x128 : Shape := ⟨6, ![8, 16, 2, 64, 4, 128]⟩
abbrev S8x2x64x16x4x128 : Shape := ⟨6, ![8, 2, 64, 16, 4, 128]⟩

abbrev nBuf : Space → Nat
  | .hbm => 106
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x128, .bf16⟩
  | .hbm, ⟨2, _⟩ => ⟨S8x2048x2304, .f32⟩
  | .hbm, ⟨3, _⟩ => ⟨S8x256x2304, .f32⟩
  | .hbm, ⟨4, _⟩ => ⟨S8, .f32⟩
  | .hbm, ⟨5, _⟩ => ⟨S8x2048x512, .f32⟩
  | .hbm, ⟨6, _⟩ => ⟨S8x2048x128, .f32⟩
  | .hbm, ⟨7, _⟩ => ⟨S8x2048x2x64, .f32⟩
  | .hbm, ⟨8, _⟩ => ⟨S8x2048x128, .f32⟩
  | .hbm, ⟨9, _⟩ => ⟨S8x2048x2x64, .f32⟩
  | .hbm, ⟨10, _⟩ => ⟨S8x256x128, .f32⟩
  | .hbm, ⟨11, _⟩ => ⟨S8x256x2x64, .f32⟩
  | .hbm, ⟨12, _⟩ => ⟨S8x256x128, .f32⟩
  | .hbm, ⟨13, _⟩ => ⟨S8x256x2x64, .f32⟩
  | .hbm, ⟨14, _⟩ => ⟨S2x4, .f32⟩
  | .hbm, ⟨15, _⟩ => ⟨S8x16x128x2x4x64, .f32⟩
  | .hbm, ⟨16, _⟩ => ⟨S_, .i32⟩
  | .hbm, ⟨17, _⟩ => ⟨S_, .f32⟩
  | .hbm, ⟨18, _⟩ => ⟨S8x2304x2x64, .f32⟩
  | .hbm, ⟨19, _⟩ => ⟨S8x18x128x2x64, .f32⟩
  | .hbm, ⟨20, _⟩ => ⟨S8x16x128x2x64, .f32⟩
  | .hbm, ⟨21, _⟩ => ⟨S8x16x128x2x64, .f32⟩
  | .hbm, ⟨22, _⟩ => ⟨S8x16x128x2x64, .f32⟩
  | .hbm, ⟨23, _⟩ => ⟨S8x16x384x2x64, .f32⟩
  | .hbm, ⟨24, _⟩ => ⟨S_, .i32⟩
  | .hbm, ⟨25, _⟩ => ⟨S_, .f32⟩
  | .hbm, ⟨26, _⟩ => ⟨S8x2304x2x64, .f32⟩
  | .hbm, ⟨27, _⟩ => ⟨S8x18x128x2x64, .f32⟩
  | .hbm, ⟨28, _⟩ => ⟨S8x16x128x2x64, .f32⟩
  | .hbm, ⟨29, _⟩ => ⟨S8x16x128x2x64, .f32⟩
  | .hbm, ⟨30, _⟩ => ⟨S8x16x128x2x64, .f32⟩
  | .hbm, ⟨31, _⟩ => ⟨S8x16x384x2x64, .f32⟩
  | .hbm, ⟨32, _⟩ => ⟨S8x16x2x384x128x4, .f32⟩
  | .hbm, ⟨33, _⟩ => ⟨S8x16x2x4x128x384, .f32⟩
  | .hbm, ⟨34, _⟩ => ⟨S16, .i32⟩
  | .hbm, ⟨35, _⟩ => ⟨S16x1x1, .i32⟩
  | .hbm, ⟨36, _⟩ => ⟨S_, .i32⟩
  | .hbm, ⟨37, _⟩ => ⟨S16x1x1, .i32⟩
  | .hbm, ⟨38, _⟩ => ⟨S16x1x1, .i32⟩
  | .hbm, ⟨39, _⟩ => ⟨S128, .i32⟩
  | .hbm, ⟨40, _⟩ => ⟨S1x128x1, .i32⟩
  | .hbm, ⟨41, _⟩ => ⟨S16x128x1, .i32⟩
  | .hbm, ⟨42, _⟩ => ⟨S16x128x1, .i32⟩
  | .hbm, ⟨43, _⟩ => ⟨S16x128x1, .i32⟩
  | .hbm, ⟨44, _⟩ => ⟨S16, .i32⟩
  | .hbm, ⟨45, _⟩ => ⟨S16x1x1, .i32⟩
  | .hbm, ⟨46, _⟩ => ⟨S_, .i32⟩
  | .hbm, ⟨47, _⟩ => ⟨S16x1x1, .i32⟩
  | .hbm, ⟨48, _⟩ => ⟨S16x1x1, .i32⟩
  | .hbm, ⟨49, _⟩ => ⟨S_, .i32⟩
  | .hbm, ⟨50, _⟩ => ⟨S16x1x1, .i32⟩
  | .hbm, ⟨51, _⟩ => ⟨S16x1x1, .i32⟩
  | .hbm, ⟨52, _⟩ => ⟨S384, .i32⟩
  | .hbm, ⟨53, _⟩ => ⟨S1x1x384, .i32⟩
  | .hbm, ⟨54, _⟩ => ⟨S16x1x384, .i32⟩
  | .hbm, ⟨55, _⟩ => ⟨S16x1x384, .i32⟩
  | .hbm, ⟨56, _⟩ => ⟨S16x1x384, .i32⟩
  | .hbm, ⟨57, _⟩ => ⟨S_, .i32⟩
  | .hbm, ⟨58, _⟩ => ⟨S16x1x384, .i32⟩
  | .hbm, ⟨59, _⟩ => ⟨S16x1x384, .i1⟩
  | .hbm, ⟨60, _⟩ => ⟨S_, .i32⟩
  | .hbm, ⟨61, _⟩ => ⟨S16x1x384, .i32⟩
  | .hbm, ⟨62, _⟩ => ⟨S16x1x384, .i1⟩
  | .hbm, ⟨63, _⟩ => ⟨S16x1x384, .i1⟩
  | .hbm, ⟨64, _⟩ => ⟨S16x128x384, .i32⟩
  | .hbm, ⟨65, _⟩ => ⟨S16x128x384, .i32⟩
  | .hbm, ⟨66, _⟩ => ⟨S16x128x384, .i32⟩
  | .hbm, ⟨67, _⟩ => ⟨S16x128x384, .i32⟩
  | .hbm, ⟨68, _⟩ => ⟨S_, .i32⟩
  | .hbm, ⟨69, _⟩ => ⟨S16x128x384, .i32⟩
  | .hbm, ⟨70, _⟩ => ⟨S16x128x384, .i1⟩
  | .hbm, ⟨71, _⟩ => ⟨S16x128x384, .i1⟩
  | .hbm, ⟨72, _⟩ => ⟨S16x128x384, .i1⟩
  | .hbm, ⟨73, _⟩ => ⟨S1x16x1x1x128x384, .i1⟩
  | .hbm, ⟨74, _⟩ => ⟨S_, .f32⟩
  | .hbm, ⟨75, _⟩ => ⟨S_, .f32⟩
  | .hbm, ⟨76, _⟩ => ⟨S8x16x2x4x128x384, .i1⟩
  | .hbm, ⟨77, _⟩ => ⟨S8x16x2x4x128x384, .f32⟩
  | .hbm, ⟨78, _⟩ => ⟨S8x16x2x4x128x384, .f32⟩
  | .hbm, ⟨79, _⟩ => ⟨S8x2x256x16x128x4, .f32⟩
  | .hbm, ⟨80, _⟩ => ⟨S8x16x2x4x128x256, .f32⟩
  | .hbm, ⟨81, _⟩ => ⟨S1x1x2x4x1x1, .f32⟩
  | .hbm, ⟨82, _⟩ => ⟨S8x16x2x4x128x1, .f32⟩
  | .hbm, ⟨83, _⟩ => ⟨S8x16x2x4x128x641, .f32⟩
  | .hbm, ⟨84, _⟩ => ⟨S_, .f32⟩
  | .hbm, ⟨85, _⟩ => ⟨S8x16x2x4x128, .f32⟩
  | .hbm, ⟨86, _⟩ => ⟨S_, .f32⟩
  | .hbm, ⟨87, _⟩ => ⟨S8x16x2x4x128, .f32⟩
  | .hbm, ⟨88, _⟩ => ⟨S8x16x2x4x128, .f32⟩
  | .hbm, ⟨89, _⟩ => ⟨S8x16x2x4x128x1, .f32⟩
  | .hbm, ⟨90, _⟩ => ⟨S8x16x2x4x128x641, .f32⟩
  | .hbm, ⟨91, _⟩ => ⟨S8x16x2x4x128x641, .f32⟩
  | .hbm, ⟨92, _⟩ => ⟨S8x16x2x4x128x641, .f32⟩
  | .hbm, ⟨93, _⟩ => ⟨S_, .f32⟩
  | .hbm, ⟨94, _⟩ => ⟨S8x16x2x4x128, .f32⟩
  | .hbm, ⟨95, _⟩ => ⟨S8x16x2x4x128x1, .f32⟩
  | .hbm, ⟨96, _⟩ => ⟨S8x16x2x4x128x641, .f32⟩
  | .hbm, ⟨97, _⟩ => ⟨S8x16x2x4x128x641, .f32⟩
  | .hbm, ⟨98, _⟩ => ⟨S8x16x2x4x128x384, .f32⟩
  | .hbm, ⟨99, _⟩ => ⟨S8x16x2x64x4x128, .f32⟩
  | .hbm, ⟨100, _⟩ => ⟨S8x16x128x2x4x64, .f32⟩
  | .hbm, ⟨101, _⟩ => ⟨S8x16x2x4x128x256, .f32⟩
  | .hbm, ⟨102, _⟩ => ⟨S8x2x64x16x4x128, .f32⟩
  | .hbm, ⟨103, _⟩ => ⟨S8x16x128x2x4x64, .f32⟩
  | .hbm, ⟨104, _⟩ => ⟨S8x16x128x2x4x64, .f32⟩
  | .hbm, ⟨105, _⟩ => ⟨S8x2048x512, .f32⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_call1_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_2 : Ref sig .tc := ⟨.hbm, 46, rfl⟩
abbrev main_v36 : Ref sig .tc := ⟨.hbm, 47, rfl⟩
abbrev main_v37 : Ref sig .tc := ⟨.hbm, 48, rfl⟩
abbrev main_c_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c_4 : Ref sig .tc := ⟨.hbm, 57, rfl⟩
abbrev main_v45 : Ref sig .tc := ⟨.hbm, 58, rfl⟩
abbrev main_v46 : Ref sig .tc := ⟨.hbm, 59, rfl⟩
abbrev main_c_5 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c_6 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_7 : Ref sig .tc := ⟨.hbm, 84, rfl⟩
abbrev main_v65 : Ref sig .tc := ⟨.hbm, 85, rfl⟩
abbrev main_cst_8 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_9 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩

abbrev nD : Nat := 1
abbrev τ : Topo := Topo.v7x

variable {F : FTy → Type} [FloatOps F]
-- ==== Project1.lean ====
abbrev S8x2048x1024 : Shape := ⟨3, ![8, 2048, 1024]⟩
abbrev S1x1024 : Shape := ⟨2, ![1, 1024]⟩
abbrev S8x1x1024 : Shape := ⟨3, ![8, 1, 1024]⟩
abbrev S1024x5120 : Shape := ⟨2, ![1024, 5120]⟩
abbrev S8x2048x5120 : Shape := ⟨3, ![8, 2048, 5120]⟩
abbrev S1x1024x1024 : Shape := ⟨3, ![1, 1024, 1024]⟩
abbrev S1x1x1024 : Shape := ⟨3, ![1, 1, 1024]⟩
abbrev S1024x1280 : Shape := ⟨2, ![1024, 1280]⟩
abbrev S1x1024x1280 : Shape := ⟨3, ![1, 1024, 1280]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S8x1x1024, .f32⟩
  | .hbm, ⟨3, _⟩ => ⟨S8x1x1024, .f32⟩
  | .hbm, ⟨4, _⟩ => ⟨S1024x5120, .bf16⟩
  | .hbm, ⟨5, _⟩ => ⟨S8x2048x5120, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1280, .bf16⟩
  | .local _ .vmem, ⟨8, _⟩ => ⟨S1024x1280, .bf16⟩
  | .local _ .vmem, ⟨9, _⟩ => ⟨S1x1024x1280, .f32⟩
  | .local _ .vmem, ⟨10, _⟩ => ⟨S1x1024x1280, .f32⟩
  | .local _ .vmem, ⟨11, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Project1Ideal.lean ====
abbrev S8x2048x1024 : Shape := ⟨3, ![8, 2048, 1024]⟩
abbrev S1x1024 : Shape := ⟨2, ![1, 1024]⟩
abbrev S8x1x1024 : Shape := ⟨3, ![8, 1, 1024]⟩
abbrev S1024x5120 : Shape := ⟨2, ![1024, 5120]⟩
abbrev S8x2048x5120 : Shape := ⟨3, ![8, 2048, 5120]⟩
abbrev S1x1024x1024 : Shape := ⟨3, ![1, 1024, 1024]⟩
abbrev S1x1x1024 : Shape := ⟨3, ![1, 1, 1024]⟩
abbrev S1024x1280 : Shape := ⟨2, ![1024, 1280]⟩
abbrev S1x1024x1280 : Shape := ⟨3, ![1, 1024, 1280]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S8x1x1024, .f32⟩
  | .hbm, ⟨3, _⟩ => ⟨S8x1x1024, .f32⟩
  | .hbm, ⟨4, _⟩ => ⟨S1024x5120, .bf16⟩
  | .hbm, ⟨5, _⟩ => ⟨S8x2048x5120, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1280, .bf16⟩
  | .local _ .vmem, ⟨8, _⟩ => ⟨S1024x1280, .bf16⟩
  | .local _ .vmem, ⟨9, _⟩ => ⟨S1x1024x1280, .f32⟩
  | .local _ .vmem, ⟨10, _⟩ => ⟨S1x1024x1280, .f32⟩
  | .local _ .vmem, ⟨11, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Project1RefIdeal.lean ====
abbrev S8x2048x1024 : Shape := ⟨3, ![8, 2048, 1024]⟩
abbrev S1x1024 : Shape := ⟨2, ![1, 1024]⟩
abbrev S8x1x1024 : Shape := ⟨3, ![8, 1, 1024]⟩
abbrev S1024x5120 : Shape := ⟨2, ![1024, 5120]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5120 : Shape := ⟨3, ![8, 2048, 5120]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S8x1x1024, .f32⟩
  | .hbm, ⟨3, _⟩ => ⟨S8x1x1024, .f32⟩
  | .hbm, ⟨4, _⟩ => ⟨S1024x5120, .bf16⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S1024x5120, .f32⟩
  | .hbm, ⟨29, _⟩ => ⟨S8x2048x5120, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Project0.lean ====
abbrev S8x2048x1024 : Shape := ⟨3, ![8, 2048, 1024]⟩
abbrev S1x1024 : Shape := ⟨2, ![1, 1024]⟩
abbrev S8x1x1024 : Shape := ⟨3, ![8, 1, 1024]⟩
abbrev S1024x2304 : Shape := ⟨2, ![1024, 2304]⟩
abbrev S8x2048x2304 : Shape := ⟨3, ![8, 2048, 2304]⟩
abbrev S1x1024x1024 : Shape := ⟨3, ![1, 1024, 1024]⟩
abbrev S1x1x1024 : Shape := ⟨3, ![1, 1, 1024]⟩
abbrev S1024x1152 : Shape := ⟨2, ![1024, 1152]⟩
abbrev S1x1024x1152 : Shape := ⟨3, ![1, 1024, 1152]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S8x1x1024, .f32⟩
  | .hbm, ⟨3, _⟩ => ⟨S8x1x1024, .f32⟩
  | .hbm, ⟨4, _⟩ => ⟨S1024x2304, .bf16⟩
  | .hbm, ⟨5, _⟩ => ⟨S8x2048x2304, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1152, .bf16⟩
  | .local _ .vmem, ⟨8, _⟩ => ⟨S1024x1152, .bf16⟩
  | .local _ .vmem, ⟨9, _⟩ => ⟨S1x1024x1152, .f32⟩
  | .local _ .vmem, ⟨10, _⟩ => ⟨S1x1024x1152, .f32⟩
  | .local _ .vmem, ⟨11, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1152 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Project0Ideal.lean ====
abbrev S8x2048x1024 : Shape := ⟨3, ![8, 2048, 1024]⟩
abbrev S1x1024 : Shape := ⟨2, ![1, 1024]⟩
abbrev S8x1x1024 : Shape := ⟨3, ![8, 1, 1024]⟩
abbrev S1024x2304 : Shape := ⟨2, ![1024, 2304]⟩
abbrev S8x2048x2304 : Shape := ⟨3, ![8, 2048, 2304]⟩
abbrev S1x1024x1024 : Shape := ⟨3, ![1, 1024, 1024]⟩
abbrev S1x1x1024 : Shape := ⟨3, ![1, 1, 1024]⟩
abbrev S1024x1152 : Shape := ⟨2, ![1024, 1152]⟩
abbrev S1x1024x1152 : Shape := ⟨3, ![1, 1024, 1152]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S8x1x1024, .f32⟩
  | .hbm, ⟨3, _⟩ => ⟨S8x1x1024, .f32⟩
  | .hbm, ⟨4, _⟩ => ⟨S1024x2304, .bf16⟩
  | .hbm, ⟨5, _⟩ => ⟨S8x2048x2304, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1152, .bf16⟩
  | .local _ .vmem, ⟨8, _⟩ => ⟨S1024x1152, .bf16⟩
  | .local _ .vmem, ⟨9, _⟩ => ⟨S1x1024x1152, .f32⟩
  | .local _ .vmem, ⟨10, _⟩ => ⟨S1x1024x1152, .f32⟩
  | .local _ .vmem, ⟨11, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1152 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Project0RefIdeal.lean ====
abbrev S8x2048x1024 : Shape := ⟨3, ![8, 2048, 1024]⟩
abbrev S1x1024 : Shape := ⟨2, ![1, 1024]⟩
abbrev S8x1x1024 : Shape := ⟨3, ![8, 1, 1024]⟩
abbrev S1024x2304 : Shape := ⟨2, ![1024, 2304]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2304 : Shape := ⟨3, ![8, 2048, 2304]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S8x1x1024, .f32⟩
  | .hbm, ⟨3, _⟩ => ⟨S8x1x1024, .f32⟩
  | .hbm, ⟨4, _⟩ => ⟨S1024x2304, .bf16⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S1024x2304, .f32⟩
  | .hbm, ⟨29, _⟩ => ⟨S8x2048x2304, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== OutProj.lean ====
abbrev S8x2048x512 : Shape := ⟨3, ![8, 2048, 512]⟩
abbrev S1024x1024 : Shape := ⟨2, ![1024, 1024]⟩
abbrev S8x2048x1024 : Shape := ⟨3, ![8, 2048, 1024]⟩
abbrev S8x1x1024 : Shape := ⟨3, ![8, 1, 1024]⟩
abbrev S1x1024 : Shape := ⟨2, ![1, 1024]⟩
abbrev S1024x16384 : Shape := ⟨2, ![1024, 16384]⟩
abbrev S1x512x512 : Shape := ⟨3, ![1, 512, 512]⟩
abbrev S512x1024 : Shape := ⟨2, ![512, 1024]⟩
abbrev S1x512x1024 : Shape := ⟨3, ![1, 512, 1024]⟩
abbrev S1x1x1024 : Shape := ⟨3, ![1, 1, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 19
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S1024x1024, .bf16⟩
  | .hbm, ⟨3, _⟩ => ⟨S8x2048x1024, .f32⟩
  | .hbm, ⟨4, _⟩ => ⟨S8x1x1024, .f32⟩
  | .hbm, ⟨5, _⟩ => ⟨S1x1024, .f32⟩
  | .hbm, ⟨6, _⟩ => ⟨S8x1x1024, .f32⟩
  | .hbm, ⟨7, _⟩ => ⟨S8x1x1024, .f32⟩
  | .hbm, ⟨8, _⟩ => ⟨S8x2048x1024, .f32⟩
  | .hbm, ⟨9, _⟩ => ⟨S1024x16384, .bf16⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S512x1024, .bf16⟩
  | .local _ .vmem, ⟨5, _⟩ => ⟨S512x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x512x1024, .f32⟩
  | .local _ .vmem, ⟨16, _⟩ => ⟨S1x512x1024, .f32⟩
  | .local _ .vmem, ⟨17, _⟩ => ⟨S1024x512, .bf16⟩
  | .local _ .vmem, ⟨18, _⟩ => ⟨S1024x512, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== OutProjIdeal.lean ====
abbrev S8x2048x512 : Shape := ⟨3, ![8, 2048, 512]⟩
abbrev S1024x1024 : Shape := ⟨2, ![1024, 1024]⟩
abbrev S8x2048x1024 : Shape := ⟨3, ![8, 2048, 1024]⟩
abbrev S8x1x1024 : Shape := ⟨3, ![8, 1, 1024]⟩
abbrev S1x1024 : Shape := ⟨2, ![1, 1024]⟩
abbrev S1024x16384 : Shape := ⟨2, ![1024, 16384]⟩
abbrev S1x512x512 : Shape := ⟨3, ![1, 512, 512]⟩
abbrev S512x1024 : Shape := ⟨2, ![512, 1024]⟩
abbrev S1x512x1024 : Shape := ⟨3, ![1, 512, 1024]⟩
abbrev S1x1x1024 : Shape := ⟨3, ![1, 1, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 19
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S1024x1024, .bf16⟩
  | .hbm, ⟨3, _⟩ => ⟨S8x2048x1024, .f32⟩
  | .hbm, ⟨4, _⟩ => ⟨S8x1x1024, .f32⟩
  | .hbm, ⟨5, _⟩ => ⟨S1x1024, .f32⟩
  | .hbm, ⟨6, _⟩ => ⟨S8x1x1024, .f32⟩
  | .hbm, ⟨7, _⟩ => ⟨S8x1x1024, .f32⟩
  | .hbm, ⟨8, _⟩ => ⟨S8x2048x1024, .f32⟩
  | .hbm, ⟨9, _⟩ => ⟨S1024x16384, .bf16⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S512x1024, .bf16⟩
  | .local _ .vmem, ⟨5, _⟩ => ⟨S512x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x512x1024, .f32⟩
  | .local _ .vmem, ⟨16, _⟩ => ⟨S1x512x1024, .f32⟩
  | .local _ .vmem, ⟨17, _⟩ => ⟨S1024x512, .bf16⟩
  | .local _ .vmem, ⟨18, _⟩ => ⟨S1024x512, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== OutProjRefIdeal.lean ====
abbrev S8x2048x512 : Shape := ⟨3, ![8, 2048, 512]⟩
abbrev S1024x1024 : Shape := ⟨2, ![1024, 1024]⟩
abbrev S8x2048x1024 : Shape := ⟨3, ![8, 2048, 1024]⟩
abbrev S8x1x1024 : Shape := ⟨3, ![8, 1, 1024]⟩
abbrev S1x1024 : Shape := ⟨2, ![1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩
abbrev S1024x16384 : Shape := ⟨2, ![1024, 16384]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S1024x1024, .bf16⟩
  | .hbm, ⟨3, _⟩ => ⟨S8x2048x1024, .f32⟩
  | .hbm, ⟨4, _⟩ => ⟨S8x1x1024, .f32⟩
  | .hbm, ⟨5, _⟩ => ⟨S1x1024, .f32⟩
  | .hbm, ⟨6, _⟩ => ⟨S8x1x1024, .f32⟩
  | .hbm, ⟨7, _⟩ => ⟨S8x1x1024, .f32⟩
  | .hbm, ⟨8, _⟩ => ⟨S8x2048x1024, .f32⟩
  | .hbm, ⟨9, _⟩ => ⟨S1024x1024, .f32⟩
  | .hbm, ⟨10, _⟩ => ⟨S8x2048x1024, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S8x2048x1, .f32⟩
  | .hbm, ⟨25, _⟩ => ⟨S8x2048x1024, .f32⟩
  | .hbm, ⟨26, _⟩ => ⟨S8x2048x1024, .f32⟩
  | .hbm, ⟨27, _⟩ => ⟨S1x1x1024, .f32⟩
  | .hbm, ⟨28, _⟩ => ⟨S8x2048x1024, .f32⟩
  | .hbm, ⟨29, _⟩ => ⟨S8x2048x1024, .f32⟩
  | .hbm, ⟨30, _⟩ => ⟨S_, .f32⟩
  | .hbm, ⟨31, _⟩ => ⟨S8x1x1024, .f32⟩
  | .hbm, ⟨32, _⟩ => ⟨S8x1x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S16384x1024, .f32⟩
  | .hbm, ⟨38, _⟩ => ⟨S1024x16384, .f32⟩
  | .hbm, ⟨39, _⟩ => ⟨S1024x16384, .bf16⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Readout.lean ====
abbrev S8x2048x1024 : Shape := ⟨3, ![8, 2048, 1024]⟩
abbrev S8x2048x5120 : Shape := ⟨3, ![8, 2048, 5120]⟩
abbrev S1x128 : Shape := ⟨2, ![1, 128]⟩
abbrev S1024x1024 : Shape := ⟨2, ![1024, 1024]⟩
abbrev S8x1x1024 : Shape := ⟨3, ![8, 1, 1024]⟩
abbrev S1x1024 : Shape := ⟨2, ![1, 1024]⟩
abbrev S1024x16384 : Shape := ⟨2, ![1024, 16384]⟩
abbrev S1x512x1024 : Shape := ⟨3, ![1, 512, 1024]⟩
abbrev S1x1x1024 : Shape := ⟨3, ![1, 1, 1024]⟩
abbrev S1024x512 : Shape := ⟨2, ![1024, 512]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 12
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x5120, .f32⟩
  | .hbm, ⟨3, _⟩ => ⟨S1x128, .f32⟩
  | .hbm, ⟨4, _⟩ => ⟨S1024x1024, .bf16⟩
  | .hbm, ⟨5, _⟩ => ⟨S8x2048x1024, .f32⟩
  | .hbm, ⟨6, _⟩ => ⟨S8x1x1024, .f32⟩
  | .hbm, ⟨7, _⟩ => ⟨S1x1024, .f32⟩
  | .hbm, ⟨8, _⟩ => ⟨S8x1x1024, .f32⟩
  | .hbm, ⟨9, _⟩ => ⟨S8x1x1024, .f32⟩
  | .hbm, ⟨10, _⟩ => ⟨S8x2048x1024, .f32⟩
  | .hbm, ⟨11, _⟩ => ⟨S1024x16384, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x128, .f32⟩
  | .local _ .vmem, ⟨7, _⟩ => ⟨S1024x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x512x1024, .f32⟩
  | .local _ .vmem, ⟨18, _⟩ => ⟨S1x512x1024, .f32⟩
  | .local _ .vmem, ⟨19, _⟩ => ⟨S1024x512, .bf16⟩
  | .local _ .vmem, ⟨20, _⟩ => ⟨S1024x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReadoutRefIdeal.lean ====
abbrev S8x2048x1024 : Shape := ⟨3, ![8, 2048, 1024]⟩
abbrev S8x2048x5120 : Shape := ⟨3, ![8, 2048, 5120]⟩
abbrev S1x128 : Shape := ⟨2, ![1, 128]⟩
abbrev S1024x1024 : Shape := ⟨2, ![1024, 1024]⟩
abbrev S8x1x1024 : Shape := ⟨3, ![8, 1, 1024]⟩
abbrev S1x1024 : Shape := ⟨2, ![1, 1024]⟩
abbrev S8x2048x8x128 : Shape := ⟨4, ![8, 2048, 8, 128]⟩
abbrev S128 : Shape := ⟨1, ![128]⟩
abbrev S_ : Shape := ⟨0, ![]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩
abbrev S1024x16384 : Shape := ⟨2, ![1024, 16384]⟩

abbrev nBuf : Space → Nat
  | .hbm => 72
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x5120, .f32⟩
  | .hbm, ⟨3, _⟩ => ⟨S1x128, .f32⟩
  | .hbm, ⟨4, _⟩ => ⟨S1024x1024, .bf16⟩
  | .hbm, ⟨5, _⟩ => ⟨S8x2048x1024, .f32⟩
  | .hbm, ⟨6, _⟩ => ⟨S8x1x1024, .f32⟩
  | .hbm, ⟨7, _⟩ => ⟨S1x1024, .f32⟩
  | .hbm, ⟨8, _⟩ => ⟨S8x1x1024, .f32⟩
  | .hbm, ⟨9, _⟩ => ⟨S8x1x1024, .f32⟩
  | .hbm, ⟨10, _⟩ => ⟨S8x2048x1024, .f32⟩
  | .hbm, ⟨11, _⟩ => ⟨S8x2048x8x128, .f32⟩
  | .hbm, ⟨12, _⟩ => ⟨S128, .f32⟩
  | .hbm, ⟨13, _⟩ => ⟨S8x2048x8x128, .f32⟩
  | .hbm, ⟨14, _⟩ => ⟨S_, .f32⟩
  | .hbm, ⟨15, _⟩ => ⟨S8x2048x8, .f32⟩
  | .hbm, ⟨16, _⟩ => ⟨S8x2048x8x1, .f32⟩
  | .hbm, ⟨17, _⟩ => ⟨S_, .f32⟩
  | .hbm, ⟨18, _⟩ => ⟨S8x2048x8x1, .f32⟩
  | .hbm, ⟨19, _⟩ => ⟨S8x2048x8x1, .f32⟩
  | .hbm, ⟨20, _⟩ => ⟨S_, .f32⟩
  | .hbm, ⟨21, _⟩ => ⟨S8x2048x8x1, .f32⟩
  | .hbm, ⟨22, _⟩ => ⟨S8x2048x8x1, .f32⟩
  | .hbm, ⟨23, _⟩ => ⟨S8x2048x8x1, .f32⟩
  | .hbm, ⟨24, _⟩ => ⟨S8x2048x8x128, .f32⟩
  | .hbm, ⟨25, _⟩ => ⟨S8x2048x8x128, .f32⟩
  | .hbm, ⟨26, _⟩ => ⟨S1x1x1x128, .f32⟩
  | .hbm, ⟨27, _⟩ => ⟨S8x2048x8x128, .f32⟩
  | .hbm, ⟨28, _⟩ => ⟨S8x2048x8x128, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S_, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S1024x1024, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S_, .f32⟩
  | .hbm, ⟨48, _⟩ => ⟨S8x2048, .f32⟩
  | .hbm, ⟨49, _⟩ => ⟨S8x2048x1, .f32⟩
  | .hbm, ⟨50, _⟩ => ⟨S_, .f32⟩
  | .hbm, ⟨51, _⟩ => ⟨S8x2048x1, .f32⟩
  | .hbm, ⟨52, _⟩ => ⟨S8x2048x1, .f32⟩
  | .hbm, ⟨53, _⟩ => ⟨S_, .f32⟩
  | .hbm, ⟨54, _⟩ => ⟨S8x2048x1, .f32⟩
  | .hbm, ⟨55, _⟩ => ⟨S8x2048x1, .f32⟩
  | .hbm, ⟨56, _⟩ => ⟨S8x2048x1, .f32⟩
  | .hbm, ⟨57, _⟩ => ⟨S8x2048x1024, .f32⟩
  | .hbm, ⟨58, _⟩ => ⟨S8x2048x1024, .f32⟩
  | .hbm, ⟨59, _⟩ => ⟨S1x1x1024, .f32⟩
  | .hbm, ⟨60, _⟩ => ⟨S8x2048x1024, .f32⟩
  | .hbm, ⟨61, _⟩ => ⟨S8x2048x1024, .f32⟩
  | .hbm, ⟨62, _⟩ => ⟨S_, .f32⟩
  | .hbm, ⟨63, _⟩ => ⟨S8x1x1024, .f32⟩
  | .hbm, ⟨64, _⟩ => ⟨S8x1x1024, .f32⟩
  | .hbm, ⟨65, _⟩ => ⟨S8x2048x1024, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | .hbm, ⟨69, _⟩ => ⟨S16384x1024, .f32⟩
  | .hbm, ⟨70, _⟩ => ⟨S1024x16384, .f32⟩
  | .hbm, ⟨71, _⟩ => ⟨S1024x16384, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_2 : Ref sig .tc := ⟨.hbm, 47, rfl⟩
abbrev main_v26 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_5 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩

abbrev nD : Nat := 1
abbrev τ : Topo := Topo.v7x

variable {F : FTy → Type} [FloatOps F]
-- ==== Project1Ctx.lean ====
abbrev S8x256x1024 : Shape := ⟨3, ![8, 256, 1024]⟩
abbrev S1x1024 : Shape := ⟨2, ![1, 1024]⟩
abbrev S8x1x1024 : Shape := ⟨3, ![8, 1, 1024]⟩
abbrev S1024x5120 : Shape := ⟨2, ![1024, 5120]⟩
abbrev S8x256x5120 : Shape := ⟨3, ![8, 256, 5120]⟩
abbrev S1x256x1024 : Shape := ⟨3, ![1, 256, 1024]⟩
abbrev S1x1x1024 : Shape := ⟨3, ![1, 1, 1024]⟩
abbrev S1024x1280 : Shape := ⟨2, ![1024, 1280]⟩
abbrev S1x256x1280 : Shape := ⟨3, ![1, 256, 1280]⟩
abbrev S256x1024 : Shape := ⟨2, ![256, 1024]⟩
abbrev S256 : Shape := ⟨1, ![256]⟩
abbrev S256x1 : Shape := ⟨2, ![256, 1]⟩
abbrev S256x1280 : Shape := ⟨2, ![256, 1280]⟩

abbrev nBuf : Space → Nat
  | .hbm => 6
  | .vmem => 12
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S8x1x1024, .f32⟩
  | .hbm, ⟨3, _⟩ => ⟨S8x1x1024, .f32⟩
  | .hbm, ⟨4, _⟩ => ⟨S1024x5120, .bf16⟩
  | .hbm, ⟨5, _⟩ => ⟨S8x256x5120, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1280, .bf16⟩
  | .local _ .vmem, ⟨8, _⟩ => ⟨S1024x1280, .bf16⟩
  | .local _ .vmem, ⟨9, _⟩ => ⟨S1x256x1280, .f32⟩
  | .local _ .vmem, ⟨10, _⟩ => ⟨S1x256x1280, .f32⟩
  | .local _ .vmem, ⟨11, _⟩ => ⟨S256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 1, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Project1CtxIdeal.lean ====
abbrev S8x256x1024 : Shape := ⟨3, ![8, 256, 1024]⟩
abbrev S1x1024 : Shape := ⟨2, ![1, 1024]⟩
abbrev S8x1x1024 : Shape := ⟨3, ![8, 1, 1024]⟩
abbrev S1024x5120 : Shape := ⟨2, ![1024, 5120]⟩
abbrev S8x256x5120 : Shape := ⟨3, ![8, 256, 5120]⟩
abbrev S1x256x1024 : Shape := ⟨3, ![1, 256, 1024]⟩
abbrev S1x1x1024 : Shape := ⟨3, ![1, 1, 1024]⟩
abbrev S1024x1280 : Shape := ⟨2, ![1024, 1280]⟩
abbrev S1x256x1280 : Shape := ⟨3, ![1, 256, 1280]⟩
abbrev S256x1024 : Shape := ⟨2, ![256, 1024]⟩
abbrev S256 : Shape := ⟨1, ![256]⟩
abbrev S256x1 : Shape := ⟨2, ![256, 1]⟩
abbrev S256x1280 : Shape := ⟨2, ![256, 1280]⟩

abbrev nBuf : Space → Nat
  | .hbm => 6
  | .vmem => 12
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S8x1x1024, .f32⟩
  | .hbm, ⟨3, _⟩ => ⟨S8x1x1024, .f32⟩
  | .hbm, ⟨4, _⟩ => ⟨S1024x5120, .bf16⟩
  | .hbm, ⟨5, _⟩ => ⟨S8x256x5120, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1280, .bf16⟩
  | .local _ .vmem, ⟨8, _⟩ => ⟨S1024x1280, .bf16⟩
  | .local _ .vmem, ⟨9, _⟩ => ⟨S1x256x1280, .f32⟩
  | .local _ .vmem, ⟨10, _⟩ => ⟨S1x256x1280, .f32⟩
  | .local _ .vmem, ⟨11, _⟩ => ⟨S256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 1, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Project1CtxRefIdeal.lean ====
abbrev S8x256x1024 : Shape := ⟨3, ![8, 256, 1024]⟩
abbrev S1x1024 : Shape := ⟨2, ![1, 1024]⟩
abbrev S8x1x1024 : Shape := ⟨3, ![8, 1, 1024]⟩
abbrev S1024x5120 : Shape := ⟨2, ![1024, 5120]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x5120 : Shape := ⟨3, ![8, 256, 5120]⟩

abbrev nBuf : Space → Nat
  | .hbm => 30
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S8x1x1024, .f32⟩
  | .hbm, ⟨3, _⟩ => ⟨S8x1x1024, .f32⟩
  | .hbm, ⟨4, _⟩ => ⟨S1024x5120, .bf16⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x256x1024, .f32⟩
  | .hbm, ⟨25, _⟩ => ⟨S8x256x1024, .f32⟩
  | .hbm, ⟨26, _⟩ => ⟨S8x256x1024, .f32⟩
  | .hbm, ⟨27, _⟩ => ⟨S8x256x1024, .f32⟩
  | .hbm, ⟨28, _⟩ => ⟨S1024x5120, .f32⟩
  | .hbm, ⟨29, _⟩ => ⟨S8x256x5120, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Project0Ctx.lean ====
abbrev S8x256x1024 : Shape := ⟨3, ![8, 256, 1024]⟩
abbrev S1x1024 : Shape := ⟨2, ![1, 1024]⟩
abbrev S8x1x1024 : Shape := ⟨3, ![8, 1, 1024]⟩
abbrev S1024x2304 : Shape := ⟨2, ![1024, 2304]⟩
abbrev S8x256x2304 : Shape := ⟨3, ![8, 256, 2304]⟩
abbrev S1x256x1024 : Shape := ⟨3, ![1, 256, 1024]⟩
abbrev S1x1x1024 : Shape := ⟨3, ![1, 1, 1024]⟩
abbrev S1024x1152 : Shape := ⟨2, ![1024, 1152]⟩
abbrev S1x256x1152 : Shape := ⟨3, ![1, 256, 1152]⟩
abbrev S256x1024 : Shape := ⟨2, ![256, 1024]⟩
abbrev S256 : Shape := ⟨1, ![256]⟩
abbrev S256x1 : Shape := ⟨2, ![256, 1]⟩
abbrev S256x1152 : Shape := ⟨2, ![256, 1152]⟩

abbrev nBuf : Space → Nat
  | .hbm => 6
  | .vmem => 12
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S8x1x1024, .f32⟩
  | .hbm, ⟨3, _⟩ => ⟨S8x1x1024, .f32⟩
  | .hbm, ⟨4, _⟩ => ⟨S1024x2304, .bf16⟩
  | .hbm, ⟨5, _⟩ => ⟨S8x256x2304, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1152, .bf16⟩
  | .local _ .vmem, ⟨8, _⟩ => ⟨S1024x1152, .bf16⟩
  | .local _ .vmem, ⟨9, _⟩ => ⟨S1x256x1152, .f32⟩
  | .local _ .vmem, ⟨10, _⟩ => ⟨S1x256x1152, .f32⟩
  | .local _ .vmem, ⟨11, _⟩ => ⟨S256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1152 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Project0CtxRefIdeal.lean ====
abbrev S8x256x1024 : Shape := ⟨3, ![8, 256, 1024]⟩
abbrev S1x1024 : Shape := ⟨2, ![1, 1024]⟩
abbrev S8x1x1024 : Shape := ⟨3, ![8, 1, 1024]⟩
abbrev S1024x2304 : Shape := ⟨2, ![1024, 2304]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x2304 : Shape := ⟨3, ![8, 256, 2304]⟩

abbrev nBuf : Space → Nat
  | .hbm => 30
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S8x1x1024, .f32⟩
  | .hbm, ⟨3, _⟩ => ⟨S8x1x1024, .f32⟩
  | .hbm, ⟨4, _⟩ => ⟨S1024x2304, .bf16⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x256x1024, .f32⟩
  | .hbm, ⟨25, _⟩ => ⟨S8x256x1024, .f32⟩
  | .hbm, ⟨26, _⟩ => ⟨S8x256x1024, .f32⟩
  | .hbm, ⟨27, _⟩ => ⟨S8x256x1024, .f32⟩
  | .hbm, ⟨28, _⟩ => ⟨S1024x2304, .f32⟩
  | .hbm, ⟨29, _⟩ => ⟨S8x256x2304, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== OutProjCtx.lean ====
abbrev S8x256x512 : Shape := ⟨3, ![8, 256, 512]⟩
abbrev S1024x1024 : Shape := ⟨2, ![1024, 1024]⟩
abbrev S8x256x1024 : Shape := ⟨3, ![8, 256, 1024]⟩
abbrev S8x1x1024 : Shape := ⟨3, ![8, 1, 1024]⟩
abbrev S1x1024 : Shape := ⟨2, ![1, 1024]⟩
abbrev S1024x2048 : Shape := ⟨2, ![1024, 2048]⟩
abbrev S1x256x512 : Shape := ⟨3, ![1, 256, 512]⟩
abbrev S512x1024 : Shape := ⟨2, ![512, 1024]⟩
abbrev S1x256x1024 : Shape := ⟨3, ![1, 256, 1024]⟩
abbrev S1x1x1024 : Shape := ⟨3, ![1, 1, 1024]⟩
abbrev S1024x256 : Shape := ⟨2, ![1024, 256]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 19
  | .smem => 0
  | _ => 0

abbrev bufTy : (tb : Table) → Fin (tcTables nBuf tb) → BufTy
  | .hbm, ⟨0, _⟩ => ⟨S8x256x512, .f32⟩
  | .hbm, ⟨1, _⟩ => ⟨S8x256x512, .f32⟩
  | .hbm, ⟨2, _⟩ => ⟨S1024x1024, .bf16⟩
  | .hbm, ⟨3, _⟩ => ⟨S8x256x1024, .f32⟩
  | .hbm, ⟨4, _⟩ => ⟨S8x1x1024, .f32⟩
  | .hbm, ⟨5, _⟩ => ⟨S1x1024, .f32⟩
  | .hbm, ⟨6, _⟩ => ⟨S8x1x1024, .f32⟩
  | .hbm, ⟨7, _⟩ => ⟨S8x1x1024, .f32⟩
  | .hbm, ⟨8, _⟩ => ⟨S8x256x1024, .f32⟩
  | .hbm, ⟨9, _⟩ => ⟨S1024x2048, .bf16⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S512x1024, .bf16⟩
  | .local _ .vmem, ⟨5, _⟩ => ⟨S512x1024, .bf16⟩
  | .local _ .vmem, ⟨6, _⟩ => ⟨S1x256x1024, .f32⟩
  | .local _ .vmem, ⟨7, _⟩ => ⟨S1x256x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x256x1024, .f32⟩
  | .local _ .vmem, ⟨16, _⟩ => ⟨S1x256x1024, .f32⟩
  | .local _ .vmem, ⟨17, _⟩ => ⟨S1024x256, .bf16⟩
  | .local _ .vmem, ⟨18, _⟩ => ⟨S1024x256, .bf16⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== OutProjCtxRefIdeal.lean ====
abbrev S8x256x512 : Shape := ⟨3, ![8, 256, 512]⟩
abbrev S1024x1024 : Shape := ⟨2, ![1024, 1024]⟩
abbrev S8x256x1024 : Shape := ⟨3, ![8, 256, 1024]⟩
abbrev S8x1x1024 : Shape := ⟨3, ![8, 1, 1024]⟩
abbrev S1x1024 : Shape := ⟨2, ![1, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S2048x1024 : Shape := ⟨2, ![2048, 1024]⟩
abbrev S1024x2048 : Shape := ⟨2, ![1024, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S8x256x512, .f32⟩
  | .hbm, ⟨2, _⟩ => ⟨S1024x1024, .bf16⟩
  | .hbm, ⟨3, _⟩ => ⟨S8x256x1024, .f32⟩
  | .hbm, ⟨4, _⟩ => ⟨S8x1x1024, .f32⟩
  | .hbm, ⟨5, _⟩ => ⟨S1x1024, .f32⟩
  | .hbm, ⟨6, _⟩ => ⟨S8x1x1024, .f32⟩
  | .hbm, ⟨7, _⟩ => ⟨S8x1x1024, .f32⟩
  | .hbm, ⟨8, _⟩ => ⟨S8x256x1024, .f32⟩
  | .hbm, ⟨9, _⟩ => ⟨S1024x1024, .f32⟩
  | .hbm, ⟨10, _⟩ => ⟨S8x256x1024, .f32⟩
  | .hbm, ⟨11, _⟩ => ⟨S8x256x1024, .f32⟩
  | .hbm, ⟨12, _⟩ => ⟨S8x256x1024, .f32⟩
  | .hbm, ⟨13, _⟩ => ⟨S8x256x1024, .f32⟩
  | .hbm, ⟨14, _⟩ => ⟨S8x256x1024, .f32⟩
  | .hbm, ⟨15, _⟩ => ⟨S_, .f32⟩
  | .hbm, ⟨16, _⟩ => ⟨S8x256, .f32⟩
  | .hbm, ⟨17, _⟩ => ⟨S8x256x1, .f32⟩
  | .hbm, ⟨18, _⟩ => ⟨S_, .f32⟩
  | .hbm, ⟨19, _⟩ => ⟨S8x256x1, .f32⟩
  | .hbm, ⟨20, _⟩ => ⟨S8x256x1, .f32⟩
  | .hbm, ⟨21, _⟩ => ⟨S_, .f32⟩
  | .hbm, ⟨22, _⟩ => ⟨S8x256x1, .f32⟩
  | .hbm, ⟨23, _⟩ => ⟨S8x256x1, .f32⟩
  | .hbm, ⟨24, _⟩ => ⟨S8x256x1, .f32⟩
  | .hbm, ⟨25, _⟩ => ⟨S8x256x1024, .f32⟩
  | .hbm, ⟨26, _⟩ => ⟨S8x256x1024, .f32⟩
  | .hbm, ⟨27, _⟩ => ⟨S1x1x1024, .f32⟩
  | .hbm, ⟨28, _⟩ => ⟨S8x256x1024, .f32⟩
  | .hbm, ⟨29, _⟩ => ⟨S8x256x1024, .f32⟩
  | .hbm, ⟨30, _⟩ => ⟨S_, .f32⟩
  | .hbm, ⟨31, _⟩ => ⟨S8x1x1024, .f32⟩
  | .hbm, ⟨32, _⟩ => ⟨S8x1x1024, .f32⟩
  | .hbm, ⟨33, _⟩ => ⟨S8x256x1024, .f32⟩
  | .hbm, ⟨34, _⟩ => ⟨S8x256x1024, .f32⟩
  | .hbm, ⟨35, _⟩ => ⟨S8x256x1024, .f32⟩
  | .hbm, ⟨36, _⟩ => ⟨S8x256x1024, .f32⟩
  | .hbm, ⟨37, _⟩ => ⟨S2048x1024, .f32⟩
  | .hbm, ⟨38, _⟩ => ⟨S1024x2048, .f32⟩
  | .hbm, ⟨39, _⟩ => ⟨S1024x2048, .bf16⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Peer.lean ====
abbrev S1024x16384 : Shape := ⟨2, ![1024, 16384]⟩
abbrev S2x16384x1024 : Shape := ⟨3, ![2, 16384, 1024]⟩
abbrev S8x128x16384 : Shape := ⟨3, ![8, 128, 16384]⟩
abbrev S16384x1024 : Shape := ⟨2, ![16384, 1024]⟩
abbrev S8x1x1024 : Shape := ⟨3, ![8, 1, 1024]⟩
abbrev S1x1024 : Shape := ⟨2, ![1, 1024]⟩
abbrev S1024x512 : Shape := ⟨2, ![1024, 512]⟩
abbrev S1x1024x1024 : Shape := ⟨3, ![1, 1024, 1024]⟩
abbrev S8x128x512 : Shape := ⟨3, ![8, 128, 512]⟩
abbrev S512x1024 : Shape := ⟨2, ![512, 1024]⟩
abbrev S1x1x1024 : Shape := ⟨3, ![1, 1, 1024]⟩
abbrev S2x1024x512 : Shape := ⟨3, ![2, 1024, 512]⟩
abbrev S1x1024x512 : Shape := ⟨3, ![1, 1024, 512]⟩
abbrev S1x256x1024 : Shape := ⟨3, ![1, 256, 1024]⟩
abbrev S256x1024 : Shape := ⟨2, ![256, 1024]⟩
abbrev S256x512 : Shape := ⟨2, ![256, 512]⟩
abbrev S1x1024x256 : Shape := ⟨3, ![1, 1024, 256]⟩
abbrev S1024x256 : Shape := ⟨2, ![1024, 256]⟩
abbrev S512x256 : Shape := ⟨2, ![512, 256]⟩
abbrev S1x1x256 : Shape := ⟨3, ![1, 1, 256]⟩
abbrev S1x256 : Shape := ⟨2, ![1, 256]⟩
abbrev S16x256 : Shape := ⟨2, ![16, 256]⟩
abbrev S128x256 : Shape := ⟨2, ![128, 256]⟩
abbrev S1x128x256 : Shape := ⟨3, ![1, 128, 256]⟩
abbrev S1024x1024 : Shape := ⟨2, ![1024, 1024]⟩
abbrev S512 : Shape := ⟨1, ![512]⟩
abbrev S512x1 : Shape := ⟨2, ![512, 1]⟩

abbrev nBuf : Space → Nat
  | .hbm => 11
  | .vmem => 24
  | .smem => 0
  | _ => 0

abbrev bufTy : (tb : Table) → Fin (tcTables nBuf tb) → BufTy
  | .hbm, ⟨0, _⟩ => ⟨S1024x16384, .bf16⟩
  | .hbm, ⟨1, _⟩ => ⟨S2x16384x1024, .bf16⟩
  | .hbm, ⟨2, _⟩ => ⟨S2x16384x1024, .bf16⟩
  | .hbm, ⟨3, _⟩ => ⟨S8x128x16384, .bf16⟩
  | .hbm, ⟨4, _⟩ => ⟨S8x128x16384, .bf16⟩
  | .hbm, ⟨5, _⟩ => ⟨S8x128x16384, .f32⟩
  | .hbm, ⟨6, _⟩ => ⟨S8x128x16384, .f32⟩
  | .hbm, ⟨7, _⟩ => ⟨S16384x1024, .f32⟩
  | .hbm, ⟨8, _⟩ => ⟨S8x1x1024, .f32⟩
  | .hbm, ⟨9, _⟩ => ⟨S1x1024, .f32⟩
  | .hbm, ⟨10, _⟩ => ⟨S16384x1024, .f32⟩
  | .local _ .vmem, ⟨0, _⟩ => ⟨S1024x512, .bf16⟩
  | .local _ .vmem, ⟨1, _⟩ => ⟨S1024x512, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S8x128x512, .bf16⟩
  | .local _ .vmem, ⟨8, _⟩ => ⟨S8x128x512, .bf16⟩
  | .local _ .vmem, ⟨9, _⟩ => ⟨S8x128x512, .bf16⟩
  | .local _ .vmem, ⟨10, _⟩ => ⟨S8x128x512, .bf16⟩
  | .local _ .vmem, ⟨11, _⟩ => ⟨S8x128x512, .f32⟩
  | .local _ .vmem, ⟨12, _⟩ => ⟨S8x128x512, .f32⟩
  | .local _ .vmem, ⟨13, _⟩ => ⟨S8x128x512, .f32⟩
  | .local _ .vmem, ⟨14, _⟩ => ⟨S8x128x512, .f32⟩
  | .local _ .vmem, ⟨15, _⟩ => ⟨S512x1024, .f32⟩
  | .local _ .vmem, ⟨16, _⟩ => ⟨S512x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S2x1024x512, .bf16⟩
  | _, _ => ⟨S1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![32, 16], ![false, false]⟩

def k0_off1 (i : grid0.Coords) : Fin 3 → Nat :=
  let arg1 : BitVec 32 := BitVec.ofNat 32 (i 1).val
  let c1_i32 : BitVec 32 := 1#32
  let v1 : BitVec 32 := Scalar.addi arg1 c1_i32
  let c2_i32 : BitVec 32 := 2#32
  let c0_i32 : BitVec 32 := 0#32
  let v2 : BitVec 1 := Scalar.cmpi .eq c2_i32 c0_i32
  let c1_i32_1 : BitVec 32 := 1#32
  let v3 : BitVec 32 := Scalar.select v2 c1_i32_1 c2_i32
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let v26 : Index := Scalar.indexCast v11
  let c0_13 : Index := 0#32
  let c0_14 : Index := 0#32
  ![v26.toNat, 0, 0]
def k0_off2 (i : grid0.Coords) (c0_i32_43 : BitVec 32) (c0_i32_44 : BitVec 32) : Fin 3 → Nat :=
  let c0_45 : Index := 0#32
  let arg1 : BitVec 32 := BitVec.ofNat 32 (i 1).val
  let c8_i32 : BitVec 32 := 8#32
  let v22 : BitVec 32 := Scalar.muli arg1 c8_i32
  let v53 : BitVec 32 := Scalar.addi v22 c0_i32_43
  let v54 : BitVec 32 := Scalar.addi v53 c0_i32_44
  let v55 : Index := Scalar.indexCast v54
  let c0_46 : Index := 0#32
  ![0, v55.toNat, 0]
def k0_off3 (i : grid0.Coords) (c0_i32_43 : BitVec 32) (c0_i32_44 : BitVec 32) : Fin 3 → Nat :=
  let c1 : Index := 1#32
  let arg1 : BitVec 32 := BitVec.ofNat 32 (i 1).val
  let c8_i32 : BitVec 32 := 8#32
  let v22 : BitVec 32 := Scalar.muli arg1 c8_i32
  let v53 : BitVec 32 := Scalar.addi v22 c0_i32_43
  let v54 : BitVec 32 := Scalar.addi v53 c0_i32_44
  let v77 : Index := Scalar.indexCast v54
  let c0_56 : Index := 0#32
  ![1, v77.toNat, 0]
def k0_off4 (i : grid0.Coords) (c0_i32_43 : BitVec 32) (c0_i32_44 : BitVec 32) : Fin 3 → Nat :=
  let c2 : Index := 2#32
  let arg1 : BitVec 32 := BitVec.ofNat 32 (i 1).val
  let c8_i32 : BitVec 32 := 8#32
  let v22 : BitVec 32 := Scalar.muli arg1 c8_i32
  let v53 : BitVec 32 := Scalar.addi v22 c0_i32_43
  let v54 : BitVec 32 := Scalar.addi v53 c0_i32_44
  let v100 : Index := Scalar.indexCast v54
  let c0_66 : Index := 0#32
  ![2, v100.toNat, 0]
def k0_off5 (i : grid0.Coords) (c0_i32_43 : BitVec 32) (c0_i32_44 : BitVec 32) : Fin 3 → Nat :=
  let c3 : Index := 3#32
  let arg1 : BitVec 32 := BitVec.ofNat 32 (i 1).val
  let c8_i32 : BitVec 32 := 8#32
  let v22 : BitVec 32 := Scalar.muli arg1 c8_i32
  let v53 : BitVec 32 := Scalar.addi v22 c0_i32_43
  let v54 : BitVec 32 := Scalar.addi v53 c0_i32_44
  let v123 : Index := Scalar.indexCast v54
  let c0_76 : Index := 0#32
  ![3, v123.toNat, 0]
def k0_off6 (i : grid0.Coords) (c0_i32_43 : BitVec 32) (c0_i32_44 : BitVec 32) : Fin 3 → Nat :=
  let c4 : Index := 4#32
  let arg1 : BitVec 32 := BitVec.ofNat 32 (i 1).val
  let c8_i32 : BitVec 32 := 8#32
  let v22 : BitVec 32 := Scalar.muli arg1 c8_i32
  let v53 : BitVec 32 := Scalar.addi v22 c0_i32_43
  let v54 : BitVec 32 := Scalar.addi v53 c0_i32_44
  let v146 : Index := Scalar.indexCast v54
  let c0_86 : Index := 0#32
  ![4, v146.toNat, 0]
def k0_off7 (i : grid0.Coords) (c0_i32_43 : BitVec 32) (c0_i32_44 : BitVec 32) : Fin 3 → Nat :=
  let c5 : Index := 5#32
  let arg1 : BitVec 32 := BitVec.ofNat 32 (i 1).val
  let c8_i32 : BitVec 32 := 8#32
  let v22 : BitVec 32 := Scalar.muli arg1 c8_i32
  let v53 : BitVec 32 := Scalar.addi v22 c0_i32_43
  let v54 : BitVec 32 := Scalar.addi v53 c0_i32_44
  let v169 : Index := Scalar.indexCast v54
  let c0_96 : Index := 0#32
  ![5, v169.toNat, 0]
def k0_off8 (i : grid0.Coords) (c0_i32_43 : BitVec 32) (c0_i32_44 : BitVec 32) : Fin 3 → Nat :=
  let c6 : Index := 6#32
  let arg1 : BitVec 32 := BitVec.ofNat 32 (i 1).val
  let c8_i32 : BitVec 32 := 8#32
  let v22 : BitVec 32 := Scalar.muli arg1 c8_i32
  let v53 : BitVec 32 := Scalar.addi v22 c0_i32_43
  let v54 : BitVec 32 := Scalar.addi v53 c0_i32_44
  let v192 : Index := Scalar.indexCast v54
  let c0_106 : Index := 0#32
  ![6, v192.toNat, 0]
def k0_off9 (i : grid0.Coords) (c0_i32_43 : BitVec 32) (c0_i32_44 : BitVec 32) : Fin 3 → Nat :=
  let c7 : Index := 7#32
  let arg1 : BitVec 32 := BitVec.ofNat 32 (i 1).val
  let c8_i32 : BitVec 32 := 8#32
  let v22 : BitVec 32 := Scalar.muli arg1 c8_i32
  let v53 : BitVec 32 := Scalar.addi v22 c0_i32_43
  let v54 : BitVec 32 := Scalar.addi v53 c0_i32_44
  let v215 : Index := Scalar.indexCast v54
  let c0_116 : Index := 0#32
  ![7, v215.toNat, 0]
def k0_off10 (i : grid0.Coords) : Fin 3 → Nat :=
  let arg1 : BitVec 32 := BitVec.ofNat 32 (i 1).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg1 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v249 : Index := Scalar.indexCast v21
  let c0_129 : Index := 0#32
  let c0_130 : Index := 0#32
  ![v249.toNat, 0, 0]
def k0_off11 (i : grid0.Coords) (c0_i32_43 : BitVec 32) (c0_i32_44 : BitVec 32) : Fin 3 → Nat :=
  let c0_131 : Index := 0#32
  let arg1 : BitVec 32 := BitVec.ofNat 32 (i 1).val
  let c8_i32 : BitVec 32 := 8#32
  let v22 : BitVec 32 := Scalar.muli arg1 c8_i32
  let v53 : BitVec 32 := Scalar.addi v22 c0_i32_43
  let v54 : BitVec 32 := Scalar.addi v53 c0_i32_44
  let v253 : Index := Scalar.indexCast v54
  let c256_132 : Index := 256#32
  ![0, v253.toNat, 256]
def k0_off12 (i : grid0.Coords) (c0_i32_43 : BitVec 32) (c0_i32_44 : BitVec 32) : Fin 3 → Nat :=
  let c1_142 : Index := 1#32
  let arg1 : BitVec 32 := BitVec.ofNat 32 (i 1).val
  let c8_i32 : BitVec 32 := 8#32
  let v22 : BitVec 32 := Scalar.muli arg1 c8_i32
  let v53 : BitVec 32 := Scalar.addi v22 c0_i32_43
  let v54 : BitVec 32 := Scalar.addi v53 c0_i32_44
  let v275 : Index := Scalar.indexCast v54
  let c256_143 : Index := 256#32
  ![1, v275.toNat, 256]
def k0_off13 (i : grid0.Coords) (c0_i32_43 : BitVec 32) (c0_i32_44 : BitVec 32) : Fin 3 → Nat :=
  let c2_153 : Index := 2#32
  let arg1 : BitVec 32 := BitVec.ofNat 32 (i 1).val
  let c8_i32 : BitVec 32 := 8#32
  let v22 : BitVec 32 := Scalar.muli arg1 c8_i32
  let v53 : BitVec 32 := Scalar.addi v22 c0_i32_43
  let v54 : BitVec 32 := Scalar.addi v53 c0_i32_44
  let v298 : Index := Scalar.indexCast v54
  let c256_154 : Index := 256#32
  ![2, v298.toNat, 256]
def k0_off14 (i : grid0.Coords) (c0_i32_43 : BitVec 32) (c0_i32_44 : BitVec 32) : Fin 3 → Nat :=
  let c3_164 : Index := 3#32
  let arg1 : BitVec 32 := BitVec.ofNat 32 (i 1).val
  let c8_i32 : BitVec 32 := 8#32
  let v22 : BitVec 32 := Scalar.muli arg1 c8_i32
  let v53 : BitVec 32 := Scalar.addi v22 c0_i32_43
  let v54 : BitVec 32 := Scalar.addi v53 c0_i32_44
  let v321 : Index := Scalar.indexCast v54
  let c256_165 : Index := 256#32
  ![3, v321.toNat, 256]
def k0_off15 (i : grid0.Coords) (c0_i32_43 : BitVec 32) (c0_i32_44 : BitVec 32) : Fin 3 → Nat :=
  let c4_175 : Index := 4#32
  let arg1 : BitVec 32 := BitVec.ofNat 32 (i 1).val
  let c8_i32 : BitVec 32 := 8#32
  let v22 : BitVec 32 := Scalar.muli arg1 c8_i32
  let v53 : BitVec 32 := Scalar.addi v22 c0_i32_43
  let v54 : BitVec 32 := Scalar.addi v53 c0_i32_44
  let v344 : Index := Scalar.indexCast v54
  let c256_176 : Index := 256#32
  ![4, v344.toNat, 256]
def k0_off16 (i : grid0.Coords) (c0_i32_43 : BitVec 32) (c0_i32_44 : BitVec 32) : Fin 3 → Nat :=
  let c5_186 : Index := 5#32
  let arg1 : BitVec 32 := BitVec.ofNat 32 (i 1).val
  let c8_i32 : BitVec 32 := 8#32
  let v22 : BitVec 32 := Scalar.muli arg1 c8_i32
  let v53 : BitVec 32 := Scalar.addi v22 c0_i32_43
  let v54 : BitVec 32 := Scalar.addi v53 c0_i32_44
  let v367 : Index := Scalar.indexCast v54
  let c256_187 : Index := 256#32
  ![5, v367.toNat, 256]
def k0_off17 (i : grid0.Coords) (c0_i32_43 : BitVec 32) (c0_i32_44 : BitVec 32) : Fin 3 → Nat :=
  let c6_197 : Index := 6#32
  let arg1 : BitVec 32 := BitVec.ofNat 32 (i 1).val
  let c8_i32 : BitVec 32 := 8#32
  let v22 : BitVec 32 := Scalar.muli arg1 c8_i32
  let v53 : BitVec 32 := Scalar.addi v22 c0_i32_43
  let v54 : BitVec 32 := Scalar.addi v53 c0_i32_44
  let v390 : Index := Scalar.indexCast v54
  let c256_198 : Index := 256#32
  ![6, v390.toNat, 256]
def k0_off18 (i : grid0.Coords) (c0_i32_43 : BitVec 32) (c0_i32_44 : BitVec 32) : Fin 3 → Nat :=
  let c7_208 : Index := 7#32
  let arg1 : BitVec 32 := BitVec.ofNat 32 (i 1).val
  let c8_i32 : BitVec 32 := 8#32
  let v22 : BitVec 32 := Scalar.muli arg1 c8_i32
  let v53 : BitVec 32 := Scalar.addi v22 c0_i32_43
  let v54 : BitVec 32 := Scalar.addi v53 c0_i32_44
  let v413 : Index := Scalar.indexCast v54
  let c256_209 : Index := 256#32
  ![7, v413.toNat, 256]
def k0_off19 (i : grid0.Coords) : Fin 3 → Nat :=
  let arg1 : BitVec 32 := BitVec.ofNat 32 (i 1).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg1 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v447 : Index := Scalar.indexCast v21
  let c0_222 : Index := 0#32
  let c256_223 : Index := 256#32
  ![v447.toNat, 0, 256]
def k0_off20 (i : grid0.Coords) : Fin 3 → Nat :=
  let arg1 : BitVec 32 := BitVec.ofNat 32 (i 1).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg1 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v647 : Index := Scalar.indexCast v21
  let c128 : Index := 128#32
  let c0_317 : Index := 0#32
  ![v647.toNat, 128, 0]
def k0_off21 (i : grid0.Coords) : Fin 3 → Nat :=
  let arg1 : BitVec 32 := BitVec.ofNat 32 (i 1).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg1 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v845 : Index := Scalar.indexCast v21
  let c128_409 : Index := 128#32
  let c256_410 : Index := 256#32
  ![v845.toNat, 128, 256]
def k0_off22 (i : grid0.Coords) : Fin 3 → Nat :=
  let arg1 : BitVec 32 := BitVec.ofNat 32 (i 1).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg1 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v1045 : Index := Scalar.indexCast v21
  let c256_504 : Index := 256#32
  let c0_505 : Index := 0#32
  ![v1045.toNat, 256, 0]
def k0_off23 (i : grid0.Coords) : Fin 3 → Nat :=
  let arg1 : BitVec 32 := BitVec.ofNat 32 (i 1).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg1 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v1243 : Index := Scalar.indexCast v21
  let c256_597 : Index := 256#32
  let c256_598 : Index := 256#32
  ![v1243.toNat, 256, 256]
def k0_off24 (i : grid0.Coords) : Fin 3 → Nat :=
  let arg1 : BitVec 32 := BitVec.ofNat 32 (i 1).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg1 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v1443 : Index := Scalar.indexCast v21
  let c384 : Index := 384#32
  let c0_692 : Index := 0#32
  ![v1443.toNat, 384, 0]
def k0_off25 (i : grid0.Coords) : Fin 3 → Nat :=
  let arg1 : BitVec 32 := BitVec.ofNat 32 (i 1).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg1 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v1641 : Index := Scalar.indexCast v21
  let c384_784 : Index := 384#32
  let c256_785 : Index := 256#32
  ![v1641.toNat, 384, 256]
def k0_off26 (i : grid0.Coords) : Fin 3 → Nat :=
  let arg1 : BitVec 32 := BitVec.ofNat 32 (i 1).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg1 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v1841 : Index := Scalar.indexCast v21
  let c512_878 : Index := 512#32
  let c0_879 : Index := 0#32
  ![v1841.toNat, 512, 0]
def k0_off27 (i : grid0.Coords) : Fin 3 → Nat :=
  let arg1 : BitVec 32 := BitVec.ofNat 32 (i 1).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg1 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v2039 : Index := Scalar.indexCast v21
  let c512_971 : Index := 512#32
  let c256_972 : Index := 256#32
  ![v2039.toNat, 512, 256]
def k0_off28 (i : grid0.Coords) : Fin 3 → Nat :=
  let arg1 : BitVec 32 := BitVec.ofNat 32 (i 1).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg1 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v2239 : Index := Scalar.indexCast v21
  let c640 : Index := 640#32
  let c0_1066 : Index := 0#32
  ![v2239.toNat, 640, 0]
def k0_off29 (i : grid0.Coords) : Fin 3 → Nat :=
  let arg1 : BitVec 32 := BitVec.ofNat 32 (i 1).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg1 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v2437 : Index := Scalar.indexCast v21
  let c640_1158 : Index := 640#32
  let c256_1159 : Index := 256#32
  ![v2437.toNat, 640, 256]
def k0_off30 (i : grid0.Coords) : Fin 3 → Nat :=
  let arg1 : BitVec 32 := BitVec.ofNat 32 (i 1).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg1 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v2637 : Index := Scalar.indexCast v21
  let c768_1252 : Index := 768#32
  let c0_1253 : Index := 0#32
  ![v2637.toNat, 768, 0]
def k0_off31 (i : grid0.Coords) : Fin 3 → Nat :=
  let arg1 : BitVec 32 := BitVec.ofNat 32 (i 1).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg1 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v2835 : Index := Scalar.indexCast v21
  let c768_1345 : Index := 768#32
  let c256_1346 : Index := 256#32
  ![v2835.toNat, 768, 256]
def k0_off32 (i : grid0.Coords) : Fin 3 → Nat :=
  let arg1 : BitVec 32 := BitVec.ofNat 32 (i 1).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg1 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v3035 : Index := Scalar.indexCast v21
  let c896 : Index := 896#32
  let c0_1440 : Index := 0#32
  ![v3035.toNat, 896, 0]
def k0_off33 (i : grid0.Coords) : Fin 3 → Nat :=
  let arg1 : BitVec 32 := BitVec.ofNat 32 (i 1).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg1 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v3233 : Index := Scalar.indexCast v21
  let c896_1532 : Index := 896#32
  let c256_1533 : Index := 256#32
  ![v3233.toNat, 896, 256]
def k0_cond2 (i : grid0.Coords) : BitVec 1 :=
  let arg1 : BitVec 32 := BitVec.ofNat 32 (i 1).val
  let c15_i32 : BitVec 32 := 15#32
  let v3257 : BitVec 1 := Scalar.cmpi .eq arg1 c15_i32
  let v3258 : BitVec 32 := Scalar.extui v3257
  let c0_i32_1550 : BitVec 32 := 0#32
  let v3259 : BitVec 1 := Scalar.cmpi .ne v3258 c0_i32_1550
  v3259

def k0_off34 (i : grid0.Coords) : Fin 3 → Nat :=
  let arg1 : BitVec 32 := BitVec.ofNat 32 (i 1).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg1 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v3260 : Index := Scalar.indexCast v21
  let c0_1551 : Index := 0#32
  let c0_1552 : Index := 0#32
  ![v3260.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let c0_i32_1 : BitVec 32 := 0#32
  let c0_i32_2 : BitVec 32 := 0#32
  ![c1_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c15_i32 : BitVec 32 := 15#32
  let c0_i32 : BitVec 32 := 0#32
  let c0_i32_0 : BitVec 32 := 0#32
  ![c1_i32.toNat, c15_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== PeerRefIdeal.lean ====
abbrev S1024x16384 : Shape := ⟨2, ![1024, 16384]⟩
abbrev S2x16384x1024 : Shape := ⟨3, ![2, 16384, 1024]⟩
abbrev S8x128x16384 : Shape := ⟨3, ![8, 128, 16384]⟩
abbrev S16384x1024 : Shape := ⟨2, ![16384, 1024]⟩
abbrev S8x1x1024 : Shape := ⟨3, ![8, 1, 1024]⟩
abbrev S1x1024 : Shape := ⟨2, ![1, 1024]⟩
abbrev S1x16384x1024 : Shape := ⟨3, ![1, 16384, 1024]⟩
abbrev S16384x16384 : Shape := ⟨2, ![16384, 16384]⟩
abbrev S_ : Shape := ⟨0, ![]⟩
abbrev S8x1x128x16384 : Shape := ⟨4, ![8, 1, 128, 16384]⟩
abbrev S8x128x1x16384 : Shape := ⟨4, ![8, 128, 1, 16384]⟩
abbrev S8x128x128x16384 : Shape := ⟨4, ![8, 128, 128, 16384]⟩
abbrev S128x128x16384 : Shape := ⟨3, ![128, 128, 16384]⟩
abbrev S8x2048x1024 : Shape := ⟨3, ![8, 2048, 1024]⟩
abbrev S16384 : Shape := ⟨1, ![16384]⟩
abbrev S16384x1 : Shape := ⟨2, ![16384, 1]⟩

abbrev nBuf : Space → Nat
  | .hbm => 71
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S2x16384x1024, .bf16⟩
  | .hbm, ⟨2, _⟩ => ⟨S2x16384x1024, .bf16⟩
  | .hbm, ⟨3, _⟩ => ⟨S8x128x16384, .bf16⟩
  | .hbm, ⟨4, _⟩ => ⟨S8x128x16384, .bf16⟩
  | .hbm, ⟨5, _⟩ => ⟨S8x128x16384, .f32⟩
  | .hbm, ⟨6, _⟩ => ⟨S8x128x16384, .f32⟩
  | .hbm, ⟨7, _⟩ => ⟨S16384x1024, .f32⟩
  | .hbm, ⟨8, _⟩ => ⟨S8x1x1024, .f32⟩
  | .hbm, ⟨9, _⟩ => ⟨S1x1024, .f32⟩
  | .hbm, ⟨10, _⟩ => ⟨S1x16384x1024, .bf16⟩
  | .hbm, ⟨11, _⟩ => ⟨S16384x1024, .bf16⟩
  | .hbm, ⟨12, _⟩ => ⟨S16384x1024, .f32⟩
  | .hbm, ⟨13, _⟩ => ⟨S1024x16384, .f32⟩
  | .hbm, ⟨14, _⟩ => ⟨S16384x16384, .f32⟩
  | .hbm, ⟨15, _⟩ => ⟨S_, .f32⟩
  | .hbm, ⟨16, _⟩ => ⟨S16384x16384, .f32⟩
  | .hbm, ⟨17, _⟩ => ⟨S16384x16384, .f32⟩
  | .hbm, ⟨18, _⟩ => ⟨S_, .f32⟩
  | .hbm, ⟨19, _⟩ => ⟨S16384x16384, .f32⟩
  | .hbm, ⟨20, _⟩ => ⟨S16384x16384, .f32⟩
  | .hbm, ⟨21, _⟩ => ⟨S16384x16384, .f32⟩
  | .hbm, ⟨22, _⟩ => ⟨S_, .f32⟩
  | .hbm, ⟨23, _⟩ => ⟨S16384x16384, .f32⟩
  | .hbm, ⟨24, _⟩ => ⟨S16384x16384, .f32⟩
  | .hbm, ⟨25, _⟩ => ⟨S16384x16384, .f32⟩
  | .hbm, ⟨26, _⟩ => ⟨S8x128x16384, .f32⟩
  | .hbm, ⟨27, _⟩ => ⟨S8x1x128x16384, .f32⟩
  | .hbm, ⟨28, _⟩ => ⟨S8x128x1x16384, .f32⟩
  | .hbm, ⟨29, _⟩ => ⟨S8x128x128x16384, .f32⟩
  | .hbm, ⟨30, _⟩ => ⟨S8x128x128x16384, .f32⟩
  | .hbm, ⟨31, _⟩ => ⟨S8x128x128x16384, .i1⟩
  | .hbm, ⟨32, _⟩ => ⟨S8x128x16384, .f32⟩
  | .hbm, ⟨33, _⟩ => ⟨S8x1x128x16384, .f32⟩
  | .hbm, ⟨34, _⟩ => ⟨S_, .i32⟩
  | .hbm, ⟨35, _⟩ => ⟨S_, .f32⟩
  | .hbm, ⟨36, _⟩ => ⟨S8x128x128x16384, .f32⟩
  | .hbm, ⟨37, _⟩ => ⟨S8x128x128x16384, .f32⟩
  | .hbm, ⟨38, _⟩ => ⟨S8x128x128x16384, .f32⟩
  | .hbm, ⟨39, _⟩ => ⟨S8x128x1x16384, .f32⟩
  | .hbm, ⟨40, _⟩ => ⟨S8x128x128x16384, .f32⟩
  | .hbm, ⟨41, _⟩ => ⟨S8x128x128x16384, .f32⟩
  | .hbm, ⟨42, _⟩ => ⟨S_, .f32⟩
  | .hbm, ⟨43, _⟩ => ⟨S128x128x16384, .f32⟩
  | .hbm, ⟨44, _⟩ => ⟨S16384x16384, .f32⟩
  | .hbm, ⟨45, _⟩ => ⟨S16384x16384, .f32⟩
  | .hbm, ⟨46, _⟩ => ⟨S16384x16384, .f32⟩
  | .hbm, ⟨47, _⟩ => ⟨S1x16384x1024, .bf16⟩
  | .hbm, ⟨48, _⟩ => ⟨S16384x1024, .bf16⟩
  | .hbm, ⟨49, _⟩ => ⟨S16384x1024, .f32⟩
  | .hbm, ⟨50, _⟩ => ⟨S16384x1024, .f32⟩
  | .hbm, ⟨51, _⟩ => ⟨S8x2048x1024, .f32⟩
  | .hbm, ⟨52, _⟩ => ⟨S8x2048x1024, .f32⟩
  | .hbm, ⟨53, _⟩ => ⟨S8x2048x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S16384x1, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]
-- ==== Proof.Attn.Spec.lean ====
module

public import Idealize.ShloMosaic.Lib.Pointwise

/-! Attention of one query over 640 keys with a sink, as the kernel orders it: the weighted sum of the values first, the division by
the sum of the exponentials last. -/

@[expose] public section

noncomputable section

namespace Cert.Attn

open Idealize.ShloMosaic

/-- The largest of the sink `b` and the 640 scores `s`. -/
def top (b : EReal) (s : Fin 640 → EReal) : EReal := max b (Finset.univ.fold max ⊥ s)

/-- The sum of the exponentials of the sink and of the scores, each less the largest. -/
def den (b : EReal) (s : Fin 640 → EReal) : EReal := Ideal.exp (b - top b s) + ∑ j, Ideal.exp (s j - top b s)

/-- The values `v` weighted by the exponentials of the scores, over the sum of the exponentials. -/
def soft (b : EReal) (s v : Fin 640 → EReal) : EReal := Ideal.div (∑ j, Ideal.exp (s j - top b s) * v j) (den b s)

/-- In query block `n`, query row `r` sees key `j` of the 640: the last 256 (the context) always, the first 384 (positions
    `128 (n - 1) + j`) where the position exists and is within 128 of the query's. -/
def Sees (n r j : ℕ) : Prop := 384 ≤ j ∨ (128 ≤ n * 128 + j ∧ n * 128 + j < 2176 ∧ r ≤ j ∧ j ≤ r + 256)

instance (n r j : ℕ) : Decidable (Sees n r j) := by unfold Sees; infer_instance

/-- An array of rank 3 of extended reals. -/
abbrev Arr (a b c : ℕ) : Type := (⟨3, ![a, b, c]⟩ : Shape).Idx → EReal

/-- The row the kernel loads for key `j` < 384 of query block `n`: the block before, the block itself or the block after, at an
    end of the array the end's block once more. -/
def near (n j : ℕ) : ℕ := if j < 128 then (n - 1) * 128 + j else if j < 256 then n * 128 + (j - 128) else min (n + 1) 15 * 128 + (j - 256)

theorem near_lt (n : Fin 16) (j : ℕ) (h : j < 384) : near n.val j < 2048 := by
  unfold near
  have hn := n.isLt
  split_ifs <;> omega

theorem near_eq (n j : ℕ) (h : j < 384) (h0 : 128 ≤ n * 128 + j) (h1 : n * 128 + j < 2176) : near n j = n * 128 + j - 128 := by
  unfold near
  split_ifs <;> omega

/-- Key `j` of the 640 as the kernel loads it, one column. -/
def keyOf (k : Arr 8 2048 128) (pc : Arr 8 256 2304) (b : Fin 8) (n : Fin 16) (j : Fin 640) (x : Fin 128) : EReal :=
  if h : j.val < 384 then k (ix3 b ⟨near n.val j.val, near_lt n j.val h⟩ x) else pc (ix3 b ⟨j.val - 384, by omega⟩ ⟨2048 + x.val, by omega⟩)

/-- Value `j` of the 640 as the kernel loads it, one column. -/
def valOf (p : Arr 8 2048 2304) (pc : Arr 8 256 2304) (b : Fin 8) (n : Fin 16) (j : Fin 640) (x : Fin 128) : EReal :=
  if h : j.val < 384 then p (ix3 b ⟨near n.val j.val, near_lt n j.val h⟩ ⟨2176 + x.val, by omega⟩)
  else pc (ix3 b ⟨j.val - 384, by omega⟩ ⟨2176 + x.val, by omega⟩)

/-- The score of query head `h` in row `r` of block `n` against key `j`. -/
def score (q : Arr 8 2048 512) (k : Arr 8 2048 128) (pc : Arr 8 256 2304) (b : Fin 8) (n : Fin 16) (r : Fin 128) (h : Fin 8) (j : Fin 640) : EReal :=
  if Sees n r j then ∑ e : Fin 64, q (ix3 b ⟨n.val * 128 + r.val, by omega⟩ ⟨h.val * 64 + e.val, by omega⟩)
    * keyOf k pc b n j ⟨h.val / 4 * 64 + e.val, by omega⟩ else ⊥

/-- The attention at row `r` of block `n`, head `h`, column `d`. -/
def att (q : Arr 8 2048 512) (k : Arr 8 2048 128) (p : Arr 8 2048 2304) (pc : Arr 8 256 2304) (s : (⟨1, ![8]⟩ : Shape).Idx → EReal)
    (b : Fin 8) (n : Fin 16) (r : Fin 128) (h : Fin 8) (d : Fin 64) : EReal :=
  soft (s (ix1 h)) (score q k pc b n r h) fun j => valOf p pc b n j ⟨h.val / 4 * 64 + d.val, by omega⟩

/-- The attention as one array. -/
def arr (q : Arr 8 2048 512) (k : Arr 8 2048 128) (p : Arr 8 2048 2304) (pc : Arr 8 256 2304) (s : (⟨1, ![8]⟩ : Shape).Idx → EReal) :
    Arr 8 2048 512 := fun i =>
  att q k p pc s (i 0) ⟨(i 1).val / 128, by have h : (i 1).val < 2048 := (i 1).isLt; omega⟩ ⟨(i 1).val % 128, by omega⟩
    ⟨(i 2).val / 64, by have h : (i 2).val < 512 := (i 2).isLt; omega⟩ ⟨(i 2).val % 64, by omega⟩

theorem arr_at (q : Arr 8 2048 512) (k : Arr 8 2048 128) (p : Arr 8 2048 2304) (pc : Arr 8 256 2304) (s : (⟨1, ![8]⟩ : Shape).Idx → EReal)
    (b : Fin 8) (n : Fin 16) (r : Fin 128) (h : Fin 8) (d : Fin 64) :
    arr q k p pc s (ix3 b ⟨n.val * 128 + r.val, by omega⟩ ⟨h.val * 64 + d.val, by omega⟩) = att q k p pc s b n r h d := by
  have e1 : (n.val * 128 + r.val) / 128 = n.val := by omega
  have e2 : (n.val * 128 + r.val) % 128 = r.val := by omega
  have e3 : (h.val * 64 + d.val) / 64 = h.val := by omega
  have e4 : (h.val * 64 + d.val) % 64 = d.val := by omega
  show att q k p pc s b ⟨(n.val * 128 + r.val) / 128, _⟩ ⟨(n.val * 128 + r.val) % 128, _⟩ ⟨(h.val * 64 + d.val) / 64, _⟩ ⟨(h.val * 64 + d.val) % 64, _⟩ = _
  congr 1 <;> exact Fin.ext (by assumption)

end Cert.Attn

end
-- ==== Proof.Attn.Half.lean ====
module

public import proofs.«01_k».proof.Proof.Gen.KernelIdeal.Skeleton
public import proofs.«01_k».proof.Proof.Attn.Spec
public import Idealize.ShloMosaic.Lib.Pointwise

/-! What the kernel's body computes for the four query heads of one key head, and its eight heads side by side. -/

@[expose] public section

set_option maxRecDepth 16384

noncomputable section

namespace Cert.KernelIdeal.Attn

open Cert.KernelIdeal Cert.KernelIdeal.Gen Idealize.ShloMosaic Idealize.ShloMosaic.TcCoe Idealize.SL.Sem

/-- The scores of 512 stacked queries against 640 keys, −∞ where the mask is off. -/
def scores (msk : IVec S512x640 1) (q : FVec Ideal S512x64 .bf16) (K : FVec Ideal S640x64 .bf16) : FVec Ideal S512x640 .f32 :=
  select msk (matmul dot_S512x64_S640x64_S512x640_1_1_0_0_n_n none q K (constant S512x640 .f32 0x00000000#32))
    (broadcast S512x640 (Named.named (F := Ideal) κ "mask" 0xF149F2CA#32))

/-- The largest of each row's scores and its sink. -/
def rowMax (b : FVec Ideal S512x1 .f32) (s : FVec Ideal S512x640 .f32) : FVec Ideal S512x1 .f32 :=
  maximumf b (shapeCast S512x1 (multiReduction .maximumf [1] S512 s 0xFF800000#32 reduces_S512x640_S512 (.inl rfl) rfl) shapeCasts_S512_S512x1)

/-- The exponentials of the scores less their row's largest. -/
def exps (b : FVec Ideal S512x1 .f32) (s : FVec Ideal S512x640 .f32) : FVec Ideal S512x640 .f32 :=
  exp (subf s (broadcastTo S512x640 (rowMax b s) broadcasts_S512x1_S512x640))

/-- Each row's sum of exponentials, its sink's among them. -/
def rowSum (b : FVec Ideal S512x1 .f32) (s : FVec Ideal S512x640 .f32) : FVec Ideal S512x1 .f32 :=
  addf (exp (subf b (rowMax b s)))
    (shapeCast S512x1 (multiReduction .add [1] S512 (exps b s) 0x00000000#32 reduces_S512x640_S512 (.inl rfl) rfl) shapeCasts_S512_S512x1)

/-- The attention of 512 stacked queries over 640 keys and values. -/
def half (msk : IVec S512x640 1) (q : FVec Ideal S512x64 .bf16) (b : FVec Ideal S512x1 .f32) (K V : FVec Ideal S640x64 .bf16) :
    FVec Ideal S512x64 .f32 :=
  divf (matmul dot_S512x640_S640x64_S512x64_1_0_0_1_n_n none (truncf .bf16 (exps b (scores msk q K)) bitsLt_bf16_f32) V
      (constant S512x64 .f32 0x00000000#32))
    (broadcastTo S512x64 (rowSum b (scores msk q K)) broadcasts_S512x1_S512x64)

theorem scores_at (msk : IVec S512x640 1) (q : FVec Ideal S512x64 .bf16) (K : FVec Ideal S640x64 .bf16) (p : Fin 512) (j : Fin 640) :
    scores msk q K (ix2 p j) = if msk (ix2 p j) = 1#1 then ∑ d : Fin 64, q (ix2 p d) * K (ix2 j d) else ⊥ := by
  pointwise [scores]
  rfl

theorem rowMax_at (b : FVec Ideal S512x1 .f32) (s : FVec Ideal S512x640 .f32) (p : Fin 512) :
    rowMax b s (ix2 p 0) = Cert.Attn.top (b (ix2 p 0)) fun j => s (ix2 p j) := by
  pointwise [rowMax, Cert.Attn.top]
  rw [show Ideal.ofBits .f32 0xFF800000#32 = (⊥ : EReal) from by simp [Ideal.ofBits, Ideal.ieee]]

theorem half_at (msk : IVec S512x640 1) (q : FVec Ideal S512x64 .bf16) (b : FVec Ideal S512x1 .f32) (K V : FVec Ideal S640x64 .bf16)
    (p : Fin 512) (d : Fin 64) :
    half msk q b K V (ix2 p d) = Cert.Attn.soft (b (ix2 p 0)) (fun j => scores msk q K (ix2 p j)) fun j => V (ix2 j d) := by
  pointwise [half, rowSum, exps, Cert.Attn.soft, Cert.Attn.den]
  simp only [rowMax_at]

/-- The eight heads of two halves side by side: each half's four heads are its four runs of 128 rows. -/
def cols (x y : FVec Ideal S512x64 .f32) : FVec Ideal S128x512 .f32 :=
  concatenate S128x512 1
    [⟨S128x64, extractStridedSlice S128x64 ![0, 0] x slices_S512x64_o0_0_S128x64⟩,
     ⟨S128x64, extractStridedSlice S128x64 ![128, 0] x slices_S512x64_o128_0_S128x64⟩,
     ⟨S128x64, extractStridedSlice S128x64 ![256, 0] x slices_S512x64_o256_0_S128x64⟩,
     ⟨S128x64, extractStridedSlice S128x64 ![384, 0] x slices_S512x64_o384_0_S128x64⟩,
     ⟨S128x64, extractStridedSlice S128x64 ![0, 0] y slices_S512x64_o0_0_S128x64⟩,
     ⟨S128x64, extractStridedSlice S128x64 ![128, 0] y slices_S512x64_o128_0_S128x64⟩,
     ⟨S128x64, extractStridedSlice S128x64 ![256, 0] y slices_S512x64_o256_0_S128x64⟩,
     ⟨S128x64, extractStridedSlice S128x64 ![384, 0] y slices_S512x64_o384_0_S128x64⟩]
    concatenates_S128x64_S128x64_S128x64_S128x64_S128x64_S128x64_S128x64_S128x64_S128x512_d1

theorem cols_at (x y : FVec Ideal S512x64 .f32) (r : Fin 128) (h : Fin 8) (d : Fin 64) :
    cols x y (ix2 r ⟨h.val * 64 + d.val, by omega⟩)
      = if h.val < 4 then x (ix2 ⟨h.val % 4 * 128 + r.val, by omega⟩ d) else y (ix2 ⟨h.val % 4 * 128 + r.val, by omega⟩ d) := by
  have hd := d.isLt
  fin_cases h
  all_goals
    pointwise [cols]
    try simp (disch := omega) only [dif_pos, dif_neg]
    try (congr 2; ext; simp only [Nat.reduceMul]; omega)

/-- The body's payload is the two halves' heads side by side. -/
theorem pay18_eq (KA VA : FVec Ideal S640x128 .bf16) (msk : IVec S512x640 1) (q0 q1 : FVec Ideal S512x64 .bf16) (b0 : FVec Ideal S512x1 .f32)
    (K0 V0 : FVec Ideal S640x64 .bf16) (b4 b5 b6 b7 : FVec Ideal S128x1 .f32) :
    k0_pay18 KA VA msk q0 b0 K0 V0 q1 b4 b5 b6 b7 = cols (half msk q0 b0 K0 V0) (half msk q1
        (concatenate S512x1 0 [⟨S128x1, b4⟩, ⟨S128x1, b5⟩, ⟨S128x1, b6⟩, ⟨S128x1, b7⟩] concatenates_S128x1_S128x1_S128x1_S128x1_S512x1_d0)
        (extractStridedSlice S640x64 ![0, 64] KA slices_S640x128_o0_64_S640x64)
        (extractStridedSlice S640x64 ![0, 64] VA slices_S640x128_o0_64_S640x64)) := rfl

end Cert.KernelIdeal.Attn

end
-- ==== Proof.Attn.Words.lean ====
module

public import Idealize.ShloMosaic.Lib.Pointwise
public import Idealize.ShloMosaic.Lib.Affine
public import proofs.«01_k».proof.Proof.Attn.Spec

/-! The body's mask in 32-bit words says what `Sees` says in numbers. -/

@[expose] public section

noncomputable section

namespace Cert.Attn

open Idealize.ShloMosaic

/-- The position of key `j` in words: `(n - 1) * 128 + j`. -/
theorem pos_toInt (n : Fin 16) (j : Fin 640) :
    (IntOp.addi (Scalar.muli (Scalar.subi (BitVec.ofNat 32 n) 1#32) 128#32) (BitVec.ofNat 32 j)).toInt = (n.val : ℤ) * 128 - 128 + j.val := by
  have hn := n.isLt
  have hj := j.isLt
  rw [BitVec.toInt_eq_toNat_cond]
  simp only [IntOp.addi, Scalar.muli, Scalar.subi, IntOp.muli, IntOp.subi, BitVec.toNat_add, BitVec.toNat_mul, BitVec.toNat_sub, BitVec.toNat_ofNat]
  omega

/-- The distance in words: `r + 128 - j`. -/
theorem dist_toInt (r : Fin 128) (j : Fin 640) :
    (IntOp.subi (IntOp.addi (BitVec.ofNat 32 r) 128#32) (BitVec.ofNat 32 j)).toInt = (r.val : ℤ) + 128 - j.val := by
  have hn := r.isLt
  have hj := j.isLt
  rw [BitVec.toInt_eq_toNat_cond]
  simp only [IntOp.addi, IntOp.subi, BitVec.toNat_add, BitVec.toNat_sub, BitVec.toNat_ofNat]
  omega

theorem ofNat_toInt (j : Fin 640) : (BitVec.ofNat 32 j.val).toInt = j.val := by
  have hj := j.isLt
  rw [BitVec.toInt_eq_toNat_cond]
  simp only [BitVec.toNat_ofNat]
  omega

theorem sees_iff (n : Fin 16) (r : Fin 128) (j : Fin 640) :
    IntOp.ori (IntOp.cmpi .sge (BitVec.ofNat 32 ↑j) 384#32)
      (IntOp.andi
        (IntOp.andi
          (IntOp.andi
            (IntOp.cmpi .sge (IntOp.addi (Scalar.muli (Scalar.subi (BitVec.ofNat 32 ↑n) 1#32) 128#32) (BitVec.ofNat 32 ↑j)) 0#32)
            (IntOp.cmpi .slt (IntOp.addi (Scalar.muli (Scalar.subi (BitVec.ofNat 32 ↑n) 1#32) 128#32) (BitVec.ofNat 32 ↑j)) 2048#32))
          (IntOp.cmpi .sle (IntOp.subi (IntOp.addi (BitVec.ofNat 32 ↑r) 128#32) (BitVec.ofNat 32 ↑j)) 128#32))
        (IntOp.cmpi .sge (IntOp.subi (IntOp.addi (BitVec.ofNat 32 ↑r) 128#32) (BitVec.ofNat 32 ↑j)) 4294967168#32)) = 1#1
      ↔ Sees n r j := by
  rw [IntOp.ori_eq_one, IntOp.andi_eq_one, IntOp.andi_eq_one, IntOp.andi_eq_one, IntOp.cmpi_sge, IntOp.cmpi_sge, IntOp.cmpi_slt, IntOp.cmpi_sle,
    IntOp.cmpi_sge, pos_toInt, dist_toInt, ofNat_toInt]
  have e0 : (0#32).toInt = 0 := by decide
  have e1 : (384#32).toInt = 384 := by decide
  have e2 : (2048#32).toInt = 2048 := by decide
  have e3 : (128#32).toInt = 128 := by decide
  have e4 : (4294967168#32).toInt = -128 := by decide
  rw [e0, e1, e2, e3, e4]
  unfold Sees
  omega

/-- The reference's distance in words: `128 + r - j`, its absolute value. -/
theorem absdist_toInt (n : Fin 16) (r : Fin 128) (j : Fin 384) :
    (IntOp.absi (IntOp.subi (IntOp.addi (IntOp.muli (BitVec.ofNat 32 n) 128#32) (BitVec.ofNat 32 r))
      (IntOp.addi (IntOp.subi (IntOp.muli (BitVec.ofNat 32 n) 128#32) 128#32) (BitVec.ofNat 32 j)))).toInt = |(r.val : ℤ) + 128 - j.val| := by
  have hn := n.isLt
  have hr := r.isLt
  have hj := j.isLt
  have e : (IntOp.subi (IntOp.addi (IntOp.muli (BitVec.ofNat 32 n) 128#32) (BitVec.ofNat 32 r))
      (IntOp.addi (IntOp.subi (IntOp.muli (BitVec.ofNat 32 n) 128#32) 128#32) (BitVec.ofNat 32 j))).toInt = (r.val : ℤ) + 128 - j.val := by
    rw [BitVec.toInt_eq_toNat_cond]
    simp only [IntOp.addi, IntOp.subi, IntOp.muli, BitVec.toNat_add, BitVec.toNat_mul, BitVec.toNat_sub, BitVec.toNat_ofNat]
    omega
  generalize IntOp.subi _ _ = x at e ⊢
  rw [show IntOp.absi x = x.abs from rfl, BitVec.toInt_abs_eq_natAbs, e, Int.natCast_natAbs]
  refine if_neg fun h => ?_
  rw [h] at e
  have : (BitVec.intMin 32).toInt = -2147483648 := by decide
  omega

/-- The reference's mask over its 384 keys. -/
theorem band_iff (n : Fin 16) (r : Fin 128) (j : Fin 384) :
    IntOp.andi
        (IntOp.andi
          (IntOp.cmpi .sge (IntOp.addi (IntOp.subi (IntOp.muli (BitVec.ofNat 32 ↑n) 128#32) 128#32) (BitVec.ofNat 32 ↑j)) 0#32)
          (IntOp.cmpi .slt (IntOp.addi (IntOp.subi (IntOp.muli (BitVec.ofNat 32 ↑n) 128#32) 128#32) (BitVec.ofNat 32 ↑j)) 2048#32))
        (IntOp.cmpi .sle
          (IntOp.absi
            (IntOp.subi (IntOp.addi (IntOp.muli (BitVec.ofNat 32 ↑n) 128#32) (BitVec.ofNat 32 ↑r))
              (IntOp.addi (IntOp.subi (IntOp.muli (BitVec.ofNat 32 ↑n) 128#32) 128#32) (BitVec.ofNat 32 ↑j))))
          128#32) = 1#1
      ↔ Sees n r j := by
  have hn := n.isLt
  have hj := j.isLt
  have e : (IntOp.addi (IntOp.subi (IntOp.muli (BitVec.ofNat 32 n) 128#32) 128#32) (BitVec.ofNat 32 j)).toInt = (n.val : ℤ) * 128 - 128 + j.val := by
    rw [BitVec.toInt_eq_toNat_cond]
    simp only [IntOp.addi, IntOp.subi, IntOp.muli, BitVec.toNat_add, BitVec.toNat_mul, BitVec.toNat_sub, BitVec.toNat_ofNat]
    omega
  rw [IntOp.andi_eq_one, IntOp.andi_eq_one, IntOp.cmpi_sge, IntOp.cmpi_slt, IntOp.cmpi_sle, absdist_toInt, e, abs_le]
  have e0 : (0#32).toInt = 0 := by decide
  have e2 : (2048#32).toInt = 2048 := by decide
  have e3 : (128#32).toInt = 128 := by decide
  rw [e0, e2, e3]
  unfold Sees
  omega

end Cert.Attn

end
-- ==== Proof.Attn.Block.lean ====
module

public import proofs.«01_k».proof.Proof.Attn.Half
public import proofs.«01_k».proof.Proof.Attn.Words

/-! What the kernel's body stores at a row, a head and a column of the block, over the blocks it loads. -/

@[expose] public section

set_option maxRecDepth 16384

noncomputable section

namespace Cert.KernelIdeal.Attn

open Cert.KernelIdeal Cert.KernelIdeal.Gen Idealize.ShloMosaic Idealize.ShloMosaic.TcCoe Idealize.SL.Sem

/-- The body's mask over one head's 128 rows. -/
def mask (i : grid0.Coords) : IVec S512x640 1 :=
  k0_pay7 (iota Kind.tc S128x640 32 [1] iota_S128x640_d1_w32) (k0_pay4 i) k0_pay5 k0_pay6

theorem mask_at (i : grid0.Coords) (n : Fin 16) (hn : (i 1).val = n.val) (g : Fin 4) (r : Fin 128) (j : Fin 640) :
    mask i (ix2 ⟨g.val * 128 + r.val, by omega⟩ j) = 1#1 ↔ Cert.Attn.Sees n r j := by
  have hr := r.isLt
  refine Iff.trans (iff_of_eq (congrArg (· = 1#1) ?_)) (Cert.Attn.sees_iff n r j)
  fin_cases g
  all_goals
    pointwise [mask, k0_pay4, k0_pay5, k0_pay6, k0_pay7, hn]
  · simp (disch := omega) only [dif_pos, dif_neg, show 256 + r.val - 128 - 128 = r.val by omega]
  · simp (disch := omega) only [dif_pos, dif_neg, show 384 + r.val - 128 - 128 - 128 = r.val by omega]

/-- One head's row: the attention of its query over the 640 keys and values. -/
def row (i : grid0.Coords) (ρ : Fin 512) (h : Fin 2) (q : Fin 64 → EReal) (b : EReal) (KA VA : FVec Ideal S640x128 .bf16) (d : Fin 64) : EReal :=
  Cert.Attn.soft b
    (fun j => if mask i (ix2 ρ j) = 1#1 then ∑ e : Fin 64, q e * KA (ix2 j ⟨h.val * 64 + e.val, by omega⟩) else ⊥)
    fun j => VA (ix2 j ⟨h.val * 64 + d.val, by omega⟩)

theorem body_at (i : grid0.Coords) (KA VA : FVec Ideal S640x128 .bf16) (x1 : FVec Ideal S1x128x512 .bf16) (b : Fin 8 → EReal)
    (r : Fin 128) (h : Fin 8) (d : Fin 64) :
    k0_pay1 (k0_pay18 KA VA (mask i) (k0_pay9 x1) (k0_pay10 (b 0) (b 1) (b 2) (b 3)) (k0_pay11 KA) (k0_pay12 VA) (k0_pay13 x1)
        (k0_pay14 (b 4)) (k0_pay15 (b 5)) (k0_pay16 (b 6)) (k0_pay17 (b 7))) (ix3 0 r ⟨h.val * 64 + d.val, by omega⟩)
      = row i ⟨(h.val % 4) * 128 + r.val, by omega⟩ ⟨h.val / 4, by omega⟩ (fun e => x1 (ix3 0 r ⟨h.val * 64 + e.val, by omega⟩)) (b h) KA VA d := by
  rw [pay18_eq]
  have hd := d.isLt
  have hr := r.isLt
  pointwise [k0_pay1]
  rw [cols_at]
  fin_cases h
  all_goals
    simp only [Nat.reduceLT, ↓reduceIte]
    rw [half_at]
    simp only [scores_at]
    unfold row
    pointwise [k0_pay8, k0_pay9, k0_pay10, k0_pay11, k0_pay12, k0_pay13, k0_pay14, k0_pay15, k0_pay16, k0_pay17]
    try simp (disch := omega) only [dif_pos, dif_neg, show 128 + r.val - 128 = r.val by omega,
      show 256 + r.val - 128 - 128 = r.val by omega, show 384 + r.val - 128 - 128 - 128 = r.val by omega]

end Cert.KernelIdeal.Attn

end
-- ==== Proof.Attn.Array.lean ====
module

public import proofs.«01_k».proof.Proof.Attn.Block
public import proofs.«01_k».proof.Proof.Gen.KernelIdeal.Value
public import Idealize.ShloMosaic.Lib.Pipeline.ValueKit

/-! The array the kernel leaves: the attention at every row, head and column. -/

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Each window's block at a grid point, and the point's second coordinate. -/
theorem idx : ∀ t : Fin cfg0.N, win0_0.index t = ![0] ∧ win0_1.index t = ![t.val / 16, t.val % 16, 0]
    ∧ win0_2.index t = ![t.val / 16, t.val % 16 - 1, 0] ∧ win0_3.index t = ![t.val / 16, t.val % 16, 0]
    ∧ win0_4.index t = ![t.val / 16, min (t.val % 16 + 1) 15, 0]
    ∧ win0_5.index t = ![t.val / 16, t.val % 16 - 1, 17] ∧ win0_6.index t = ![t.val / 16, t.val % 16, 17]
    ∧ win0_7.index t = ![t.val / 16, min (t.val % 16 + 1) 15, 17]
    ∧ win0_8.index t = ![t.val / 16, 0, 16] ∧ win0_9.index t = ![t.val / 16, 0, 17]
    ∧ win0_10.index t = ![t.val / 16, t.val % 16, 0] ∧ t.val / 16 < 8 ∧ (grid0.coords t 1).val = t.val % 16 :=
  (by decide +kernel : ∀ t : Fin grid0.N, _)

theorem blk1 (c : Dev nD) (t : Fin cfg0.N) (r : Fin 128) (d : Fin 512) :
    iblk m c 1 t (ix3 0 r d) = m ((c.tc : Thread nD τ).loc main_arg0) (ix3 ⟨t.val / 16, (idx t).2.2.2.2.2.2.2.2.2.2.2.1⟩ ⟨t.val % 16 * 128 + r.val, by omega⟩ d) := by
  blk_point [iblk, V, idx t]

theorem blk2 (c : Dev nD) (t : Fin cfg0.N) (r : Fin 128) (d : Fin 128) :
    iblk m c 2 t (ix3 0 r d) = m ((c.tc : Thread nD τ).loc main_arg1) (ix3 ⟨t.val / 16, (idx t).2.2.2.2.2.2.2.2.2.2.2.1⟩ ⟨(t.val % 16 - 1) * 128 + r.val, by omega⟩ d) := by
  blk_point [iblk, V, idx t]

theorem blk3 (c : Dev nD) (t : Fin cfg0.N) (r : Fin 128) (d : Fin 128) :
    iblk m c 3 t (ix3 0 r d) = m ((c.tc : Thread nD τ).loc main_arg1) (ix3 ⟨t.val / 16, (idx t).2.2.2.2.2.2.2.2.2.2.2.1⟩ ⟨t.val % 16 * 128 + r.val, by omega⟩ d) := by
  blk_point [iblk, V, idx t]

theorem blk4 (c : Dev nD) (t : Fin cfg0.N) (r : Fin 128) (d : Fin 128) :
    iblk m c 4 t (ix3 0 r d) = m ((c.tc : Thread nD τ).loc main_arg1) (ix3 ⟨t.val / 16, (idx t).2.2.2.2.2.2.2.2.2.2.2.1⟩ ⟨min (t.val % 16 + 1) 15 * 128 + r.val, by omega⟩ d) := by
  blk_point [iblk, V, idx t]

theorem blk5 (c : Dev nD) (t : Fin cfg0.N) (r : Fin 128) (d : Fin 128) :
    iblk m c 5 t (ix3 0 r d) = m ((c.tc : Thread nD τ).loc main_arg2) (ix3 ⟨t.val / 16, (idx t).2.2.2.2.2.2.2.2.2.2.2.1⟩ ⟨(t.val % 16 - 1) * 128 + r.val, by omega⟩ ⟨2176 + d.val, by omega⟩) := by
  blk_point [iblk, V, idx t]

theorem blk6 (c : Dev nD) (t : Fin cfg0.N) (r : Fin 128) (d : Fin 128) :
    iblk m c 6 t (ix3 0 r d) = m ((c.tc : Thread nD τ).loc main_arg2) (ix3 ⟨t.val / 16, (idx t).2.2.2.2.2.2.2.2.2.2.2.1⟩ ⟨t.val % 16 * 128 + r.val, by omega⟩ ⟨2176 + d.val, by omega⟩) := by
  blk_point [iblk, V, idx t]

theorem blk7 (c : Dev nD) (t : Fin cfg0.N) (r : Fin 128) (d : Fin 128) :
    iblk m c 7 t (ix3 0 r d) = m ((c.tc : Thread nD τ).loc main_arg2) (ix3 ⟨t.val / 16, (idx t).2.2.2.2.2.2.2.2.2.2.2.1⟩ ⟨min (t.val % 16 + 1) 15 * 128 + r.val, by omega⟩ ⟨2176 + d.val, by omega⟩) := by
  blk_point [iblk, V, idx t]

theorem blk8 (c : Dev nD) (t : Fin cfg0.N) (r : Fin 256) (d : Fin 128) :
    iblk m c 8 t (ix3 0 r d) = m ((c.tc : Thread nD τ).loc main_arg3) (ix3 ⟨t.val / 16, (idx t).2.2.2.2.2.2.2.2.2.2.2.1⟩ r ⟨2048 + d.val, by omega⟩) := by
  blk_point [iblk, V, idx t]

theorem blk9 (c : Dev nD) (t : Fin cfg0.N) (r : Fin 256) (d : Fin 128) :
    iblk m c 9 t (ix3 0 r d) = m ((c.tc : Thread nD τ).loc main_arg3) (ix3 ⟨t.val / 16, (idx t).2.2.2.2.2.2.2.2.2.2.2.1⟩ r ⟨2176 + d.val, by omega⟩) := by
  blk_point [iblk, V, idx t]

theorem blk0 (c : Dev nD) (t : Fin cfg0.N) (h : Fin 8) : iblk m c 0 t (ix1 h) = m ((c.tc : Thread nD τ).loc main_arg4) (ix1 h) := by
  blk_point [iblk, V, idx t]

/-- The 640 keys over the loaded blocks. -/
theorem pay2_at (x0 x1 x2 : FVec Ideal S1x128x128 .bf16) (x3 : FVec Ideal S1x256x128 .f32) (j : Fin 640) (x : Fin 128) :
    k0_pay2 (F := Ideal) x0 x1 x2 x3 (ix2 j x) = (if h : j.val < 128 then x0 (ix3 0 ⟨j, h⟩ x) else if h : j.val - 128 < 128 then x1 (ix3 0 ⟨j - 128, h⟩ x)
      else if h : j.val - 128 - 128 < 128 then x2 (ix3 0 ⟨j - 128 - 128, h⟩ x) else x3 (ix3 0 ⟨j - 128 - 128 - 128, by omega⟩ x) : EReal) := by
  pointwise [k0_pay2]

/-- The 640 keys of a grid point. -/
theorem keys_at (c : Dev nD) (t : Fin cfg0.N) (j : Fin 640) (x : Fin 128) :
    k0_pay2 (iblk m c 2 t) (iblk m c 3 t) (iblk m c 4 t) (iblk m c 8 t) (ix2 j x)
      = Cert.Attn.keyOf (m ((c.tc : Thread nD τ).loc main_arg1)) (m ((c.tc : Thread nD τ).loc main_arg3)) ⟨t.val / 16, (idx t).2.2.2.2.2.2.2.2.2.2.2.1⟩ ⟨t.val % 16, by omega⟩ j x := by
  rw [pay2_at]
  unfold Cert.Attn.keyOf
  have hj := j.isLt
  by_cases h0 : j.val < 128
  · rw [dif_pos h0, dif_pos (by omega), blk2]
    congr 2
    exact Fin.ext (by simp only [Cert.Attn.near, if_pos h0])
  · rw [dif_neg h0]
    by_cases h1 : j.val - 128 < 128
    · rw [dif_pos h1, dif_pos (by omega), blk3]
      congr 2
      exact Fin.ext (by simp only [Cert.Attn.near, if_neg h0, if_pos (show j.val < 256 by omega)])
    · rw [dif_neg h1]
      by_cases h2 : j.val - 128 - 128 < 128
      · rw [dif_pos h2, dif_pos (by omega), blk4]
        congr 2
        exact Fin.ext (by simp only [Cert.Attn.near, if_neg h0, if_neg (show ¬ j.val < 256 by omega)]; omega)
      · rw [dif_neg h2, dif_neg (by omega), blk8]
        congr 2

/-- The 640 vals over the loaded blocks. -/
theorem pay3_at (x0 x1 x2 : FVec Ideal S1x128x128 .f32) (x3 : FVec Ideal S1x256x128 .f32) (j : Fin 640) (x : Fin 128) :
    k0_pay3 (F := Ideal) x0 x1 x2 x3 (ix2 j x) = (if h : j.val < 128 then x0 (ix3 0 ⟨j, h⟩ x) else if h : j.val - 128 < 128 then x1 (ix3 0 ⟨j - 128, h⟩ x)
      else if h : j.val - 128 - 128 < 128 then x2 (ix3 0 ⟨j - 128 - 128, h⟩ x) else x3 (ix3 0 ⟨j - 128 - 128 - 128, by omega⟩ x) : EReal) := by
  pointwise [k0_pay3]

/-- The 640 vals of a grid point. -/
theorem vals_at (c : Dev nD) (t : Fin cfg0.N) (j : Fin 640) (x : Fin 128) :
    k0_pay3 (iblk m c 5 t) (iblk m c 6 t) (iblk m c 7 t) (iblk m c 9 t) (ix2 j x)
      = Cert.Attn.valOf (m ((c.tc : Thread nD τ).loc main_arg2)) (m ((c.tc : Thread nD τ).loc main_arg3)) ⟨t.val / 16, (idx t).2.2.2.2.2.2.2.2.2.2.2.1⟩ ⟨t.val % 16, by omega⟩ j x := by
  rw [pay3_at]
  unfold Cert.Attn.valOf
  have hj := j.isLt
  by_cases h0 : j.val < 128
  · rw [dif_pos h0, dif_pos (by omega), blk5]
    congr 2
    exact Fin.ext (by simp only [Cert.Attn.near, if_pos h0])
  · rw [dif_neg h0]
    by_cases h1 : j.val - 128 < 128
    · rw [dif_pos h1, dif_pos (by omega), blk6]
      congr 2
      exact Fin.ext (by simp only [Cert.Attn.near, if_neg h0, if_pos (show j.val < 256 by omega)])
    · rw [dif_neg h1]
      by_cases h2 : j.val - 128 - 128 < 128
      · rw [dif_pos h2, dif_pos (by omega), blk7]
        congr 2
        exact Fin.ext (by simp only [Cert.Attn.near, if_neg h0, if_neg (show ¬ j.val < 256 by omega)]; omega)
      · rw [dif_neg h2, dif_neg (by omega), blk9]
        congr 2

/-- A load of one number. -/
theorem ld_at (X : S8.Idx → Elt Ideal .f32) (k : ℕ) (hk : k < 8) (h : ∀ a, (![k] : Fin 1 → ℕ) a + (![1] : Fin 1 → ℕ) a ≤ S8.size a)
    (hf : 0 < (Rect.unit (s := S8) ![k] ![1] h).toLoadRect.shape.numel) :
    View.ld X (Rect.unit (s := S8) ![k] ![1] h) (Shape.Idx.first hf) = X (ix1 ⟨k, hk⟩) := by
  refine congrArg X (funext fun a => ?_)
  fin_cases a
  exact Fin.ext (by simp [LoadRect.idx, Rect.unit, Shape.Idx.first])

/-- An index of a result block by row, head and column. -/
theorem split_at (y : S1x128x512.Idx) : ∃ (r : Fin 128) (h : Fin 8) (d : Fin 64), y = ix3 0 r ⟨h.val * 64 + d.val, by omega⟩ := by
  have y1 : (y 1).val < 128 := (y 1).isLt
  have y2 : (y 2).val < 512 := (y 2).isLt
  refine ⟨⟨(y 1).val, y1⟩, ⟨(y 2).val / 64, by omega⟩, ⟨(y 2).val % 64, by omega⟩, ?_⟩
  blk_ext

/-- The array after the run. -/
theorem fin (c : Dev nD) : (dats m 0 c).arrAt 10 cfg0.N = Cert.Attn.arr (m ((c.tc : Thread nD τ).loc main_arg0))
    (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 10 _ (by decide +kernel) fun t hf y => ?_
  blk_simp
  rw [after0_10]
  simp only [outsAt0]
  frame_out
  obtain ⟨r, h, d, hy⟩ := split_at y
  subst hy
  have hemb : (((View.whole main_v0).slice (win0_10.rect t)).emb (ix3 0 r ⟨h.val * 64 + d.val, by omega⟩))
      = ix3 ⟨t.val / 16, (idx t).2.2.2.2.2.2.2.2.2.2.2.1⟩ ⟨t.val % 16 * 128 + r.val, by omega⟩ ⟨h.val * 64 + d.val, by omega⟩ := by
    blk_ext [idx t]
  rw [hemb]
  refine Eq.trans ?_ (Cert.Attn.arr_at _ _ _ _ _ ⟨t.val / 16, (idx t).2.2.2.2.2.2.2.2.2.2.2.1⟩ ⟨t.val % 16, by omega⟩ r h d).symm
  rw [ld_at _ 0 (by omega), ld_at _ 1 (by omega), ld_at _ 2 (by omega), ld_at _ 3 (by omega), ld_at _ 4 (by omega), ld_at _ 5 (by omega), ld_at _ 6 (by omega), ld_at _ 7 (by omega)]
  refine (body_at (grid0.coords t) _ _ _ (fun h => iblk m c 0 t (ix1 h)) r h d).trans ?_
  unfold row Cert.Attn.att
  have hm : ∀ j : Fin 640, mask (grid0.coords t) (ix2 ⟨h.val % 4 * 128 + r.val, by omega⟩ j) = 1#1 ↔ Cert.Attn.Sees (t.val % 16) r j := fun j =>
    mask_at (grid0.coords t) ⟨t.val % 16, by omega⟩ (idx t).2.2.2.2.2.2.2.2.2.2.2.2 ⟨h.val % 4, by omega⟩ r j
  simp only [blk0, blk1, keys_at, vals_at, hm]
  rfl

end Cert.KernelIdeal.Attn

end
-- ==== Proof.Attn.Ref.lean ====
module

public import proofs.«01_k».proof.Proof.Gen.ReferenceIdeal.Run
public import Idealize.ShloMosaic.Lib.Tactic.CleanTypes
public import Idealize.ShloMosaic.Lib.Pointwise

/-! The arrays the reference goes through, each by its own name. -/

@[expose] public section

set_option maxRecDepth 16384

noncomputable section

namespace Cert.ReferenceIdeal.Attn

open Cert.ReferenceIdeal Cert.ReferenceIdeal.Gen Idealize.ShloMosaic Idealize.ShloMosaic.TcCoe Idealize.SL.Sem

/-- The three neighbouring blocks of 128 rows side by side, zero rows beyond the ends. -/
def band (Y : FVec Ideal S8x2048x2x64 .f32) : FVec Ideal S8x16x384x2x64 .f32 :=
  let T : FVec Ideal S8x18x128x2x64 .f32 := shapeCast S8x18x128x2x64
    (pad S8x2304x2x64 ![0, 128, 0, 0] ![0, 128, 0, 0] ![0, 0, 0, 0] Y (sitofp .f32 (constantI S_ 32 0#32)) pads_S8x2048x2x64_S8x2304x2x64_000_1281280_000_000 h_S_)
    shapeCasts_S8x2304x2x64_S8x18x128x2x64
  concatenate S8x16x384x2x64 2
    [⟨S8x16x128x2x64, extractStridedSlice S8x16x128x2x64 ![0, 0, 0, 0, 0] T slices_S8x18x128x2x64_S8x16x128x2x64_0_0_0_0_0⟩,
     ⟨S8x16x128x2x64, extractStridedSlice S8x16x128x2x64 ![0, 1, 0, 0, 0] T slices_S8x18x128x2x64_S8x16x128x2x64_0_1_0_0_0⟩,
     ⟨S8x16x128x2x64, extractStridedSlice S8x16x128x2x64 ![0, 2, 0, 0, 0] T slices_S8x18x128x2x64_S8x16x128x2x64_0_2_0_0_0⟩]
    concatenates_S8x16x128x2x64_S8x16x128x2x64_S8x16x128x2x64_S8x16x384x2x64_d2

/-- The positions of the 384 keys of each query block. -/
def kpos : IVec S16x1x384 32 :=
  addi (broadcastInDim S16x1x384 ![0, 1, 2] bcast_S16x1x1_S16x1x384_0_1_2
      (subi (muli (broadcastInDim S16x1x1 ![0] bcast_S16_S16x1x1_0 (iotaInDim S16 32 0)) (broadcastInDim S16x1x1 ![] bcast_S_S16x1x1 (constantI S_ 32 128#32)))
        (broadcastInDim S16x1x1 ![] bcast_S_S16x1x1 (constantI S_ 32 128#32))))
    (broadcastInDim S16x1x384 ![0, 1, 2] bcast_S1x1x384_S16x1x384_0_1_2 (broadcastInDim S1x1x384 ![2] bcast_S384_S1x1x384_2 (iotaInDim S384 32 0)))

/-- The positions of the 128 queries of each query block. -/
def qpos : IVec S16x128x1 32 :=
  addi (broadcastInDim S16x128x1 ![0, 1, 2] bcast_S16x1x1_S16x128x1_0_1_2
      (muli (broadcastInDim S16x1x1 ![0] bcast_S16_S16x1x1_0 (iotaInDim S16 32 0)) (broadcastInDim S16x1x1 ![] bcast_S_S16x1x1 (constantI S_ 32 128#32))))
    (broadcastInDim S16x128x1 ![0, 1, 2] bcast_S1x128x1_S16x128x1_0_1_2 (broadcastInDim S1x128x1 ![1] bcast_S128_S1x128x1_1 (iotaInDim S128 32 0)))

/-- Which of its 384 keys a query sees. -/
def mask : IVec S16x128x384 1 :=
  andi (broadcastInDim S16x128x384 ![0, 1, 2] bcast_S16x1x384_S16x128x384_0_1_2
      (andi (cmpi .sge kpos (broadcastInDim S16x1x384 ![] bcast_S_S16x1x384 (constantI S_ 32 0#32)))
        (cmpi .slt kpos (broadcastInDim S16x1x384 ![] bcast_S_S16x1x384 (constantI S_ 32 2048#32)))))
    (cmpi .sle (absi (subi (broadcastInDim S16x128x384 ![0, 1, 2] bcast_S16x128x1_S16x128x384_0_1_2 qpos)
        (broadcastInDim S16x128x384 ![0, 1, 2] bcast_S16x1x384_S16x128x384_0_1_2 kpos)))
      (broadcastInDim S16x128x384 ![] bcast_S_S16x128x384 (constantI S_ 32 128#32)))

/-- The scores against the band's keys, −∞ where the mask is off. -/
def sWin (Q : FVec Ideal S8x16x128x2x4x64 .f32) (K : FVec Ideal S8x16x384x2x64 .f32) : FVec Ideal S8x16x2x4x128x384 .f32 :=
  select (broadcastInDim S8x16x2x4x128x384 ![0, 1, 2, 3, 4, 5] bcast_S1x16x1x1x128x384_S8x16x2x4x128x384_0_1_2_3_4_5
      (broadcastInDim S1x16x1x1x128x384 ![1, 4, 5] bcast_S16x128x384_S1x16x1x1x128x384_1_4_5 mask))
    (transpose S8x16x2x4x128x384 [0, 1, 2, 5, 4, 3] (Host.dotGeneral dot_S8x16x384x2x64_S8x16x128x2x4x64_S8x16x2x384x128x4_4_5_2_24_013_013 none K Q)
      transposes_S8x16x2x384x128x4_S8x16x2x4x128x384_0_1_2_5_4_3)
    (broadcastInDim S8x16x2x4x128x384 ![] bcast_S_S8x16x2x4x128x384 (constant (F := Ideal) S_ .f32 0xFF800000#32))

/-- The scores against the context's keys. -/
def sCtx (Q : FVec Ideal S8x16x128x2x4x64 .f32) (C : FVec Ideal S8x256x2x64 .f32) : FVec Ideal S8x16x2x4x128x256 .f32 :=
  transpose S8x16x2x4x128x256 [0, 3, 1, 5, 4, 2] (Host.dotGeneral dot_S8x256x2x64_S8x16x128x2x4x64_S8x2x256x16x128x4_3_5_1_124_02_03 none C Q)
    transposes_S8x2x256x16x128x4_S8x16x2x4x128x256_0_3_1_5_4_2

/-- The sink, the band's scores and the context's scores side by side. -/
def sAll (B : FVec Ideal S8 .f32) (sw : FVec Ideal S8x16x2x4x128x384 .f32) (sc : FVec Ideal S8x16x2x4x128x256 .f32) : FVec Ideal S8x16x2x4x128x641 .f32 :=
  concatenate S8x16x2x4x128x641 5
    [⟨S8x16x2x4x128x1, broadcastInDim S8x16x2x4x128x1 ![0, 1, 2, 3, 4, 5] bcast_S1x1x2x4x1x1_S8x16x2x4x128x1_0_1_2_3_4_5
        (broadcastInDim S1x1x2x4x1x1 ![2, 3] bcast_S2x4_S1x1x2x4x1x1_2_3 (shapeCast S2x4 B shapeCasts_S8_S2x4))⟩,
     ⟨S8x16x2x4x128x384, sw⟩, ⟨S8x16x2x4x128x256, sc⟩]
    concatenates_S8x16x2x4x128x1_S8x16x2x4x128x384_S8x16x2x4x128x256_S8x16x2x4x128x641_d5

/-- Each row's largest score. -/
def rmax (s : FVec Ideal S8x16x2x4x128x641 .f32) : FVec Ideal S8x16x2x4x128 .f32 :=
  maximumf (broadcastInDim S8x16x2x4x128 ![] bcast_S_S8x16x2x4x128 (constant (F := Ideal) S_ .f32 0xFF800000#32))
    (Host.reduce FloatOps.maximumf s (constant (F := Ideal) S_ .f32 0xFF800000#32) reducesTo_S8x16x2x4x128x641_S8x16x2x4x128_d5 h_S_)

/-- A row's number at each of its 641 places. -/
def spread (x : FVec Ideal S8x16x2x4x128 .f32) : FVec Ideal S8x16x2x4x128x641 .f32 :=
  broadcastInDim S8x16x2x4x128x641 ![0, 1, 2, 3, 4, 5] bcast_S8x16x2x4x128x1_S8x16x2x4x128x641_0_1_2_3_4_5
    (broadcastInDim S8x16x2x4x128x1 ![0, 1, 2, 3, 4] bcast_S8x16x2x4x128_S8x16x2x4x128x1_0_1_2_3_4 x)

/-- The exponentials of the scores less their row's largest. -/
def exps (s : FVec Ideal S8x16x2x4x128x641 .f32) : FVec Ideal S8x16x2x4x128x641 .f32 := Host.exp (subf s (spread (rmax s)))

/-- Each row's sum. -/
def rsum (e : FVec Ideal S8x16x2x4x128x641 .f32) : FVec Ideal S8x16x2x4x128 .f32 :=
  Host.reduceAdd e (constant (F := Ideal) S_ .f32 0x00000000#32) reducesTo_S8x16x2x4x128x641_S8x16x2x4x128_d5 h_S_

/-- The softmax. -/
def probs (s : FVec Ideal S8x16x2x4x128x641 .f32) : FVec Ideal S8x16x2x4x128x641 .f32 := Host.divf (exps s) (spread (rsum (exps s)))

/-- The values weighted by the probabilities. -/
def mix (p : FVec Ideal S8x16x2x4x128x641 .f32) (V : FVec Ideal S8x16x384x2x64 .f32) (C : FVec Ideal S8x256x2x64 .f32) : FVec Ideal S8x16x128x2x4x64 .f32 :=
  addf
    (transpose S8x16x128x2x4x64 [0, 1, 5, 2, 4, 3]
      (Host.dotGeneral dot_S8x16x384x2x64_S8x16x2x4x128x384_S8x16x2x64x4x128_2_5_4_34_013_012 none V
        (extractStridedSlice S8x16x2x4x128x384 ![0, 0, 0, 0, 0, 1] p slices_S8x16x2x4x128x641_S8x16x2x4x128x384_0_0_0_0_0_1))
      transposes_S8x16x2x64x4x128_S8x16x128x2x4x64_0_1_5_2_4_3)
    (transpose S8x16x128x2x4x64 [0, 3, 5, 1, 4, 2]
      (Host.dotGeneral dot_S8x256x2x64_S8x16x2x4x128x256_S8x2x64x16x4x128_1_5_3_134_02_02 none C
        (extractStridedSlice S8x16x2x4x128x256 ![0, 0, 0, 0, 0, 385] p slices_S8x16x2x4x128x641_S8x16x2x4x128x256_0_0_0_0_0_385))
      transposes_S8x2x64x16x4x128_S8x16x128x2x4x64_0_3_5_1_4_2)

def qh (q : FVec Ideal S8x2048x512 .bf16) : FVec Ideal S8x16x128x2x4x64 .f32 :=
  shapeCast S8x16x128x2x4x64 (extf .f32 q bitsLt_bf16_f32) shapeCasts_S8x2048x512_S8x16x128x2x4x64

def kh (k : FVec Ideal S8x2048x128 .bf16) : FVec Ideal S8x2048x2x64 .f32 :=
  shapeCast S8x2048x2x64 (extf .f32 k bitsLt_bf16_f32) shapeCasts_S8x2048x128_S8x2048x2x64

def vh (p : FVec Ideal S8x2048x2304 .f32) : FVec Ideal S8x2048x2x64 .f32 :=
  shapeCast S8x2048x2x64 (extractStridedSlice S8x2048x128 ![0, 0, 2176] p slices_S8x2048x2304_S8x2048x128_0_0_2176) shapeCasts_S8x2048x128_S8x2048x2x64

def kc (p : FVec Ideal S8x256x2304 .f32) : FVec Ideal S8x256x2x64 .f32 :=
  shapeCast S8x256x2x64 (extractStridedSlice S8x256x128 ![0, 0, 2048] p slices_S8x256x2304_S8x256x128_0_0_2048) shapeCasts_S8x256x128_S8x256x2x64

def vc (p : FVec Ideal S8x256x2304 .f32) : FVec Ideal S8x256x2x64 .f32 :=
  shapeCast S8x256x2x64 (extractStridedSlice S8x256x128 ![0, 0, 2176] p slices_S8x256x2304_S8x256x128_0_0_2176) shapeCasts_S8x256x128_S8x256x2x64

/-- The reference's result over its arguments. -/
def out (q : FVec Ideal S8x2048x512 .bf16) (k : FVec Ideal S8x2048x128 .bf16) (p : FVec Ideal S8x2048x2304 .f32) (pc : FVec Ideal S8x256x2304 .f32)
    (b : FVec Ideal S8 .f32) : FVec Ideal S8x2048x512 .f32 :=
  shapeCast S8x2048x512 (mix (probs (sAll b (sWin (qh q) (band (kh k))) (sCtx (qh q) (kc pc)))) (band (vh p)) (vc pc)) shapeCasts_S8x16x128x2x4x64_S8x2048x512

set_option maxHeartbeats 2000000 in
theorem res_eq (m : (ℓ : Loc nD τ sig) → Buf (Elt Ideal) ℓ) (c : Dev nD) :
    Value.res_main_v83 (F := Ideal) m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v83
  simp only [out, mix, probs, rsum, exps, spread, rmax, sAll, sCtx, sWin, mask, qpos, kpos, band, qh, kh, vh, kc, vc]
  rfl

end Cert.ReferenceIdeal.Attn

end
-- ==== Proof.Attn.RefAt.lean ====
module

public import proofs.«01_k».proof.Proof.Attn.Ref
public import proofs.«01_k».proof.Proof.Attn.Words

/-! The reference's arrays at an index. -/

@[expose] public section

set_option maxRecDepth 16384

noncomputable section

namespace Cert.ReferenceIdeal.Attn

open Cert.ReferenceIdeal Cert.ReferenceIdeal.Gen Idealize.ShloMosaic Idealize.ShloMosaic.TcCoe Idealize.SL.Sem

/-- −∞'s word. -/
theorem ninf : Ideal.ofBits .f32 0xFF800000#32 = (⊥ : EReal) := by simp [Ideal.ofBits, Ideal.ieee]

theorem band_at (Y : FVec Ideal S8x2048x2x64 .f32) (b : Fin 8) (n : Fin 16) (j : Fin 384) (h : Fin 2) (d : Fin 64) :
    band Y (ix5 b n j h d) = if hj : 128 ≤ n.val * 128 + j.val ∧ n.val * 128 + j.val < 2176 then Y (ix4 b ⟨n.val * 128 + j.val - 128, by omega⟩ h d) else 0 := by
  have hz : FloatOps.sitofp (F := Ideal) .f32 0#32 = (0 : EReal) := by
    show ((((0#32).toInt : ℝ)) : EReal) = 0
    simp
  pointwise [band]
  simp only [hz]
  have key : ∀ (u : ℕ) (p : Prop) [Decidable p] (hu : p → u < 2048), u = n.val * 128 + j.val - 128 → (p ↔ (128 ≤ n.val * 128 + j.val ∧ n.val * 128 + j.val < 2176)) →
      (if hp : p then Y (ix4 b ⟨u, hu hp⟩ h d) else 0)
        = if hj : 128 ≤ n.val * 128 + j.val ∧ n.val * 128 + j.val < 2176 then Y (ix4 b ⟨n.val * 128 + j.val - 128, by omega⟩ h d) else 0 := by
    intro u p _ hu e hp
    subst e
    by_cases h1 : p
    · rw [dif_pos h1, dif_pos (hp.mp h1)]
    · rw [dif_neg h1, dif_neg (fun h2 => h1 (hp.mpr h2))]
  have hn := n.isLt
  have hj := j.isLt
  by_cases h1 : j.val < 128
  · rw [dif_pos h1]
    exact key _ _ _ (by omega) (by omega)
  · rw [dif_neg h1]
    by_cases h2 : j.val - 128 < 128
    · rw [dif_pos h2]
      exact key _ _ _ (by omega) (by omega)
    · rw [dif_neg h2]
      exact key _ _ _ (by omega) (by omega)

theorem mask_at (n : Fin 16) (r : Fin 128) (j : Fin 384) : mask (ix3 n r j) = 1#1 ↔ Cert.Attn.Sees n r j := by
  pointwise [mask, kpos, qpos]
  exact Cert.Attn.band_iff n r j

theorem sWin_at (Q : FVec Ideal S8x16x128x2x4x64 .f32) (K : FVec Ideal S8x16x384x2x64 .f32) (b : Fin 8) (n : Fin 16) (h : Fin 2) (g : Fin 4)
    (r : Fin 128) (j : Fin 384) :
    sWin Q K (ix6 b n h g r j) = if mask (ix3 n r j) = 1#1 then ∑ e : Fin 64, K (ix5 b n j h e) * Q (ix6 b n r h g e) else ⊥ := by
  pointwise [sWin]
  rw [ninf]
  rfl

theorem sCtx_at (Q : FVec Ideal S8x16x128x2x4x64 .f32) (C : FVec Ideal S8x256x2x64 .f32) (b : Fin 8) (n : Fin 16) (h : Fin 2) (g : Fin 4)
    (r : Fin 128) (j : Fin 256) :
    sCtx Q C (ix6 b n h g r j) = ∑ e : Fin 64, C (ix4 b j h e) * Q (ix6 b n r h g e) := by
  pointwise [sCtx]

/-- At rank 6 the indices that drop to an index along the last axis. -/
theorem drop_iff {n0 n1 n2 n3 n4 n5 : ℕ} (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro hi
    have q := fun z => congrFun hi z
    refine ⟨i 5, funext fun z => ?_⟩
    fin_cases z
    · exact (q 0).symm
    · exact (q 1).symm
    · exact (q 2).symm
    · exact (q 3).symm
    · exact (q 4).symm
    · rfl
  · rintro ⟨k, rfl⟩
    funext z
    fin_cases z <;> rfl

theorem reduce_max {n0 n1 n2 n3 n4 n5 : ℕ} (s : FVec Ideal ⟨6, ![n0, n1, n2, n3, n4, n5]⟩ .f32) (z : FVec Ideal S_ .f32)
    (h : (⟨6, ![n0, n1, n2, n3, n4, n5]⟩ : Shape).ReducesTo [5] ⟨5, ![n0, n1, n2, n3, n4]⟩) (hu : 0 < S_.numel)
    (a : Fin n0) (b : Fin n1) (c : Fin n2) (d : Fin n3) (e : Fin n4) :
    Host.reduce (FloatOps.maximumf (F := Ideal) (φ := .f32)) s z h hu (ix5 a b c d e)
      = Finset.univ.fold max (z (Shape.Idx.first hu)) fun k : Fin n5 => s (ix6 a b c d e k) :=
  (Host.reduce_eq_fold (max : EReal → EReal → EReal) s z h hu (ix5 a b c d e)).trans
    (Finset.fold_filter_eq_fold_of_fiber max _ (fun k : Fin n5 => ix6 a b c d e k) (fun _ _ e => congrFun e 5) (drop_iff h a b c d e) _ _)

theorem max_at {S : Shape} (x y : FVec Ideal S .f32) (i : S.Idx) : maximumf x y i = max (x i) (y i) := rfl

theorem bcast_at (i : S8x16x2x4x128.Idx) : broadcastInDim S8x16x2x4x128 ![] bcast_S_S8x16x2x4x128 (constant (F := Ideal) S_ .f32 0xFF800000#32) i = (⊥ : EReal) :=
  (show _ = Ideal.ofBits .f32 0xFF800000#32 from rfl).trans ninf

theorem rmax_at (s : FVec Ideal S8x16x2x4x128x641 .f32) (b : Fin 8) (n : Fin 16) (h : Fin 2) (g : Fin 4) (r : Fin 128) :
    rmax s (ix5 b n h g r) = max ⊥ (Finset.univ.fold max ⊥ fun j : Fin 641 => s (ix6 b n h g r j)) := by
  have hz : ∀ i, constant (F := Ideal) S_ .f32 0xFF800000#32 i = (⊥ : EReal) := fun i => (show _ = Ideal.ofBits .f32 0xFF800000#32 from rfl).trans ninf
  unfold rmax
  rw [max_at, bcast_at, reduce_max, hz]

theorem rsum_at (s : FVec Ideal S8x16x2x4x128x641 .f32) (b : Fin 8) (n : Fin 16) (h : Fin 2) (g : Fin 4) (r : Fin 128) :
    rsum s (ix5 b n h g r) = ∑ j : Fin 641, s (ix6 b n h g r j) := by
  pointwise [rsum]
  unfold Ideal.hostReduceAdd
  rw [zero_add]
  exact Finset.sum_filter_eq_sum_of_fiber _ (fun k : Fin 641 => ix6 b n h g r k) (fun _ _ e => congrFun e 5) (drop_iff _ b n h g r) s

theorem spread_at (x : FVec Ideal S8x16x2x4x128 .f32) (b : Fin 8) (n : Fin 16) (h : Fin 2) (g : Fin 4) (r : Fin 128) (j : Fin 641) :
    spread x (ix6 b n h g r j) = x (ix5 b n h g r) := by
  pointwise [spread]

theorem exps_at (s : FVec Ideal S8x16x2x4x128x641 .f32) (b : Fin 8) (n : Fin 16) (h : Fin 2) (g : Fin 4) (r : Fin 128) (j : Fin 641) :
    exps s (ix6 b n h g r j) = Ideal.exp (s (ix6 b n h g r j) - rmax s (ix5 b n h g r)) := by
  pointwise [exps]
  rw [spread_at]

theorem probs_at (s : FVec Ideal S8x16x2x4x128x641 .f32) (b : Fin 8) (n : Fin 16) (h : Fin 2) (g : Fin 4) (r : Fin 128) (j : Fin 641) :
    probs s (ix6 b n h g r j) = Ideal.div (exps s (ix6 b n h g r j)) (∑ k : Fin 641, exps s (ix6 b n h g r k)) := by
  pointwise [probs]
  rw [spread_at, rsum_at]

theorem sAll_0 (B : FVec Ideal S8 .f32) (sw : FVec Ideal S8x16x2x4x128x384 .f32) (sc : FVec Ideal S8x16x2x4x128x256 .f32) (b : Fin 8) (n : Fin 16) (h : Fin 2) (g : Fin 4)
    (r : Fin 128) : sAll B sw sc (ix6 b n h g r 0) = B (ix1 ⟨h.val * 4 + g.val, by omega⟩) := by
  pointwise [sAll]

theorem sAll_1 (B : FVec Ideal S8 .f32) (sw : FVec Ideal S8x16x2x4x128x384 .f32) (sc : FVec Ideal S8x16x2x4x128x256 .f32) (b : Fin 8) (n : Fin 16) (h : Fin 2) (g : Fin 4)
    (r : Fin 128) (j : Fin 384) : sAll B sw sc (ix6 b n h g r ⟨1 + j.val, by omega⟩) = sw (ix6 b n h g r j) := by
  pointwise [sAll]

theorem sAll_2 (B : FVec Ideal S8 .f32) (sw : FVec Ideal S8x16x2x4x128x384 .f32) (sc : FVec Ideal S8x16x2x4x128x256 .f32) (b : Fin 8) (n : Fin 16) (h : Fin 2) (g : Fin 4)
    (r : Fin 128) (j : Fin 256) : sAll B sw sc (ix6 b n h g r ⟨385 + j.val, by omega⟩) = sc (ix6 b n h g r j) := by
  have hj := j.isLt
  pointwise [sAll]
  rw [dif_neg (by omega), dif_neg (by omega)]
  congr 2
  ext
  simp only
  omega

theorem mix_at (p : FVec Ideal S8x16x2x4x128x641 .f32) (V : FVec Ideal S8x16x384x2x64 .f32) (C : FVec Ideal S8x256x2x64 .f32)
    (b : Fin 8) (n : Fin 16) (r : Fin 128) (h : Fin 2) (g : Fin 4) (d : Fin 64) :
    mix p V C (ix6 b n r h g d) = (∑ j : Fin 384, V (ix5 b n j h d) * p (ix6 b n h g r ⟨1 + j.val, by omega⟩))
      + ∑ j : Fin 256, C (ix4 b j h d) * p (ix6 b n h g r ⟨385 + j.val, by omega⟩) := by
  pointwise [mix]

theorem qh_at (q : FVec Ideal S8x2048x512 .bf16) (b : Fin 8) (n : Fin 16) (r : Fin 128) (h : Fin 2) (g : Fin 4) (d : Fin 64) :
    qh q (ix6 b n r h g d) = q (ix3 b ⟨n.val * 128 + r.val, by omega⟩ ⟨(h.val * 4 + g.val) * 64 + d.val, by omega⟩) := by
  pointwise [qh]
  congr 2
  ext
  simp only
  omega

theorem kh_at (k : FVec Ideal S8x2048x128 .bf16) (b : Fin 8) (t : Fin 2048) (h : Fin 2) (d : Fin 64) :
    kh k (ix4 b t h d) = k (ix3 b t ⟨h.val * 64 + d.val, by omega⟩) := by
  pointwise [kh]

theorem vh_at (p : FVec Ideal S8x2048x2304 .f32) (b : Fin 8) (t : Fin 2048) (h : Fin 2) (d : Fin 64) :
    vh p (ix4 b t h d) = p (ix3 b t ⟨2176 + (h.val * 64 + d.val), by omega⟩) := by
  pointwise [vh]

theorem kc_at (p : FVec Ideal S8x256x2304 .f32) (b : Fin 8) (t : Fin 256) (h : Fin 2) (d : Fin 64) :
    kc p (ix4 b t h d) = p (ix3 b t ⟨2048 + (h.val * 64 + d.val), by omega⟩) := by
  pointwise [kc]

theorem vc_at (p : FVec Ideal S8x256x2304 .f32) (b : Fin 8) (t : Fin 256) (h : Fin 2) (d : Fin 64) :
    vc p (ix4 b t h d) = p (ix3 b t ⟨2176 + (h.val * 64 + d.val), by omega⟩) := by
  pointwise [vc]

theorem flat_at (X : FVec Ideal S8x16x128x2x4x64 .f32) (b : Fin 8) (n : Fin 16) (r : Fin 128) (h : Fin 8) (d : Fin 64) :
    shapeCast S8x2048x512 X shapeCasts_S8x16x128x2x4x64_S8x2048x512 (ix3 b ⟨n.val * 128 + r.val, by omega⟩ ⟨h.val * 64 + d.val, by omega⟩)
      = X (ix6 b n r ⟨h.val / 4, by omega⟩ ⟨h.val % 4, by omega⟩ d) := by
  have e1 : (h.val * 64 + d.val) / 256 = h.val / 4 := by omega
  have e2 : (h.val * 64 + d.val) / 64 % 4 = h.val % 4 := by omega
  pointwise
  simp only [e1, e2]

end Cert.ReferenceIdeal.Attn

end
-- ==== Proof.Attn.Softmax.lean ====
module

public import proofs.«01_k».proof.Proof.Attn.Spec

/-! Where the largest score is a real number, dividing the weighted sum by the sum of the exponentials is weighting by the quotients. -/

@[expose] public section

noncomputable section

namespace Cert.Attn

open Idealize.ShloMosaic

theorem fold_max_eq {n : ℕ} (s : Fin n → EReal) : Finset.univ.fold max ⊥ s = Finset.univ.sup s := by
  rw [Finset.sup_def, Finset.fold, Multiset.sup]

theorem le_top_sink (b : EReal) (s : Fin 640 → EReal) : b ≤ top b s := le_max_left _ _

theorem le_top (b : EReal) (s : Fin 640 → EReal) (j : Fin 640) : s j ≤ top b s := by
  refine le_trans ?_ (le_max_right _ _)
  rw [fold_max_eq]
  exact Finset.le_sup (f := s) (Finset.mem_univ j)

theorem top_ne_top (b : EReal) (s : Fin 640 → EReal) (hb : b ≠ ⊤) (hs : ∀ j, s j ≠ ⊤) : top b s ≠ ⊤ := by
  unfold top
  rw [fold_max_eq, ← lt_top_iff_ne_top, max_lt_iff]
  refine ⟨lt_top_iff_ne_top.mpr hb, ?_⟩
  rw [Finset.sup_lt_iff (by exact bot_lt_top)]
  exact fun j _ => lt_top_iff_ne_top.mpr (hs j)

/-- An exponential of a number that isn't above a real one, less it, is a real number from 0 up. -/
theorem exp_sub_real (x : EReal) (M : ℝ) (h : x ≤ (M : EReal)) : ∃ e : ℝ, 0 ≤ e ∧ Ideal.exp (x - (M : EReal)) = (e : EReal) := by
  induction x with
  | bot => exact ⟨0, le_refl _, by rw [EReal.bot_sub]; rfl⟩
  | top => exact absurd (top_le_iff.mp h) (EReal.coe_ne_top M)
  | coe a => exact ⟨Real.exp (a - M), (Real.exp_pos _).le, by rw [← EReal.coe_sub]; rfl⟩

theorem coe_sum {n : ℕ} (f : Fin n → ℝ) : ((∑ j, f j : ℝ) : EReal) = ∑ j, (f j : EReal) := by
  induction n with
  | zero => simp
  | succ n ih => rw [Fin.sum_univ_succ, Fin.sum_univ_succ, EReal.coe_add, ih]

theorem sum_mul_coe {n : ℕ} (f : Fin n → EReal) (c : ℝ) (hc : 0 ≤ c) : (∑ j, f j) * (c : EReal) = ∑ j, f j * (c : EReal) := by
  induction n with
  | zero => simp
  | succ n ih => rw [Fin.sum_univ_succ, Fin.sum_univ_succ, EReal.right_distrib_of_nonneg_of_ne_top (EReal.coe_nonneg.mpr hc) (EReal.coe_ne_top c), ih]

/-- With a real largest score the sum of the exponentials is a positive real number. -/
theorem den_real (b : EReal) (s : Fin 640 → EReal) (M : ℝ) (hM : top b s = (M : EReal)) : ∃ D : ℝ, 0 < D ∧ den b s = (D : EReal) := by
  obtain ⟨e0, h0, h0'⟩ := exp_sub_real b M (hM ▸ le_top_sink b s)
  choose e he he' using fun j => exp_sub_real (s j) M (hM ▸ le_top b s j)
  refine ⟨e0 + ∑ j, e j, ?_, ?_⟩
  · have hat : top b s = b ∨ ∃ j, top b s = s j := by
      unfold top
      rw [fold_max_eq]
      rcases max_choice b (Finset.univ.sup s) with h | h
      · exact .inl h
      · right
        obtain ⟨j, -, hj⟩ := Finset.exists_mem_eq_sup (Finset.univ : Finset (Fin 640)) ⟨0, Finset.mem_univ 0⟩ s
        exact ⟨j, h.trans hj⟩
    have hone : Ideal.exp ((M : EReal) - (M : EReal)) = ((1 : ℝ) : EReal) := by
      rw [← EReal.coe_sub, sub_self]
      show ((Real.exp 0 : ℝ) : EReal) = _
      rw [Real.exp_zero]
    rcases hat with h | ⟨j, h⟩
    · rw [← h, hM, hone] at h0'
      have : e0 = 1 := (EReal.coe_injective h0').symm
      have := Finset.sum_nonneg fun j (_ : j ∈ Finset.univ) => he j
      linarith
    · have hj := he' j
      rw [← h, hM, hone] at hj
      have h1 : e j = 1 := (EReal.coe_injective hj).symm
      have := Finset.single_le_sum (fun j _ => he j) (Finset.mem_univ j)
      linarith
  · unfold den
    rw [hM, h0', Finset.sum_congr rfl fun j _ => he' j, EReal.coe_add, coe_sum]

theorem div_coe (x : EReal) (D : ℝ) (hD : 0 < D) : Ideal.div x (D : EReal) = x * ((D⁻¹ : ℝ) : EReal) := by
  unfold Ideal.div
  rw [if_neg (by exact_mod_cast hD.ne'), EReal.coe_inv]

/-- The weighted sum over the sum of exponentials is the sum weighted by the quotients. -/
theorem soft_eq (b : EReal) (s v : Fin 640 → EReal) (M : ℝ) (hM : top b s = (M : EReal)) :
    soft b s v = ∑ j, v j * Ideal.div (Ideal.exp (s j - top b s)) (den b s) := by
  obtain ⟨D, hD, hD'⟩ := den_real b s M hM
  unfold soft
  rw [hD', div_coe _ D hD, sum_mul_coe _ _ (inv_pos.mpr hD).le]
  refine Finset.sum_congr rfl fun j _ => ?_
  rw [div_coe _ D hD, mul_comm (Ideal.exp _), mul_assoc]

/-- Values met with the score −∞ do not count. -/
theorem soft_congr (b : EReal) (s v w : Fin 640 → EReal) (M : ℝ) (hM : top b s = (M : EReal)) (h : ∀ j, s j ≠ ⊥ → v j = w j) :
    soft b s v = soft b s w := by
  unfold soft
  congr 1
  refine Finset.sum_congr rfl fun j _ => ?_
  by_cases hj : s j = ⊥
  · have h0 : Ideal.exp (s j - top b s) = 0 := by rw [hj, EReal.bot_sub]; rfl
    rw [h0, zero_mul, zero_mul]
  · rw [h j hj]

theorem top_real (b : EReal) (s : Fin 640 → EReal) (hb : b ≠ ⊤) (hs : ∀ j, s j ≠ ⊤) (j : Fin 640) (hj : s j ≠ ⊥) : ∃ M : ℝ, top b s = (M : EReal) := by
  refine ⟨(top b s).toReal, (EReal.coe_toReal (top_ne_top b s hb hs) fun h => hj ?_).symm⟩
  exact le_bot_iff.mp (h ▸ le_top b s j)

end Cert.Attn

end
-- ==== Proof.Attn.Equal.lean ====
module

public import proofs.«01_k».proof.Proof.Attn.RefAt
public import proofs.«01_k».proof.Proof.Attn.Softmax

/-! The reference's array is the attention array, where queries, keys and the context's keys are real and no sink is +∞. -/

@[expose] public section

set_option maxRecDepth 16384

noncomputable section

namespace Cert.ReferenceIdeal.Attn

open Cert.ReferenceIdeal Cert.ReferenceIdeal.Gen Idealize.ShloMosaic Idealize.ShloMosaic.TcCoe Idealize.SL.Sem
open Cert.Attn

variable (q : FVec Ideal S8x2048x512 .bf16) (k : FVec Ideal S8x2048x128 .bf16) (p : FVec Ideal S8x2048x2304 .f32) (pc : FVec Ideal S8x256x2304 .f32)
  (s : FVec Ideal S8 .f32)

/-- The reference's 641 scores. -/
abbrev sc : FVec Ideal S8x16x2x4x128x641 .f32 := sAll s (sWin (qh q) (band (kh k))) (sCtx (qh q) (kc pc))

theorem dot_real {n : ℕ} (x y : Fin n → EReal) (hx : ∀ e, ∃ a : ℝ, x e = (a : EReal)) (hy : ∀ e, ∃ a : ℝ, y e = (a : EReal)) :
    ∃ a : ℝ, ∑ e, x e * y e = (a : EReal) := by
  choose a ha using hx
  choose c hc using hy
  refine ⟨∑ e, a e * c e, ?_⟩
  rw [coe_sum]
  exact Finset.sum_congr rfl fun e _ => by rw [ha, hc, EReal.coe_mul]

theorem key_real (hk : ∀ i, ∃ a : ℝ, k i = (a : EReal)) (hc : ∀ i, ∃ a : ℝ, pc i = (a : EReal)) (b : Fin 8) (n : Fin 16) (j : Fin 640) (x : Fin 128) :
    ∃ a : ℝ, keyOf k pc b n j x = (a : EReal) := by
  unfold keyOf
  split_ifs
  · exact hk _
  · exact hc _

theorem out_sc : out q k p pc s = shapeCast S8x2048x512 (mix (probs (sc q k pc s)) (band (vh p)) (vc pc)) shapeCasts_S8x16x128x2x4x64_S8x2048x512 := rfl

/-- A head's sink. -/
theorem sc_0 (b : Fin 8) (n : Fin 16) (r : Fin 128) (h : Fin 8) :
    sc q k pc s (ix6 b n ⟨h.val / 4, by omega⟩ ⟨h.val % 4, by omega⟩ r 0) = s (ix1 h) := by
  unfold sc
  rw [sAll_0]
  congr 2
  exact Fin.ext (by simp only; omega)

/-- A head's scores. -/
theorem sc_succ (b : Fin 8) (n : Fin 16) (r : Fin 128) (h : Fin 8) (j : Fin 640) :
    sc q k pc s (ix6 b n ⟨h.val / 4, by omega⟩ ⟨h.val % 4, by omega⟩ r j.succ) = score q k pc b n r h j := by
  have hn := n.isLt
  have eh : ∀ e : Fin 64, (⟨(h.val / 4 * 4 + h.val % 4) * 64 + e.val, by omega⟩ : Fin 512) = ⟨h.val * 64 + e.val, by omega⟩ := fun e => Fin.ext (by simp only; omega)
  by_cases hj : j.val < 384
  · have e : j.succ = (⟨1 + (⟨j.val, hj⟩ : Fin 384).val, by omega⟩ : Fin 641) := Fin.ext (by simp [Nat.add_comm])
    unfold sc
    rw [e, sAll_1, sWin_at]
    unfold score
    by_cases hs : Sees n r j
    · rw [if_pos ((mask_at n r ⟨j.val, hj⟩).mpr hs), if_pos hs]
      refine Finset.sum_congr rfl fun e _ => ?_
      have hp : 128 ≤ n.val * 128 + j.val ∧ n.val * 128 + j.val < 2176 := by unfold Sees at hs; omega
      rw [band_at, dif_pos hp, qh_at, kh_at, mul_comm]
      simp only [eh]
      congr 1
      unfold keyOf
      rw [dif_pos hj]
      congr 2
      exact Fin.ext (near_eq _ _ hj hp.1 hp.2).symm
    · rw [if_neg fun h => hs ((mask_at n r ⟨j.val, hj⟩).mp h), if_neg hs]
  · have e : j.succ = (⟨385 + (⟨j.val - 384, by omega⟩ : Fin 256).val, by simp only; omega⟩ : Fin 641) := Fin.ext (by simp only [Fin.val_succ]; omega)
    unfold sc
    rw [e, sAll_2, sCtx_at]
    unfold score
    rw [if_pos (show Sees n r j from .inl (by omega))]
    refine Finset.sum_congr rfl fun e _ => ?_
    rw [kc_at, qh_at, mul_comm]
    simp only [eh]
    congr 1
    unfold keyOf
    rw [dif_neg hj]

/-- A head's largest score. -/
theorem rmax_eq (b : Fin 8) (n : Fin 16) (r : Fin 128) (h : Fin 8) :
    rmax (sc q k pc s) (ix5 b n ⟨h.val / 4, by omega⟩ ⟨h.val % 4, by omega⟩ r) = top (s (ix1 h)) (score q k pc b n r h) := by
  rw [rmax_at, fold_max_eq, max_eq_right bot_le, Fin.univ_succ, Finset.sup_cons, sc_0, Finset.sup_map]
  unfold top
  rw [fold_max_eq]
  congr 1
  exact Finset.sup_congr rfl fun j _ => sc_succ q k pc s b n r h j

theorem exps_0 (b : Fin 8) (n : Fin 16) (r : Fin 128) (h : Fin 8) :
    exps (sc q k pc s) (ix6 b n ⟨h.val / 4, by omega⟩ ⟨h.val % 4, by omega⟩ r 0) = Ideal.exp (s (ix1 h) - top (s (ix1 h)) (score q k pc b n r h)) := by
  rw [exps_at, rmax_eq, sc_0]

theorem exps_succ (b : Fin 8) (n : Fin 16) (r : Fin 128) (h : Fin 8) (j : Fin 640) :
    exps (sc q k pc s) (ix6 b n ⟨h.val / 4, by omega⟩ ⟨h.val % 4, by omega⟩ r j.succ)
      = Ideal.exp (score q k pc b n r h j - top (s (ix1 h)) (score q k pc b n r h)) := by
  rw [exps_at, rmax_eq, sc_succ]

/-- A head's probability of a key. -/
theorem probs_succ (b : Fin 8) (n : Fin 16) (r : Fin 128) (h : Fin 8) (j : Fin 640) :
    probs (sc q k pc s) (ix6 b n ⟨h.val / 4, by omega⟩ ⟨h.val % 4, by omega⟩ r j.succ)
      = Ideal.div (Ideal.exp (score q k pc b n r h j - top (s (ix1 h)) (score q k pc b n r h))) (den (s (ix1 h)) (score q k pc b n r h)) := by
  rw [probs_at, exps_succ, Fin.sum_univ_succ, exps_0]
  unfold den
  congr 2
  exact Finset.sum_congr rfl fun j _ => exps_succ q k pc s b n r h j

/-- With real queries and keys and no sink +∞ the largest score is real. -/
theorem top_real' (hq : ∀ i, ∃ a : ℝ, q i = (a : EReal)) (hk : ∀ i, ∃ a : ℝ, k i = (a : EReal)) (hc : ∀ i, ∃ a : ℝ, pc i = (a : EReal))
    (hs : ∀ i, s i ≠ ⊤) (b : Fin 8) (n : Fin 16) (r : Fin 128) (h : Fin 8) :
    ∃ M : ℝ, top (s (ix1 h)) (score q k pc b n r h) = (M : EReal) := by
  have real : ∀ j : Fin 640, Sees n r j → ∃ a : ℝ, score q k pc b n r h j = (a : EReal) := fun j hj => by
    unfold score
    rw [if_pos hj]
    exact dot_real _ _ (fun _ => hq _) fun _ => key_real k pc hk hc _ _ _ _
  refine top_real _ _ (hs _) (fun j => ?_) ⟨r.val + 128, by omega⟩ ?_
  · by_cases hj : Sees n r j
    · obtain ⟨a, ha⟩ := real j hj
      rw [ha]
      exact EReal.coe_ne_top a
    · unfold score
      rw [if_neg hj]
      exact bot_ne_top
  · have hn := n.isLt
    obtain ⟨a, ha⟩ := real ⟨r.val + 128, by omega⟩ (by unfold Sees; simp only; omega)
    rw [ha]
    exact EReal.coe_ne_bot a

/-- The reference at an index. -/
theorem out_at (hq : ∀ i, ∃ a : ℝ, q i = (a : EReal)) (hk : ∀ i, ∃ a : ℝ, k i = (a : EReal)) (hc : ∀ i, ∃ a : ℝ, pc i = (a : EReal))
    (hs : ∀ i, s i ≠ ⊤) (b : Fin 8) (n : Fin 16) (r : Fin 128) (h : Fin 8) (d : Fin 64) :
    out q k p pc s (ix3 b ⟨n.val * 128 + r.val, by omega⟩ ⟨h.val * 64 + d.val, by omega⟩) = att q k p pc s b n r h d := by
  obtain ⟨M, hM⟩ := top_real' q k pc s hq hk hc hs b n r h
  have hn := n.isLt
  unfold att
  rw [soft_eq _ _ _ M hM]
  rw [out_sc, flat_at, mix_at]
  refine Eq.trans ?_ (Fin.sum_univ_add (a := 384) (b := 256) (fun j : Fin (384 + 256) => valOf p pc b n j ⟨h.val / 4 * 64 + d.val, by omega⟩
    * Ideal.div (Ideal.exp (score q k pc b n r h j - top (s (ix1 h)) (score q k pc b n r h))) (den (s (ix1 h)) (score q k pc b n r h)))).symm
  congr 1
  · refine Finset.sum_congr rfl fun j _ => ?_
    have e : (⟨1 + j.val, by omega⟩ : Fin 641) = (Fin.castAdd 256 j : Fin 640).succ := Fin.ext (by simp [Nat.add_comm])
    rw [e, probs_succ]
    by_cases hj : Sees n r j
    · congr 1
      have hp : 128 ≤ n.val * 128 + j.val ∧ n.val * 128 + j.val < 2176 := by unfold Sees at hj; omega
      rw [band_at, dif_pos hp, vh_at]
      unfold valOf
      rw [dif_pos (show (Fin.castAdd 256 j : Fin 640).val < 384 from j.isLt)]
      congr 2
      exact Fin.ext (near_eq _ _ j.isLt hp.1 hp.2).symm
    · obtain ⟨D, hD, hD'⟩ := den_real _ _ M hM
      have h0 : score q k pc b n r h (Fin.castAdd 256 j) = ⊥ := by unfold score; exact if_neg hj
      have h1 : Ideal.exp (⊥ : EReal) = 0 := rfl
      rw [h0, EReal.bot_sub, h1, hD', div_coe _ D hD, zero_mul, mul_zero, mul_zero]
  · refine Finset.sum_congr rfl fun j _ => ?_
    have e : (⟨385 + j.val, by omega⟩ : Fin 641) = (Fin.natAdd 384 j : Fin 640).succ := Fin.ext (by simp only [Fin.val_succ, Fin.val_natAdd]; omega)
    rw [e, probs_succ]
    congr 1
    rw [vc_at]
    unfold valOf
    rw [dif_neg (show ¬ (Fin.natAdd 384 j : Fin 640).val < 384 by simp)]
    congr 2
    exact Fin.ext (by simp)

/-- The reference's array. -/
theorem out_eq (hq : ∀ i, ∃ a : ℝ, q i = (a : EReal)) (hk : ∀ i, ∃ a : ℝ, k i = (a : EReal)) (hc : ∀ i, ∃ a : ℝ, pc i = (a : EReal))
    (hs : ∀ i, s i ≠ ⊤) : out q k p pc s = arr q k p pc s := by
  funext i
  have i1 : (i 1).val < 2048 := (i 1).isLt
  have i2 : (i 2).val < 512 := (i 2).isLt
  have e : i = ix3 (i 0) ⟨(i 1).val / 128 * 128 + (i 1).val % 128, by omega⟩ ⟨(i 2).val / 64 * 64 + (i 2).val % 64, by omega⟩ := by
    funext a
    fin_cases a
    · rfl
    · exact Fin.ext (by show (i 1).val = (i 1).val / 128 * 128 + (i 1).val % 128; omega)
    · exact Fin.ext (by show (i 2).val = (i 2).val / 64 * 64 + (i 2).val % 64; omega)
  rw [e]
  exact (out_at q k p pc s hq hk hc hs (i 0) ⟨(i 1).val / 128, by omega⟩ ⟨(i 1).val % 128, by omega⟩ ⟨(i 2).val / 64, by omega⟩ ⟨(i 2).val % 64, by omega⟩).trans
    (arr_at q k p pc s (i 0) ⟨(i 1).val / 128, by omega⟩ ⟨(i 1).val % 128, by omega⟩ ⟨(i 2).val / 64, by omega⟩ ⟨(i 2).val % 64, by omega⟩).symm

end Cert.ReferenceIdeal.Attn

end
-- ==== Proof.Attn.Finite.lean ====
module

public import proofs.«01_k».proof.Proof.Gen.Pre_finite_scores
public import proofs.«01_k».proof.Pre_finite_scores
public import Idealize.ShloMosaic.Lib.ReduceAll
public import Idealize.ShloMosaic.Lib.Affine
public import Idealize.ShloMosaic.Lib.Pointwise

/-! The precondition says that queries, keys and the context's array are real and that no sink is +∞. -/

@[expose] public section

set_option maxRecDepth 16384

noncomputable section

namespace Cert.Pre_finite_scores.Attn

open Cert.Pre_finite_scores Idealize.ShloMosaic

/-- +∞'s word. -/
theorem pinf : Ideal.ofBits .f32 0x7F800000#32 = (⊤ : EReal) := by simp [Ideal.ofBits, Ideal.ieee]

theorem lt_of_olt (x y : EReal) (h : FloatOps.cmpf (F := Ideal) (φ := .f32) .olt x y = 1#1) : x < y := by
  by_contra hn
  have : FloatOps.cmpf (F := Ideal) (φ := .f32) .olt x y = 0#1 := by
    simp [FloatOps.cmpf, Ideal.cmp, hn]
  rw [this] at h
  exact absurd h (by decide)

theorem real_of_abs (x : EReal) (h : max x (-x) < ⊤) : ∃ a : ℝ, x = (a : EReal) := by
  induction x with
  | bot => simp at h
  | top => simp at h
  | coe a => exact ⟨a, rfl⟩

theorem facts_of (q : FVec Ideal S8x2048x512 .bf16) (k : FVec Ideal S8x2048x128 .bf16) (p : FVec Ideal S8x2048x2304 .f32) (pc : FVec Ideal S8x256x2304 .f32)
    (s : FVec Ideal S8 .f32) (h : fn (F := Ideal) q k p pc s = fun _ => 1#1) :
    (∀ i, ∃ a : ℝ, q i = (a : EReal)) ∧ (∀ i, ∃ a : ℝ, k i = (a : EReal)) ∧ (∀ i, ∃ a : ℝ, pc i = (a : EReal)) ∧ ∀ i, s i ≠ (⊤ : EReal) := by
  have h' := congrFun h (Shape.Idx.first Gen.h_S_)
  dsimp only [fn, fn_part1] at h'
  obtain ⟨h3, h4⟩ := (IntOp.andi_eq_one).mp h'
  obtain ⟨h2, h3⟩ := (IntOp.andi_eq_one).mp h3
  obtain ⟨h1, h2⟩ := (IntOp.andi_eq_one).mp h2
  refine ⟨fun i => ?_, fun i => ?_, fun i => ?_, fun i => ?_⟩
  · have := lt_of_olt _ _ (Host.reduce_andi_all _ _ _ _ _ h1 i)
    exact real_of_abs _ (lt_of_lt_of_eq this pinf)
  · have := lt_of_olt _ _ (Host.reduce_andi_all _ _ _ _ _ h2 i)
    exact real_of_abs _ (lt_of_lt_of_eq this pinf)
  · have := lt_of_olt _ _ (Host.reduce_andi_all _ _ _ _ _ h3 i)
    exact real_of_abs _ (lt_of_lt_of_eq this pinf)
  · have := lt_of_olt _ _ (Host.reduce_andi_all _ _ _ _ _ h4 i)
    exact ne_of_lt (lt_of_lt_of_eq this pinf)

end Cert.Pre_finite_scores.Attn

end
-- ==== Proof.Attn.Claims.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Attn.Array
public import proofs.«01_k».proof.Proof.Attn.Equal
public import proofs.«01_k».proof.Proof.Attn.Finite

/-! The windowed attention's claims: both runs end with `Cert.Attn.arr` of the arguments. -/

@[expose] public section

noncomputable section

namespace Cert.Attn.Claims

open Idealize.ShloMosaic Idealize.SL.Sem

/-- The reference's run leaves its arguments alone and every counter at zero. -/
theorem reference_frame : quiescent_ReferenceIdeal := fun m g _ =>
  (θ_run ReferenceIdeal.defs _ _).mono
    (fun r h => ⟨fun c => (h c).2, Idealize.ShloMosaic.sem_eq_zero_of_no_sems (by decide) r.2⟩)
    (ReferenceIdeal.Value.run (F := Ideal) m g)

theorem algebraic : algebraic_KernelIdeal_ReferenceIdeal_pre_finite_scores := by
  intro m g m' g' hpre hagree
  refine ⟨fun c => Attn.arr
      (m ((c.tc : Thread KernelIdeal.nD KernelIdeal.τ).loc KernelIdeal.main_arg0))
      (m ((c.tc : Thread KernelIdeal.nD KernelIdeal.τ).loc KernelIdeal.main_arg1))
      (m ((c.tc : Thread KernelIdeal.nD KernelIdeal.τ).loc KernelIdeal.main_arg2))
      (m ((c.tc : Thread KernelIdeal.nD KernelIdeal.τ).loc KernelIdeal.main_arg3))
      (m ((c.tc : Thread KernelIdeal.nD KernelIdeal.τ).loc KernelIdeal.main_arg4)), ?_, ?_⟩
  · exact (θ_run KernelIdeal.defs _ _).mono
      (fun r h c => ⟨(h c).1.trans (KernelIdeal.Attn.fin m c), (h c).2⟩)
      (KernelIdeal.Value.run_blocks (F := Ideal) m g)
  · refine (θ_run ReferenceIdeal.defs _ _).mono (fun r h c => ⟨?_, (h c).2⟩)
      (ReferenceIdeal.Value.run (F := Ideal) m' g')
    obtain ⟨h0, h1, h2, h3, h4⟩ := hagree c
    obtain ⟨fq, fk, fc, fs⟩ := Pre_finite_scores.Attn.facts_of _ _ _ _ _ (hpre c)
    rw [(h c).1, ReferenceIdeal.Attn.res_eq m' c, h0, h1, h2, h3, h4]
    exact ReferenceIdeal.Attn.out_eq _ _ _ _ _ fq fk fc fs

theorem preserves : preserves_Kernel_KernelIdeal :=
  IdealRules.named_const.statement KernelIdeal.κ "mask" .f32 0xF149F2CA#32 ⊥ rfl

end Cert.Attn.Claims

end
-- ==== Proof.Proj.Spec.lean ====
module

public import Idealize.ShloMosaic.Lib.Pointwise

/-! A row divided by its root mean square, scaled and shifted, and a matrix of such rows times a weight. -/

@[expose] public section

set_option maxRecDepth 16384

noncomputable section

namespace Cert.Proj

open Idealize.ShloMosaic

/-- An array of rank 3 of extended reals. -/
abbrev Arr (a b c : ℕ) : Type := (⟨3, ![a, b, c]⟩ : Shape).Idx → EReal

/-- An array of rank 2 of extended reals. -/
abbrev Mat (a b : ℕ) : Type := (⟨2, ![a, b]⟩ : Shape).Idx → EReal

/-- The reciprocal root of a row's mean square and the small constant. -/
def inv (x : Fin 1024 → EReal) : EReal :=
  Ideal.rsqrt (Ideal.div (∑ j, x j * x j) (Ideal.ofBits .f32 0x44800000#32) + Ideal.ofBits .f32 0x358637BD#32)

/-- Entry `k` of the row `x` normed, with gain `g`, shift `sh` and scale `sc`. -/
def nm (x g sh sc : Fin 1024 → EReal) (k : Fin 1024) : EReal := x k * inv x * g k * (1 + sc k) + sh k

/-- Row `r` of batch `b`, normed. -/
def nrow {L : ℕ} (h : Arr 8 L 1024) (g : Mat 1 1024) (sh sc : Arr 8 1 1024) (b : Fin 8) (r : Fin L) (k : Fin 1024) : EReal :=
  nm (fun j => h (ix3 b r j)) (fun j => g (ix2 0 j)) (fun j => sh (ix3 b 0 j)) (fun j => sc (ix3 b 0 j)) k

/-- Entry `(b, r, n)` of the projection. -/
def ent {L N : ℕ} (h : Arr 8 L 1024) (g : Mat 1 1024) (sh sc : Arr 8 1 1024) (w : Mat 1024 N) (b : Fin 8) (r : Fin L) (n : Fin N) : EReal :=
  ∑ k, nrow h g sh sc b r k * w (ix2 k n)

/-- The normed rows times the weight. -/
def proj {L N : ℕ} (h : Arr 8 L 1024) (g : Mat 1 1024) (sh sc : Arr 8 1 1024) (w : Mat 1024 N) : Arr 8 L N := fun i =>
  ent h g sh sc w (i 0) (i 1) (i 2)

end Cert.Proj

end
-- ==== Proof.Proj.Project1.lean ====
module

public import proofs.«01_k».proof.Proof.Proj.Spec
public import proofs.«01_k».proof.Proof.Gen.Project1Ideal.Value
public import Idealize.ShloMosaic.Lib.Pointwise
public import Idealize.ShloMosaic.Lib.Pipeline.ValueKit
public import Idealize.ShloMosaic.Lib.Pipeline.ReadBack

/-! The array the kernel leaves: at every grid point the kept rows are the normed ones, and the block is their product
with the weight's columns. -/

@[expose] public section

set_option maxRecDepth 16384

noncomputable section

namespace Cert.Project1Ideal.Proj

open Cert.Project1Ideal Cert.Project1Ideal.Gen Idealize.ShloMosaic Idealize.ShloMosaic.TcCoe Idealize.SL.Sem
open Idealize.ShloMosaic.Pipeline
open Cert.Proj (nm nrow ent proj)

/-- The normed rows over the loaded blocks. -/
theorem pay1_at (x : FVec Ideal S1x1024x1024 .f32) (g : FVec Ideal S1x1024 .f32) (sh sc : FVec Ideal S1x1x1024 .f32) (r : Fin 1024) (k : Fin 1024) :
    k0_pay1 (F := Ideal) x g sh sc (ix2 r k)
      = nm (fun j => x (ix3 0 r j)) (fun j => g (ix2 0 j)) (fun j => sh (ix3 0 0 j)) (fun j => sc (ix3 0 0 j)) k := by
  pointwise [k0_pay1]
  rfl

/-- The product over the kept rows and the loaded columns. -/
theorem pay2_at (a : FVec Ideal S1024x1024 .bf16) (w : FVec Ideal S1024x1280 .bf16) (r : Fin 1024) (n : Fin 1280) :
    k0_pay2 (F := Ideal) a w (ix3 0 r n) = (∑ k : Fin 1024, a (ix2 r k) * w (ix2 k n) : EReal) := by
  pointwise [k0_pay2]

variable (m : (ℓ : Loc nD τ sig) → Buf (Elt Ideal) ℓ)

/-- Each window's block at a grid point. -/
theorem idx : ∀ t : Fin cfg0.N, win0_0.index t = ![t.val / 8, t.val / 4 % 2, 0] ∧ win0_1.index t = ![0, 0] ∧ win0_2.index t = ![t.val / 8, 0, 0]
    ∧ win0_3.index t = ![t.val / 8, 0, 0] ∧ win0_4.index t = ![0, t.val % 4] ∧ win0_5.index t = ![t.val / 8, t.val / 4 % 2, t.val % 4] ∧ t.val / 8 < 8 :=
  (by decide +kernel : ∀ t : Fin grid0.N, _)

theorem lt8 (t : Fin cfg0.N) : t.val / 8 < 8 := (idx t).2.2.2.2.2.2

theorem blk0 (c : Dev nD) (t : Fin cfg0.N) (r : Fin 1024) (k : Fin 1024) :
    iblk m c 0 t (ix3 0 r k) = m ((c.tc : Thread nD τ).loc main_arg0) (ix3 ⟨t.val / 8, lt8 t⟩ ⟨(t.val / 4 % 2) * 1024 + r.val, by omega⟩ k) := by
  blk_point [iblk, V, idx t]

theorem blk1 (c : Dev nD) (t : Fin cfg0.N) (k : Fin 1024) : iblk m c 1 t (ix2 0 k) = m ((c.tc : Thread nD τ).loc main_arg1) (ix2 0 k) := by
  blk_point [iblk, V, idx t]

theorem blk2 (c : Dev nD) (t : Fin cfg0.N) (k : Fin 1024) :
    iblk m c 2 t (ix3 0 0 k) = m ((c.tc : Thread nD τ).loc main_arg2) (ix3 ⟨t.val / 8, lt8 t⟩ 0 k) := by
  blk_point [iblk, V, idx t]

theorem blk3 (c : Dev nD) (t : Fin cfg0.N) (k : Fin 1024) :
    iblk m c 3 t (ix3 0 0 k) = m ((c.tc : Thread nD τ).loc main_arg3) (ix3 ⟨t.val / 8, lt8 t⟩ 0 k) := by
  blk_point [iblk, V, idx t]

theorem blk4 (c : Dev nD) (t : Fin cfg0.N) (k : Fin 1024) (n : Fin 1280) :
    iblk m c 4 t (ix2 k n) = m ((c.tc : Thread nD τ).loc main_arg4) (ix2 k ⟨t.val % 4 * 1280 + n.val, by omega⟩) := by
  blk_point [iblk, V, idx t]

/-- The normed rows of a grid point. -/
abbrev rows (c : Dev nD) (t : Fin cfg0.N) (r : Fin 1024) (k : Fin 1024) : EReal :=
  nrow (m ((c.tc : Thread nD τ).loc main_arg0)) (m ((c.tc : Thread nD τ).loc main_arg1)) (m ((c.tc : Thread nD τ).loc main_arg2)) (m ((c.tc : Thread nD τ).loc main_arg3)) ⟨t.val / 8, lt8 t⟩ ⟨(t.val / 4 % 2) * 1024 + r.val, by omega⟩ k

theorem pay1_rows (c : Dev nD) (t : Fin cfg0.N) (r : Fin 1024) (k : Fin 1024) :
    k0_pay1 (iblk m c 0 t) (iblk m c 1 t) (iblk m c 2 t) (iblk m c 3 t) (ix2 r k) = rows m c t r k := by
  refine (pay1_at _ _ _ _ r k).trans ?_
  simp only [blk0, blk1, blk2, blk3]
  rfl

/-- After every grid point the kept rows are the normed ones of its batch and row block. -/
theorem kept (c : Dev nD) : ∀ (n : ℕ) (hn : n < cfg0.N) (r : Fin 1024) (k : Fin 1024),
    (outsAt0 m c n hn).2 (ix2 r k) = rows m c ⟨n, hn⟩ r k := by
  intro n
  induction n with
  | zero =>
    intro hn r k
    rw [outsAt0_A m c ⟨0, hn⟩ rfl]
    frame_out
    exact pay1_rows m c ⟨0, hn⟩ r k
  | succ n ih =>
    intro hn r k
    by_cases h : (n + 1) % 4 = 0
    · rw [outsAt0_A m c ⟨n + 1, hn⟩ h]
      frame_out
      exact pay1_rows m c ⟨n + 1, hn⟩ r k
    · rw [outsAt0_B m c ⟨n + 1, hn⟩ h]
      refine (ih (Nat.lt_of_succ_lt hn) r k).trans ?_
      unfold rows
      congr 1 <;> exact Fin.ext (by simp only; omega)

/-- The block of a grid point is the product of its kept rows and the loaded columns. -/
theorem block (c : Dev nD) (t : Fin cfg0.N) (r : Fin 1024) (n : Fin 1280) :
    (outsAt0 m c t.val t.isLt).1 (ix3 0 r n) = (∑ k : Fin 1024, rows m c t r k * m ((c.tc : Thread nD τ).loc main_arg4) (ix2 k ⟨t.val % 4 * 1280 + n.val, by omega⟩) : EReal) := by
  by_cases h : t.val % 4 = 0
  · rw [outsAt0_A m c t h]
    frame_out
    refine (pay2_at _ _ r n).trans (Finset.sum_congr rfl fun k _ => ?_)
    rw [pay1_rows, blk4]
  · have hk := kept m c t.val t.isLt
    rw [outsAt0_B m c t h] at hk ⊢
    frame_out
    simp only [read_unread_whole]
    refine (pay2_at _ _ r n).trans (Finset.sum_congr rfl fun k _ => ?_)
    rw [blk4]
    exact congrArg (· * _) (hk r k)

/-- An index of a result block. -/
theorem split_at (y : S1x1024x1280.Idx) : ∃ (r : Fin 1024) (n : Fin 1280), y = ix3 0 r n := by
  have y1 : (y 1).val < 1024 := (y 1).isLt
  have y2 : (y 2).val < 1280 := (y 2).isLt
  refine ⟨⟨(y 1).val, y1⟩, ⟨(y 2).val, y2⟩, ?_⟩
  blk_ext

/-- The array after the run. -/
theorem fin (c : Dev nD) : (dats m 0 c).arrAt 5 cfg0.N = proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp
  rw [after0_5]
  obtain ⟨r, n, hy⟩ := split_at y
  subst hy
  have hemb : (((View.whole main_v0).slice (win0_5.rect t)).emb (ix3 0 r n))
      = ix3 ⟨t.val / 8, lt8 t⟩ ⟨(t.val / 4 % 2) * 1024 + r.val, by omega⟩ ⟨t.val % 4 * 1280 + n.val, by omega⟩ := by
    blk_ext [idx t]
  rw [hemb]
  exact block m c t r n

end Cert.Project1Ideal.Proj

end
-- ==== Proof.Proj.Project1Claims.lean ====
module

public import proofs.«01_k».proof.Defs
public import proofs.«01_k».proof.Proof.Proj.Project1
public import proofs.«01_k».proof.Proof.Gen.Project1RefIdeal.Run

/-! The reference's array is the same, and the claims. -/

@[expose] public section

set_option maxRecDepth 16384

noncomputable section

namespace Cert.Project1RefIdeal.Proj

open Cert.Project1RefIdeal Cert.Project1RefIdeal.Gen Idealize.ShloMosaic Idealize.ShloMosaic.TcCoe Idealize.SL.Sem

/-- The reference's array, as it computes it. -/
def out (h : FVec Ideal S8x2048x1024 .f32) (g : FVec Ideal S1x1024 .f32) (sh sc : FVec Ideal S8x1x1024 .f32) (w : FVec Ideal S1024x5120 .bf16) :
    FVec Ideal S8x2048x5120 .f32 :=
  Host.dotGeneral dot_S8x2048x1024_S1024x5120_S8x2048x5120_2_0_01_1_n_n none (addf (mulf (mulf (mulf h (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf h h) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![1, 2] bcast_S1x1024_S1x1x1024_1_2 g))) (broadcastInDim S8x2048x1024 ![0, 1, 2] bcast_S8x1x1024_S8x2048x1024_0_1_2 (addf (broadcastInDim S8x1x1024 ![] bcast_S_S8x1x1024 (constant S_ .f32 0x3F800000#32)) sc))) (broadcastInDim S8x2048x1024 ![0, 1, 2] bcast_S8x1x1024_S8x2048x1024_0_1_2 sh)) (extf .f32 w bitsLt_bf16_f32)

theorem out_eq (h : FVec Ideal S8x2048x1024 .f32) (g : FVec Ideal S1x1024 .f32) (sh sc : FVec Ideal S8x1x1024 .f32) (w : FVec Ideal S1024x5120 .bf16) :
    out h g sh sc w = Cert.Proj.proj h g sh sc w := by
  have key : ∀ (b : Fin 8) (r : Fin 2048) (n : Fin 5120), out h g sh sc w (ix3 b r n) = Cert.Proj.ent h g sh sc w b r n := by
    intro b r n
    pointwise [out]
    rfl
  funext i
  have hi : i = ix3 (i 0) (i 1) (i 2) := by blk_ext
  rw [hi]
  exact key (i 0) (i 1) (i 2)

end Cert.Project1RefIdeal.Proj

namespace Cert.Proj.Project1

open Idealize.ShloMosaic Idealize.SL.Sem

/-- The reference's run leaves its arguments alone and every counter at zero. -/
theorem reference_frame : quiescent_Project1RefIdeal := fun m g _ =>
  (θ_run Project1RefIdeal.defs _ _).mono
    (fun r h => ⟨fun c => (h c).2, Idealize.ShloMosaic.sem_eq_zero_of_no_sems (by decide) r.2⟩)
    (Project1RefIdeal.Value.run (F := Ideal) m g)

theorem algebraic : algebraic_Project1Ideal_Project1RefIdeal := by
  intro m g m' g' hpre hagree
  refine ⟨fun c => Cert.Proj.proj
      (m ((c.tc : Thread Project1Ideal.nD Project1Ideal.τ).loc Project1Ideal.main_arg0))
      (m ((c.tc : Thread Project1Ideal.nD Project1Ideal.τ).loc Project1Ideal.main_arg1))
      (m ((c.tc : Thread Project1Ideal.nD Project1Ideal.τ).loc Project1Ideal.main_arg2))
      (m ((c.tc : Thread Project1Ideal.nD Project1Ideal.τ).loc Project1Ideal.main_arg3))
      (m ((c.tc : Thread Project1Ideal.nD Project1Ideal.τ).loc Project1Ideal.main_arg4)), ?_, ?_⟩
  · exact (θ_run Project1Ideal.defs _ _).mono
      (fun r h c => ⟨(h c).1.trans (Project1Ideal.Proj.fin m c), (h c).2⟩)
      (Project1Ideal.Value.run_blocks (F := Ideal) m g)
  · refine (θ_run Project1RefIdeal.defs _ _).mono (fun r h c => ⟨?_, (h c).2⟩)
      (Project1RefIdeal.Value.run (F := Ideal) m' g')
    obtain ⟨h0, h1, h2, h3, h4⟩ := hagree c
    refine (h c).1.trans ?_
    rw [h0, h1, h2, h3, h4]
    exact Project1RefIdeal.Proj.out_eq _ _ _ _ _

end Cert.Proj.Project1

end
-- ==== Proof.Proj.Project0.lean ====
module

public import proofs.«01_k».proof.Proof.Proj.Spec
public import proofs.«01_k».proof.Proof.Gen.Project0Ideal.Value
public import Idealize.ShloMosaic.Lib.Pointwise
public import Idealize.ShloMosaic.Lib.Pipeline.ValueKit
public import Idealize.ShloMosaic.Lib.Pipeline.ReadBack

/-! The array the kernel leaves: at every grid point the kept rows are the normed ones, and the block is their product
with the weight's columns. -/

@[expose] public section

set_option maxRecDepth 16384

noncomputable section

namespace Cert.Project0Ideal.Proj

open Cert.Project0Ideal Cert.Project0Ideal.Gen Idealize.ShloMosaic Idealize.ShloMosaic.TcCoe Idealize.SL.Sem
open Idealize.ShloMosaic.Pipeline
open Cert.Proj (nm nrow ent proj)

/-- The normed rows over the loaded blocks. -/
theorem pay1_at (x : FVec Ideal S1x1024x1024 .f32) (g : FVec Ideal S1x1024 .f32) (sh sc : FVec Ideal S1x1x1024 .f32) (r : Fin 1024) (k : Fin 1024) :
    k0_pay1 (F := Ideal) x g sh sc (ix2 r k)
      = nm (fun j => x (ix3 0 r j)) (fun j => g (ix2 0 j)) (fun j => sh (ix3 0 0 j)) (fun j => sc (ix3 0 0 j)) k := by
  pointwise [k0_pay1]
  rfl

/-- The product over the kept rows and the loaded columns. -/
theorem pay2_at (a : FVec Ideal S1024x1024 .bf16) (w : FVec Ideal S1024x1152 .bf16) (r : Fin 1024) (n : Fin 1152) :
    k0_pay2 (F := Ideal) a w (ix3 0 r n) = (∑ k : Fin 1024, a (ix2 r k) * w (ix2 k n) : EReal) := by
  pointwise [k0_pay2]

variable (m : (ℓ : Loc nD τ sig) → Buf (Elt Ideal) ℓ)

/-- Each window's block at a grid point. -/
theorem idx : ∀ t : Fin cfg0.N, win0_0.index t = ![t.val / 4, t.val / 2 % 2, 0] ∧ win0_1.index t = ![0, 0] ∧ win0_2.index t = ![t.val / 4, 0, 0]
    ∧ win0_3.index t = ![t.val / 4, 0, 0] ∧ win0_4.index t = ![0, t.val % 2] ∧ win0_5.index t = ![t.val / 4, t.val / 2 % 2, t.val % 2] ∧ t.val / 4 < 8 :=
  (by decide +kernel : ∀ t : Fin grid0.N, _)

theorem lt8 (t : Fin cfg0.N) : t.val / 4 < 8 := (idx t).2.2.2.2.2.2

theorem blk0 (c : Dev nD) (t : Fin cfg0.N) (r : Fin 1024) (k : Fin 1024) :
    iblk m c 0 t (ix3 0 r k) = m ((c.tc : Thread nD τ).loc main_arg0) (ix3 ⟨t.val / 4, lt8 t⟩ ⟨(t.val / 2 % 2) * 1024 + r.val, by omega⟩ k) := by
  blk_point [iblk, V, idx t]

theorem blk1 (c : Dev nD) (t : Fin cfg0.N) (k : Fin 1024) : iblk m c 1 t (ix2 0 k) = m ((c.tc : Thread nD τ).loc main_arg1) (ix2 0 k) := by
  blk_point [iblk, V, idx t]

theorem blk2 (c : Dev nD) (t : Fin cfg0.N) (k : Fin 1024) :
    iblk m c 2 t (ix3 0 0 k) = m ((c.tc : Thread nD τ).loc main_arg2) (ix3 ⟨t.val / 4, lt8 t⟩ 0 k) := by
  blk_point [iblk, V, idx t]

theorem blk3 (c : Dev nD) (t : Fin cfg0.N) (k : Fin 1024) :
    iblk m c 3 t (ix3 0 0 k) = m ((c.tc : Thread nD τ).loc main_arg3) (ix3 ⟨t.val / 4, lt8 t⟩ 0 k) := by
  blk_point [iblk, V, idx t]

theorem blk4 (c : Dev nD) (t : Fin cfg0.N) (k : Fin 1024) (n : Fin 1152) :
    iblk m c 4 t (ix2 k n) = m ((c.tc : Thread nD τ).loc main_arg4) (ix2 k ⟨t.val % 2 * 1152 + n.val, by omega⟩) := by
  blk_point [iblk, V, idx t]

/-- The normed rows of a grid point. -/
abbrev rows (c : Dev nD) (t : Fin cfg0.N) (r : Fin 1024) (k : Fin 1024) : EReal :=
  nrow (m ((c.tc : Thread nD τ).loc main_arg0)) (m ((c.tc : Thread nD τ).loc main_arg1)) (m ((c.tc : Thread nD τ).loc main_arg2)) (m ((c.tc : Thread nD τ).loc main_arg3)) ⟨t.val / 4, lt8 t⟩ ⟨(t.val / 2 % 2) * 1024 + r.val, by omega⟩ k

theorem pay1_rows (c : Dev nD) (t : Fin cfg0.N) (r : Fin 1024) (k : Fin 1024) :
    k0_pay1 (iblk m c 0 t) (iblk m c 1 t) (iblk m c 2 t) (iblk m c 3 t) (ix2 r k) = rows m c t r k := by
  refine (pay1_at _ _ _ _ r k).trans ?_
  simp only [blk0, blk1, blk2, blk3]
  rfl

/-- After every grid point the kept rows are the normed ones of its batch and row block. -/
theorem kept (c : Dev nD) : ∀ (n : ℕ) (hn : n < cfg0.N) (r : Fin 1024) (k : Fin 1024),
    (outsAt0 m c n hn).2 (ix2 r k) = rows m c ⟨n, hn⟩ r k := by
  intro n
  induction n with
  | zero =>
    intro hn r k
    rw [outsAt0_A m c ⟨0, hn⟩ rfl]
    frame_out
    exact pay1_rows m c ⟨0, hn⟩ r k
  | succ n ih =>
    intro hn r k
    by_cases h : (n + 1) % 2 = 0
    · rw [outsAt0_A m c ⟨n + 1, hn⟩ h]
      frame_out
      exact pay1_rows m c ⟨n + 1, hn⟩ r k
    · rw [outsAt0_B m c ⟨n + 1, hn⟩ h]
      refine (ih (Nat.lt_of_succ_lt hn) r k).trans ?_
      unfold rows
      congr 1 <;> exact Fin.ext (by simp only; omega)

/-- The block of a grid point is the product of its kept rows and the loaded columns. -/
theorem block (c : Dev nD) (t : Fin cfg0.N) (r : Fin 1024) (n : Fin 1152) :
    (outsAt0 m c t.val t.isLt).1 (ix3 0 r n) = (∑ k : Fin 1024, rows m c t r k * m ((c.tc : Thread nD τ).loc main_arg4) (ix2 k ⟨t.val % 2 * 1152 + n.val, by omega⟩) : EReal) := by
  by_cases h : t.val % 2 = 0
  · rw [outsAt0_A m c t h]
    frame_out
    refine (pay2_at _ _ r n).trans (Finset.sum_congr rfl fun k _ => ?_)
    rw [pay1_rows, blk4]
  · have hk := kept m c t.val t.isLt
    rw [outsAt0_B m c t h] at hk ⊢
    frame_out
    simp only [read_unread_whole]
    refine (pay2_at _ _ r n).trans (Finset.sum_congr rfl fun k _ => ?_)
    rw [blk4]
    exact congrArg (· * _) (hk r k)

/-- An index of a result block. -/
theorem split_at (y : S1x1024x1152.Idx) : ∃ (r : Fin 1024) (n : Fin 1152), y = ix3 0 r n := by
  have y1 : (y 1).val < 1024 := (y 1).isLt
  have y2 : (y 2).val < 1152 := (y 2).isLt
  refine ⟨⟨(y 1).val, y1⟩, ⟨(y 2).val, y2⟩, ?_⟩
  blk_ext

/-- The array after the run. -/
theorem fin (c : Dev nD) : (dats m 0 c).arrAt 5 cfg0.N = proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp
  rw [after0_5]
  obtain ⟨r, n, hy⟩ := split_at y
  subst hy
  have hemb : (((View.whole main_v0).slice (win0_5.rect t)).emb (ix3 0 r n))
      = ix3 ⟨t.val / 4, lt8 t⟩ ⟨(t.val / 2 % 2) * 1024 + r.val, by omega⟩ ⟨t.val % 2 * 1152 + n.val, by omega⟩ := by
    blk_ext [idx t]
  rw [hemb]
  exact block m c t r n

end Cert.Project0Ideal.Proj

end
-- ==== Proof.Proj.Project0Claims.lean ====
module

public import proofs.«01_k».proof.Defs
public import proofs.«01_k».proof.Proof.Proj.Project0
public import proofs.«01_k».proof.Proof.Gen.Project0RefIdeal.Run

/-! The reference's array is the same, and the claims. -/

@[expose] public section

set_option maxRecDepth 16384

noncomputable section

namespace Cert.Project0RefIdeal.Proj

open Cert.Project0RefIdeal Cert.Project0RefIdeal.Gen Idealize.ShloMosaic Idealize.ShloMosaic.TcCoe Idealize.SL.Sem

/-- The reference's array, as it computes it. -/
def out (h : FVec Ideal S8x2048x1024 .f32) (g : FVec Ideal S1x1024 .f32) (sh sc : FVec Ideal S8x1x1024 .f32) (w : FVec Ideal S1024x2304 .bf16) :
    FVec Ideal S8x2048x2304 .f32 :=
  Host.dotGeneral dot_S8x2048x1024_S1024x2304_S8x2048x2304_2_0_01_1_n_n none (addf (mulf (mulf (mulf h (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf h h) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![1, 2] bcast_S1x1024_S1x1x1024_1_2 g))) (broadcastInDim S8x2048x1024 ![0, 1, 2] bcast_S8x1x1024_S8x2048x1024_0_1_2 (addf (broadcastInDim S8x1x1024 ![] bcast_S_S8x1x1024 (constant S_ .f32 0x3F800000#32)) sc))) (broadcastInDim S8x2048x1024 ![0, 1, 2] bcast_S8x1x1024_S8x2048x1024_0_1_2 sh)) (extf .f32 w bitsLt_bf16_f32)

theorem out_eq (h : FVec Ideal S8x2048x1024 .f32) (g : FVec Ideal S1x1024 .f32) (sh sc : FVec Ideal S8x1x1024 .f32) (w : FVec Ideal S1024x2304 .bf16) :
    out h g sh sc w = Cert.Proj.proj h g sh sc w := by
  have key : ∀ (b : Fin 8) (r : Fin 2048) (n : Fin 2304), out h g sh sc w (ix3 b r n) = Cert.Proj.ent h g sh sc w b r n := by
    intro b r n
    pointwise [out]
    rfl
  funext i
  have hi : i = ix3 (i 0) (i 1) (i 2) := by blk_ext
  rw [hi]
  exact key (i 0) (i 1) (i 2)

end Cert.Project0RefIdeal.Proj

namespace Cert.Proj.Project0

open Idealize.ShloMosaic Idealize.SL.Sem

/-- The reference's run leaves its arguments alone and every counter at zero. -/
theorem reference_frame : quiescent_Project0RefIdeal := fun m g _ =>
  (θ_run Project0RefIdeal.defs _ _).mono
    (fun r h => ⟨fun c => (h c).2, Idealize.ShloMosaic.sem_eq_zero_of_no_sems (by decide) r.2⟩)
    (Project0RefIdeal.Value.run (F := Ideal) m g)

theorem algebraic : algebraic_Project0Ideal_Project0RefIdeal := by
  intro m g m' g' hpre hagree
  refine ⟨fun c => Cert.Proj.proj
      (m ((c.tc : Thread Project0Ideal.nD Project0Ideal.τ).loc Project0Ideal.main_arg0))
      (m ((c.tc : Thread Project0Ideal.nD Project0Ideal.τ).loc Project0Ideal.main_arg1))
      (m ((c.tc : Thread Project0Ideal.nD Project0Ideal.τ).loc Project0Ideal.main_arg2))
      (m ((c.tc : Thread Project0Ideal.nD Project0Ideal.τ).loc Project0Ideal.main_arg3))
      (m ((c.tc : Thread Project0Ideal.nD Project0Ideal.τ).loc Project0Ideal.main_arg4)), ?_, ?_⟩
  · exact (θ_run Project0Ideal.defs _ _).mono
      (fun r h c => ⟨(h c).1.trans (Project0Ideal.Proj.fin m c), (h c).2⟩)
      (Project0Ideal.Value.run_blocks (F := Ideal) m g)
  · refine (θ_run Project0RefIdeal.defs _ _).mono (fun r h c => ⟨?_, (h c).2⟩)
      (Project0RefIdeal.Value.run (F := Ideal) m' g')
    obtain ⟨h0, h1, h2, h3, h4⟩ := hagree c
    refine (h c).1.trans ?_
    rw [h0, h1, h2, h3, h4]
    exact Project0RefIdeal.Proj.out_eq _ _ _ _ _

end Cert.Proj.Project0

end
-- ==== Proof.Proj.NextSpec.lean ====
module

public import proofs.«01_k».proof.Proof.Proj.Spec

/-! The residual stream after the out-projection, and its normed rows laid out by column. -/

@[expose] public section

set_option maxRecDepth 16384

noncomputable section

namespace Cert.Proj

open Idealize.ShloMosaic

/-- Entry `(b, r, k)` of the stream: the gated product of the two halves with the weight's halves, added to `h`. -/
def res {L : ℕ} (ya yb : Arr 8 L 512) (w : Mat 1024 1024) (h : Arr 8 L 1024) (g1 : Arr 8 1 1024) (b : Fin 8) (r : Fin L) (k : Fin 1024) : EReal :=
  h (ix3 b r k) + g1 (ix3 b 0 k) * (∑ j : Fin 512, ya (ix3 b r j) * w (ix2 ⟨j.val, by omega⟩ k) + ∑ j : Fin 512, yb (ix3 b r j) * w (ix2 ⟨512 + j.val, by omega⟩ k))

/-- The stream as an array. -/
def arr {L : ℕ} (x : Fin 8 → Fin L → Fin 1024 → EReal) : Arr 8 L 1024 := fun i => x (i 0) (i 1) (i 2)

/-- The normed rows of the stream, a row of batch `b` at column `b * L + r`. -/
def cols {L M : ℕ} (hM : M = 8 * L) (x : Fin 8 → Fin L → Fin 1024 → EReal) (n2 : Mat 1 1024) (sh sc : Arr 8 1 1024) : Mat 1024 M := fun i =>
  have h1 : (i 1).val < 8 * L := hM ▸ (i 1).isLt
  have hL : 0 < L := Nat.pos_of_ne_zero fun h0 => by rw [h0] at h1; exact absurd h1 (Nat.not_lt_zero _)
  nrow (arr x) n2 sh sc ⟨(i 1).val / L, Nat.div_lt_of_lt_mul (Nat.mul_comm 8 L ▸ h1)⟩ ⟨(i 1).val % L, Nat.mod_lt _ hL⟩ (i 0)

end Cert.Proj

end
-- ==== Proof.Proj.OutProj.lean ====
module

public import proofs.«01_k».proof.Proof.Proj.NextSpec
public import proofs.«01_k».proof.Proof.Gen.OutProjIdeal.Frame
public import Idealize.ShloMosaic.Lib.Pointwise
public import Idealize.ShloMosaic.Lib.Pipeline.ValueKit
public import Idealize.ShloMosaic.Lib.Pipeline.ReadBack

/-! The arrays the kernel leaves: at every grid point a block of the stream, and the same rows normed and transposed. -/

@[expose] public section

set_option maxRecDepth 16384

noncomputable section

namespace Cert.OutProjIdeal.Proj

open Cert.OutProjIdeal Cert.OutProjIdeal.Gen Idealize.ShloMosaic Idealize.ShloMosaic.TcCoe Idealize.SL.Sem
open Idealize.ShloMosaic.Pipeline
open Cert.Proj (nm nrow res arr cols)

/-- The stream over the loaded blocks. -/
theorem pay2_at (ya : FVec Ideal S1x512x512 .f32) (wa : FVec Ideal S512x1024 .bf16) (yb : FVec Ideal S1x512x512 .f32) (wb : FVec Ideal S512x1024 .bf16)
    (h : FVec Ideal S1x512x1024 .f32) (g1 : FVec Ideal S1x1x1024 .f32) (r : Fin 512) (k : Fin 1024) :
    k0_pay2 (F := Ideal) ya wa yb wb h g1 (ix2 r k)
      = (h (ix3 0 r k) + g1 (ix3 0 0 k) * (∑ j : Fin 512, ya (ix3 0 r j) * wa (ix2 j k) + ∑ j : Fin 512, yb (ix3 0 r j) * wb (ix2 j k)) : EReal) := by
  pointwise [k0_pay2]

theorem pay3_at (ya : FVec Ideal S1x512x512 .f32) (wa : FVec Ideal S512x1024 .bf16) (yb : FVec Ideal S1x512x512 .f32) (wb : FVec Ideal S512x1024 .bf16)
    (h : FVec Ideal S1x512x1024 .f32) (g1 : FVec Ideal S1x1x1024 .f32) (r : Fin 512) (k : Fin 1024) :
    k0_pay3 (F := Ideal) ya wa yb wb h g1 (ix3 0 r k) = k0_pay2 (F := Ideal) ya wa yb wb h g1 (ix2 r k) := by
  unfold k0_pay3
  generalize k0_pay2 (F := Ideal) ya wa yb wb h g1 = x
  pointwise

/-- The normed rows, transposed. -/
theorem pay1_at (x : FVec Ideal S512x1024 .f32) (n2 : FVec Ideal S1x1024 .f32) (sh sc : FVec Ideal S1x1x1024 .f32) (k : Fin 1024) (r : Fin 512) :
    k0_pay1 (F := Ideal) x n2 (k0_pay4 sh) (k0_pay5 sc) (mulf x x) (ix2 k r)
      = nm (fun j => x (ix2 r j)) (fun j => n2 (ix2 0 j)) (fun j => sh (ix3 0 0 j)) (fun j => sc (ix3 0 0 j)) k := by
  pointwise [k0_pay1, k0_pay4, k0_pay5]
  rfl

variable (m : (ℓ : Loc nD τ sig) → Buf (Elt Ideal) ℓ)

/-- Each window's block at a grid point. -/
theorem idx : ∀ t : Fin cfg0.N, win0_0.index t = ![t.val / 4, t.val % 4, 0] ∧ win0_1.index t = ![t.val / 4, t.val % 4, 0] ∧ win0_2.index t = ![0, 0]
    ∧ win0_3.index t = ![1, 0] ∧ win0_4.index t = ![t.val / 4, t.val % 4, 0] ∧ win0_5.index t = ![t.val / 4, 0, 0] ∧ win0_6.index t = ![0, 0]
    ∧ win0_7.index t = ![t.val / 4, 0, 0] ∧ win0_8.index t = ![t.val / 4, 0, 0] ∧ win0_9.index t = ![t.val / 4, t.val % 4, 0]
    ∧ win0_10.index t = ![0, t.val] ∧ t.val / 4 < 8 :=
  (by decide +kernel : ∀ t : Fin grid0.N, _)

theorem lt8 (t : Fin cfg0.N) : t.val / 4 < 8 := (idx t).2.2.2.2.2.2.2.2.2.2.2

/-- The batch and the row of a grid point's row. -/
abbrev bt (t : Fin cfg0.N) : Fin 8 := ⟨t.val / 4, lt8 t⟩
abbrev rw (t : Fin cfg0.N) (r : Fin 512) : Fin 2048 := ⟨t.val % 4 * 512 + r.val, by omega⟩

theorem blk0 (c : Dev nD) (t : Fin cfg0.N) (r : Fin 512) (k : Fin 512) :
    iblk m c 0 t (ix3 0 r k) = m ((c.tc : Thread nD τ).loc main_arg0) (ix3 (bt t) (rw t r) k) := by
  blk_point [iblk, V, idx t]

theorem blk1 (c : Dev nD) (t : Fin cfg0.N) (r : Fin 512) (k : Fin 512) :
    iblk m c 1 t (ix3 0 r k) = m ((c.tc : Thread nD τ).loc main_arg1) (ix3 (bt t) (rw t r) k) := by
  blk_point [iblk, V, idx t]

theorem blk2 (c : Dev nD) (t : Fin cfg0.N) (j : Fin 512) (k : Fin 1024) :
    iblk m c 2 t (ix2 j k) = m ((c.tc : Thread nD τ).loc main_arg2) (ix2 ⟨j.val, by omega⟩ k) := by
  blk_point [iblk, V, idx t]

theorem blk3 (c : Dev nD) (t : Fin cfg0.N) (j : Fin 512) (k : Fin 1024) :
    iblk m c 3 t (ix2 j k) = m ((c.tc : Thread nD τ).loc main_arg2) (ix2 ⟨512 + j.val, by omega⟩ k) := by
  blk_point [iblk, V, idx t]

theorem blk4 (c : Dev nD) (t : Fin cfg0.N) (r : Fin 512) (k : Fin 1024) :
    iblk m c 4 t (ix3 0 r k) = m ((c.tc : Thread nD τ).loc main_arg3) (ix3 (bt t) (rw t r) k) := by
  blk_point [iblk, V, idx t]

theorem blk5 (c : Dev nD) (t : Fin cfg0.N) (k : Fin 1024) :
    iblk m c 5 t (ix3 0 0 k) = m ((c.tc : Thread nD τ).loc main_arg4) (ix3 (bt t) 0 k) := by
  blk_point [iblk, V, idx t]

theorem blk6 (c : Dev nD) (t : Fin cfg0.N) (k : Fin 1024) : iblk m c 6 t (ix2 0 k) = m ((c.tc : Thread nD τ).loc main_arg5) (ix2 0 k) := by
  blk_point [iblk, V, idx t]

theorem blk7 (c : Dev nD) (t : Fin cfg0.N) (k : Fin 1024) :
    iblk m c 7 t (ix3 0 0 k) = m ((c.tc : Thread nD τ).loc main_arg6) (ix3 (bt t) 0 k) := by
  blk_point [iblk, V, idx t]

theorem blk8 (c : Dev nD) (t : Fin cfg0.N) (k : Fin 1024) :
    iblk m c 8 t (ix3 0 0 k) = m ((c.tc : Thread nD τ).loc main_arg7) (ix3 (bt t) 0 k) := by
  blk_point [iblk, V, idx t]

/-- The stream over the kernel's arguments. -/
abbrev hn (c : Dev nD) : Fin 8 → Fin 2048 → Fin 1024 → EReal :=
  res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

theorem pay2_rows (c : Dev nD) (t : Fin cfg0.N) (r : Fin 512) (k : Fin 1024) :
    k0_pay2 (iblk m c 0 t) (iblk m c 2 t) (iblk m c 1 t) (iblk m c 3 t) (iblk m c 4 t) (iblk m c 5 t) (ix2 r k) = hn m c (bt t) (rw t r) k := by
  refine (pay2_at _ _ _ _ _ _ r k).trans ?_
  simp only [blk0, blk1, blk2, blk3, blk4, blk5]
  rfl

theorem block9 (c : Dev nD) (t : Fin cfg0.N) (r : Fin 512) (k : Fin 1024) :
    out0_9 (iblk m c 0 t) (iblk m c 1 t) (iblk m c 2 t) (iblk m c 3 t) (iblk m c 4 t) (iblk m c 5 t) (iblk m c 6 t) (iblk m c 7 t) (iblk m c 8 t) (ix3 0 r k)
      = hn m c (bt t) (rw t r) k := by
  frame_out
  exact (pay3_at _ _ _ _ _ _ r k).trans (pay2_rows m c t r k)

theorem block10 (c : Dev nD) (t : Fin cfg0.N) (k : Fin 1024) (r : Fin 512) :
    out0_10 (iblk m c 0 t) (iblk m c 1 t) (iblk m c 2 t) (iblk m c 3 t) (iblk m c 4 t) (iblk m c 5 t) (iblk m c 6 t) (iblk m c 7 t) (iblk m c 8 t) (ix2 k r)
      = nrow (arr (hn m c)) (m ((c.tc : Thread nD τ).loc main_arg5)) (m ((c.tc : Thread nD τ).loc main_arg6)) (m ((c.tc : Thread nD τ).loc main_arg7)) (bt t) (rw t r) k := by
  frame_out
  refine (pay1_at _ _ _ _ k r).trans ?_
  simp only [pay2_rows, blk6, blk7, blk8]
  rfl

/-- An index of a block of either result. -/
theorem split9 (y : S1x512x1024.Idx) : ∃ (r : Fin 512) (n : Fin 1024), y = ix3 0 r n := by
  have y1 : (y 1).val < 512 := (y 1).isLt
  have y2 : (y 2).val < 1024 := (y 2).isLt
  refine ⟨⟨(y 1).val, y1⟩, ⟨(y 2).val, y2⟩, ?_⟩
  blk_ext

theorem split10 (y : S1024x512.Idx) : ∃ (k : Fin 1024) (r : Fin 512), y = ix2 k r := by
  have y0 : (y 0).val < 1024 := (y 0).isLt
  have y1 : (y 1).val < 512 := (y 1).isLt
  refine ⟨⟨(y 0).val, y0⟩, ⟨(y 1).val, y1⟩, ?_⟩
  blk_ext

/-- The stream after the run. -/
theorem fin9 (c : Dev nD) : (dats m 0 c).arrAt 9 cfg0.N = arr (hn m c) := by
  refine (dats m 0 c).arrAt_eq_of_covers 9 _ (by decide +kernel) fun t hf y => ?_
  blk_simp
  rw [after0_9]
  obtain ⟨r, n, hy⟩ := split9 y
  subst hy
  have hemb : (((View.whole main_v0_0).slice (win0_9.rect t)).emb (ix3 0 r n)) = ix3 (bt t) (rw t r) n := by
    blk_ext [idx t]
  rw [hemb]
  exact block9 m c t r n

/-- The normed rows after the run. -/
theorem fin10 (c : Dev nD) : (dats m 0 c).arrAt 10 cfg0.N
    = cols (M := 16384) rfl (hn m c) (m ((c.tc : Thread nD τ).loc main_arg5)) (m ((c.tc : Thread nD τ).loc main_arg6)) (m ((c.tc : Thread nD τ).loc main_arg7)) := by
  refine (dats m 0 c).arrAt_eq_of_covers 10 _ (by decide +kernel) fun t hf y => ?_
  blk_simp
  rw [after0_10]
  obtain ⟨k, r, hy⟩ := split10 y
  subst hy
  have hemb : (((View.whole main_v0_1).slice (win0_10.rect t)).emb (ix2 k r)) = ix2 k (⟨t.val * 512 + r.val, by have := t.isLt; have : t.val < 8 * 4 := this; omega⟩ : Fin 16384) := by
    blk_ext [idx t]
  rw [hemb]
  refine (block10 m c t k r).trans ?_
  unfold cols
  simp only [ix2]
  congr 1 <;> exact Fin.ext (by simp only [bt, rw]; omega)

end Cert.OutProjIdeal.Proj

end
-- ==== Proof.Proj.OutProjClaims.lean ====
module

public import proofs.«01_k».proof.Defs
public import proofs.«01_k».proof.Proof.Proj.OutProj
public import proofs.«01_k».proof.Proof.Gen.OutProjIdeal.Value
public import proofs.«01_k».proof.Proof.Gen.OutProjRefIdeal.Run

/-! The reference's arrays are the same, and the claims. -/

@[expose] public section

set_option maxRecDepth 16384

noncomputable section

namespace Cert.OutProjRefIdeal.Proj

open Cert.OutProjRefIdeal Cert.OutProjRefIdeal.Gen Idealize.ShloMosaic Idealize.ShloMosaic.TcCoe Idealize.SL.Sem
open Cert.Proj (res arr cols nrow)

/-- The reference's stream, as it computes it. -/
def out (ya yb : FVec Ideal S8x2048x512 .f32) (w : FVec Ideal S1024x1024 .bf16) (h : FVec Ideal S8x2048x1024 .f32) (g1 : FVec Ideal S8x1x1024 .f32) :
    FVec Ideal S8x2048x1024 .f32 :=
  addf h (mulf (broadcastInDim S8x2048x1024 ![0, 1, 2] bcast_S8x1x1024_S8x2048x1024_0_1_2 g1) (Host.dotGeneral dot_S8x2048x1024_S1024x1024_S8x2048x1024_2_0_01_1_n_n none (concatenate S8x2048x1024 2 [⟨S8x2048x512, ya⟩, ⟨S8x2048x512, yb⟩] concatenates_S8x2048x512_S8x2048x512_S8x2048x1024_d2) (extf .f32 w bitsLt_bf16_f32)))

/-- Its normed rows, as it computes them. -/
def normed (x : FVec Ideal S8x2048x1024 .f32) (n2 : FVec Ideal S1x1024 .f32) (sh sc : FVec Ideal S8x1x1024 .f32) : FVec Ideal S8x2048x1024 .f32 :=
  addf (mulf (mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![1, 2] bcast_S1x1024_S1x1x1024_1_2 n2))) (broadcastInDim S8x2048x1024 ![0, 1, 2] bcast_S8x1x1024_S8x2048x1024_0_1_2 (addf (broadcastInDim S8x1x1024 ![] bcast_S_S8x1x1024 (constant S_ .f32 0x3F800000#32)) sc))) (broadcastInDim S8x2048x1024 ![0, 1, 2] bcast_S8x1x1024_S8x2048x1024_0_1_2 sh)

/-- The normed rows laid out by column. -/
def lay (x : FVec Ideal S8x2048x1024 .f32) : FVec Ideal S1024x16384 .bf16 :=
  truncf .bf16 (transpose S1024x16384 [1, 0] (shapeCast S16384x1024 x shapeCasts_S8x2048x1024_S16384x1024) transposes_S16384x1024_S1024x16384_1_0) bitsLt_bf16_f32

/-- A row of the two halves side by side. -/
theorem halves (ya yb : FVec Ideal S8x2048x512 .f32) (b : Fin 8) (r : Fin 2048) (j : Fin 512) :
    concatenate S8x2048x1024 2 [⟨S8x2048x512, ya⟩, ⟨S8x2048x512, yb⟩] concatenates_S8x2048x512_S8x2048x512_S8x2048x1024_d2 (ix3 b r ⟨j.val, by omega⟩) = ya (ix3 b r j)
      ∧ concatenate S8x2048x1024 2 [⟨S8x2048x512, ya⟩, ⟨S8x2048x512, yb⟩] concatenates_S8x2048x512_S8x2048x512_S8x2048x1024_d2 (ix3 b r ⟨512 + j.val, by omega⟩) = yb (ix3 b r j) := by
  constructor <;> pointwise

theorem out_at (ya yb : FVec Ideal S8x2048x512 .f32) (w : FVec Ideal S1024x1024 .bf16) (h : FVec Ideal S8x2048x1024 .f32) (g1 : FVec Ideal S8x1x1024 .f32)
    (b : Fin 8) (r : Fin 2048) (k : Fin 1024) : out ya yb w h g1 (ix3 b r k) = res ya yb w h g1 b r k := by
  unfold out res
  have hc := halves ya yb b r
  revert hc
  generalize concatenate S8x2048x1024 2 [⟨S8x2048x512, ya⟩, ⟨S8x2048x512, yb⟩] concatenates_S8x2048x512_S8x2048x512_S8x2048x1024_d2 = y
  intro hc
  have hs : (∑ j : Fin 1024, y (ix3 b r j) * w (ix2 j k) : EReal)
      = ∑ j : Fin 512, ya (ix3 b r j) * w (ix2 ⟨j.val, by omega⟩ k) + ∑ j : Fin 512, yb (ix3 b r j) * w (ix2 ⟨512 + j.val, by omega⟩ k) := by
    refine (Fin.sum_univ_add (a := 512) (b := 512) _).trans (congrArg₂ _ (Finset.sum_congr rfl fun j _ => ?_) (Finset.sum_congr rfl fun j _ => ?_))
    · exact congrArg (· * _) (hc j).1
    · exact congrArg (· * _) (hc j).2
  rw [← hs]
  pointwise

theorem out_eq (ya yb : FVec Ideal S8x2048x512 .f32) (w : FVec Ideal S1024x1024 .bf16) (h : FVec Ideal S8x2048x1024 .f32) (g1 : FVec Ideal S8x1x1024 .f32) :
    out ya yb w h g1 = arr (res ya yb w h g1) := by
  funext i
  have hi : i = ix3 (i 0) (i 1) (i 2) := by blk_ext
  rw [hi]
  exact out_at ya yb w h g1 (i 0) (i 1) (i 2)

theorem normed_at (x : FVec Ideal S8x2048x1024 .f32) (n2 : FVec Ideal S1x1024 .f32) (sh sc : FVec Ideal S8x1x1024 .f32) (b : Fin 8) (r : Fin 2048) (k : Fin 1024) :
    normed x n2 sh sc (ix3 b r k) = nrow x n2 sh sc b r k := by
  pointwise [normed]
  rfl

theorem lay_at (x : FVec Ideal S8x2048x1024 .f32) (k : Fin 1024) (p : Fin 16384) :
    lay x (ix2 k p) = x (ix3 ⟨p.val / 2048, by omega⟩ ⟨p.val % 2048, by omega⟩ k) := by
  pointwise [lay]

theorem lay_eq (x : Fin 8 → Fin 2048 → Fin 1024 → EReal) (n2 : FVec Ideal S1x1024 .f32) (sh sc : FVec Ideal S8x1x1024 .f32) :
    lay (normed (arr x) n2 sh sc) = cols (M := 16384) rfl x n2 sh sc := by
  funext i
  have hi : i = ix2 (i 0) (i 1) := by blk_ext
  rw [hi]
  exact (lay_at _ (i 0) (i 1)).trans (normed_at _ _ _ _ _ _ _)

end Cert.OutProjRefIdeal.Proj

namespace Cert.Proj.OutProj

open Idealize.ShloMosaic Idealize.SL.Sem
open Cert.Proj (res arr cols)

/-- The reference's run leaves its arguments alone and every counter at zero. -/
theorem reference_frame : quiescent_OutProjRefIdeal := fun m g _ =>
  (θ_run OutProjRefIdeal.defs _ _).mono
    (fun r h => ⟨fun c => (h c).2.2, Idealize.ShloMosaic.sem_eq_zero_of_no_sems (by decide) r.2⟩)
    (OutProjRefIdeal.Value.run (F := Ideal) m g)

theorem algebraic : algebraic_OutProjIdeal_OutProjRefIdeal := by
  intro m g m' g' hpre hagree
  refine ⟨fun c => arr (OutProjIdeal.Proj.hn m c), fun c => cols (M := 16384) rfl (OutProjIdeal.Proj.hn m c)
      (m ((c.tc : Thread OutProjIdeal.nD OutProjIdeal.τ).loc OutProjIdeal.main_arg5))
      (m ((c.tc : Thread OutProjIdeal.nD OutProjIdeal.τ).loc OutProjIdeal.main_arg6))
      (m ((c.tc : Thread OutProjIdeal.nD OutProjIdeal.τ).loc OutProjIdeal.main_arg7)), ?_, ?_⟩
  · exact (θ_run OutProjIdeal.defs _ _).mono
      (fun r h c => ⟨(h c).1.trans (OutProjIdeal.Proj.fin9 m c), (h c).2.1.trans (OutProjIdeal.Proj.fin10 m c), (h c).2.2⟩)
      (OutProjIdeal.Value.run_blocks (F := Ideal) m g)
  · refine (θ_run OutProjRefIdeal.defs _ _).mono (fun r h c => ⟨?_, ?_, (h c).2.2⟩)
      (OutProjRefIdeal.Value.run (F := Ideal) m' g')
    · obtain ⟨h0, h1, h2, h3, h4, h5, h6, h7⟩ := hagree c
      refine (h c).1.trans ?_
      rw [h0, h1, h2, h3, h4]
      exact OutProjRefIdeal.Proj.out_eq _ _ _ _ _
    · obtain ⟨h0, h1, h2, h3, h4, h5, h6, h7⟩ := hagree c
      refine (h c).2.1.trans ?_
      rw [h0, h1, h2, h3, h4, h5, h6, h7]
      refine Eq.trans (b := OutProjRefIdeal.Proj.lay (OutProjRefIdeal.Proj.normed (OutProjRefIdeal.Proj.out _ _ _ _ _) _ _ _)) rfl ?_
      rw [OutProjRefIdeal.Proj.out_eq]
      exact OutProjRefIdeal.Proj.lay_eq _ _ _ _

end Cert.Proj.OutProj

end
-- ==== Proof.Proj.ReadSpec.lean ====
module

public import proofs.«01_k».proof.Proof.Proj.NextSpec

/-! The readout: the two directions added, normed per head, gated, projected, and added to the residual stream. -/

@[expose] public section

set_option maxRecDepth 16384

noncomputable section

namespace Cert.Proj

open Idealize.ShloMosaic

/-- Entry `e` of head `q` of the row `o`, divided by the head's root mean square, with gain `gn`. -/
def head (o : Fin 1024 → EReal) (gn : Fin 128 → EReal) (q : Fin 8) (e : Fin 128) : EReal :=
  o ⟨128 * q.val + e.val, by omega⟩
    * Ideal.rsqrt (Ideal.div (∑ d : Fin 128, o ⟨128 * q.val + d.val, by omega⟩ * o ⟨128 * q.val + d.val, by omega⟩) (Ideal.ofBits .f32 0x43000000#32) + Ideal.ofBits .f32 0x358637BD#32)
    * gn e

/-- The row normed per head. -/
def heads (o : Fin 1024 → EReal) (gn : Fin 128 → EReal) (k : Fin 1024) : EReal :=
  head o gn ⟨k.val / 128, by omega⟩ ⟨k.val % 128, by omega⟩

/-- The gate of a value. -/
def gate (x : EReal) : EReal := x * Ideal.div 1 (1 + Ideal.exp (-x))

/-- Entry `(b, r, n)` of the stream after the readout. -/
def after {L : ℕ} (f g : Arr 8 L 1024) (p : Arr 8 L 5120) (gn : Mat 1 128) (w : Mat 1024 1024) (h : Arr 8 L 1024) (g1 : Arr 8 1 1024) (b : Fin 8) (r : Fin L) (n : Fin 1024) : EReal :=
  h (ix3 b r n) + g1 (ix3 b 0 n)
    * ∑ k : Fin 1024, heads (fun j => f (ix3 b r j) + g (ix3 b r j)) (fun e => gn (ix2 0 e)) k * gate (p (ix3 b r ⟨4096 + k.val, by omega⟩)) * w (ix2 k n)

end Cert.Proj

end
-- ==== Proof.Proj.ReadoutHeads.lean ====
module

public import proofs.«01_k».proof.Proof.Proj.ReadSpec
public import proofs.«01_k».proof.Proof.Gen.ReadoutIdeal.Skeleton
public import Idealize.ShloMosaic.Lib.Pointwise

/-! What one block of the readout computes: its heads side by side are the rows normed per head, and the rest is a gated product. -/

@[expose] public section

set_option maxRecDepth 16384

noncomputable section

namespace Cert.ReadoutIdeal.Proj

open Cert.ReadoutIdeal Cert.ReadoutIdeal.Gen Idealize.ShloMosaic Idealize.ShloMosaic.TcCoe Idealize.SL.Sem
open Cert.Proj (nm head heads gate)

/-- The row of the added directions. -/
abbrev row (f g : FVec Ideal S1x512x1024 .f32) (r : Fin 512) : Fin 1024 → EReal := fun j => f (ix3 0 r j) + g (ix3 0 r j)

variable (f g : FVec Ideal S1x512x1024 .f32) (gn : FVec Ideal S1x128 .f32) (r : Fin 512) (e : Fin 128)

theorem tot_at (k : Fin 1024) : k0_pay4 (F := Ideal) f g (ix2 r k) = row f g r k := by
  pointwise [k0_pay4]

theorem head0 : k0_pay5 (F := Ideal) f g gn (ix2 r e) = head (row f g r) (fun e => gn (ix2 0 e)) 0 e := by
  have ht := tot_at f g r
  unfold k0_pay5
  revert ht
  generalize k0_pay4 (F := Ideal) f g = x
  intro ht
  have h0 : ∀ d : Fin 128, (⟨128 * (0 : Fin 8).val + d.val, by simp; omega⟩ : Fin 1024) = ⟨d.val, by omega⟩ := fun d => Fin.ext (by simp)
  pointwise
  simp only [ht]
  unfold head
  simp only [h0]

theorem head1 : k0_pay6 (F := Ideal) f g gn (ix2 r e) = head (row f g r) (fun e => gn (ix2 0 e)) 1 e := by
  have ht := tot_at f g r
  unfold k0_pay6
  revert ht
  generalize k0_pay4 (F := Ideal) f g = x
  intro ht
  pointwise
  simp only [ht]
  rfl

theorem head2 : k0_pay9 (F := Ideal) gn (k0_pay7 f g) (k0_pay8 f g) (ix2 r e) = head (row f g r) (fun e => gn (ix2 0 e)) 2 e := by
  have ht := tot_at f g r
  unfold k0_pay9 k0_pay8 k0_pay7
  revert ht
  generalize k0_pay4 (F := Ideal) f g = x
  intro ht
  pointwise
  simp only [ht]
  rfl

theorem head3 : k0_pay10 (F := Ideal) (k0_pay4 f g) gn (ix2 r e) = head (row f g r) (fun e => gn (ix2 0 e)) 3 e := by
  have ht := tot_at f g r
  unfold k0_pay10
  revert ht
  generalize k0_pay4 (F := Ideal) f g = x
  intro ht
  pointwise
  simp only [ht]
  rfl

theorem head4 : k0_pay11 (F := Ideal) (k0_pay4 f g) gn (ix2 r e) = head (row f g r) (fun e => gn (ix2 0 e)) 4 e := by
  have ht := tot_at f g r
  unfold k0_pay11
  revert ht
  generalize k0_pay4 (F := Ideal) f g = x
  intro ht
  pointwise
  simp only [ht]
  rfl

theorem head5 : k0_pay12 (F := Ideal) (k0_pay4 f g) gn (ix2 r e) = head (row f g r) (fun e => gn (ix2 0 e)) 5 e := by
  have ht := tot_at f g r
  unfold k0_pay12
  revert ht
  generalize k0_pay4 (F := Ideal) f g = x
  intro ht
  pointwise
  simp only [ht]
  rfl

/-- The last two heads, as the block computes them. -/
def v96 (x : FVec Ideal S512x1024 .f32) (gn : FVec Ideal S1x128 .f32) : FVec Ideal S512x128 .f32 :=
  mulf (mulf (k0_pay13 x) (broadcastTo S512x128 (rsqrt (addf (k0_pay14 x) (broadcast S512x1 (Scalar.ofBits .f32 0x358637BD#32)))) broadcasts_S512x1_S512x128)) (broadcastTo S512x128 gn broadcasts_S1x128_S512x128)

def v109 (x : FVec Ideal S512x1024 .f32) (gn : FVec Ideal S1x128 .f32) : FVec Ideal S512x128 .f32 :=
  let y := extractStridedSlice S512x128 ![0, 896] x slices_S512x1024_o0_896_S512x128
  mulf (mulf y (broadcastTo S512x128 (rsqrt (addf (divf (shapeCast S512x1 (multiReduction .add [1] S512 (mulf y y) 0x00000000#32 reduces_S512x128_S512 (.inl rfl) rfl) shapeCasts_S512_S512x1) (broadcast S512x1 (Scalar.ofBits .f32 0x43000000#32))) (broadcast S512x1 (Scalar.ofBits .f32 0x358637BD#32)))) broadcasts_S512x1_S512x128)) (broadcastTo S512x128 gn broadcasts_S1x128_S512x128)

theorem head6 : v96 (k0_pay4 f g) gn (ix2 r e) = head (row f g r) (fun e => gn (ix2 0 e)) 6 e := by
  have ht := tot_at f g r
  unfold v96 k0_pay14 k0_pay13
  revert ht
  generalize k0_pay4 (F := Ideal) f g = x
  intro ht
  pointwise
  simp only [ht]
  rfl

theorem head7 : v109 (k0_pay4 f g) gn (ix2 r e) = head (row f g r) (fun e => gn (ix2 0 e)) 7 e := by
  have ht := tot_at f g r
  unfold v109
  revert ht
  generalize k0_pay4 (F := Ideal) f g = x
  intro ht
  pointwise
  simp only [ht]
  rfl

/-- Eight heads side by side. -/
def cat (a0 a1 a2 a3 a4 a5 a6 a7 : FVec Ideal S512x128 .f32) : FVec Ideal S512x1024 .f32 :=
  concatenate S512x1024 1 [⟨S512x128, a0⟩, ⟨S512x128, a1⟩, ⟨S512x128, a2⟩, ⟨S512x128, a3⟩, ⟨S512x128, a4⟩, ⟨S512x128, a5⟩, ⟨S512x128, a6⟩, ⟨S512x128, a7⟩] concatenates_S512x128_S512x128_S512x128_S512x128_S512x128_S512x128_S512x128_S512x128_S512x1024_d1

section
variable (a0 a1 a2 a3 a4 a5 a6 a7 : FVec Ideal S512x128 .f32)

theorem cat0 : cat a0 a1 a2 a3 a4 a5 a6 a7 (ix2 r ⟨0 + e.val, by omega⟩) = a0 (ix2 r e) := by
  pointwise [cat]

theorem cat1 : cat a0 a1 a2 a3 a4 a5 a6 a7 (ix2 r ⟨128 + e.val, by omega⟩) = a1 (ix2 r e) := by
  pointwise [cat]

theorem cat2 : cat a0 a1 a2 a3 a4 a5 a6 a7 (ix2 r ⟨256 + e.val, by omega⟩) = a2 (ix2 r e) := by
  pointwise [cat]
  exact (dif_neg (by omega)).trans ((dif_neg (by omega)).trans ((dif_pos (by omega)).trans (congrArg (fun j => a2 (ix2 r j)) (Fin.ext (by simp only; omega)))))

theorem cat3 : cat a0 a1 a2 a3 a4 a5 a6 a7 (ix2 r ⟨384 + e.val, by omega⟩) = a3 (ix2 r e) := by
  pointwise [cat]
  exact (dif_neg (by omega)).trans ((dif_neg (by omega)).trans ((dif_neg (by omega)).trans ((dif_pos (by omega)).trans (congrArg (fun j => a3 (ix2 r j)) (Fin.ext (by simp only; omega))))))

theorem cat4 : cat a0 a1 a2 a3 a4 a5 a6 a7 (ix2 r ⟨512 + e.val, by omega⟩) = a4 (ix2 r e) := by
  pointwise [cat]
  exact (dif_neg (by omega)).trans ((dif_neg (by omega)).trans ((dif_neg (by omega)).trans ((dif_neg (by omega)).trans ((dif_pos (by omega)).trans (congrArg (fun j => a4 (ix2 r j)) (Fin.ext (by simp only; omega)))))))

theorem cat5 : cat a0 a1 a2 a3 a4 a5 a6 a7 (ix2 r ⟨640 + e.val, by omega⟩) = a5 (ix2 r e) := by
  pointwise [cat]
  exact (dif_neg (by omega)).trans ((dif_neg (by omega)).trans ((dif_neg (by omega)).trans ((dif_neg (by omega)).trans ((dif_neg (by omega)).trans ((dif_pos (by omega)).trans (congrArg (fun j => a5 (ix2 r j)) (Fin.ext (by simp only; omega))))))))

theorem cat6 : cat a0 a1 a2 a3 a4 a5 a6 a7 (ix2 r ⟨768 + e.val, by omega⟩) = a6 (ix2 r e) := by
  pointwise [cat]
  exact (dif_neg (by omega)).trans ((dif_neg (by omega)).trans ((dif_neg (by omega)).trans ((dif_neg (by omega)).trans ((dif_neg (by omega)).trans ((dif_neg (by omega)).trans ((dif_pos (by omega)).trans (congrArg (fun j => a6 (ix2 r j)) (Fin.ext (by simp only; omega)))))))))

theorem cat7 : cat a0 a1 a2 a3 a4 a5 a6 a7 (ix2 r ⟨896 + e.val, by omega⟩) = a7 (ix2 r e) := by
  pointwise [cat]
  exact (dif_neg (by omega)).trans ((dif_neg (by omega)).trans ((dif_neg (by omega)).trans ((dif_neg (by omega)).trans ((dif_neg (by omega)).trans ((dif_neg (by omega)).trans ((dif_neg (by omega)).trans ((congrArg (fun j => a7 (ix2 r j)) (Fin.ext (by simp only; omega))))))))))

end

/-- The block's heads side by side are the rows normed per head. -/
theorem cat_heads (k : Fin 1024) :
    cat (k0_pay5 f g gn) (k0_pay6 f g gn) (k0_pay9 gn (k0_pay7 f g) (k0_pay8 f g)) (k0_pay10 (k0_pay4 f g) gn) (k0_pay11 (k0_pay4 f g) gn) (k0_pay12 (k0_pay4 f g) gn) (v96 (k0_pay4 f g) gn) (v109 (k0_pay4 f g) gn) (ix2 r k)
      = heads (row f g r) (fun e => gn (ix2 0 e)) k := by
  obtain ⟨q, e, rfl⟩ : ∃ (q : Fin 8) (e : Fin 128), k = ⟨128 * q.val + e.val, by omega⟩ :=
    ⟨⟨k.val / 128, by omega⟩, ⟨k.val % 128, by omega⟩, Fin.ext (by simp only; omega)⟩
  have hs : heads (row f g r) (fun e => gn (ix2 0 e)) ⟨128 * q.val + e.val, by omega⟩ = head (row f g r) (fun e => gn (ix2 0 e)) q e := by
    unfold heads
    congr 1 <;> exact Fin.ext (by simp only; omega)
  rw [hs]
  match q with
  | ⟨0, _⟩ => exact (cat0 r e _ _ _ _ _ _ _ _).trans (head0 f g gn r e)
  | ⟨1, _⟩ => exact (cat1 r e _ _ _ _ _ _ _ _).trans (head1 f g gn r e)
  | ⟨2, _⟩ => exact (cat2 r e _ _ _ _ _ _ _ _).trans (head2 f g gn r e)
  | ⟨3, _⟩ => exact (cat3 r e _ _ _ _ _ _ _ _).trans (head3 f g gn r e)
  | ⟨4, _⟩ => exact (cat4 r e _ _ _ _ _ _ _ _).trans (head4 f g gn r e)
  | ⟨5, _⟩ => exact (cat5 r e _ _ _ _ _ _ _ _).trans (head5 f g gn r e)
  | ⟨6, _⟩ => exact (cat6 r e _ _ _ _ _ _ _ _).trans (head6 f g gn r e)
  | ⟨7, _⟩ => exact (cat7 r e _ _ _ _ _ _ _ _).trans (head7 f g gn r e)

/-- The gated product from the heads side by side. -/
def fromCat (y : FVec Ideal S512x1024 .f32) (p : FVec Ideal S1x512x1024 .f32) (w : FVec Ideal S1024x1024 .bf16) (g1 : FVec Ideal S1x1x1024 .f32) : FVec Ideal S512x1024 .f32 :=
  let x := shapeCast S512x1024 p shapeCasts_S1x512x1024_S512x1024
  let one := broadcast S512x1024 (Scalar.ofBits (F := Ideal) .f32 0x3F800000#32)
  mulf (broadcastTo S512x1024 (shapeCast S1x1024 g1 shapeCasts_S1x1x1024_S1x1024) broadcasts_S1x1024_S512x1024)
    (matmul dot_S512x1024_S1024x1024_S512x1024_1_0_0_1_n_n none
      (truncf .bf16 (mulf y (mulf x (divf one (addf one (exp (subf (broadcast S512x1024 (Scalar.ofBits .f32 0x00000000#32)) x)))))) bitsLt_bf16_f32) w
      (constant S512x1024 .f32 0x00000000#32))

theorem fromCat_at (y : FVec Ideal S512x1024 .f32) (p : FVec Ideal S1x512x1024 .f32) (w : FVec Ideal S1024x1024 .bf16) (g1 : FVec Ideal S1x1x1024 .f32) (n : Fin 1024) :
    fromCat y p w g1 (ix2 r n) = (g1 (ix3 0 0 n) * ∑ k : Fin 1024, y (ix2 r k) * gate (p (ix3 0 r k)) * w (ix2 k n) : EReal) := by
  unfold gate
  pointwise [fromCat]
  simp only [zero_sub]

theorem pay16_eq (p : FVec Ideal S1x512x1024 .f32) (w : FVec Ideal S1024x1024 .bf16) (g1 : FVec Ideal S1x1x1024 .f32) (x : FVec Ideal S512x1024 .f32) (a0 a1 a2 a3 a4 a5 : FVec Ideal S512x128 .f32) :
    k0_pay16 (F := Ideal) x gn a0 a1 a2 a3 a4 a5 (k0_pay13 x) (k0_pay14 x) p w g1 = fromCat (cat a0 a1 a2 a3 a4 a5 (v96 x gn) (v109 x gn)) p w g1 := rfl

/-- The normed rows, transposed. -/
theorem pay3_at (x y : FVec Ideal S512x1024 .f32) (n2 : FVec Ideal S1x1024 .f32) (sh sc : FVec Ideal S1x1x1024 .f32) (k : Fin 1024) :
    k0_pay3 (F := Ideal) x y n2 sh sc (ix2 k r)
      = nm (fun j => x (ix2 r j) + y (ix2 r j)) (fun j => n2 (ix2 0 j)) (fun j => sh (ix3 0 0 j)) (fun j => sc (ix3 0 0 j)) k := by
  pointwise [k0_pay3, k0_pay1]
  rfl

theorem pay2_at (x y : FVec Ideal S512x1024 .f32) (k : Fin 1024) : k0_pay2 (F := Ideal) x y (ix3 0 r k) = (x (ix2 r k) + y (ix2 r k) : EReal) := by
  pointwise [k0_pay2, k0_pay1]

theorem pay15_at (h : FVec Ideal S1x512x1024 .f32) (k : Fin 1024) : k0_pay15 (F := Ideal) h (ix2 r k) = h (ix3 0 r k) := by
  pointwise [k0_pay15]

/-- Entry `(r, n)` of the block's stream. -/
def tot (p h : FVec Ideal S1x512x1024 .f32) (w : FVec Ideal S1024x1024 .bf16) (g1 : FVec Ideal S1x1x1024 .f32) (n : Fin 1024) : EReal :=
  h (ix3 0 r n) + g1 (ix3 0 0 n) * ∑ k : Fin 1024, heads (row f g r) (fun e => gn (ix2 0 e)) k * gate (p (ix3 0 r k)) * w (ix2 k n)

theorem pay16_at (p : FVec Ideal S1x512x1024 .f32) (w : FVec Ideal S1024x1024 .bf16) (g1 : FVec Ideal S1x1x1024 .f32) (n : Fin 1024) :
    (k0_pay16 (F := Ideal) (k0_pay4 f g) gn (k0_pay5 f g gn) (k0_pay6 f g gn) (k0_pay9 gn (k0_pay7 f g) (k0_pay8 f g)) (k0_pay10 (k0_pay4 f g) gn) (k0_pay11 (k0_pay4 f g) gn) (k0_pay12 (k0_pay4 f g) gn) (k0_pay13 (k0_pay4 f g)) (k0_pay14 (k0_pay4 f g)) p w g1) (ix2 r n)
      = (g1 (ix3 0 0 n) * ∑ k : Fin 1024, heads (row f g r) (fun e => gn (ix2 0 e)) k * gate (p (ix3 0 r k)) * w (ix2 k n) : EReal) := by
  rw [pay16_eq]
  refine (fromCat_at r _ p w g1 n).trans (congrArg _ (Finset.sum_congr rfl fun k _ => ?_))
  rw [cat_heads]

/-- The stream's stored block. -/
theorem store10 (p h : FVec Ideal S1x512x1024 .f32) (w : FVec Ideal S1024x1024 .bf16) (g1 : FVec Ideal S1x1x1024 .f32) (n : Fin 1024) :
    k0_pay2 (F := Ideal) (k0_pay15 h) (k0_pay16 (F := Ideal) (k0_pay4 f g) gn (k0_pay5 f g gn) (k0_pay6 f g gn) (k0_pay9 gn (k0_pay7 f g) (k0_pay8 f g)) (k0_pay10 (k0_pay4 f g) gn) (k0_pay11 (k0_pay4 f g) gn) (k0_pay12 (k0_pay4 f g) gn) (k0_pay13 (k0_pay4 f g)) (k0_pay14 (k0_pay4 f g)) p w g1) (ix3 0 r n) = tot f g gn r p h w g1 n := by
  have hy := pay16_at f g gn r p w g1 n
  revert hy
  generalize (k0_pay16 (F := Ideal) (k0_pay4 f g) gn (k0_pay5 f g gn) (k0_pay6 f g gn) (k0_pay9 gn (k0_pay7 f g) (k0_pay8 f g)) (k0_pay10 (k0_pay4 f g) gn) (k0_pay11 (k0_pay4 f g) gn) (k0_pay12 (k0_pay4 f g) gn) (k0_pay13 (k0_pay4 f g)) (k0_pay14 (k0_pay4 f g)) p w g1) = y
  intro hy
  rw [pay2_at, hy, pay15_at]
  rfl

/-- The stored block of the normed rows. -/
theorem store11 (p h : FVec Ideal S1x512x1024 .f32) (w : FVec Ideal S1024x1024 .bf16) (g1 : FVec Ideal S1x1x1024 .f32)
    (n2 : FVec Ideal S1x1024 .f32) (sh sc : FVec Ideal S1x1x1024 .f32) (k : Fin 1024) :
    k0_pay3 (F := Ideal) (k0_pay15 h) (k0_pay16 (F := Ideal) (k0_pay4 f g) gn (k0_pay5 f g gn) (k0_pay6 f g gn) (k0_pay9 gn (k0_pay7 f g) (k0_pay8 f g)) (k0_pay10 (k0_pay4 f g) gn) (k0_pay11 (k0_pay4 f g) gn) (k0_pay12 (k0_pay4 f g) gn) (k0_pay13 (k0_pay4 f g)) (k0_pay14 (k0_pay4 f g)) p w g1) n2 sh sc (ix2 k r)
      = nm (tot f g gn r p h w g1) (fun j => n2 (ix2 0 j)) (fun j => sh (ix3 0 0 j)) (fun j => sc (ix3 0 0 j)) k := by
  have hy := pay16_at f g gn r p w g1
  revert hy
  generalize (k0_pay16 (F := Ideal) (k0_pay4 f g) gn (k0_pay5 f g gn) (k0_pay6 f g gn) (k0_pay9 gn (k0_pay7 f g) (k0_pay8 f g)) (k0_pay10 (k0_pay4 f g) gn) (k0_pay11 (k0_pay4 f g) gn) (k0_pay12 (k0_pay4 f g) gn) (k0_pay13 (k0_pay4 f g)) (k0_pay14 (k0_pay4 f g)) p w g1) = y
  intro hy
  refine (pay3_at r _ _ n2 sh sc k).trans ?_
  simp only [hy, pay15_at]
  rfl

end Cert.ReadoutIdeal.Proj

end
-- ==== Proof.Proj.Readout.lean ====
module

public import proofs.«01_k».proof.Proof.Proj.ReadoutHeads
public import proofs.«01_k».proof.Proof.Gen.ReadoutIdeal.Frame
public import Idealize.ShloMosaic.Lib.Pointwise
public import Idealize.ShloMosaic.Lib.Pipeline.ValueKit

/-! The arrays the readout leaves: at every grid point a block of the stream, and the same rows normed and transposed. -/

@[expose] public section

set_option maxRecDepth 16384

noncomputable section

namespace Cert.ReadoutIdeal.Proj

open Cert.ReadoutIdeal Cert.ReadoutIdeal.Gen Idealize.ShloMosaic Idealize.ShloMosaic.TcCoe Idealize.SL.Sem
open Idealize.ShloMosaic.Pipeline
open Cert.Proj (nm nrow heads gate after arr cols)

variable (m : (ℓ : Loc nD τ sig) → Buf (Elt Ideal) ℓ)

/-- Each window's block at a grid point. -/
theorem idx : ∀ t : Fin cfg0.N, win0_0.index t = ![t.val / 4, t.val % 4, 0] ∧ win0_1.index t = ![t.val / 4, t.val % 4, 0] ∧ win0_2.index t = ![t.val / 4, t.val % 4, 4]
    ∧ win0_3.index t = ![0, 0] ∧ win0_4.index t = ![0, 0] ∧ win0_5.index t = ![t.val / 4, t.val % 4, 0] ∧ win0_6.index t = ![t.val / 4, 0, 0] ∧ win0_7.index t = ![0, 0]
    ∧ win0_8.index t = ![t.val / 4, 0, 0] ∧ win0_9.index t = ![t.val / 4, 0, 0] ∧ win0_10.index t = ![t.val / 4, t.val % 4, 0]
    ∧ win0_11.index t = ![0, t.val] ∧ t.val / 4 < 8 :=
  (by decide +kernel : ∀ t : Fin grid0.N, _)

theorem lt8 (t : Fin cfg0.N) : t.val / 4 < 8 := (idx t).2.2.2.2.2.2.2.2.2.2.2.2

/-- The batch and the row of a grid point's row. -/
abbrev bt (t : Fin cfg0.N) : Fin 8 := ⟨t.val / 4, lt8 t⟩
abbrev rw (t : Fin cfg0.N) (r : Fin 512) : Fin 2048 := ⟨t.val % 4 * 512 + r.val, by omega⟩

theorem blk0 (c : Dev nD) (t : Fin cfg0.N) (r : Fin 512) (k : Fin 1024) :
    iblk m c 0 t (ix3 0 r k) = m ((c.tc : Thread nD τ).loc main_arg0) (ix3 (bt t) (rw t r) k) := by
  blk_point [iblk, V, idx t]

theorem blk1 (c : Dev nD) (t : Fin cfg0.N) (r : Fin 512) (k : Fin 1024) :
    iblk m c 1 t (ix3 0 r k) = m ((c.tc : Thread nD τ).loc main_arg1) (ix3 (bt t) (rw t r) k) := by
  blk_point [iblk, V, idx t]

theorem blk2 (c : Dev nD) (t : Fin cfg0.N) (r : Fin 512) (k : Fin 1024) :
    iblk m c 2 t (ix3 0 r k) = m ((c.tc : Thread nD τ).loc main_arg2) (ix3 (bt t) (rw t r) ⟨4096 + k.val, by omega⟩) := by
  blk_point [iblk, V, idx t]

theorem blk5 (c : Dev nD) (t : Fin cfg0.N) (r : Fin 512) (k : Fin 1024) :
    iblk m c 5 t (ix3 0 r k) = m ((c.tc : Thread nD τ).loc main_arg5) (ix3 (bt t) (rw t r) k) := by
  blk_point [iblk, V, idx t]

theorem blk3 (c : Dev nD) (t : Fin cfg0.N) (k : Fin 128) : iblk m c 3 t (ix2 0 k) = m ((c.tc : Thread nD τ).loc main_arg3) (ix2 0 k) := by
  blk_point [iblk, V, idx t]

theorem blk4 (c : Dev nD) (t : Fin cfg0.N) (j : Fin 1024) (k : Fin 1024) : iblk m c 4 t (ix2 j k) = m ((c.tc : Thread nD τ).loc main_arg4) (ix2 j k) := by
  blk_point [iblk, V, idx t]

theorem blk7 (c : Dev nD) (t : Fin cfg0.N) (k : Fin 1024) : iblk m c 7 t (ix2 0 k) = m ((c.tc : Thread nD τ).loc main_arg7) (ix2 0 k) := by
  blk_point [iblk, V, idx t]

theorem blk6 (c : Dev nD) (t : Fin cfg0.N) (k : Fin 1024) : iblk m c 6 t (ix3 0 0 k) = m ((c.tc : Thread nD τ).loc main_arg6) (ix3 (bt t) 0 k) := by
  blk_point [iblk, V, idx t]

theorem blk8 (c : Dev nD) (t : Fin cfg0.N) (k : Fin 1024) : iblk m c 8 t (ix3 0 0 k) = m ((c.tc : Thread nD τ).loc main_arg8) (ix3 (bt t) 0 k) := by
  blk_point [iblk, V, idx t]

theorem blk9 (c : Dev nD) (t : Fin cfg0.N) (k : Fin 1024) : iblk m c 9 t (ix3 0 0 k) = m ((c.tc : Thread nD τ).loc main_arg9) (ix3 (bt t) 0 k) := by
  blk_point [iblk, V, idx t]

/-- The stream over the kernel's arguments. -/
abbrev hn (c : Dev nD) : Fin 8 → Fin 2048 → Fin 1024 → EReal :=
  after (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

theorem tot_rows (c : Dev nD) (t : Fin cfg0.N) (r : Fin 512) (k : Fin 1024) :
    tot (iblk m c 0 t) (iblk m c 1 t) (iblk m c 3 t) r (iblk m c 2 t) (iblk m c 5 t) (iblk m c 4 t) (iblk m c 6 t) k = hn m c (bt t) (rw t r) k := by
  refine congrArg₂ (· + ·) (blk5 m c t r k) (congrArg₂ (· * ·) (blk6 m c t k) (Finset.sum_congr rfl fun j _ => ?_))
  refine congrArg₂ (· * ·) (congrArg₂ (· * ·) ?_ (congrArg gate (blk2 m c t r j))) (blk4 m c t j k)
  exact congrArg₂ (fun o gn => heads o gn j) (funext fun i => congrArg₂ (· + ·) (blk0 m c t r i) (blk1 m c t r i)) (funext fun e => blk3 m c t e)

theorem block10 (c : Dev nD) (t : Fin cfg0.N) (r : Fin 512) (k : Fin 1024) :
    out0_10 (iblk m c 0 t) (iblk m c 1 t) (iblk m c 2 t) (iblk m c 3 t) (iblk m c 4 t) (iblk m c 5 t) (iblk m c 6 t) (iblk m c 7 t) (iblk m c 8 t) (iblk m c 9 t) (ix3 0 r k)
      = hn m c (bt t) (rw t r) k := by
  unfold_out out0_10
  frame_out
  exact (store10 (iblk m c 0 t) (iblk m c 1 t) (iblk m c 3 t) r (iblk m c 2 t) (iblk m c 5 t) (iblk m c 4 t) (iblk m c 6 t) k).trans (tot_rows m c t r k)

theorem block11 (c : Dev nD) (t : Fin cfg0.N) (k : Fin 1024) (r : Fin 512) :
    out0_11 (iblk m c 0 t) (iblk m c 1 t) (iblk m c 2 t) (iblk m c 3 t) (iblk m c 4 t) (iblk m c 5 t) (iblk m c 6 t) (iblk m c 7 t) (iblk m c 8 t) (iblk m c 9 t) (ix2 k r)
      = nrow (arr (hn m c)) (m ((c.tc : Thread nD τ).loc main_arg7)) (m ((c.tc : Thread nD τ).loc main_arg8)) (m ((c.tc : Thread nD τ).loc main_arg9)) (bt t) (rw t r) k := by
  unfold_out out0_11
  frame_out
  refine (store11 (iblk m c 0 t) (iblk m c 1 t) (iblk m c 3 t) r (iblk m c 2 t) (iblk m c 5 t) (iblk m c 4 t) (iblk m c 6 t) (iblk m c 7 t) (iblk m c 8 t) (iblk m c 9 t) k).trans ?_
  rw [funext (tot_rows m c t r)]
  simp only [blk7, blk8, blk9]
  rfl

/-- An index of a block of either result. -/
theorem split10 (y : S1x512x1024.Idx) : ∃ (r : Fin 512) (n : Fin 1024), y = ix3 0 r n := by
  have y1 : (y 1).val < 512 := (y 1).isLt
  have y2 : (y 2).val < 1024 := (y 2).isLt
  refine ⟨⟨(y 1).val, y1⟩, ⟨(y 2).val, y2⟩, ?_⟩
  blk_ext

theorem split11 (y : S1024x512.Idx) : ∃ (k : Fin 1024) (r : Fin 512), y = ix2 k r := by
  have y0 : (y 0).val < 1024 := (y 0).isLt
  have y1 : (y 1).val < 512 := (y 1).isLt
  refine ⟨⟨(y 0).val, y0⟩, ⟨(y 1).val, y1⟩, ?_⟩
  blk_ext

/-- The stream after the run. -/
theorem fin10 (c : Dev nD) : (dats m 0 c).arrAt 10 cfg0.N = arr (hn m c) := by
  refine (dats m 0 c).arrAt_eq_of_covers 10 _ (by decide +kernel) fun t hf y => ?_
  blk_simp
  rw [after0_10]
  obtain ⟨r, n, hy⟩ := split10 y
  subst hy
  have hemb : (((View.whole main_v0_0).slice (win0_10.rect t)).emb (ix3 0 r n)) = ix3 (bt t) (rw t r) n := by
    blk_ext [idx t]
  rw [hemb]
  exact block10 m c t r n

/-- The normed rows after the run. -/
theorem fin11 (c : Dev nD) : (dats m 0 c).arrAt 11 cfg0.N
    = cols (M := 16384) rfl (hn m c) (m ((c.tc : Thread nD τ).loc main_arg7)) (m ((c.tc : Thread nD τ).loc main_arg8)) (m ((c.tc : Thread nD τ).loc main_arg9)) := by
  refine (dats m 0 c).arrAt_eq_of_covers 11 _ (by decide +kernel) fun t hf y => ?_
  blk_simp
  rw [after0_11]
  obtain ⟨k, r, hy⟩ := split11 y
  subst hy
  have hemb : (((View.whole main_v0_1).slice (win0_11.rect t)).emb (ix2 k r)) = ix2 k (⟨t.val * 512 + r.val, by have := t.isLt; have : t.val < 8 * 4 := this; omega⟩ : Fin 16384) := by
    blk_ext [idx t]
  rw [hemb]
  refine (block11 m c t k r).trans ?_
  unfold cols
  simp only [ix2]
  congr 1 <;> exact Fin.ext (by simp only [bt, rw]; omega)

end Cert.ReadoutIdeal.Proj

end
-- ==== Proof.Proj.ReadoutClaims.lean ====
module

public import proofs.«01_k».proof.Defs
public import proofs.«01_k».proof.Proof.Proj.Readout
public import proofs.«01_k».proof.Proof.Gen.ReadoutRefIdeal.Run

/-! The reference's arrays are the same, and the claims. -/

@[expose] public section

set_option maxRecDepth 16384

noncomputable section

namespace Cert.ReadoutRefIdeal.Proj

open Cert.ReadoutRefIdeal Cert.ReadoutRefIdeal.Gen Idealize.ShloMosaic Idealize.ShloMosaic.TcCoe Idealize.SL.Sem
open Cert.Proj (head heads gate after arr cols nrow)

/-- The added directions by head. -/
def split (f g : FVec Ideal S8x2048x1024 .f32) : FVec Ideal S8x2048x8x128 .f32 :=
  shapeCast S8x2048x8x128 (addf f g) shapeCasts_S8x2048x1024_S8x2048x8x128

/-- The heads, normed, as the reference computes them. -/
def hnorm (x : FVec Ideal S8x2048x8x128 .f32) (gn : FVec Ideal S1x128 .f32) : FVec Ideal S8x2048x8x128 .f32 :=
  mulf (mulf x (broadcastInDim S8x2048x8x128 ![0, 1, 2, 3] bcast_S8x2048x8x1_S8x2048x8x128_0_1_2_3 (Host.rsqrt (addf (Host.divf (broadcastInDim S8x2048x8x1 ![0, 1, 2] bcast_S8x2048x8_S8x2048x8x1_0_1_2 (Host.reduceAdd (mulf x x) (constant S_ .f32 0x00000000#32) reducesTo_S8x2048x8x128_S8x2048x8_d3 h_S_)) (broadcastInDim S8x2048x8x1 ![] bcast_S_S8x2048x8x1 (constant S_ .f32 0x43000000#32))) (broadcastInDim S8x2048x8x1 ![] bcast_S_S8x2048x8x1 (constant S_ .f32 0x358637BD#32)))))) (broadcastInDim S8x2048x8x128 ![0, 1, 2, 3] bcast_S1x1x1x128_S8x2048x8x128_0_1_2_3 (broadcastInDim S1x1x1x128 ![3] bcast_S128_S1x1x1x128_3 (shapeCast S128 gn shapeCasts_S1x128_S128)))

/-- The gates, as the reference computes them. -/
def gates (p : FVec Ideal S8x2048x5120 .f32) : FVec Ideal S8x2048x1024 .f32 :=
  mulf (extractStridedSlice S8x2048x1024 ![0, 0, 4096] p slices_S8x2048x5120_S8x2048x1024_0_0_4096) (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (extractStridedSlice S8x2048x1024 ![0, 0, 4096] p slices_S8x2048x5120_S8x2048x1024_0_0_4096)))))

/-- The stream from the normed heads and the gates. -/
def stream (x : FVec Ideal S8x2048x8x128 .f32) (z : FVec Ideal S8x2048x1024 .f32) (w : FVec Ideal S1024x1024 .bf16) (h : FVec Ideal S8x2048x1024 .f32) (g1 : FVec Ideal S8x1x1024 .f32) : FVec Ideal S8x2048x1024 .f32 :=
  addf h (mulf (broadcastInDim S8x2048x1024 ![0, 1, 2] bcast_S8x1x1024_S8x2048x1024_0_1_2 g1) (Host.dotGeneral dot_S8x2048x1024_S1024x1024_S8x2048x1024_2_0_01_1_n_n none (mulf (shapeCast S8x2048x1024 x shapeCasts_S8x2048x8x128_S8x2048x1024) z) (extf .f32 w bitsLt_bf16_f32)))

/-- The reference's stream, as it computes it. -/
def out (f g : FVec Ideal S8x2048x1024 .f32) (p : FVec Ideal S8x2048x5120 .f32) (gn : FVec Ideal S1x128 .f32) (w : FVec Ideal S1024x1024 .bf16) (h : FVec Ideal S8x2048x1024 .f32) (g1 : FVec Ideal S8x1x1024 .f32) : FVec Ideal S8x2048x1024 .f32 :=
  stream (hnorm (split f g) gn) (gates p) w h g1

theorem split_at (f g : FVec Ideal S8x2048x1024 .f32) (b : Fin 8) (r : Fin 2048) (q : Fin 8) (e : Fin 128) :
    split f g (ix4 b r q e) = (f (ix3 b r ⟨128 * q.val + e.val, by omega⟩) + g (ix3 b r ⟨128 * q.val + e.val, by omega⟩) : EReal) := by
  have hk : ∀ h, (⟨q.val * 128 + e.val, h⟩ : Fin 1024) = ⟨128 * q.val + e.val, by omega⟩ := fun _ => Fin.ext (by simp only; omega)
  pointwise [split]
  simp only [hk]

theorem hnorm_at (x : FVec Ideal S8x2048x8x128 .f32) (gn : FVec Ideal S1x128 .f32) (b : Fin 8) (r : Fin 2048) (q : Fin 8) (e : Fin 128) :
    hnorm x gn (ix4 b r q e) = (x (ix4 b r q e) * Ideal.rsqrt (Ideal.div (∑ d : Fin 128, x (ix4 b r q d) * x (ix4 b r q d)) (Ideal.ofBits .f32 0x43000000#32) + Ideal.ofBits .f32 0x358637BD#32) * gn (ix2 0 e) : EReal) := by
  pointwise [hnorm]

theorem gates_at (p : FVec Ideal S8x2048x5120 .f32) (b : Fin 8) (r : Fin 2048) (k : Fin 1024) :
    gates p (ix3 b r k) = gate (p (ix3 b r ⟨4096 + k.val, by omega⟩)) := by
  pointwise [gates]
  rfl

theorem stream_at (x : FVec Ideal S8x2048x8x128 .f32) (z : FVec Ideal S8x2048x1024 .f32) (w : FVec Ideal S1024x1024 .bf16) (h : FVec Ideal S8x2048x1024 .f32) (g1 : FVec Ideal S8x1x1024 .f32)
    (b : Fin 8) (r : Fin 2048) (n : Fin 1024) :
    stream x z w h g1 (ix3 b r n) = (h (ix3 b r n) + g1 (ix3 b 0 n) * ∑ k : Fin 1024, x (ix4 b r ⟨k.val / 128, by omega⟩ ⟨k.val % 128, by omega⟩) * z (ix3 b r k) * w (ix2 k n) : EReal) := by
  pointwise [stream]

theorem out_at (f g : FVec Ideal S8x2048x1024 .f32) (p : FVec Ideal S8x2048x5120 .f32) (gn : FVec Ideal S1x128 .f32) (w : FVec Ideal S1024x1024 .bf16) (h : FVec Ideal S8x2048x1024 .f32) (g1 : FVec Ideal S8x1x1024 .f32)
    (b : Fin 8) (r : Fin 2048) (n : Fin 1024) : out f g p gn w h g1 (ix3 b r n) = after f g p gn w h g1 b r n := by
  refine (stream_at _ _ w h g1 b r n).trans ?_
  refine congrArg (h (ix3 b r n) + ·) (congrArg (g1 (ix3 b 0 n) * ·) (Finset.sum_congr rfl fun k _ => ?_))
  refine congrArg (· * w (ix2 k n)) (congrArg₂ (· * ·) ?_ (gates_at p b r k))
  refine (hnorm_at _ gn b r _ _).trans ?_
  simp only [split_at]
  rfl

theorem out_eq (f g : FVec Ideal S8x2048x1024 .f32) (p : FVec Ideal S8x2048x5120 .f32) (gn : FVec Ideal S1x128 .f32) (w : FVec Ideal S1024x1024 .bf16) (h : FVec Ideal S8x2048x1024 .f32) (g1 : FVec Ideal S8x1x1024 .f32) :
    out f g p gn w h g1 = arr (after f g p gn w h g1) := by
  funext i
  have hi : i = ix3 (i 0) (i 1) (i 2) := by blk_ext
  rw [hi]
  exact out_at f g p gn w h g1 (i 0) (i 1) (i 2)

/-- Its normed rows, as it computes them. -/
def normed (x : FVec Ideal S8x2048x1024 .f32) (n2 : FVec Ideal S1x1024 .f32) (sh sc : FVec Ideal S8x1x1024 .f32) : FVec Ideal S8x2048x1024 .f32 :=
  addf (mulf (mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![1, 2] bcast_S1x1024_S1x1x1024_1_2 n2))) (broadcastInDim S8x2048x1024 ![0, 1, 2] bcast_S8x1x1024_S8x2048x1024_0_1_2 (addf (broadcastInDim S8x1x1024 ![] bcast_S_S8x1x1024 (constant S_ .f32 0x3F800000#32)) sc))) (broadcastInDim S8x2048x1024 ![0, 1, 2] bcast_S8x1x1024_S8x2048x1024_0_1_2 sh)

/-- The normed rows laid out by column. -/
def lay (x : FVec Ideal S8x2048x1024 .f32) : FVec Ideal S1024x16384 .bf16 :=
  truncf .bf16 (transpose S1024x16384 [1, 0] (shapeCast S16384x1024 x shapeCasts_S8x2048x1024_S16384x1024) transposes_S16384x1024_S1024x16384_1_0) bitsLt_bf16_f32

theorem normed_at (x : FVec Ideal S8x2048x1024 .f32) (n2 : FVec Ideal S1x1024 .f32) (sh sc : FVec Ideal S8x1x1024 .f32) (b : Fin 8) (r : Fin 2048) (k : Fin 1024) :
    normed x n2 sh sc (ix3 b r k) = nrow x n2 sh sc b r k := by
  pointwise [normed]
  rfl

theorem lay_at (x : FVec Ideal S8x2048x1024 .f32) (k : Fin 1024) (p : Fin 16384) :
    lay x (ix2 k p) = x (ix3 ⟨p.val / 2048, by omega⟩ ⟨p.val % 2048, by omega⟩ k) := by
  pointwise [lay]

theorem lay_eq (x : Fin 8 → Fin 2048 → Fin 1024 → EReal) (n2 : FVec Ideal S1x1024 .f32) (sh sc : FVec Ideal S8x1x1024 .f32) :
    lay (normed (arr x) n2 sh sc) = cols (M := 16384) rfl x n2 sh sc := by
  funext i
  have hi : i = ix2 (i 0) (i 1) := by blk_ext
  rw [hi]
  exact (lay_at _ (i 0) (i 1)).trans (normed_at _ _ _ _ _ _ _)

end Cert.ReadoutRefIdeal.Proj

namespace Cert.Proj.Readout

open Idealize.ShloMosaic Idealize.SL.Sem Idealize.ShloMosaic.Pipeline
open Cert.Proj (after arr cols)

/-- The reference's run leaves its arguments alone and every counter at zero. -/
theorem reference_frame : quiescent_ReadoutRefIdeal := fun m g _ =>
  (θ_run ReadoutRefIdeal.defs _ _).mono
    (fun r h => ⟨fun c => (h c).2.2, Idealize.ShloMosaic.sem_eq_zero_of_no_sems (by decide) r.2⟩)
    (ReadoutRefIdeal.Value.run (F := Ideal) m g)

open Cert.ReadoutIdeal Cert.ReadoutIdeal.Gen in
/-- A window the kernel only reads holds its argument after the run. -/
theorem input_kept (m : (ℓ : Loc nD τ sig) → Buf (Elt Ideal) ℓ) (c : Dev nD) (k : Fin cfg0.W) (hk : (cfg0.win k).isOut = false) :
    (dats m 0 c).arrAt k cfg0.N = V m c (Pipeline.arrRef spec0 k) :=
  ((dats m 0 c).arrAt_in k hk _).trans (A_eq m c k)

theorem algebraic : algebraic_ReadoutIdeal_ReadoutRefIdeal := by
  intro m g m' g' hpre hagree
  refine ⟨fun c => arr (ReadoutIdeal.Proj.hn m c), fun c => cols (M := 16384) rfl (ReadoutIdeal.Proj.hn m c)
      (m ((c.tc : Thread ReadoutIdeal.nD ReadoutIdeal.τ).loc ReadoutIdeal.main_arg7))
      (m ((c.tc : Thread ReadoutIdeal.nD ReadoutIdeal.τ).loc ReadoutIdeal.main_arg8))
      (m ((c.tc : Thread ReadoutIdeal.nD ReadoutIdeal.τ).loc ReadoutIdeal.main_arg9)), ?_, ?_⟩
  · exact (θ_run ReadoutIdeal.defs _ _).mono
      (fun r h c => ⟨((h c).1 10).trans (ReadoutIdeal.Proj.fin10 m c), ((h c).1 11).trans (ReadoutIdeal.Proj.fin11 m c),
        ((h c).1 0).trans (input_kept m c 0 rfl),
        ((h c).1 1).trans (input_kept m c 1 rfl),
        ((h c).1 2).trans (input_kept m c 2 rfl),
        ((h c).1 3).trans (input_kept m c 3 rfl),
        ((h c).1 4).trans (input_kept m c 4 rfl),
        ((h c).1 5).trans (input_kept m c 5 rfl),
        ((h c).1 6).trans (input_kept m c 6 rfl),
        ((h c).1 7).trans (input_kept m c 7 rfl),
        ((h c).1 8).trans (input_kept m c 8 rfl),
        ((h c).1 9).trans (input_kept m c 9 rfl)⟩)
      (ReadoutIdeal.Gen.run_main (F := Ideal) m g)
  · refine (θ_run ReadoutRefIdeal.defs _ _).mono (fun r h c => ⟨?_, ?_, (h c).2.2⟩)
      (ReadoutRefIdeal.Value.run (F := Ideal) m' g')
    · obtain ⟨h0, h1, h2, h3, h4, h5, h6, h7, h8, h9⟩ := hagree c
      refine (h c).1.trans ?_
      rw [h0, h1, h2, h3, h4, h5, h6]
      exact ReadoutRefIdeal.Proj.out_eq _ _ _ _ _ _ _
    · obtain ⟨h0, h1, h2, h3, h4, h5, h6, h7, h8, h9⟩ := hagree c
      refine (h c).2.1.trans ?_
      unfold ReadoutRefIdeal.Value.res_main_v46
      rw [h0, h1, h2, h3, h4, h5, h6, h7, h8, h9]
      refine Eq.trans (b := ReadoutRefIdeal.Proj.lay (ReadoutRefIdeal.Proj.normed (ReadoutRefIdeal.Proj.out _ _ _ _ _ _ _) _ _ _)) rfl ?_
      rw [ReadoutRefIdeal.Proj.out_eq]
      exact ReadoutRefIdeal.Proj.lay_eq _ _ _ _

end Cert.Proj.Readout

end
-- ==== Proof.Proj.Project1Ctx.lean ====
module

public import proofs.«01_k».proof.Proof.Proj.Spec
public import proofs.«01_k».proof.Proof.Gen.Project1CtxIdeal.Value
public import Idealize.ShloMosaic.Lib.Pointwise
public import Idealize.ShloMosaic.Lib.Pipeline.ValueKit
public import Idealize.ShloMosaic.Lib.Pipeline.ReadBack

/-! The array the kernel leaves: at every grid point the kept rows are the normed ones, and the block is their product
with the weight's columns. -/

@[expose] public section

set_option maxRecDepth 16384

noncomputable section

namespace Cert.Project1CtxIdeal.Proj

open Cert.Project1CtxIdeal Cert.Project1CtxIdeal.Gen Idealize.ShloMosaic Idealize.ShloMosaic.TcCoe Idealize.SL.Sem
open Idealize.ShloMosaic.Pipeline
open Cert.Proj (nm nrow ent proj)

/-- The normed rows over the loaded blocks. -/
theorem pay1_at (x : FVec Ideal S1x256x1024 .f32) (g : FVec Ideal S1x1024 .f32) (sh sc : FVec Ideal S1x1x1024 .f32) (r : Fin 256) (k : Fin 1024) :
    k0_pay1 (F := Ideal) x g sh sc (ix2 r k)
      = nm (fun j => x (ix3 0 r j)) (fun j => g (ix2 0 j)) (fun j => sh (ix3 0 0 j)) (fun j => sc (ix3 0 0 j)) k := by
  pointwise [k0_pay1]
  rfl

/-- The product over the kept rows and the loaded columns. -/
theorem pay2_at (a : FVec Ideal S256x1024 .bf16) (w : FVec Ideal S1024x1280 .bf16) (r : Fin 256) (n : Fin 1280) :
    k0_pay2 (F := Ideal) a w (ix3 0 r n) = (∑ k : Fin 1024, a (ix2 r k) * w (ix2 k n) : EReal) := by
  pointwise [k0_pay2]

variable (m : (ℓ : Loc nD τ sig) → Buf (Elt Ideal) ℓ)

/-- Each window's block at a grid point. -/
theorem idx : ∀ t : Fin cfg0.N, win0_0.index t = ![t.val / 4, 0, 0] ∧ win0_1.index t = ![0, 0] ∧ win0_2.index t = ![t.val / 4, 0, 0]
    ∧ win0_3.index t = ![t.val / 4, 0, 0] ∧ win0_4.index t = ![0, t.val % 4] ∧ win0_5.index t = ![t.val / 4, 0, t.val % 4] ∧ t.val / 4 < 8 :=
  (by decide +kernel : ∀ t : Fin grid0.N, _)

theorem lt8 (t : Fin cfg0.N) : t.val / 4 < 8 := (idx t).2.2.2.2.2.2

theorem blk0 (c : Dev nD) (t : Fin cfg0.N) (r : Fin 256) (k : Fin 1024) :
    iblk m c 0 t (ix3 0 r k) = m ((c.tc : Thread nD τ).loc main_arg0) (ix3 ⟨t.val / 4, lt8 t⟩ r k) := by
  blk_point [iblk, V, idx t]

theorem blk1 (c : Dev nD) (t : Fin cfg0.N) (k : Fin 1024) : iblk m c 1 t (ix2 0 k) = m ((c.tc : Thread nD τ).loc main_arg1) (ix2 0 k) := by
  blk_point [iblk, V, idx t]

theorem blk2 (c : Dev nD) (t : Fin cfg0.N) (k : Fin 1024) :
    iblk m c 2 t (ix3 0 0 k) = m ((c.tc : Thread nD τ).loc main_arg2) (ix3 ⟨t.val / 4, lt8 t⟩ 0 k) := by
  blk_point [iblk, V, idx t]

theorem blk3 (c : Dev nD) (t : Fin cfg0.N) (k : Fin 1024) :
    iblk m c 3 t (ix3 0 0 k) = m ((c.tc : Thread nD τ).loc main_arg3) (ix3 ⟨t.val / 4, lt8 t⟩ 0 k) := by
  blk_point [iblk, V, idx t]

theorem blk4 (c : Dev nD) (t : Fin cfg0.N) (k : Fin 1024) (n : Fin 1280) :
    iblk m c 4 t (ix2 k n) = m ((c.tc : Thread nD τ).loc main_arg4) (ix2 k ⟨t.val % 4 * 1280 + n.val, by omega⟩) := by
  blk_point [iblk, V, idx t]

/-- The normed rows of a grid point. -/
abbrev rows (c : Dev nD) (t : Fin cfg0.N) (r : Fin 256) (k : Fin 1024) : EReal :=
  nrow (m ((c.tc : Thread nD τ).loc main_arg0)) (m ((c.tc : Thread nD τ).loc main_arg1)) (m ((c.tc : Thread nD τ).loc main_arg2)) (m ((c.tc : Thread nD τ).loc main_arg3)) ⟨t.val / 4, lt8 t⟩ r k

theorem pay1_rows (c : Dev nD) (t : Fin cfg0.N) (r : Fin 256) (k : Fin 1024) :
    k0_pay1 (iblk m c 0 t) (iblk m c 1 t) (iblk m c 2 t) (iblk m c 3 t) (ix2 r k) = rows m c t r k := by
  refine (pay1_at _ _ _ _ r k).trans ?_
  simp only [blk0, blk1, blk2, blk3]
  rfl

/-- After every grid point the kept rows are the normed ones of its batch and row block. -/
theorem kept (c : Dev nD) : ∀ (n : ℕ) (hn : n < cfg0.N) (r : Fin 256) (k : Fin 1024),
    (outsAt0 m c n hn).2 (ix2 r k) = rows m c ⟨n, hn⟩ r k := by
  intro n
  induction n with
  | zero =>
    intro hn r k
    rw [outsAt0_A m c ⟨0, hn⟩ rfl]
    frame_out
    exact pay1_rows m c ⟨0, hn⟩ r k
  | succ n ih =>
    intro hn r k
    by_cases h : (n + 1) % 4 = 0
    · rw [outsAt0_A m c ⟨n + 1, hn⟩ h]
      frame_out
      exact pay1_rows m c ⟨n + 1, hn⟩ r k
    · rw [outsAt0_B m c ⟨n + 1, hn⟩ h]
      refine (ih (Nat.lt_of_succ_lt hn) r k).trans ?_
      unfold rows
      congr 1 <;> exact Fin.ext (by simp only; omega)

/-- The block of a grid point is the product of its kept rows and the loaded columns. -/
theorem block (c : Dev nD) (t : Fin cfg0.N) (r : Fin 256) (n : Fin 1280) :
    (outsAt0 m c t.val t.isLt).1 (ix3 0 r n) = (∑ k : Fin 1024, rows m c t r k * m ((c.tc : Thread nD τ).loc main_arg4) (ix2 k ⟨t.val % 4 * 1280 + n.val, by omega⟩) : EReal) := by
  by_cases h : t.val % 4 = 0
  · rw [outsAt0_A m c t h]
    frame_out
    refine (pay2_at _ _ r n).trans (Finset.sum_congr rfl fun k _ => ?_)
    rw [pay1_rows, blk4]
  · have hk := kept m c t.val t.isLt
    rw [outsAt0_B m c t h] at hk ⊢
    frame_out
    simp only [read_unread_whole]
    refine (pay2_at _ _ r n).trans (Finset.sum_congr rfl fun k _ => ?_)
    rw [blk4]
    exact congrArg (· * _) (hk r k)

/-- An index of a result block. -/
theorem split_at (y : S1x256x1280.Idx) : ∃ (r : Fin 256) (n : Fin 1280), y = ix3 0 r n := by
  have y1 : (y 1).val < 256 := (y 1).isLt
  have y2 : (y 2).val < 1280 := (y 2).isLt
  refine ⟨⟨(y 1).val, y1⟩, ⟨(y 2).val, y2⟩, ?_⟩
  blk_ext

/-- The array after the run. -/
theorem fin (c : Dev nD) : (dats m 0 c).arrAt 5 cfg0.N = proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp
  rw [after0_5]
  obtain ⟨r, n, hy⟩ := split_at y
  subst hy
  have hemb : (((View.whole main_v0).slice (win0_5.rect t)).emb (ix3 0 r n))
      = ix3 ⟨t.val / 4, lt8 t⟩ r ⟨t.val % 4 * 1280 + n.val, by omega⟩ := by
    blk_ext [idx t]
  rw [hemb]
  exact block m c t r n

end Cert.Project1CtxIdeal.Proj

end
-- ==== Proof.Proj.Project1CtxClaims.lean ====
module

public import proofs.«01_k».proof.Defs
public import proofs.«01_k».proof.Proof.Proj.Project1Ctx
public import proofs.«01_k».proof.Proof.Gen.Project1CtxRefIdeal.Run

/-! The reference's array is the same, and the claims. -/

@[expose] public section

set_option maxRecDepth 16384

noncomputable section

namespace Cert.Project1CtxRefIdeal.Proj

open Cert.Project1CtxRefIdeal Cert.Project1CtxRefIdeal.Gen Idealize.ShloMosaic Idealize.ShloMosaic.TcCoe Idealize.SL.Sem

/-- The reference's array, as it computes it. -/
def out (h : FVec Ideal S8x256x1024 .f32) (g : FVec Ideal S1x1024 .f32) (sh sc : FVec Ideal S8x1x1024 .f32) (w : FVec Ideal S1024x5120 .bf16) :
    FVec Ideal S8x256x5120 .f32 :=
  Host.dotGeneral dot_S8x256x1024_S1024x5120_S8x256x5120_2_0_01_1_n_n none (addf (mulf (mulf (mulf h (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf h h) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![1, 2] bcast_S1x1024_S1x1x1024_1_2 g))) (broadcastInDim S8x256x1024 ![0, 1, 2] bcast_S8x1x1024_S8x256x1024_0_1_2 (addf (broadcastInDim S8x1x1024 ![] bcast_S_S8x1x1024 (constant S_ .f32 0x3F800000#32)) sc))) (broadcastInDim S8x256x1024 ![0, 1, 2] bcast_S8x1x1024_S8x256x1024_0_1_2 sh)) (extf .f32 w bitsLt_bf16_f32)

theorem out_eq (h : FVec Ideal S8x256x1024 .f32) (g : FVec Ideal S1x1024 .f32) (sh sc : FVec Ideal S8x1x1024 .f32) (w : FVec Ideal S1024x5120 .bf16) :
    out h g sh sc w = Cert.Proj.proj h g sh sc w := by
  have key : ∀ (b : Fin 8) (r : Fin 256) (n : Fin 5120), out h g sh sc w (ix3 b r n) = Cert.Proj.ent h g sh sc w b r n := by
    intro b r n
    pointwise [out]
    rfl
  funext i
  have hi : i = ix3 (i 0) (i 1) (i 2) := by blk_ext
  rw [hi]
  exact key (i 0) (i 1) (i 2)

end Cert.Project1CtxRefIdeal.Proj

namespace Cert.Proj.Project1Ctx

open Idealize.ShloMosaic Idealize.SL.Sem

/-- The reference's run leaves its arguments alone and every counter at zero. -/
theorem reference_frame : quiescent_Project1CtxRefIdeal := fun m g _ =>
  (θ_run Project1CtxRefIdeal.defs _ _).mono
    (fun r h => ⟨fun c => (h c).2, Idealize.ShloMosaic.sem_eq_zero_of_no_sems (by decide) r.2⟩)
    (Project1CtxRefIdeal.Value.run (F := Ideal) m g)

theorem algebraic : algebraic_Project1CtxIdeal_Project1CtxRefIdeal := by
  intro m g m' g' hpre hagree
  refine ⟨fun c => Cert.Proj.proj
      (m ((c.tc : Thread Project1CtxIdeal.nD Project1CtxIdeal.τ).loc Project1CtxIdeal.main_arg0))
      (m ((c.tc : Thread Project1CtxIdeal.nD Project1CtxIdeal.τ).loc Project1CtxIdeal.main_arg1))
      (m ((c.tc : Thread Project1CtxIdeal.nD Project1CtxIdeal.τ).loc Project1CtxIdeal.main_arg2))
      (m ((c.tc : Thread Project1CtxIdeal.nD Project1CtxIdeal.τ).loc Project1CtxIdeal.main_arg3))
      (m ((c.tc : Thread Project1CtxIdeal.nD Project1CtxIdeal.τ).loc Project1CtxIdeal.main_arg4)), ?_, ?_⟩
  · exact (θ_run Project1CtxIdeal.defs _ _).mono
      (fun r h c => ⟨(h c).1.trans (Project1CtxIdeal.Proj.fin m c), (h c).2⟩)
      (Project1CtxIdeal.Value.run_blocks (F := Ideal) m g)
  · refine (θ_run Project1CtxRefIdeal.defs _ _).mono (fun r h c => ⟨?_, (h c).2⟩)
      (Project1CtxRefIdeal.Value.run (F := Ideal) m' g')
    obtain ⟨h0, h1, h2, h3, h4⟩ := hagree c
    refine (h c).1.trans ?_
    rw [h0, h1, h2, h3, h4]
    exact Project1CtxRefIdeal.Proj.out_eq _ _ _ _ _

end Cert.Proj.Project1Ctx

end
-- ==== Proof.Proj.Project0Ctx.lean ====
module

public import proofs.«01_k».proof.Proof.Proj.Spec
public import proofs.«01_k».proof.Proof.Gen.Project0CtxIdeal.Value
public import Idealize.ShloMosaic.Lib.Pointwise
public import Idealize.ShloMosaic.Lib.Pipeline.ValueKit
public import Idealize.ShloMosaic.Lib.Pipeline.ReadBack

/-! The array the kernel leaves: at every grid point the kept rows are the normed ones, and the block is their product
with the weight's columns. -/

@[expose] public section

set_option maxRecDepth 16384

noncomputable section

namespace Cert.Project0CtxIdeal.Proj

open Cert.Project0CtxIdeal Cert.Project0CtxIdeal.Gen Idealize.ShloMosaic Idealize.ShloMosaic.TcCoe Idealize.SL.Sem
open Idealize.ShloMosaic.Pipeline
open Cert.Proj (nm nrow ent proj)

/-- The normed rows over the loaded blocks. -/
theorem pay1_at (x : FVec Ideal S1x256x1024 .f32) (g : FVec Ideal S1x1024 .f32) (sh sc : FVec Ideal S1x1x1024 .f32) (r : Fin 256) (k : Fin 1024) :
    k0_pay1 (F := Ideal) x g sh sc (ix2 r k)
      = nm (fun j => x (ix3 0 r j)) (fun j => g (ix2 0 j)) (fun j => sh (ix3 0 0 j)) (fun j => sc (ix3 0 0 j)) k := by
  pointwise [k0_pay1]
  rfl

/-- The product over the kept rows and the loaded columns. -/
theorem pay2_at (a : FVec Ideal S256x1024 .bf16) (w : FVec Ideal S1024x1152 .bf16) (r : Fin 256) (n : Fin 1152) :
    k0_pay2 (F := Ideal) a w (ix3 0 r n) = (∑ k : Fin 1024, a (ix2 r k) * w (ix2 k n) : EReal) := by
  pointwise [k0_pay2]

variable (m : (ℓ : Loc nD τ sig) → Buf (Elt Ideal) ℓ)

/-- Each window's block at a grid point. -/
theorem idx : ∀ t : Fin cfg0.N, win0_0.index t = ![t.val / 2, 0, 0] ∧ win0_1.index t = ![0, 0] ∧ win0_2.index t = ![t.val / 2, 0, 0]
    ∧ win0_3.index t = ![t.val / 2, 0, 0] ∧ win0_4.index t = ![0, t.val % 2] ∧ win0_5.index t = ![t.val / 2, 0, t.val % 2] ∧ t.val / 2 < 8 :=
  (by decide +kernel : ∀ t : Fin grid0.N, _)

theorem lt8 (t : Fin cfg0.N) : t.val / 2 < 8 := (idx t).2.2.2.2.2.2

theorem blk0 (c : Dev nD) (t : Fin cfg0.N) (r : Fin 256) (k : Fin 1024) :
    iblk m c 0 t (ix3 0 r k) = m ((c.tc : Thread nD τ).loc main_arg0) (ix3 ⟨t.val / 2, lt8 t⟩ r k) := by
  blk_point [iblk, V, idx t]

theorem blk1 (c : Dev nD) (t : Fin cfg0.N) (k : Fin 1024) : iblk m c 1 t (ix2 0 k) = m ((c.tc : Thread nD τ).loc main_arg1) (ix2 0 k) := by
  blk_point [iblk, V, idx t]

theorem blk2 (c : Dev nD) (t : Fin cfg0.N) (k : Fin 1024) :
    iblk m c 2 t (ix3 0 0 k) = m ((c.tc : Thread nD τ).loc main_arg2) (ix3 ⟨t.val / 2, lt8 t⟩ 0 k) := by
  blk_point [iblk, V, idx t]

theorem blk3 (c : Dev nD) (t : Fin cfg0.N) (k : Fin 1024) :
    iblk m c 3 t (ix3 0 0 k) = m ((c.tc : Thread nD τ).loc main_arg3) (ix3 ⟨t.val / 2, lt8 t⟩ 0 k) := by
  blk_point [iblk, V, idx t]

theorem blk4 (c : Dev nD) (t : Fin cfg0.N) (k : Fin 1024) (n : Fin 1152) :
    iblk m c 4 t (ix2 k n) = m ((c.tc : Thread nD τ).loc main_arg4) (ix2 k ⟨t.val % 2 * 1152 + n.val, by omega⟩) := by
  blk_point [iblk, V, idx t]

/-- The normed rows of a grid point. -/
abbrev rows (c : Dev nD) (t : Fin cfg0.N) (r : Fin 256) (k : Fin 1024) : EReal :=
  nrow (m ((c.tc : Thread nD τ).loc main_arg0)) (m ((c.tc : Thread nD τ).loc main_arg1)) (m ((c.tc : Thread nD τ).loc main_arg2)) (m ((c.tc : Thread nD τ).loc main_arg3)) ⟨t.val / 2, lt8 t⟩ r k

theorem pay1_rows (c : Dev nD) (t : Fin cfg0.N) (r : Fin 256) (k : Fin 1024) :
    k0_pay1 (iblk m c 0 t) (iblk m c 1 t) (iblk m c 2 t) (iblk m c 3 t) (ix2 r k) = rows m c t r k := by
  refine (pay1_at _ _ _ _ r k).trans ?_
  simp only [blk0, blk1, blk2, blk3]
  rfl

/-- After every grid point the kept rows are the normed ones of its batch and row block. -/
theorem kept (c : Dev nD) : ∀ (n : ℕ) (hn : n < cfg0.N) (r : Fin 256) (k : Fin 1024),
    (outsAt0 m c n hn).2 (ix2 r k) = rows m c ⟨n, hn⟩ r k := by
  intro n
  induction n with
  | zero =>
    intro hn r k
    rw [outsAt0_A m c ⟨0, hn⟩ rfl]
    frame_out
    exact pay1_rows m c ⟨0, hn⟩ r k
  | succ n ih =>
    intro hn r k
    by_cases h : (n + 1) % 2 = 0
    · rw [outsAt0_A m c ⟨n + 1, hn⟩ h]
      frame_out
      exact pay1_rows m c ⟨n + 1, hn⟩ r k
    · rw [outsAt0_B m c ⟨n + 1, hn⟩ h]
      refine (ih (Nat.lt_of_succ_lt hn) r k).trans ?_
      unfold rows
      congr 1 <;> exact Fin.ext (by simp only; omega)

/-- The block of a grid point is the product of its kept rows and the loaded columns. -/
theorem block (c : Dev nD) (t : Fin cfg0.N) (r : Fin 256) (n : Fin 1152) :
    (outsAt0 m c t.val t.isLt).1 (ix3 0 r n) = (∑ k : Fin 1024, rows m c t r k * m ((c.tc : Thread nD τ).loc main_arg4) (ix2 k ⟨t.val % 2 * 1152 + n.val, by omega⟩) : EReal) := by
  by_cases h : t.val % 2 = 0
  · rw [outsAt0_A m c t h]
    frame_out
    refine (pay2_at _ _ r n).trans (Finset.sum_congr rfl fun k _ => ?_)
    rw [pay1_rows, blk4]
  · have hk := kept m c t.val t.isLt
    rw [outsAt0_B m c t h] at hk ⊢
    frame_out
    simp only [read_unread_whole]
    refine (pay2_at _ _ r n).trans (Finset.sum_congr rfl fun k _ => ?_)
    rw [blk4]
    exact congrArg (· * _) (hk r k)

/-- An index of a result block. -/
theorem split_at (y : S1x256x1152.Idx) : ∃ (r : Fin 256) (n : Fin 1152), y = ix3 0 r n := by
  have y1 : (y 1).val < 256 := (y 1).isLt
  have y2 : (y 2).val < 1152 := (y 2).isLt
  refine ⟨⟨(y 1).val, y1⟩, ⟨(y 2).val, y2⟩, ?_⟩
  blk_ext

/-- The array after the run. -/
theorem fin (c : Dev nD) : (dats m 0 c).arrAt 5 cfg0.N = proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp
  rw [after0_5]
  obtain ⟨r, n, hy⟩ := split_at y
  subst hy
  have hemb : (((View.whole main_v0).slice (win0_5.rect t)).emb (ix3 0 r n))
      = ix3 ⟨t.val / 2, lt8 t⟩ r ⟨t.val % 2 * 1152 + n.val, by omega⟩ := by
    blk_ext [idx t]
  rw [hemb]
  exact block m c t r n

end Cert.Project0CtxIdeal.Proj

end
-- ==== Proof.Proj.Project0CtxClaims.lean ====
module

public import proofs.«01_k».proof.Defs
public import proofs.«01_k».proof.Proof.Proj.Project0Ctx
public import proofs.«01_k».proof.Proof.Gen.Project0CtxRefIdeal.Run

/-! The reference's array is the same, and the claims. -/

@[expose] public section

set_option maxRecDepth 16384

noncomputable section

namespace Cert.Project0CtxRefIdeal.Proj

open Cert.Project0CtxRefIdeal Cert.Project0CtxRefIdeal.Gen Idealize.ShloMosaic Idealize.ShloMosaic.TcCoe Idealize.SL.Sem

/-- The reference's array, as it computes it. -/
def out (h : FVec Ideal S8x256x1024 .f32) (g : FVec Ideal S1x1024 .f32) (sh sc : FVec Ideal S8x1x1024 .f32) (w : FVec Ideal S1024x2304 .bf16) :
    FVec Ideal S8x256x2304 .f32 :=
  Host.dotGeneral dot_S8x256x1024_S1024x2304_S8x256x2304_2_0_01_1_n_n none (addf (mulf (mulf (mulf h (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf h h) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![1, 2] bcast_S1x1024_S1x1x1024_1_2 g))) (broadcastInDim S8x256x1024 ![0, 1, 2] bcast_S8x1x1024_S8x256x1024_0_1_2 (addf (broadcastInDim S8x1x1024 ![] bcast_S_S8x1x1024 (constant S_ .f32 0x3F800000#32)) sc))) (broadcastInDim S8x256x1024 ![0, 1, 2] bcast_S8x1x1024_S8x256x1024_0_1_2 sh)) (extf .f32 w bitsLt_bf16_f32)

theorem out_eq (h : FVec Ideal S8x256x1024 .f32) (g : FVec Ideal S1x1024 .f32) (sh sc : FVec Ideal S8x1x1024 .f32) (w : FVec Ideal S1024x2304 .bf16) :
    out h g sh sc w = Cert.Proj.proj h g sh sc w := by
  have key : ∀ (b : Fin 8) (r : Fin 256) (n : Fin 2304), out h g sh sc w (ix3 b r n) = Cert.Proj.ent h g sh sc w b r n := by
    intro b r n
    pointwise [out]
    rfl
  funext i
  have hi : i = ix3 (i 0) (i 1) (i 2) := by blk_ext
  rw [hi]
  exact key (i 0) (i 1) (i 2)

end Cert.Project0CtxRefIdeal.Proj

namespace Cert.Proj.Project0Ctx

open Idealize.ShloMosaic Idealize.SL.Sem

/-- The reference's run leaves its arguments alone and every counter at zero. -/
theorem reference_frame : quiescent_Project0CtxRefIdeal := fun m g _ =>
  (θ_run Project0CtxRefIdeal.defs _ _).mono
    (fun r h => ⟨fun c => (h c).2, Idealize.ShloMosaic.sem_eq_zero_of_no_sems (by decide) r.2⟩)
    (Project0CtxRefIdeal.Value.run (F := Ideal) m g)

theorem algebraic : algebraic_Project0CtxIdeal_Project0CtxRefIdeal := by
  intro m g m' g' hpre hagree
  refine ⟨fun c => Cert.Proj.proj
      (m ((c.tc : Thread Project0CtxIdeal.nD Project0CtxIdeal.τ).loc Project0CtxIdeal.main_arg0))
      (m ((c.tc : Thread Project0CtxIdeal.nD Project0CtxIdeal.τ).loc Project0CtxIdeal.main_arg1))
      (m ((c.tc : Thread Project0CtxIdeal.nD Project0CtxIdeal.τ).loc Project0CtxIdeal.main_arg2))
      (m ((c.tc : Thread Project0CtxIdeal.nD Project0CtxIdeal.τ).loc Project0CtxIdeal.main_arg3))
      (m ((c.tc : Thread Project0CtxIdeal.nD Project0CtxIdeal.τ).loc Project0CtxIdeal.main_arg4)), ?_, ?_⟩
  · exact (θ_run Project0CtxIdeal.defs _ _).mono
      (fun r h c => ⟨(h c).1.trans (Project0CtxIdeal.Proj.fin m c), (h c).2⟩)
      (Project0CtxIdeal.Value.run_blocks (F := Ideal) m g)
  · refine (θ_run Project0CtxRefIdeal.defs _ _).mono (fun r h c => ⟨?_, (h c).2⟩)
      (Project0CtxRefIdeal.Value.run (F := Ideal) m' g')
    obtain ⟨h0, h1, h2, h3, h4⟩ := hagree c
    refine (h c).1.trans ?_
    rw [h0, h1, h2, h3, h4]
    exact Project0CtxRefIdeal.Proj.out_eq _ _ _ _ _

end Cert.Proj.Project0Ctx

end
-- ==== Proof.Proj.OutProjCtx.lean ====
module

public import proofs.«01_k».proof.Proof.Proj.NextSpec
public import proofs.«01_k».proof.Proof.Gen.OutProjCtxIdeal.Frame
public import Idealize.ShloMosaic.Lib.Pointwise
public import Idealize.ShloMosaic.Lib.Pipeline.ValueKit
public import Idealize.ShloMosaic.Lib.Pipeline.ReadBack

/-! The arrays the kernel leaves: at every grid point a block of the stream, and the same rows normed and transposed. -/

@[expose] public section

set_option maxRecDepth 16384

noncomputable section

namespace Cert.OutProjCtxIdeal.Proj

open Cert.OutProjCtxIdeal Cert.OutProjCtxIdeal.Gen Idealize.ShloMosaic Idealize.ShloMosaic.TcCoe Idealize.SL.Sem
open Idealize.ShloMosaic.Pipeline
open Cert.Proj (nm nrow res arr cols)

/-- The stream over the loaded blocks. -/
theorem pay2_at (ya : FVec Ideal S1x256x512 .f32) (wa : FVec Ideal S512x1024 .bf16) (yb : FVec Ideal S1x256x512 .f32) (wb : FVec Ideal S512x1024 .bf16)
    (h : FVec Ideal S1x256x1024 .f32) (g1 : FVec Ideal S1x1x1024 .f32) (r : Fin 256) (k : Fin 1024) :
    k0_pay2 (F := Ideal) ya wa yb wb h g1 (ix2 r k)
      = (h (ix3 0 r k) + g1 (ix3 0 0 k) * (∑ j : Fin 512, ya (ix3 0 r j) * wa (ix2 j k) + ∑ j : Fin 512, yb (ix3 0 r j) * wb (ix2 j k)) : EReal) := by
  pointwise [k0_pay2]

theorem pay3_at (ya : FVec Ideal S1x256x512 .f32) (wa : FVec Ideal S512x1024 .bf16) (yb : FVec Ideal S1x256x512 .f32) (wb : FVec Ideal S512x1024 .bf16)
    (h : FVec Ideal S1x256x1024 .f32) (g1 : FVec Ideal S1x1x1024 .f32) (r : Fin 256) (k : Fin 1024) :
    k0_pay3 (F := Ideal) ya wa yb wb h g1 (ix3 0 r k) = k0_pay2 (F := Ideal) ya wa yb wb h g1 (ix2 r k) := by
  unfold k0_pay3
  generalize k0_pay2 (F := Ideal) ya wa yb wb h g1 = x
  pointwise

/-- The normed rows, transposed. -/
theorem pay1_at (x : FVec Ideal S256x1024 .f32) (n2 : FVec Ideal S1x1024 .f32) (sh sc : FVec Ideal S1x1x1024 .f32) (k : Fin 1024) (r : Fin 256) :
    k0_pay1 (F := Ideal) x n2 (k0_pay4 sh) (k0_pay5 sc) (mulf x x) (ix2 k r)
      = nm (fun j => x (ix2 r j)) (fun j => n2 (ix2 0 j)) (fun j => sh (ix3 0 0 j)) (fun j => sc (ix3 0 0 j)) k := by
  pointwise [k0_pay1, k0_pay4, k0_pay5]
  rfl

variable (m : (ℓ : Loc nD τ sig) → Buf (Elt Ideal) ℓ)

/-- Each window's block at a grid point. -/
theorem idx : ∀ t : Fin cfg0.N, win0_0.index t = ![t.val / 1, t.val % 1, 0] ∧ win0_1.index t = ![t.val / 1, t.val % 1, 0] ∧ win0_2.index t = ![0, 0]
    ∧ win0_3.index t = ![1, 0] ∧ win0_4.index t = ![t.val / 1, t.val % 1, 0] ∧ win0_5.index t = ![t.val / 1, 0, 0] ∧ win0_6.index t = ![0, 0]
    ∧ win0_7.index t = ![t.val / 1, 0, 0] ∧ win0_8.index t = ![t.val / 1, 0, 0] ∧ win0_9.index t = ![t.val / 1, t.val % 1, 0]
    ∧ win0_10.index t = ![0, t.val] ∧ t.val / 1 < 8 :=
  (by decide +kernel : ∀ t : Fin grid0.N, _)

theorem lt8 (t : Fin cfg0.N) : t.val / 1 < 8 := (idx t).2.2.2.2.2.2.2.2.2.2.2

/-- The batch and the row of a grid point's row. -/
abbrev bt (t : Fin cfg0.N) : Fin 8 := ⟨t.val / 1, lt8 t⟩
abbrev rw (t : Fin cfg0.N) (r : Fin 256) : Fin 256 := ⟨t.val % 1 * 256 + r.val, by omega⟩

theorem blk0 (c : Dev nD) (t : Fin cfg0.N) (r : Fin 256) (k : Fin 512) :
    iblk m c 0 t (ix3 0 r k) = m ((c.tc : Thread nD τ).loc main_arg0) (ix3 (bt t) (rw t r) k) := by
  blk_point [iblk, V, idx t]

theorem blk1 (c : Dev nD) (t : Fin cfg0.N) (r : Fin 256) (k : Fin 512) :
    iblk m c 1 t (ix3 0 r k) = m ((c.tc : Thread nD τ).loc main_arg1) (ix3 (bt t) (rw t r) k) := by
  blk_point [iblk, V, idx t]

theorem blk2 (c : Dev nD) (t : Fin cfg0.N) (j : Fin 512) (k : Fin 1024) :
    iblk m c 2 t (ix2 j k) = m ((c.tc : Thread nD τ).loc main_arg2) (ix2 ⟨j.val, by omega⟩ k) := by
  blk_point [iblk, V, idx t]

theorem blk3 (c : Dev nD) (t : Fin cfg0.N) (j : Fin 512) (k : Fin 1024) :
    iblk m c 3 t (ix2 j k) = m ((c.tc : Thread nD τ).loc main_arg2) (ix2 ⟨512 + j.val, by omega⟩ k) := by
  blk_point [iblk, V, idx t]

theorem blk4 (c : Dev nD) (t : Fin cfg0.N) (r : Fin 256) (k : Fin 1024) :
    iblk m c 4 t (ix3 0 r k) = m ((c.tc : Thread nD τ).loc main_arg3) (ix3 (bt t) (rw t r) k) := by
  blk_point [iblk, V, idx t]

theorem blk5 (c : Dev nD) (t : Fin cfg0.N) (k : Fin 1024) :
    iblk m c 5 t (ix3 0 0 k) = m ((c.tc : Thread nD τ).loc main_arg4) (ix3 (bt t) 0 k) := by
  blk_point [iblk, V, idx t]

theorem blk6 (c : Dev nD) (t : Fin cfg0.N) (k : Fin 1024) : iblk m c 6 t (ix2 0 k) = m ((c.tc : Thread nD τ).loc main_arg5) (ix2 0 k) := by
  blk_point [iblk, V, idx t]

theorem blk7 (c : Dev nD) (t : Fin cfg0.N) (k : Fin 1024) :
    iblk m c 7 t (ix3 0 0 k) = m ((c.tc : Thread nD τ).loc main_arg6) (ix3 (bt t) 0 k) := by
  blk_point [iblk, V, idx t]

theorem blk8 (c : Dev nD) (t : Fin cfg0.N) (k : Fin 1024) :
    iblk m c 8 t (ix3 0 0 k) = m ((c.tc : Thread nD τ).loc main_arg7) (ix3 (bt t) 0 k) := by
  blk_point [iblk, V, idx t]

/-- The stream over the kernel's arguments. -/
abbrev hn (c : Dev nD) : Fin 8 → Fin 256 → Fin 1024 → EReal :=
  res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

theorem pay2_rows (c : Dev nD) (t : Fin cfg0.N) (r : Fin 256) (k : Fin 1024) :
    k0_pay2 (iblk m c 0 t) (iblk m c 2 t) (iblk m c 1 t) (iblk m c 3 t) (iblk m c 4 t) (iblk m c 5 t) (ix2 r k) = hn m c (bt t) (rw t r) k := by
  refine (pay2_at _ _ _ _ _ _ r k).trans ?_
  simp only [blk0, blk1, blk2, blk3, blk4, blk5]
  rfl

theorem block9 (c : Dev nD) (t : Fin cfg0.N) (r : Fin 256) (k : Fin 1024) :
    out0_9 (iblk m c 0 t) (iblk m c 1 t) (iblk m c 2 t) (iblk m c 3 t) (iblk m c 4 t) (iblk m c 5 t) (iblk m c 6 t) (iblk m c 7 t) (iblk m c 8 t) (ix3 0 r k)
      = hn m c (bt t) (rw t r) k := by
  frame_out
  exact (pay3_at _ _ _ _ _ _ r k).trans (pay2_rows m c t r k)

theorem block10 (c : Dev nD) (t : Fin cfg0.N) (k : Fin 1024) (r : Fin 256) :
    out0_10 (iblk m c 0 t) (iblk m c 1 t) (iblk m c 2 t) (iblk m c 3 t) (iblk m c 4 t) (iblk m c 5 t) (iblk m c 6 t) (iblk m c 7 t) (iblk m c 8 t) (ix2 k r)
      = nrow (arr (hn m c)) (m ((c.tc : Thread nD τ).loc main_arg5)) (m ((c.tc : Thread nD τ).loc main_arg6)) (m ((c.tc : Thread nD τ).loc main_arg7)) (bt t) (rw t r) k := by
  frame_out
  refine (pay1_at _ _ _ _ k r).trans ?_
  simp only [pay2_rows, blk6, blk7, blk8]
  rfl

/-- An index of a block of either result. -/
theorem split9 (y : S1x256x1024.Idx) : ∃ (r : Fin 256) (n : Fin 1024), y = ix3 0 r n := by
  have y1 : (y 1).val < 256 := (y 1).isLt
  have y2 : (y 2).val < 1024 := (y 2).isLt
  refine ⟨⟨(y 1).val, y1⟩, ⟨(y 2).val, y2⟩, ?_⟩
  blk_ext

theorem split10 (y : S1024x256.Idx) : ∃ (k : Fin 1024) (r : Fin 256), y = ix2 k r := by
  have y0 : (y 0).val < 1024 := (y 0).isLt
  have y1 : (y 1).val < 256 := (y 1).isLt
  refine ⟨⟨(y 0).val, y0⟩, ⟨(y 1).val, y1⟩, ?_⟩
  blk_ext

/-- The stream after the run. -/
theorem fin9 (c : Dev nD) : (dats m 0 c).arrAt 9 cfg0.N = arr (hn m c) := by
  refine (dats m 0 c).arrAt_eq_of_covers 9 _ (by decide +kernel) fun t hf y => ?_
  blk_simp
  rw [after0_9]
  obtain ⟨r, n, hy⟩ := split9 y
  subst hy
  have hemb : (((View.whole main_v0_0).slice (win0_9.rect t)).emb (ix3 0 r n)) = ix3 (bt t) (rw t r) n := by
    blk_ext [idx t]
  rw [hemb]
  exact block9 m c t r n

/-- The normed rows after the run. -/
theorem fin10 (c : Dev nD) : (dats m 0 c).arrAt 10 cfg0.N
    = cols (M := 2048) rfl (hn m c) (m ((c.tc : Thread nD τ).loc main_arg5)) (m ((c.tc : Thread nD τ).loc main_arg6)) (m ((c.tc : Thread nD τ).loc main_arg7)) := by
  refine (dats m 0 c).arrAt_eq_of_covers 10 _ (by decide +kernel) fun t hf y => ?_
  blk_simp
  rw [after0_10]
  obtain ⟨k, r, hy⟩ := split10 y
  subst hy
  have hemb : (((View.whole main_v0_1).slice (win0_10.rect t)).emb (ix2 k r)) = ix2 k (⟨t.val * 256 + r.val, by have := t.isLt; have : t.val < 8 * 1 := this; omega⟩ : Fin 2048) := by
    blk_ext [idx t]
  rw [hemb]
  refine (block10 m c t k r).trans ?_
  unfold cols
  simp only [ix2]
  congr 1 <;> exact Fin.ext (by simp only [bt, rw]; omega)

end Cert.OutProjCtxIdeal.Proj

end
-- ==== Proof.Proj.OutProjCtxClaims.lean ====
module

public import proofs.«01_k».proof.Defs
public import proofs.«01_k».proof.Proof.Proj.OutProjCtx
public import proofs.«01_k».proof.Proof.Gen.OutProjCtxIdeal.Value
public import proofs.«01_k».proof.Proof.Gen.OutProjCtxRefIdeal.Run

/-! The reference's arrays are the same, and the claims. -/

@[expose] public section

set_option maxRecDepth 16384

noncomputable section

namespace Cert.OutProjCtxRefIdeal.Proj

open Cert.OutProjCtxRefIdeal Cert.OutProjCtxRefIdeal.Gen Idealize.ShloMosaic Idealize.ShloMosaic.TcCoe Idealize.SL.Sem
open Cert.Proj (res arr cols nrow)

/-- The reference's stream, as it computes it. -/
def out (ya yb : FVec Ideal S8x256x512 .f32) (w : FVec Ideal S1024x1024 .bf16) (h : FVec Ideal S8x256x1024 .f32) (g1 : FVec Ideal S8x1x1024 .f32) :
    FVec Ideal S8x256x1024 .f32 :=
  addf h (mulf (broadcastInDim S8x256x1024 ![0, 1, 2] bcast_S8x1x1024_S8x256x1024_0_1_2 g1) (Host.dotGeneral dot_S8x256x1024_S1024x1024_S8x256x1024_2_0_01_1_n_n none (concatenate S8x256x1024 2 [⟨S8x256x512, ya⟩, ⟨S8x256x512, yb⟩] concatenates_S8x256x512_S8x256x512_S8x256x1024_d2) (extf .f32 w bitsLt_bf16_f32)))

/-- Its normed rows, as it computes them. -/
def normed (x : FVec Ideal S8x256x1024 .f32) (n2 : FVec Ideal S1x1024 .f32) (sh sc : FVec Ideal S8x1x1024 .f32) : FVec Ideal S8x256x1024 .f32 :=
  addf (mulf (mulf (mulf x (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf x x) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![1, 2] bcast_S1x1024_S1x1x1024_1_2 n2))) (broadcastInDim S8x256x1024 ![0, 1, 2] bcast_S8x1x1024_S8x256x1024_0_1_2 (addf (broadcastInDim S8x1x1024 ![] bcast_S_S8x1x1024 (constant S_ .f32 0x3F800000#32)) sc))) (broadcastInDim S8x256x1024 ![0, 1, 2] bcast_S8x1x1024_S8x256x1024_0_1_2 sh)

/-- The normed rows laid out by column. -/
def lay (x : FVec Ideal S8x256x1024 .f32) : FVec Ideal S1024x2048 .bf16 :=
  truncf .bf16 (transpose S1024x2048 [1, 0] (shapeCast S2048x1024 x shapeCasts_S8x256x1024_S2048x1024) transposes_S2048x1024_S1024x2048_1_0) bitsLt_bf16_f32

/-- A row of the two halves side by side. -/
theorem halves (ya yb : FVec Ideal S8x256x512 .f32) (b : Fin 8) (r : Fin 256) (j : Fin 512) :
    concatenate S8x256x1024 2 [⟨S8x256x512, ya⟩, ⟨S8x256x512, yb⟩] concatenates_S8x256x512_S8x256x512_S8x256x1024_d2 (ix3 b r ⟨j.val, by omega⟩) = ya (ix3 b r j)
      ∧ concatenate S8x256x1024 2 [⟨S8x256x512, ya⟩, ⟨S8x256x512, yb⟩] concatenates_S8x256x512_S8x256x512_S8x256x1024_d2 (ix3 b r ⟨512 + j.val, by omega⟩) = yb (ix3 b r j) := by
  constructor <;> pointwise

theorem out_at (ya yb : FVec Ideal S8x256x512 .f32) (w : FVec Ideal S1024x1024 .bf16) (h : FVec Ideal S8x256x1024 .f32) (g1 : FVec Ideal S8x1x1024 .f32)
    (b : Fin 8) (r : Fin 256) (k : Fin 1024) : out ya yb w h g1 (ix3 b r k) = res ya yb w h g1 b r k := by
  unfold out res
  have hc := halves ya yb b r
  revert hc
  generalize concatenate S8x256x1024 2 [⟨S8x256x512, ya⟩, ⟨S8x256x512, yb⟩] concatenates_S8x256x512_S8x256x512_S8x256x1024_d2 = y
  intro hc
  have hs : (∑ j : Fin 1024, y (ix3 b r j) * w (ix2 j k) : EReal)
      = ∑ j : Fin 512, ya (ix3 b r j) * w (ix2 ⟨j.val, by omega⟩ k) + ∑ j : Fin 512, yb (ix3 b r j) * w (ix2 ⟨512 + j.val, by omega⟩ k) := by
    refine (Fin.sum_univ_add (a := 512) (b := 512) _).trans (congrArg₂ _ (Finset.sum_congr rfl fun j _ => ?_) (Finset.sum_congr rfl fun j _ => ?_))
    · exact congrArg (· * _) (hc j).1
    · exact congrArg (· * _) (hc j).2
  rw [← hs]
  pointwise

theorem out_eq (ya yb : FVec Ideal S8x256x512 .f32) (w : FVec Ideal S1024x1024 .bf16) (h : FVec Ideal S8x256x1024 .f32) (g1 : FVec Ideal S8x1x1024 .f32) :
    out ya yb w h g1 = arr (res ya yb w h g1) := by
  funext i
  have hi : i = ix3 (i 0) (i 1) (i 2) := by blk_ext
  rw [hi]
  exact out_at ya yb w h g1 (i 0) (i 1) (i 2)

theorem normed_at (x : FVec Ideal S8x256x1024 .f32) (n2 : FVec Ideal S1x1024 .f32) (sh sc : FVec Ideal S8x1x1024 .f32) (b : Fin 8) (r : Fin 256) (k : Fin 1024) :
    normed x n2 sh sc (ix3 b r k) = nrow x n2 sh sc b r k := by
  pointwise [normed]
  rfl

theorem lay_at (x : FVec Ideal S8x256x1024 .f32) (k : Fin 1024) (p : Fin 2048) :
    lay x (ix2 k p) = x (ix3 ⟨p.val / 256, by omega⟩ ⟨p.val % 256, by omega⟩ k) := by
  pointwise [lay]

theorem lay_eq (x : Fin 8 → Fin 256 → Fin 1024 → EReal) (n2 : FVec Ideal S1x1024 .f32) (sh sc : FVec Ideal S8x1x1024 .f32) :
    lay (normed (arr x) n2 sh sc) = cols (M := 2048) rfl x n2 sh sc := by
  funext i
  have hi : i = ix2 (i 0) (i 1) := by blk_ext
  rw [hi]
  exact (lay_at _ (i 0) (i 1)).trans (normed_at _ _ _ _ _ _ _)

end Cert.OutProjCtxRefIdeal.Proj

namespace Cert.Proj.OutProjCtx

open Idealize.ShloMosaic Idealize.SL.Sem
open Cert.Proj (res arr cols)

/-- The reference's run leaves its arguments alone and every counter at zero. -/
theorem reference_frame : quiescent_OutProjCtxRefIdeal := fun m g _ =>
  (θ_run OutProjCtxRefIdeal.defs _ _).mono
    (fun r h => ⟨fun c => (h c).2.2, Idealize.ShloMosaic.sem_eq_zero_of_no_sems (by decide) r.2⟩)
    (OutProjCtxRefIdeal.Value.run (F := Ideal) m g)

theorem algebraic : algebraic_OutProjCtxIdeal_OutProjCtxRefIdeal := by
  intro m g m' g' hpre hagree
  refine ⟨fun c => arr (OutProjCtxIdeal.Proj.hn m c), fun c => cols (M := 2048) rfl (OutProjCtxIdeal.Proj.hn m c)
      (m ((c.tc : Thread OutProjCtxIdeal.nD OutProjCtxIdeal.τ).loc OutProjCtxIdeal.main_arg5))
      (m ((c.tc : Thread OutProjCtxIdeal.nD OutProjCtxIdeal.τ).loc OutProjCtxIdeal.main_arg6))
      (m ((c.tc : Thread OutProjCtxIdeal.nD OutProjCtxIdeal.τ).loc OutProjCtxIdeal.main_arg7)), ?_, ?_⟩
  · exact (θ_run OutProjCtxIdeal.defs _ _).mono
      (fun r h c => ⟨(h c).1.trans (OutProjCtxIdeal.Proj.fin9 m c), (h c).2.1.trans (OutProjCtxIdeal.Proj.fin10 m c), (h c).2.2⟩)
      (OutProjCtxIdeal.Value.run_blocks (F := Ideal) m g)
  · refine (θ_run OutProjCtxRefIdeal.defs _ _).mono (fun r h c => ⟨?_, ?_, (h c).2.2⟩)
      (OutProjCtxRefIdeal.Value.run (F := Ideal) m' g')
    · obtain ⟨h0, h1, h2, h3, h4, h5, h6, h7⟩ := hagree c
      refine (h c).1.trans ?_
      rw [h0, h1, h2, h3, h4]
      exact OutProjCtxRefIdeal.Proj.out_eq _ _ _ _ _
    · obtain ⟨h0, h1, h2, h3, h4, h5, h6, h7⟩ := hagree c
      refine (h c).2.1.trans ?_
      rw [h0, h1, h2, h3, h4, h5, h6, h7]
      refine Eq.trans (b := OutProjCtxRefIdeal.Proj.lay (OutProjCtxRefIdeal.Proj.normed (OutProjCtxRefIdeal.Proj.out _ _ _ _ _) _ _ _)) rfl ?_
      rw [OutProjCtxRefIdeal.Proj.out_eq]
      exact OutProjCtxRefIdeal.Proj.lay_eq _ _ _ _

end Cert.Proj.OutProjCtx

end
-- ==== Proof.Peer.RunAny.lean ====
module

public import proofs.«01_k».proof.Proof.Peer.Offsets

/-! The body at any grid point, told of its buffers alone: the inputs' as they were, the others' at some contents. -/

@[expose] public section

set_option maxRecDepth 16384

noncomputable section

namespace Cert.Peer.Dense

open Cert.Peer Cert.Peer.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer that is held, holds something. -/
theorem some_owned (c : Dev nD) {S : Shape} {e : EltTy} (m : Memref sig .tc .vmem S e) (f) :
    (m.view.loc (c : Thread nD τ) ↦[m.view.set]{fullShare} f : sProp 𝕄) ⊢ iprop(∃ d, owns (c : Thread nD τ) m fullShare d) := by
  unfold owns
  iintro H
  iexists (View.read (Elt F) m.view f); iexists f
  isplitr; · ipureintro; rfl
  iexact H

set_option maxHeartbeats 16000000 in
theorem run_any (c : Dev nD) (i : grid0.Coords) (arg2 : Memref sig .tc .vmem S1024x512 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .f32) (harg8 : arg8.IsWhole) (arg9 : Memref sig .tc .vmem S8x128x512 .f32) (harg9 : arg9.IsWhole) (arg10 : Memref sig .tc .vmem S512x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S2x1024x512 .bf16) (harg15 : arg15.IsWhole)
    (x : Vec F S1024x512 .bf16) (u : Vec F S1x1024x1024 .bf16) (v : Vec F S1x1024x1024 .bf16) (vl : Vec F S1x1024x1024 .bf16) (rk : Vec F S8x128x512 .bf16) (bn : Vec F S8x128x512 .bf16) (cr : Vec F S8x128x512 .f32) (av : Vec F S8x128x512 .f32) (h : Vec F S512x1024 .f32) (g2 : Vec F S1x1x1024 .f32) (fg : Vec F S1x1024 .f32) (E : Set ℕ) (K : PUnit → sProp 𝕄) :
        iprop(owns (c : Thread nD τ) arg2 fullShare x ∗ owns (c : Thread nD τ) arg3 fullShare u ∗ owns (c : Thread nD τ) arg4 fullShare v ∗ owns (c : Thread nD τ) arg5 fullShare vl ∗ owns (c : Thread nD τ) arg6 fullShare rk ∗ owns (c : Thread nD τ) arg7 fullShare bn ∗ owns (c : Thread nD τ) arg8 fullShare cr ∗ owns (c : Thread nD τ) arg9 fullShare av ∗ owns (c : Thread nD τ) arg10 fullShare h ∗ owns (c : Thread nD τ) arg11 fullShare g2 ∗ owns (c : Thread nD τ) arg12 fullShare fg ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x ∗ owns (c : Thread nD τ) arg3 fullShare u ∗ owns (c : Thread nD τ) arg4 fullShare v ∗ owns (c : Thread nD τ) arg5 fullShare vl ∗ owns (c : Thread nD τ) arg6 fullShare rk ∗ owns (c : Thread nD τ) arg7 fullShare bn ∗ owns (c : Thread nD τ) arg8 fullShare cr ∗ owns (c : Thread nD τ) arg9 fullShare av ∗ owns (c : Thread nD τ) arg10 fullShare h ∗ owns (c : Thread nD τ) arg11 fullShare g2 ∗ owns (c : Thread nD τ) arg12 fullShare fg ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_peer_dense i arg2 harg2 arg3 harg3 arg4 harg4 arg5 harg5 arg6 harg6 arg7 harg7 arg8 harg8 arg9 harg9 arg10 harg10 arg11 harg11 arg12 harg12 arg13 harg13 arg14 harg14 arg15 harg15) K := by
    simp only [cc0_peer_dense_eq_skeleton]; unfold cc0_peer_dense_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    by_cases h0 : first i
    · have h1 : ¬ k0_cond2 i = 1#1 := fun h => by have := (first_iff i).1 h0; have := (last_iff i).1 h; omega
      haveI : Fact (first i) := ⟨h0⟩
      sl_exec (disch := first | sl_exact h0 | sl_exact h1)
      sl_step
      iapply Hk
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _; isplitr; · ipureintro; exact harg10.read_unread _
        iexact H10
      isplitl [H11]
      · iexists _; isplitr; · ipureintro; exact harg11.read_unread _
        iexact H11
      isplitl [H12]
      · iexists _; isplitr; · ipureintro; exact harg12.read_unread _
        iexact H12
      isplitl [H13]
      · iapply (some_owned c arg13 _); iexact H13
      isplitl [H14]
      · iapply (some_owned c arg14 _); iexact H14
      iapply (some_owned c arg15 _); iexact H15
    by_cases h1 : k0_cond2 i = 1#1
    · haveI : Fact (k0_cond2 i = 1#1) := ⟨h1⟩
      sl_exec (disch := first | sl_exact h0 | sl_exact h1)
      sl_step
      iapply Hk
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _; isplitr; · ipureintro; exact harg10.read_unread _
        iexact H10
      isplitl [H11]
      · iexists _; isplitr; · ipureintro; exact harg11.read_unread _
        iexact H11
      isplitl [H12]
      · iexists _; isplitr; · ipureintro; exact harg12.read_unread _
        iexact H12
      isplitl [H13]
      · iapply (some_owned c arg13 _); iexact H13
      isplitl [H14]
      · iapply (some_owned c arg14 _); iexact H14
      iapply (some_owned c arg15 _); iexact H15
    · sl_exec (disch := first | sl_exact h0 | sl_exact h1)
      sl_step
      iapply Hk
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _; isplitr; · ipureintro; exact harg10.read_unread _
        iexact H10
      isplitl [H11]
      · iexists _; isplitr; · ipureintro; exact harg11.read_unread _
        iexact H11
      isplitl [H12]
      · iexists _; isplitr; · ipureintro; exact harg12.read_unread _
        iexact H12
      isplitl [H13]
      · iapply (some_owned c arg13 _); iexact H13
      isplitl [H14]
      · iapply (some_owned c arg14 _); iexact H14
      iapply (some_owned c arg15 _); iexact H15

end Cert.Peer.Dense

end
-- ==== Proof.Peer.Frame.lean ====
module

public import proofs.«01_k».proof.Proof.Peer.RunAny

/-! The frame of the printed kernel: it runs, and its arguments end as they began. What it leaves in the output is not said here. -/

@[expose] public section

set_option maxRecDepth 16384

noncomputable section

namespace Cert.Peer.Dense

open Cert.Peer Cert.Peer.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two scratch buffers, as memrefs. -/
theorem rest_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d))
          ∗ (∃ r, prngReg c r)) := by
  unfold Pipeline.ΦA; rw [scopedRest0_eq]; simp only [owns_whole]; try rfl

/-- The proof data: the inputs' blocks stay; of the output nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => fun _ => Classical.choice inferInstance
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

/-- The output window's contents are forgotten. -/
abbrev forgotten : Fin cfg0.W → Bool := fun w => decide (w = 11)

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d
theorem before_10 (c : Dev nD) (t : Fin cfg0.N) (d) : (dats m 0 c).before 10 t d = iblk m c 10 t := before0_10_of m (dats m 0 c) (A_eq m c 10) (after_10 m c) t d

set_option maxHeartbeats 1600000 in
theorem body (c : Dev nD) (t : Fin cfg0.N) :
    iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare (d)))
      ⊢ wp frame (wpE (defs₀ (F := F)) Variants.none c none) Set.univ (bodyAt0 t) (fun _ =>
    iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ (∃ d, owns (c : Thread nD τ) (win0_11.stage (cfg0.slots t 11)) fullShare (d)))) := by
  unfold bodyAt0
  simp only [before_0, before_1, before_2, before_3, before_4, before_5, before_6, before_7, before_8, before_9, before_10]
  rw [after_0, after_1, after_2, after_3, after_4, after_5, after_6, after_7, after_8, after_9, after_10, show (dats m 0 c).owesAt () t.succ = (dats m 0 c).owesAt () t.castSucc from rfl,
    show (dats m 0 c).Φ t.castSucc = Pipeline.ΦA spec0 c from rfl, show (dats m 0 c).Φ t.succ = Pipeline.ΦA spec0 c from rfl, rest_eq]
  iintro ⟨⟨⟨HA, HP⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
  iapply (run_any c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HA]; · iexact HA
  isplitl [HP]; · iexact HP
  iintro ⟨H0, H1, H2, H3, H4, H5, H6, H7, H8, H9, H10, H11, HA, HP⟩
  isplitl [HA HP Hg]
  · isplitl [HA HP]
    · isplitl [HA]; · iexact HA
      iexact HP
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ forgotten := fun t => by
  rw [bigSep_W0, bigSep_W0, row]
  exact triple_restated (body m c t) rfl .rfl fun _ => .rfl

set_option backward.isDefEq.respectTransparency.types false in
theorem run_frame : θ_run defs (onTc (τ := τ) (main (F := F))) (s₀ m ρ)
    (fun r => Pipeline.RDat.FramePost cfg0 (fun c => (dats m 0 c).toRForget forgotten) (V m) r ∧ r.2.sem = fun _ => 0) :=
  Pipeline.θ_run_frame_forget_shared (Q' := _) cfgs (dats m) (0 : Fin 1) launch₀0 defs₀ Variants.none forgotten m ρ main
    (hbody := fun c => (obligation m c).loose) (hq := fun _ _ _ => rfl)
    (howed := fun _ _ => rfl) (V := V m) (hmain := hmain m Variants.none) (hA := A_eq m) (hΦ := fun _ _ => rfl)

/-- The frame claim, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(h.1.arr_in c 0 rfl).trans ((A_eq m c 0).trans (V_main_arg0 m c)),
      (h.1.arr_in c 1 rfl).trans ((A_eq m c 1).trans (V_main_arg1 m c)),
      (h.1.arr_in c 3 rfl).trans ((A_eq m c 3).trans (V_main_arg2 m c)),
      (h.1.arr_in c 4 rfl).trans ((A_eq m c 4).trans (V_main_arg3 m c)),
      (h.1.arr_in c 5 rfl).trans ((A_eq m c 5).trans (V_main_arg4 m c)),
      (h.1.arr_in c 6 rfl).trans ((A_eq m c 6).trans (V_main_arg5 m c)),
      (h.1.arr_in c 7 rfl).trans ((A_eq m c 7).trans (V_main_arg6 m c)),
      (h.1.arr_in c 8 rfl).trans ((A_eq m c 8).trans (V_main_arg7 m c)),
      (h.1.arr_in c 9 rfl).trans ((A_eq m c 9).trans (V_main_arg8 m c)),
      (h.1.arr_in c 10 rfl).trans ((A_eq m c 10).trans (V_main_arg9 m c))⟩, h.2⟩) (run_frame m ρ)

end Cert.Peer.Dense

end
-- ==== Proof.Peer.IdealOffsets.lean ====
module

public import proofs.«01_k».proof.Proof.Gen.PeerIdeal.Frame
public import proofs.«01_k».proof.Proof.Gen.PeerIdeal.Skeleton

/-! The offsets the body computes from the grid point, in closed form: the slab of this expert block is `j mod 2`, the slab before it the other. -/

@[expose] public section

namespace Cert.PeerIdeal.Dense

open Cert.PeerIdeal Cert.PeerIdeal.Gen
open Idealize.ShloMosaic

/-- The first expert block of a token block: the accumulator and the slab before it are cleared. -/
abbrev first (i : grid0.Coords) : Prop := (Scalar.cmpi .ne (Scalar.extui (Scalar.cmpi .eq (BitVec.ofNat 32 (i 1).val) 0#32)) 0#32) = 1#1

theorem first_iff (i : grid0.Coords) : first i ↔ (i 1).val = 0 := by
  have h : (i 1).val < 16 := (i 1).isLt
  unfold first; generalize (i 1).val = j at h ⊢; revert j; decide +kernel

theorem last_iff (i : grid0.Coords) : k0_cond2 i = 1#1 ↔ (i 1).val = 15 := by
  have h : (i 1).val < 16 := (i 1).isLt
  unfold k0_cond2; generalize (i 1).val = j at h ⊢; revert j; decide +kernel

theorem off1_eq (i : grid0.Coords) : k0_off1 i = ![((i 1).val + 1) % 2, 0, 0] := by
  have h : (i 1).val < 16 := (i 1).isLt
  unfold k0_off1; generalize (i 1).val = j at h ⊢; revert j; decide +kernel

theorem off10_eq (i : grid0.Coords) : k0_off10 i = ![(i 1).val % 2, 0, 0] := by
  have h : (i 1).val < 16 := (i 1).isLt
  unfold k0_off10; generalize (i 1).val = j at h ⊢; revert j; decide +kernel

theorem off19_eq (i : grid0.Coords) : k0_off19 i = ![(i 1).val % 2, 0, 256] := by
  have h : (i 1).val < 16 := (i 1).isLt
  unfold k0_off19; generalize (i 1).val = j at h ⊢; revert j; decide +kernel

theorem off20_eq (i : grid0.Coords) : k0_off20 i = ![(i 1).val % 2, 128, 0] := by
  have h : (i 1).val < 16 := (i 1).isLt
  unfold k0_off20; generalize (i 1).val = j at h ⊢; revert j; decide +kernel

theorem off21_eq (i : grid0.Coords) : k0_off21 i = ![(i 1).val % 2, 128, 256] := by
  have h : (i 1).val < 16 := (i 1).isLt
  unfold k0_off21; generalize (i 1).val = j at h ⊢; revert j; decide +kernel

theorem off22_eq (i : grid0.Coords) : k0_off22 i = ![(i 1).val % 2, 256, 0] := by
  have h : (i 1).val < 16 := (i 1).isLt
  unfold k0_off22; generalize (i 1).val = j at h ⊢; revert j; decide +kernel

theorem off23_eq (i : grid0.Coords) : k0_off23 i = ![(i 1).val % 2, 256, 256] := by
  have h : (i 1).val < 16 := (i 1).isLt
  unfold k0_off23; generalize (i 1).val = j at h ⊢; revert j; decide +kernel

theorem off24_eq (i : grid0.Coords) : k0_off24 i = ![(i 1).val % 2, 384, 0] := by
  have h : (i 1).val < 16 := (i 1).isLt
  unfold k0_off24; generalize (i 1).val = j at h ⊢; revert j; decide +kernel

theorem off25_eq (i : grid0.Coords) : k0_off25 i = ![(i 1).val % 2, 384, 256] := by
  have h : (i 1).val < 16 := (i 1).isLt
  unfold k0_off25; generalize (i 1).val = j at h ⊢; revert j; decide +kernel

theorem off26_eq (i : grid0.Coords) : k0_off26 i = ![(i 1).val % 2, 512, 0] := by
  have h : (i 1).val < 16 := (i 1).isLt
  unfold k0_off26; generalize (i 1).val = j at h ⊢; revert j; decide +kernel

theorem off27_eq (i : grid0.Coords) : k0_off27 i = ![(i 1).val % 2, 512, 256] := by
  have h : (i 1).val < 16 := (i 1).isLt
  unfold k0_off27; generalize (i 1).val = j at h ⊢; revert j; decide +kernel

theorem off28_eq (i : grid0.Coords) : k0_off28 i = ![(i 1).val % 2, 640, 0] := by
  have h : (i 1).val < 16 := (i 1).isLt
  unfold k0_off28; generalize (i 1).val = j at h ⊢; revert j; decide +kernel

theorem off29_eq (i : grid0.Coords) : k0_off29 i = ![(i 1).val % 2, 640, 256] := by
  have h : (i 1).val < 16 := (i 1).isLt
  unfold k0_off29; generalize (i 1).val = j at h ⊢; revert j; decide +kernel

theorem off30_eq (i : grid0.Coords) : k0_off30 i = ![(i 1).val % 2, 768, 0] := by
  have h : (i 1).val < 16 := (i 1).isLt
  unfold k0_off30; generalize (i 1).val = j at h ⊢; revert j; decide +kernel

theorem off31_eq (i : grid0.Coords) : k0_off31 i = ![(i 1).val % 2, 768, 256] := by
  have h : (i 1).val < 16 := (i 1).isLt
  unfold k0_off31; generalize (i 1).val = j at h ⊢; revert j; decide +kernel

theorem off32_eq (i : grid0.Coords) : k0_off32 i = ![(i 1).val % 2, 896, 0] := by
  have h : (i 1).val < 16 := (i 1).isLt
  unfold k0_off32; generalize (i 1).val = j at h ⊢; revert j; decide +kernel

theorem off33_eq (i : grid0.Coords) : k0_off33 i = ![(i 1).val % 2, 896, 256] := by
  have h : (i 1).val < 16 := (i 1).isLt
  unfold k0_off33; generalize (i 1).val = j at h ⊢; revert j; decide +kernel

theorem off34_eq (i : grid0.Coords) : k0_off34 i = ![(i 1).val % 2, 0, 0] := by
  have h : (i 1).val < 16 := (i 1).isLt
  unfold k0_off34; generalize (i 1).val = j at h ⊢; revert j; decide +kernel

/-! At a first point the slab before is slab 1; at a last point this block's is. -/

instance closed_off1 (i : grid0.Coords) [h : Fact (first i)] : ClosedOff (k0_off1 i) := ⟨![1, 0, 0], by rw [off1_eq, (first_iff i).1 h.out]⟩
instance closed_off10 (i : grid0.Coords) [h : Fact (k0_cond2 i = 1#1)] : ClosedOff (k0_off10 i) := ⟨![1, 0, 0], by rw [off10_eq, (last_iff i).1 h.out]⟩
instance closed_off19 (i : grid0.Coords) [h : Fact (k0_cond2 i = 1#1)] : ClosedOff (k0_off19 i) := ⟨![1, 0, 256], by rw [off19_eq, (last_iff i).1 h.out]⟩
instance closed_off20 (i : grid0.Coords) [h : Fact (k0_cond2 i = 1#1)] : ClosedOff (k0_off20 i) := ⟨![1, 128, 0], by rw [off20_eq, (last_iff i).1 h.out]⟩
instance closed_off21 (i : grid0.Coords) [h : Fact (k0_cond2 i = 1#1)] : ClosedOff (k0_off21 i) := ⟨![1, 128, 256], by rw [off21_eq, (last_iff i).1 h.out]⟩
instance closed_off22 (i : grid0.Coords) [h : Fact (k0_cond2 i = 1#1)] : ClosedOff (k0_off22 i) := ⟨![1, 256, 0], by rw [off22_eq, (last_iff i).1 h.out]⟩
instance closed_off23 (i : grid0.Coords) [h : Fact (k0_cond2 i = 1#1)] : ClosedOff (k0_off23 i) := ⟨![1, 256, 256], by rw [off23_eq, (last_iff i).1 h.out]⟩
instance closed_off24 (i : grid0.Coords) [h : Fact (k0_cond2 i = 1#1)] : ClosedOff (k0_off24 i) := ⟨![1, 384, 0], by rw [off24_eq, (last_iff i).1 h.out]⟩
instance closed_off25 (i : grid0.Coords) [h : Fact (k0_cond2 i = 1#1)] : ClosedOff (k0_off25 i) := ⟨![1, 384, 256], by rw [off25_eq, (last_iff i).1 h.out]⟩
instance closed_off26 (i : grid0.Coords) [h : Fact (k0_cond2 i = 1#1)] : ClosedOff (k0_off26 i) := ⟨![1, 512, 0], by rw [off26_eq, (last_iff i).1 h.out]⟩
instance closed_off27 (i : grid0.Coords) [h : Fact (k0_cond2 i = 1#1)] : ClosedOff (k0_off27 i) := ⟨![1, 512, 256], by rw [off27_eq, (last_iff i).1 h.out]⟩
instance closed_off28 (i : grid0.Coords) [h : Fact (k0_cond2 i = 1#1)] : ClosedOff (k0_off28 i) := ⟨![1, 640, 0], by rw [off28_eq, (last_iff i).1 h.out]⟩
instance closed_off29 (i : grid0.Coords) [h : Fact (k0_cond2 i = 1#1)] : ClosedOff (k0_off29 i) := ⟨![1, 640, 256], by rw [off29_eq, (last_iff i).1 h.out]⟩
instance closed_off30 (i : grid0.Coords) [h : Fact (k0_cond2 i = 1#1)] : ClosedOff (k0_off30 i) := ⟨![1, 768, 0], by rw [off30_eq, (last_iff i).1 h.out]⟩
instance closed_off31 (i : grid0.Coords) [h : Fact (k0_cond2 i = 1#1)] : ClosedOff (k0_off31 i) := ⟨![1, 768, 256], by rw [off31_eq, (last_iff i).1 h.out]⟩
instance closed_off32 (i : grid0.Coords) [h : Fact (k0_cond2 i = 1#1)] : ClosedOff (k0_off32 i) := ⟨![1, 896, 0], by rw [off32_eq, (last_iff i).1 h.out]⟩
instance closed_off33 (i : grid0.Coords) [h : Fact (k0_cond2 i = 1#1)] : ClosedOff (k0_off33 i) := ⟨![1, 896, 256], by rw [off33_eq, (last_iff i).1 h.out]⟩
instance closed_off34 (i : grid0.Coords) [h : Fact (k0_cond2 i = 1#1)] : ClosedOff (k0_off34 i) := ⟨![1, 0, 0], by rw [off34_eq, (last_iff i).1 h.out]⟩

end Cert.PeerIdeal.Dense

end
-- ==== Proof.Peer.IdealRunB.lean ====
module

public import proofs.«01_k».proof.Proof.Peer.IdealOffsets

/-! The body between the first expert block and the last: what its stores leave, as pieces over the buffers they were stored in. -/

@[expose] public section

set_option maxRecDepth 16384

noncomputable section

namespace Cert.PeerIdeal.Dense

open Cert.PeerIdeal Cert.PeerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces, with the proof that the body leaves them. -/
noncomputable def runB (c : Dev nD) (i : grid0.Coords) (arg2 : Memref sig .tc .vmem S1024x512 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .f32) (harg8 : arg8.IsWhole) (arg9 : Memref sig .tc .vmem S8x128x512 .f32) (harg9 : arg9.IsWhole) (arg10 : Memref sig .tc .vmem S512x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S2x1024x512 .bf16) (harg15 : arg15.IsWhole)
    (x : Vec F S1024x512 .bf16) (u : Vec F S1x1024x1024 .bf16) (v : Vec F S1x1024x1024 .bf16) (rk : Vec F S8x128x512 .bf16) (bn : Vec F S8x128x512 .bf16) (cr : Vec F S8x128x512 .f32) (av : Vec F S8x128x512 .f32) (A : Vec F S512x1024 .f32) (P : Vec F S2x1024x512 .bf16) :
    Σ' (LA : List (View.Piece (Elt F) S512x1024 .f32)), { LP : List (View.Piece (Elt F) S2x1024x512 .bf16) //
      ∀ (h0 : ¬ first i) (h1 : ¬ k0_cond2 i = 1#1) (E : Set ℕ) (K : PUnit → sProp 𝕄),
        iprop(owns (c : Thread nD τ) arg2 fullShare x ∗ owns (c : Thread nD τ) arg3 fullShare u ∗ owns (c : Thread nD τ) arg4 fullShare v ∗ owns (c : Thread nD τ) arg6 fullShare rk ∗ owns (c : Thread nD τ) arg7 fullShare bn ∗ owns (c : Thread nD τ) arg8 fullShare cr ∗ owns (c : Thread nD τ) arg9 fullShare av ∗ owns (c : Thread nD τ) arg14 fullShare A ∗ owns (c : Thread nD τ) arg15 fullShare P
            ∗ (iprop(owns (c : Thread nD τ) arg2 fullShare x ∗ owns (c : Thread nD τ) arg3 fullShare u ∗ owns (c : Thread nD τ) arg4 fullShare v ∗ owns (c : Thread nD τ) arg6 fullShare rk ∗ owns (c : Thread nD τ) arg7 fullShare bn ∗ owns (c : Thread nD τ) arg8 fullShare cr ∗ owns (c : Thread nD τ) arg9 fullShare av ∗ (arg14.view.loc (c : Thread nD τ) ↦[arg14.view.set]{fullShare} arg14.view.writes (Elt F) (harg14.unread A) LA) ∗ (arg15.view.loc (c : Thread nD τ) ↦[arg15.view.set]{fullShare} arg15.view.writes (Elt F) (harg15.unread P) LP)) -∗ K ⟨⟩))
          ⊢ wp frame (wpE (defs₀ (F := F)) Variants.none c none) E (cc0_peer_dense i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun h0 h1 E K => ?run⟩
  case run =>
    simp only [cc0_peer_dense_eq_skeleton]; unfold cc0_peer_dense_skel
    unfold owns
    iintro ⟨⟨%f2, %hf2, H2⟩, ⟨%f3, %hf3, H3⟩, ⟨%f4, %hf4, H4⟩, ⟨%f6, %hf6, H6⟩, ⟨%f7, %hf7, H7⟩, ⟨%f8, %hf8, H8⟩, ⟨%f9, %hf9, H9⟩, ⟨%f14, %hf14, H14⟩, ⟨%f15, %hf15, H15⟩, Hk⟩
    obtain rfl := harg2.eq_unread hf2
    obtain rfl := harg3.eq_unread hf3
    obtain rfl := harg4.eq_unread hf4
    obtain rfl := harg6.eq_unread hf6
    obtain rfl := harg7.eq_unread hf7
    obtain rfl := harg8.eq_unread hf8
    obtain rfl := harg9.eq_unread hf9
    obtain rfl := harg14.eq_unread hf14
    obtain rfl := harg15.eq_unread hf15
    sl_exec (disch := first | sl_exact h0 | sl_exact h1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H14]; · iexact H14
    iexact H15

end Cert.PeerIdeal.Dense

end
-- ==== Proof.Peer.Spec.lean ====
module

public import proofs.«01_k».proof.Proof.Peer.IdealRunB
public import Idealize.ShloMosaic.Lib.Pointwise
public import Idealize.ShloMosaic.Lib.Pipeline.ValueKit
public import Idealize.ShloMosaic.Lib.WholeRead

/-! What one expert block computes: the activated keys of its rows, each times the routing weight its heads give it. -/

@[expose] public section

set_option maxRecDepth 16384

noncomputable section

namespace Cert.PeerIdeal.Dense

open Cert.PeerIdeal Cert.PeerIdeal.Gen
open Idealize.ShloMosaic Idealize.ShloMosaic.TcCoe Idealize.SL.Sem

/-- The exact GELU. -/
def gelu (a : EReal) : EReal :=
  Ideal.ofBits .f32 1056964608#32 * a * (1 + FloatOps.erf (F := Ideal) (φ := .f32) (a * Ideal.ofBits .f32 1060439283#32))

/-- One head's weight of one expert: its second key's score where its rank is below the first key's bound, times the first key's score. -/
def gate (rk cr bn av : EReal) : EReal := (if rk < cr then bn else 0) * av

/-- Row `a` of the `q`-th group of 128 experts, column `b` of the half `hf` of the tokens, and the group's first key. -/
def row (q : Fin 8) (a : Fin 128) : Fin 1024 := ⟨128 * q.val + a.val, by omega⟩
def col (hf : Fin 2) (b : Fin 256) : Fin 512 := ⟨256 * hf.val + b.val, by omega⟩
def key (i : grid0.Coords) (q : Fin 8) : Fin 128 := ⟨8 * (i 1).val + q.val, by have : (i 1).val < 16 := (i 1).isLt; omega⟩

section
variable (i : grid0.Coords) (x : FVec Ideal S1024x512 .bf16) (u : FVec Ideal S1x1024x1024 .bf16) (rk bn : FVec Ideal S8x128x512 .bf16) (cr av : FVec Ideal S8x128x512 .f32)

/-- The expert block's weighted activations, by group, row in it and token. -/
def hid (q : Fin 8) (a : Fin 128) (t : Fin 512) : EReal :=
  gelu (∑ k : Fin 1024, u (ix3 0 (row q a) k) * x (ix2 k t))
    * ∑ hd : Fin 8, gate (rk (ix3 hd a t)) (cr (ix3 hd (key i q) t)) (bn (ix3 hd a t)) (av (ix3 hd (key i q) t))
end

instance closed_lit (o0 o1 o2 : ℕ) : ClosedOff ![o0, o1, o2] := ⟨![o0, o1, o2], rfl⟩

theorem closed_lt {n : ℕ} {s z : Fin n → ℕ} (off : Fin n → ℕ) [k : ClosedOff off] (p : ∀ d, off d + z d ≤ s d) (d : Fin n) (a : Fin (z d)) :
    ClosedOff.form off d + a.val < s d := by
  obtain ⟨f, rfl⟩ := k
  exact lt_of_lt_of_le (Nat.add_lt_add_left a.isLt _) (p d)

theorem gate_of {r c b v r' c' b' v' : EReal} [inst : Decidable (r < c)] (hr : r = r') (hc : c = c') (hb : b = b') (hv : v = v') :
    (@ite EReal (r < c) inst b 0) * v = gate r' c' b' v' := by
  subst hr hc hb hv
  unfold gate
  by_cases h : r < c
  · rw [if_pos h, if_pos h]
  · rw [if_neg h, if_neg h]

/-- A load of a whole buffer at an offset in closed form. -/
theorem readAt_closed {e : EltTy} {n0 n1 n2 s0 s1 s2 : ℕ} (m : Memref sig .tc .vmem ⟨3, ![n0, n1, n2]⟩ e) (hm : m.IsWhole)
    (X : (⟨3, ![n0, n1, n2]⟩ : Shape).Idx → Elt Ideal e) (off : Fin 3 → ℕ) [k : ClosedOff off] (p) (a : Fin s0) (b : Fin s1) (c : Fin s2) :
    View.readAt (Elt Ideal) m.view (Rect.unit (s := ⟨3, ![n0, n1, n2]⟩) off ![s0, s1, s2] p).toLoadRect (hm.unread X) (ix3 a b c)
      = X (ix3 ⟨ClosedOff.form off 0 + a.val, closed_lt off p 0 a⟩ ⟨ClosedOff.form off 1 + b.val, closed_lt off p 1 b⟩
          ⟨ClosedOff.form off 2 + c.val, closed_lt off p 2 c⟩) := by
  rw [Memref.IsWhole.readAt_unread]
  refine congrArg X (funext fun d => Fin.ext ?_)
  obtain ⟨f, rfl⟩ := k
  match d with
  | ⟨0, _⟩ => exact ValueKit.rect_emb_unit_val _ _ _ _ _
  | ⟨1, _⟩ => exact ValueKit.rect_emb_unit_val _ _ _ _ _
  | ⟨2, _⟩ => exact ValueKit.rect_emb_unit_val _ _ _ _ _

/-- A load of all of a whole buffer of rank 2. -/
theorem readAt_full {e : EltTy} {n0 n1 : ℕ} (m : Memref sig .tc .vmem ⟨2, ![n0, n1]⟩ e) (hm : m.IsWhole)
    (X : (⟨2, ![n0, n1]⟩ : Shape).Idx → Elt Ideal e) (p) (a : Fin n0) (b : Fin n1) :
    View.readAt (Elt Ideal) m.view (Rect.unit (s := ⟨2, ![n0, n1]⟩) ![0, 0] ![n0, n1] p).toLoadRect (hm.unread X) (ix2 a b) = X (ix2 a b) := by
  rw [Memref.IsWhole.readAt_unread]
  refine congrArg X (funext fun d => Fin.ext ?_)
  match d with
  | ⟨0, _⟩ => exact (ValueKit.rect_emb_unit_val _ _ _ _ _).trans (Nat.zero_add _)
  | ⟨1, _⟩ => exact (ValueKit.rect_emb_unit_val _ _ _ _ _).trans (Nat.zero_add _)

theorem at3 {α : Type} {n0 n1 n2 : ℕ} (X : (⟨3, ![n0, n1, n2]⟩ : Shape).Idx → α) {a a' : Fin n0} {b b' : Fin n1} {c c' : Fin n2}
    (ha : a.val = a'.val) (hb : b.val = b'.val) (hc : c.val = c'.val) : X (ix3 a b c) = X (ix3 a' b' c') := by
  rw [Fin.ext ha, Fin.ext hb, Fin.ext hc]

theorem at2 {α : Type} {n0 n1 : ℕ} (X : (⟨2, ![n0, n1]⟩ : Shape).Idx → α) {a a' : Fin n0} {b b' : Fin n1}
    (ha : a.val = a'.val) (hb : b.val = b'.val) : X (ix2 a b) = X (ix2 a' b') := by
  rw [Fin.ext ha, Fin.ext hb]

/-- The products of a block are the sums they are said to be, once their entries are the ones said. -/
theorem sum_at (u : FVec Ideal S1x1024x1024 .bf16) (x : FVec Ideal S1024x512 .bf16) (f : Fin 1024 → S1x1024x1024.Idx) (g : Fin 1024 → S1024x512.Idx)
    (r : Fin 1024) (t : Fin 512) (hf : ∀ k, f k = ix3 0 r k) (hg : ∀ k, g k = ix2 k t) :
    (∑ k : Fin 1024, u (f k) * x (g k) : EReal) = ∑ k : Fin 1024, u (ix3 0 r k) * x (ix2 k t) :=
  Finset.sum_congr rfl fun k _ => by rw [hf, hg]

section
variable (i : grid0.Coords) (x : FVec Ideal S1024x512 .bf16) (u : FVec Ideal S1x1024x1024 .bf16) (rk bn : FVec Ideal S8x128x512 .bf16) (cr av : FVec Ideal S8x128x512 .f32)

/-- A weighted activation from its parts, the heads' weights added one after another. -/
theorem hid_of (q : Fin 8) (a : Fin 128) (t : Fin 512) (A w0 w1 w2 w3 w4 w5 w6 w7 : EReal)
    (hA : A = ∑ k : Fin 1024, u (ix3 0 (row q a) k) * x (ix2 k t))
    (h0 : w0 = gate (rk (ix3 0 a t)) (cr (ix3 0 (key i q) t)) (bn (ix3 0 a t)) (av (ix3 0 (key i q) t)))
    (h1 : w1 = gate (rk (ix3 1 a t)) (cr (ix3 1 (key i q) t)) (bn (ix3 1 a t)) (av (ix3 1 (key i q) t)))
    (h2 : w2 = gate (rk (ix3 2 a t)) (cr (ix3 2 (key i q) t)) (bn (ix3 2 a t)) (av (ix3 2 (key i q) t)))
    (h3 : w3 = gate (rk (ix3 3 a t)) (cr (ix3 3 (key i q) t)) (bn (ix3 3 a t)) (av (ix3 3 (key i q) t)))
    (h4 : w4 = gate (rk (ix3 4 a t)) (cr (ix3 4 (key i q) t)) (bn (ix3 4 a t)) (av (ix3 4 (key i q) t)))
    (h5 : w5 = gate (rk (ix3 5 a t)) (cr (ix3 5 (key i q) t)) (bn (ix3 5 a t)) (av (ix3 5 (key i q) t)))
    (h6 : w6 = gate (rk (ix3 6 a t)) (cr (ix3 6 (key i q) t)) (bn (ix3 6 a t)) (av (ix3 6 (key i q) t)))
    (h7 : w7 = gate (rk (ix3 7 a t)) (cr (ix3 7 (key i q) t)) (bn (ix3 7 a t)) (av (ix3 7 (key i q) t))) :
    (Ideal.ofBits .f32 1056964608#32 * A * (1 + FloatOps.erf (F := Ideal) (φ := .f32) (A * Ideal.ofBits .f32 1060439283#32)))
        * (w0 + w1 + w2 + w3 + w4 + w5 + w6 + w7)
      = hid i x u rk bn cr av q a t := by
  unfold hid gelu
  rw [Fin.sum_univ_eight, ← hA, ← h0, ← h1, ← h2, ← h3, ← h4, ← h5, ← h6, ← h7]
end

/-- The slab as a function of an index of the buffer of both slabs: it does not read the slab's number. -/
def slabAt (H : Fin 8 → Fin 128 → Fin 512 → EReal) (y : S2x1024x512.Idx) : EReal :=
  H ⟨(y 1).val / 128, by have : (y 1).val < 1024 := (y 1).isLt; omega⟩ ⟨(y 1).val % 128, Nat.mod_lt _ (by decide)⟩ (y 2)

/-- A piece that holds the slab's values where it lies. -/
def Good (H : Fin 8 → Fin 128 → Fin 512 → EReal) (p : View.Piece (Elt Ideal) S2x1024x512 .bf16) : Prop :=
  ∀ x, p.2 x = slabAt H (p.1.emb x)

theorem good_of (H : Fin 8 → Fin 128 → Fin 512 → EReal) {s : ℕ} (q : Fin 8) (hf : Fin 2) (off : Fin 3 → ℕ) (h : off = ![s, 128 * q.val, 256 * hf.val]) (inb)
    (w : S1x128x256.Idx → EReal) (hw : ∀ (a : Fin 128) (b : Fin 256), w (ix3 0 a b) = H q a (col hf b)) :
    Good H ⟨Rect.unit (s := S2x1024x512) off S1x128x256.size inb, w⟩ := by
  subst h
  intro x
  have hx : (show S1x128x256.Idx from x) = ix3 (0 : Fin 1) (x 1) (x 2) := by
    funext d
    match d with
    | ⟨0, _⟩ => exact Fin.ext (by have : (x 0).val < 1 := (x 0).isLt; show (x 0).val = 0; omega)
    | ⟨1, _⟩ => rfl
    | ⟨2, _⟩ => rfl
  have ha : (x 1).val < 128 := (x 1).isLt
  have hb : (x 2).val < 256 := (x 2).isLt
  have e1 : ((Rect.unit (s := S2x1024x512) ![s, 128 * q.val, 256 * hf.val] S1x128x256.size inb).emb x 1).val = 128 * q.val + (x 1).val :=
    ValueKit.rect_emb_unit_val _ _ _ _ _
  have e2 : ((Rect.unit (s := S2x1024x512) ![s, 128 * q.val, 256 * hf.val] S1x128x256.size inb).emb x 2).val = 256 * hf.val + (x 2).val :=
    ValueKit.rect_emb_unit_val _ _ _ _ _
  refine (congrArg w hx).trans ((hw (x 1) (x 2)).trans ?_)
  have t1 : (⟨((Rect.unit (s := S2x1024x512) ![s, 128 * q.val, 256 * hf.val] S1x128x256.size inb).emb x 1).val / 128, by rw [e1]; omega⟩ : Fin 8) = q :=
    Fin.ext (by show _ / 128 = _; rw [e1]; omega)
  have t2 : (⟨((Rect.unit (s := S2x1024x512) ![s, 128 * q.val, 256 * hf.val] S1x128x256.size inb).emb x 1).val % 128, Nat.mod_lt _ (by decide)⟩ : Fin 128) = x 1 :=
    Fin.ext (by show _ % 128 = _; rw [e1]; omega)
  have t3 : (Rect.unit (s := S2x1024x512) ![s, 128 * q.val, 256 * hf.val] S1x128x256.size inb).emb x 2 = col hf (x 2) := Fin.ext e2
  exact (congr (congr (congrArg H t1) t2) t3).symm

end Cert.PeerIdeal.Dense

end
-- ==== Proof.Peer.IdealTiles0.lean ====
module

public import proofs.«01_k».proof.Proof.Peer.Spec

/-! The tiles of the expert block, each at every entry: what the body stores is the weighted activation. -/

@[expose] public section

set_option maxRecDepth 16384

noncomputable section

namespace Cert.PeerIdeal.Dense

open Cert.PeerIdeal Cert.PeerIdeal.Gen
open Idealize.ShloMosaic Idealize.ShloMosaic.TcCoe Idealize.SL.Sem Idealize.ShloMosaic.Pipeline

variable (c : Dev nD) (i : grid0.Coords) (arg2 : Memref sig .tc .vmem S1024x512 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .f32) (harg8 : arg8.IsWhole) (arg9 : Memref sig .tc .vmem S8x128x512 .f32) (harg9 : arg9.IsWhole) (arg10 : Memref sig .tc .vmem S512x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S2x1024x512 .bf16) (harg15 : arg15.IsWhole)
  (x : FVec Ideal S1024x512 .bf16) (u : FVec Ideal S1x1024x1024 .bf16) (v : FVec Ideal S1x1024x1024 .bf16) (rk bn : FVec Ideal S8x128x512 .bf16)
  (cr av : FVec Ideal S8x128x512 .f32) (A : FVec Ideal S512x1024 .f32) (P : FVec Ideal S2x1024x512 .bf16)

set_option maxHeartbeats 4000000 in
theorem tile_0 (p) (hp : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P).2.1[15]? = some p) :
    Good (hid i x u rk bn cr av) p := by
  unfold runB at hp
  dsimp only [List.getElem?_cons_succ, List.getElem?_cons_zero] at hp
  obtain rfl := Option.some.inj hp
  refine good_of _ 0 0 _ (off10_eq i) _ _ fun a b => ?_
  pointwise [k0_pay7,k0_pay9,k0_pay11,k0_pay13,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,
    runB.sl.r_1,runB.sl.r_2,runB.sl.r_3,runB.sl.r_4,runB.sl.r_5,runB.sl.r_6,runB.sl.r_7,runB.sl.r_8,runB.sl.r_9,runB.sl.r_10,runB.sl.r_11,runB.sl.r_12,runB.sl.r_13,runB.sl.r_14,runB.sl.r_15,runB.sl.r_16,runB.sl.r_17,runB.sl.r_18,runB.sl.r_19,runB.sl.r_20,runB.sl.r_21,runB.sl.r_22,runB.sl.r_23,runB.sl.r_24,runB.sl.r_25,runB.sl.r_26,runB.sl.r_27,runB.sl.r_28,runB.sl.r_29,runB.sl.r_30,runB.sl.r_31,runB.sl.r_32,runB.sl.r_33,runB.sl.r_34,runB.sl.r_35,runB.sl.r_36,runB.sl.r_37,runB.sl.r_38,runB.sl.r_39,runB.sl.r_40,runB.sl.r_41,runB.sl.r_42,runB.sl.r_43,runB.sl.r_44,runB.sl.r_45,runB.sl.r_46,runB.sl.r_47,runB.sl.r_48,runB.sl.r_49,runB.sl.r_50,runB.sl.r_51,runB.sl.r_52,runB.sl.r_53,runB.sl.r_54,runB.sl.r_55,runB.sl.r_56,runB.sl.r_57,runB.sl.r_58,runB.sl.r_59,runB.sl.r_60,runB.sl.r_61,runB.sl.r_62,runB.sl.r_63,runB.sl.r_64,runB.sl.r_65,runB.sl.r_66,runB.sl.r_67,runB.sl.r_68,runB.sl.r_69,runB.sl.r_70,runB.sl.r_71,runB.sl.r_72,runB.sl.r_73,runB.sl.r_74,runB.sl.r_75,runB.sl.r_76,runB.sl.r_77,runB.sl.r_78,runB.sl.r_79,runB.sl.r_80,runB.sl.r_81,runB.sl.r_82,runB.sl.r_83,runB.sl.r_84,runB.sl.r_85,runB.sl.r_86,runB.sl.r_87,runB.sl.r_88,runB.sl.r_89,runB.sl.r_90,runB.sl.r_91,runB.sl.r_92,runB.sl.r_93,runB.sl.r_94,runB.sl.r_95,runB.sl.r_96,runB.sl.r_97,runB.sl.r_98,runB.sl.r_99,runB.sl.r_100,runB.sl.r_101,runB.sl.r_102,runB.sl.r_103,runB.sl.r_104,runB.sl.r_105,runB.sl.r_106,runB.sl.r_107,runB.sl.r_108,runB.sl.r_109,runB.sl.r_110,runB.sl.r_111,runB.sl.r_112,runB.sl.r_113,runB.sl.r_114,runB.sl.r_115,runB.sl.r_116,runB.sl.r_117,runB.sl.r_118,runB.sl.r_119,runB.sl.r_120,runB.sl.r_121,runB.sl.r_122,runB.sl.r_123,runB.sl.r_124,runB.sl.r_125,runB.sl.r_126,runB.sl.r_127,runB.sl.r_128,runB.sl.r_129,runB.sl.r_130,runB.sl.r_131,runB.sl.r_132,runB.sl.r_133,runB.sl.r_134,runB.sl.r_135,runB.sl.r_136,runB.sl.r_137,runB.sl.r_138,runB.sl.r_139,runB.sl.r_140,runB.sl.r_141,runB.sl.r_142,runB.sl.r_143,runB.sl.r_144,runB.sl.r_145,runB.sl.r_146,runB.sl.r_147,runB.sl.r_148,runB.sl.r_149,runB.sl.r_150,runB.sl.r_151,runB.sl.r_152,runB.sl.r_153,runB.sl.r_154,runB.sl.r_155,runB.sl.r_156,runB.sl.r_157,runB.sl.r_158,runB.sl.r_159,runB.sl.r_160,runB.sl.r_161,runB.sl.r_162,runB.sl.r_163,runB.sl.r_164,runB.sl.r_165,runB.sl.r_166,runB.sl.r_167,runB.sl.r_168,runB.sl.r_169,runB.sl.r_170,runB.sl.r_171,runB.sl.r_172,runB.sl.r_173,runB.sl.r_174,runB.sl.r_175,runB.sl.r_176,runB.sl.r_177,runB.sl.r_178,runB.sl.r_179,runB.sl.r_180,runB.sl.r_181,runB.sl.r_182,runB.sl.r_183,runB.sl.r_184,runB.sl.r_185,runB.sl.r_186,runB.sl.r_187,runB.sl.r_188,runB.sl.r_189,runB.sl.r_190,runB.sl.r_191,runB.sl.r_192,runB.sl.r_193,runB.sl.r_194,runB.sl.r_195,runB.sl.r_196,runB.sl.r_197,runB.sl.r_198,runB.sl.r_199,runB.sl.r_200,runB.sl.r_201,runB.sl.r_202,runB.sl.r_203,runB.sl.r_204,runB.sl.r_205,runB.sl.r_206,runB.sl.r_207,runB.sl.r_208,runB.sl.cst_596]
  simp only [dite_eq_ite, ite_self]
  simp only [readAt_closed, readAt_full]
  refine hid_of i x u rk bn cr av 0 a (col 0 b) _ _ _ _ _ _ _ _ _ (Finset.sum_congr rfl fun k _ => ?_) ?_ ?_ ?_ ?_ ?_ ?_ ?_ ?_
  rotate_left
  all_goals try exact gate_of (at3 rk rfl (Nat.zero_add _) rfl) (at3 cr rfl rfl rfl) (at3 bn rfl (Nat.zero_add _) rfl) (at3 av rfl rfl rfl)
  exact congrArg₂ (fun p q : EReal => p * q) (at3 u rfl (by show _ = 128 * 0 + a.val; simp [ClosedOff.form] <;> omega) (Nat.zero_add _)) (at2 x rfl (by show _ = 256 * 0 + b.val; simp <;> omega))

set_option maxHeartbeats 4000000 in
theorem tile_1 (p) (hp : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P).2.1[14]? = some p) :
    Good (hid i x u rk bn cr av) p := by
  unfold runB at hp
  dsimp only [List.getElem?_cons_succ, List.getElem?_cons_zero] at hp
  obtain rfl := Option.some.inj hp
  refine good_of _ 0 1 _ (off19_eq i) _ _ fun a b => ?_
  pointwise [k0_pay7,k0_pay9,k0_pay11,k0_pay13,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,
    runB.sl.r_1,runB.sl.r_2,runB.sl.r_3,runB.sl.r_4,runB.sl.r_5,runB.sl.r_6,runB.sl.r_7,runB.sl.r_8,runB.sl.r_9,runB.sl.r_10,runB.sl.r_11,runB.sl.r_12,runB.sl.r_13,runB.sl.r_14,runB.sl.r_15,runB.sl.r_16,runB.sl.r_17,runB.sl.r_18,runB.sl.r_19,runB.sl.r_20,runB.sl.r_21,runB.sl.r_22,runB.sl.r_23,runB.sl.r_24,runB.sl.r_25,runB.sl.r_26,runB.sl.r_27,runB.sl.r_28,runB.sl.r_29,runB.sl.r_30,runB.sl.r_31,runB.sl.r_32,runB.sl.r_33,runB.sl.r_34,runB.sl.r_35,runB.sl.r_36,runB.sl.r_37,runB.sl.r_38,runB.sl.r_39,runB.sl.r_40,runB.sl.r_41,runB.sl.r_42,runB.sl.r_43,runB.sl.r_44,runB.sl.r_45,runB.sl.r_46,runB.sl.r_47,runB.sl.r_48,runB.sl.r_49,runB.sl.r_50,runB.sl.r_51,runB.sl.r_52,runB.sl.r_53,runB.sl.r_54,runB.sl.r_55,runB.sl.r_56,runB.sl.r_57,runB.sl.r_58,runB.sl.r_59,runB.sl.r_60,runB.sl.r_61,runB.sl.r_62,runB.sl.r_63,runB.sl.r_64,runB.sl.r_65,runB.sl.r_66,runB.sl.r_67,runB.sl.r_68,runB.sl.r_69,runB.sl.r_70,runB.sl.r_71,runB.sl.r_72,runB.sl.r_73,runB.sl.r_74,runB.sl.r_75,runB.sl.r_76,runB.sl.r_77,runB.sl.r_78,runB.sl.r_79,runB.sl.r_80,runB.sl.r_81,runB.sl.r_82,runB.sl.r_83,runB.sl.r_84,runB.sl.r_85,runB.sl.r_86,runB.sl.r_87,runB.sl.r_88,runB.sl.r_89,runB.sl.r_90,runB.sl.r_91,runB.sl.r_92,runB.sl.r_93,runB.sl.r_94,runB.sl.r_95,runB.sl.r_96,runB.sl.r_97,runB.sl.r_98,runB.sl.r_99,runB.sl.r_100,runB.sl.r_101,runB.sl.r_102,runB.sl.r_103,runB.sl.r_104,runB.sl.r_105,runB.sl.r_106,runB.sl.r_107,runB.sl.r_108,runB.sl.r_109,runB.sl.r_110,runB.sl.r_111,runB.sl.r_112,runB.sl.r_113,runB.sl.r_114,runB.sl.r_115,runB.sl.r_116,runB.sl.r_117,runB.sl.r_118,runB.sl.r_119,runB.sl.r_120,runB.sl.r_121,runB.sl.r_122,runB.sl.r_123,runB.sl.r_124,runB.sl.r_125,runB.sl.r_126,runB.sl.r_127,runB.sl.r_128,runB.sl.r_129,runB.sl.r_130,runB.sl.r_131,runB.sl.r_132,runB.sl.r_133,runB.sl.r_134,runB.sl.r_135,runB.sl.r_136,runB.sl.r_137,runB.sl.r_138,runB.sl.r_139,runB.sl.r_140,runB.sl.r_141,runB.sl.r_142,runB.sl.r_143,runB.sl.r_144,runB.sl.r_145,runB.sl.r_146,runB.sl.r_147,runB.sl.r_148,runB.sl.r_149,runB.sl.r_150,runB.sl.r_151,runB.sl.r_152,runB.sl.r_153,runB.sl.r_154,runB.sl.r_155,runB.sl.r_156,runB.sl.r_157,runB.sl.r_158,runB.sl.r_159,runB.sl.r_160,runB.sl.r_161,runB.sl.r_162,runB.sl.r_163,runB.sl.r_164,runB.sl.r_165,runB.sl.r_166,runB.sl.r_167,runB.sl.r_168,runB.sl.r_169,runB.sl.r_170,runB.sl.r_171,runB.sl.r_172,runB.sl.r_173,runB.sl.r_174,runB.sl.r_175,runB.sl.r_176,runB.sl.r_177,runB.sl.r_178,runB.sl.r_179,runB.sl.r_180,runB.sl.r_181,runB.sl.r_182,runB.sl.r_183,runB.sl.r_184,runB.sl.r_185,runB.sl.r_186,runB.sl.r_187,runB.sl.r_188,runB.sl.r_189,runB.sl.r_190,runB.sl.r_191,runB.sl.r_192,runB.sl.r_193,runB.sl.r_194,runB.sl.r_195,runB.sl.r_196,runB.sl.r_197,runB.sl.r_198,runB.sl.r_199,runB.sl.r_200,runB.sl.r_201,runB.sl.r_202,runB.sl.r_203,runB.sl.r_204,runB.sl.r_205,runB.sl.r_206,runB.sl.r_207,runB.sl.r_208,runB.sl.cst_596]
  simp only [dite_eq_ite, ite_self]
  simp only [readAt_closed, readAt_full]
  refine hid_of i x u rk bn cr av 0 a (col 1 b) _ _ _ _ _ _ _ _ _ (Finset.sum_congr rfl fun k _ => ?_) ?_ ?_ ?_ ?_ ?_ ?_ ?_ ?_
  rotate_left
  all_goals try exact gate_of (at3 rk rfl (Nat.zero_add _) rfl) (at3 cr rfl rfl rfl) (at3 bn rfl (Nat.zero_add _) rfl) (at3 av rfl rfl rfl)
  exact congrArg₂ (fun p q : EReal => p * q) (at3 u rfl (by show _ = 128 * 0 + a.val; simp [ClosedOff.form] <;> omega) (Nat.zero_add _)) (at2 x rfl (by show _ = 256 * 1 + b.val; simp <;> omega))

set_option maxHeartbeats 4000000 in
theorem tile_2 (p) (hp : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P).2.1[13]? = some p) :
    Good (hid i x u rk bn cr av) p := by
  unfold runB at hp
  dsimp only [List.getElem?_cons_succ, List.getElem?_cons_zero] at hp
  obtain rfl := Option.some.inj hp
  refine good_of _ 1 0 _ (off20_eq i) _ _ fun a b => ?_
  pointwise [k0_pay7,k0_pay9,k0_pay11,k0_pay13,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,
    runB.sl.r_1,runB.sl.r_2,runB.sl.r_3,runB.sl.r_4,runB.sl.r_5,runB.sl.r_6,runB.sl.r_7,runB.sl.r_8,runB.sl.r_9,runB.sl.r_10,runB.sl.r_11,runB.sl.r_12,runB.sl.r_13,runB.sl.r_14,runB.sl.r_15,runB.sl.r_16,runB.sl.r_17,runB.sl.r_18,runB.sl.r_19,runB.sl.r_20,runB.sl.r_21,runB.sl.r_22,runB.sl.r_23,runB.sl.r_24,runB.sl.r_25,runB.sl.r_26,runB.sl.r_27,runB.sl.r_28,runB.sl.r_29,runB.sl.r_30,runB.sl.r_31,runB.sl.r_32,runB.sl.r_33,runB.sl.r_34,runB.sl.r_35,runB.sl.r_36,runB.sl.r_37,runB.sl.r_38,runB.sl.r_39,runB.sl.r_40,runB.sl.r_41,runB.sl.r_42,runB.sl.r_43,runB.sl.r_44,runB.sl.r_45,runB.sl.r_46,runB.sl.r_47,runB.sl.r_48,runB.sl.r_49,runB.sl.r_50,runB.sl.r_51,runB.sl.r_52,runB.sl.r_53,runB.sl.r_54,runB.sl.r_55,runB.sl.r_56,runB.sl.r_57,runB.sl.r_58,runB.sl.r_59,runB.sl.r_60,runB.sl.r_61,runB.sl.r_62,runB.sl.r_63,runB.sl.r_64,runB.sl.r_65,runB.sl.r_66,runB.sl.r_67,runB.sl.r_68,runB.sl.r_69,runB.sl.r_70,runB.sl.r_71,runB.sl.r_72,runB.sl.r_73,runB.sl.r_74,runB.sl.r_75,runB.sl.r_76,runB.sl.r_77,runB.sl.r_78,runB.sl.r_79,runB.sl.r_80,runB.sl.r_81,runB.sl.r_82,runB.sl.r_83,runB.sl.r_84,runB.sl.r_85,runB.sl.r_86,runB.sl.r_87,runB.sl.r_88,runB.sl.r_89,runB.sl.r_90,runB.sl.r_91,runB.sl.r_92,runB.sl.r_93,runB.sl.r_94,runB.sl.r_95,runB.sl.r_96,runB.sl.r_97,runB.sl.r_98,runB.sl.r_99,runB.sl.r_100,runB.sl.r_101,runB.sl.r_102,runB.sl.r_103,runB.sl.r_104,runB.sl.r_105,runB.sl.r_106,runB.sl.r_107,runB.sl.r_108,runB.sl.r_109,runB.sl.r_110,runB.sl.r_111,runB.sl.r_112,runB.sl.r_113,runB.sl.r_114,runB.sl.r_115,runB.sl.r_116,runB.sl.r_117,runB.sl.r_118,runB.sl.r_119,runB.sl.r_120,runB.sl.r_121,runB.sl.r_122,runB.sl.r_123,runB.sl.r_124,runB.sl.r_125,runB.sl.r_126,runB.sl.r_127,runB.sl.r_128,runB.sl.r_129,runB.sl.r_130,runB.sl.r_131,runB.sl.r_132,runB.sl.r_133,runB.sl.r_134,runB.sl.r_135,runB.sl.r_136,runB.sl.r_137,runB.sl.r_138,runB.sl.r_139,runB.sl.r_140,runB.sl.r_141,runB.sl.r_142,runB.sl.r_143,runB.sl.r_144,runB.sl.r_145,runB.sl.r_146,runB.sl.r_147,runB.sl.r_148,runB.sl.r_149,runB.sl.r_150,runB.sl.r_151,runB.sl.r_152,runB.sl.r_153,runB.sl.r_154,runB.sl.r_155,runB.sl.r_156,runB.sl.r_157,runB.sl.r_158,runB.sl.r_159,runB.sl.r_160,runB.sl.r_161,runB.sl.r_162,runB.sl.r_163,runB.sl.r_164,runB.sl.r_165,runB.sl.r_166,runB.sl.r_167,runB.sl.r_168,runB.sl.r_169,runB.sl.r_170,runB.sl.r_171,runB.sl.r_172,runB.sl.r_173,runB.sl.r_174,runB.sl.r_175,runB.sl.r_176,runB.sl.r_177,runB.sl.r_178,runB.sl.r_179,runB.sl.r_180,runB.sl.r_181,runB.sl.r_182,runB.sl.r_183,runB.sl.r_184,runB.sl.r_185,runB.sl.r_186,runB.sl.r_187,runB.sl.r_188,runB.sl.r_189,runB.sl.r_190,runB.sl.r_191,runB.sl.r_192,runB.sl.r_193,runB.sl.r_194,runB.sl.r_195,runB.sl.r_196,runB.sl.r_197,runB.sl.r_198,runB.sl.r_199,runB.sl.r_200,runB.sl.r_201,runB.sl.r_202,runB.sl.r_203,runB.sl.r_204,runB.sl.r_205,runB.sl.r_206,runB.sl.r_207,runB.sl.r_208,runB.sl.cst_596]
  simp only [dite_eq_ite, ite_self]
  simp only [readAt_closed, readAt_full]
  refine hid_of i x u rk bn cr av 1 a (col 0 b) _ _ _ _ _ _ _ _ _ (Finset.sum_congr rfl fun k _ => ?_) ?_ ?_ ?_ ?_ ?_ ?_ ?_ ?_
  rotate_left
  all_goals try exact gate_of (at3 rk rfl (Nat.zero_add _) rfl) (at3 cr rfl rfl rfl) (at3 bn rfl (Nat.zero_add _) rfl) (at3 av rfl rfl rfl)
  exact congrArg₂ (fun p q : EReal => p * q) (at3 u rfl (by show _ = 128 * 1 + a.val; simp [ClosedOff.form] <;> omega) (Nat.zero_add _)) (at2 x rfl (by show _ = 256 * 0 + b.val; simp <;> omega))

set_option maxHeartbeats 4000000 in
theorem tile_3 (p) (hp : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P).2.1[12]? = some p) :
    Good (hid i x u rk bn cr av) p := by
  unfold runB at hp
  dsimp only [List.getElem?_cons_succ, List.getElem?_cons_zero] at hp
  obtain rfl := Option.some.inj hp
  refine good_of _ 1 1 _ (off21_eq i) _ _ fun a b => ?_
  pointwise [k0_pay7,k0_pay9,k0_pay11,k0_pay13,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,
    runB.sl.r_1,runB.sl.r_2,runB.sl.r_3,runB.sl.r_4,runB.sl.r_5,runB.sl.r_6,runB.sl.r_7,runB.sl.r_8,runB.sl.r_9,runB.sl.r_10,runB.sl.r_11,runB.sl.r_12,runB.sl.r_13,runB.sl.r_14,runB.sl.r_15,runB.sl.r_16,runB.sl.r_17,runB.sl.r_18,runB.sl.r_19,runB.sl.r_20,runB.sl.r_21,runB.sl.r_22,runB.sl.r_23,runB.sl.r_24,runB.sl.r_25,runB.sl.r_26,runB.sl.r_27,runB.sl.r_28,runB.sl.r_29,runB.sl.r_30,runB.sl.r_31,runB.sl.r_32,runB.sl.r_33,runB.sl.r_34,runB.sl.r_35,runB.sl.r_36,runB.sl.r_37,runB.sl.r_38,runB.sl.r_39,runB.sl.r_40,runB.sl.r_41,runB.sl.r_42,runB.sl.r_43,runB.sl.r_44,runB.sl.r_45,runB.sl.r_46,runB.sl.r_47,runB.sl.r_48,runB.sl.r_49,runB.sl.r_50,runB.sl.r_51,runB.sl.r_52,runB.sl.r_53,runB.sl.r_54,runB.sl.r_55,runB.sl.r_56,runB.sl.r_57,runB.sl.r_58,runB.sl.r_59,runB.sl.r_60,runB.sl.r_61,runB.sl.r_62,runB.sl.r_63,runB.sl.r_64,runB.sl.r_65,runB.sl.r_66,runB.sl.r_67,runB.sl.r_68,runB.sl.r_69,runB.sl.r_70,runB.sl.r_71,runB.sl.r_72,runB.sl.r_73,runB.sl.r_74,runB.sl.r_75,runB.sl.r_76,runB.sl.r_77,runB.sl.r_78,runB.sl.r_79,runB.sl.r_80,runB.sl.r_81,runB.sl.r_82,runB.sl.r_83,runB.sl.r_84,runB.sl.r_85,runB.sl.r_86,runB.sl.r_87,runB.sl.r_88,runB.sl.r_89,runB.sl.r_90,runB.sl.r_91,runB.sl.r_92,runB.sl.r_93,runB.sl.r_94,runB.sl.r_95,runB.sl.r_96,runB.sl.r_97,runB.sl.r_98,runB.sl.r_99,runB.sl.r_100,runB.sl.r_101,runB.sl.r_102,runB.sl.r_103,runB.sl.r_104,runB.sl.r_105,runB.sl.r_106,runB.sl.r_107,runB.sl.r_108,runB.sl.r_109,runB.sl.r_110,runB.sl.r_111,runB.sl.r_112,runB.sl.r_113,runB.sl.r_114,runB.sl.r_115,runB.sl.r_116,runB.sl.r_117,runB.sl.r_118,runB.sl.r_119,runB.sl.r_120,runB.sl.r_121,runB.sl.r_122,runB.sl.r_123,runB.sl.r_124,runB.sl.r_125,runB.sl.r_126,runB.sl.r_127,runB.sl.r_128,runB.sl.r_129,runB.sl.r_130,runB.sl.r_131,runB.sl.r_132,runB.sl.r_133,runB.sl.r_134,runB.sl.r_135,runB.sl.r_136,runB.sl.r_137,runB.sl.r_138,runB.sl.r_139,runB.sl.r_140,runB.sl.r_141,runB.sl.r_142,runB.sl.r_143,runB.sl.r_144,runB.sl.r_145,runB.sl.r_146,runB.sl.r_147,runB.sl.r_148,runB.sl.r_149,runB.sl.r_150,runB.sl.r_151,runB.sl.r_152,runB.sl.r_153,runB.sl.r_154,runB.sl.r_155,runB.sl.r_156,runB.sl.r_157,runB.sl.r_158,runB.sl.r_159,runB.sl.r_160,runB.sl.r_161,runB.sl.r_162,runB.sl.r_163,runB.sl.r_164,runB.sl.r_165,runB.sl.r_166,runB.sl.r_167,runB.sl.r_168,runB.sl.r_169,runB.sl.r_170,runB.sl.r_171,runB.sl.r_172,runB.sl.r_173,runB.sl.r_174,runB.sl.r_175,runB.sl.r_176,runB.sl.r_177,runB.sl.r_178,runB.sl.r_179,runB.sl.r_180,runB.sl.r_181,runB.sl.r_182,runB.sl.r_183,runB.sl.r_184,runB.sl.r_185,runB.sl.r_186,runB.sl.r_187,runB.sl.r_188,runB.sl.r_189,runB.sl.r_190,runB.sl.r_191,runB.sl.r_192,runB.sl.r_193,runB.sl.r_194,runB.sl.r_195,runB.sl.r_196,runB.sl.r_197,runB.sl.r_198,runB.sl.r_199,runB.sl.r_200,runB.sl.r_201,runB.sl.r_202,runB.sl.r_203,runB.sl.r_204,runB.sl.r_205,runB.sl.r_206,runB.sl.r_207,runB.sl.r_208,runB.sl.cst_596]
  simp only [dite_eq_ite, ite_self]
  simp only [readAt_closed, readAt_full]
  refine hid_of i x u rk bn cr av 1 a (col 1 b) _ _ _ _ _ _ _ _ _ (Finset.sum_congr rfl fun k _ => ?_) ?_ ?_ ?_ ?_ ?_ ?_ ?_ ?_
  rotate_left
  all_goals try exact gate_of (at3 rk rfl (Nat.zero_add _) rfl) (at3 cr rfl rfl rfl) (at3 bn rfl (Nat.zero_add _) rfl) (at3 av rfl rfl rfl)
  exact congrArg₂ (fun p q : EReal => p * q) (at3 u rfl (by show _ = 128 * 1 + a.val; simp [ClosedOff.form] <;> omega) (Nat.zero_add _)) (at2 x rfl (by show _ = 256 * 1 + b.val; simp <;> omega))

end Cert.PeerIdeal.Dense

end
-- ==== Proof.Peer.IdealTiles1.lean ====
module

public import proofs.«01_k».proof.Proof.Peer.Spec

/-! The tiles of the expert block, each at every entry: what the body stores is the weighted activation. -/

@[expose] public section

set_option maxRecDepth 16384

noncomputable section

namespace Cert.PeerIdeal.Dense

open Cert.PeerIdeal Cert.PeerIdeal.Gen
open Idealize.ShloMosaic Idealize.ShloMosaic.TcCoe Idealize.SL.Sem Idealize.ShloMosaic.Pipeline

variable (c : Dev nD) (i : grid0.Coords) (arg2 : Memref sig .tc .vmem S1024x512 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .f32) (harg8 : arg8.IsWhole) (arg9 : Memref sig .tc .vmem S8x128x512 .f32) (harg9 : arg9.IsWhole) (arg10 : Memref sig .tc .vmem S512x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S2x1024x512 .bf16) (harg15 : arg15.IsWhole)
  (x : FVec Ideal S1024x512 .bf16) (u : FVec Ideal S1x1024x1024 .bf16) (v : FVec Ideal S1x1024x1024 .bf16) (rk bn : FVec Ideal S8x128x512 .bf16)
  (cr av : FVec Ideal S8x128x512 .f32) (A : FVec Ideal S512x1024 .f32) (P : FVec Ideal S2x1024x512 .bf16)

set_option maxHeartbeats 4000000 in
theorem tile_4 (p) (hp : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P).2.1[11]? = some p) :
    Good (hid i x u rk bn cr av) p := by
  unfold runB at hp
  dsimp only [List.getElem?_cons_succ, List.getElem?_cons_zero] at hp
  obtain rfl := Option.some.inj hp
  refine good_of _ 2 0 _ (off22_eq i) _ _ fun a b => ?_
  pointwise [k0_pay7,k0_pay9,k0_pay11,k0_pay13,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,
    runB.sl.r,runB.sl.r_1,runB.sl.r_2,runB.sl.r_3,runB.sl.r_4,runB.sl.r_5,runB.sl.r_6,runB.sl.r_7,runB.sl.r_8,runB.sl.r_9,runB.sl.r_10,runB.sl.r_11,runB.sl.r_12,runB.sl.r_13,runB.sl.r_14,runB.sl.r_15,runB.sl.r_16,runB.sl.r_17,runB.sl.r_18,runB.sl.r_19,runB.sl.r_20,runB.sl.r_21,runB.sl.r_22,runB.sl.r_23,runB.sl.r_24,runB.sl.r_25,runB.sl.r_26,runB.sl.r_27,runB.sl.r_28,runB.sl.r_29,runB.sl.r_30,runB.sl.r_31,runB.sl.r_32,runB.sl.r_33,runB.sl.r_34,runB.sl.r_35,runB.sl.r_36,runB.sl.r_37,runB.sl.r_38,runB.sl.r_39,runB.sl.r_40,runB.sl.r_41,runB.sl.r_42,runB.sl.r_43,runB.sl.r_44,runB.sl.r_45,runB.sl.r_46,runB.sl.r_47,runB.sl.r_48,runB.sl.r_49,runB.sl.r_50,runB.sl.r_51,runB.sl.r_52,runB.sl.r_53,runB.sl.r_54,runB.sl.r_55,runB.sl.r_56,runB.sl.r_57,runB.sl.r_58,runB.sl.r_59,runB.sl.r_60,runB.sl.r_61,runB.sl.r_62,runB.sl.r_63,runB.sl.r_64,runB.sl.r_65,runB.sl.r_66,runB.sl.r_67,runB.sl.r_68,runB.sl.r_69,runB.sl.r_70,runB.sl.r_71,runB.sl.r_72,runB.sl.r_73,runB.sl.r_74,runB.sl.r_75,runB.sl.r_76,runB.sl.r_77,runB.sl.r_78,runB.sl.r_79,runB.sl.r_80,runB.sl.r_81,runB.sl.r_82,runB.sl.r_83,runB.sl.r_84,runB.sl.r_85,runB.sl.r_86,runB.sl.r_87,runB.sl.r_88,runB.sl.r_89,runB.sl.r_90,runB.sl.r_91,runB.sl.r_92,runB.sl.r_93,runB.sl.r_94,runB.sl.r_95,runB.sl.r_96,runB.sl.r_97,runB.sl.r_98,runB.sl.r_99,runB.sl.r_100,runB.sl.r_101,runB.sl.r_102,runB.sl.r_103,runB.sl.r_104,runB.sl.r_105,runB.sl.r_106,runB.sl.r_107,runB.sl.r_108,runB.sl.r_109,runB.sl.r_110,runB.sl.r_111,runB.sl.r_112,runB.sl.r_113,runB.sl.r_114,runB.sl.r_115,runB.sl.r_116,runB.sl.r_117,runB.sl.r_118,runB.sl.r_119,runB.sl.r_120,runB.sl.r_121,runB.sl.r_122,runB.sl.r_123,runB.sl.r_124,runB.sl.r_125,runB.sl.r_126,runB.sl.r_127,runB.sl.r_128,runB.sl.r_129,runB.sl.r_130,runB.sl.r_131,runB.sl.r_132,runB.sl.r_133,runB.sl.r_134,runB.sl.r_135,runB.sl.r_136,runB.sl.r_137,runB.sl.r_138,runB.sl.r_139,runB.sl.r_140,runB.sl.r_141,runB.sl.r_142,runB.sl.r_143,runB.sl.r_144,runB.sl.r_145,runB.sl.r_146,runB.sl.r_147,runB.sl.r_148,runB.sl.r_149,runB.sl.r_150,runB.sl.r_151,runB.sl.r_152,runB.sl.r_153,runB.sl.r_154,runB.sl.r_155,runB.sl.r_156,runB.sl.r_157,runB.sl.r_158,runB.sl.r_159,runB.sl.r_160,runB.sl.r_161,runB.sl.r_162,runB.sl.r_163,runB.sl.r_164,runB.sl.r_165,runB.sl.r_166,runB.sl.r_167,runB.sl.r_168,runB.sl.r_169,runB.sl.r_170,runB.sl.r_171,runB.sl.r_172,runB.sl.r_173,runB.sl.r_174,runB.sl.r_175,runB.sl.r_176,runB.sl.r_177,runB.sl.r_178,runB.sl.r_179,runB.sl.r_180,runB.sl.r_181,runB.sl.r_182,runB.sl.r_183,runB.sl.r_184,runB.sl.r_185,runB.sl.r_186,runB.sl.r_187,runB.sl.r_188,runB.sl.r_189,runB.sl.r_190,runB.sl.r_191,runB.sl.r_192,runB.sl.r_193,runB.sl.r_194,runB.sl.r_195,runB.sl.r_196,runB.sl.r_197,runB.sl.r_198,runB.sl.r_199,runB.sl.r_200,runB.sl.r_201,runB.sl.r_202,runB.sl.r_203,runB.sl.r_204,runB.sl.r_205,runB.sl.r_206,runB.sl.r_207,runB.sl.r_208,runB.sl.cst_596]
  simp only [dite_eq_ite, ite_self]
  simp only [readAt_closed, readAt_full]
  refine hid_of i x u rk bn cr av 2 a (col 0 b) _ _ _ _ _ _ _ _ _ (Finset.sum_congr rfl fun k _ => ?_) ?_ ?_ ?_ ?_ ?_ ?_ ?_ ?_
  rotate_left
  all_goals try exact gate_of (at3 rk rfl (Nat.zero_add _) rfl) (at3 cr rfl rfl rfl) (at3 bn rfl (Nat.zero_add _) rfl) (at3 av rfl rfl rfl)
  exact congrArg₂ (fun p q : EReal => p * q) (at3 u rfl (by show _ = 128 * 2 + a.val; simp [ClosedOff.form] <;> omega) (Nat.zero_add _)) (at2 x rfl (by show _ = 256 * 0 + b.val; simp <;> omega))

set_option maxHeartbeats 4000000 in
theorem tile_5 (p) (hp : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P).2.1[10]? = some p) :
    Good (hid i x u rk bn cr av) p := by
  unfold runB at hp
  dsimp only [List.getElem?_cons_succ, List.getElem?_cons_zero] at hp
  obtain rfl := Option.some.inj hp
  refine good_of _ 2 1 _ (off23_eq i) _ _ fun a b => ?_
  pointwise [k0_pay7,k0_pay9,k0_pay11,k0_pay13,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,
    runB.sl.r,runB.sl.r_1,runB.sl.r_2,runB.sl.r_3,runB.sl.r_4,runB.sl.r_5,runB.sl.r_6,runB.sl.r_7,runB.sl.r_8,runB.sl.r_9,runB.sl.r_10,runB.sl.r_11,runB.sl.r_12,runB.sl.r_13,runB.sl.r_14,runB.sl.r_15,runB.sl.r_16,runB.sl.r_17,runB.sl.r_18,runB.sl.r_19,runB.sl.r_20,runB.sl.r_21,runB.sl.r_22,runB.sl.r_23,runB.sl.r_24,runB.sl.r_25,runB.sl.r_26,runB.sl.r_27,runB.sl.r_28,runB.sl.r_29,runB.sl.r_30,runB.sl.r_31,runB.sl.r_32,runB.sl.r_33,runB.sl.r_34,runB.sl.r_35,runB.sl.r_36,runB.sl.r_37,runB.sl.r_38,runB.sl.r_39,runB.sl.r_40,runB.sl.r_41,runB.sl.r_42,runB.sl.r_43,runB.sl.r_44,runB.sl.r_45,runB.sl.r_46,runB.sl.r_47,runB.sl.r_48,runB.sl.r_49,runB.sl.r_50,runB.sl.r_51,runB.sl.r_52,runB.sl.r_53,runB.sl.r_54,runB.sl.r_55,runB.sl.r_56,runB.sl.r_57,runB.sl.r_58,runB.sl.r_59,runB.sl.r_60,runB.sl.r_61,runB.sl.r_62,runB.sl.r_63,runB.sl.r_64,runB.sl.r_65,runB.sl.r_66,runB.sl.r_67,runB.sl.r_68,runB.sl.r_69,runB.sl.r_70,runB.sl.r_71,runB.sl.r_72,runB.sl.r_73,runB.sl.r_74,runB.sl.r_75,runB.sl.r_76,runB.sl.r_77,runB.sl.r_78,runB.sl.r_79,runB.sl.r_80,runB.sl.r_81,runB.sl.r_82,runB.sl.r_83,runB.sl.r_84,runB.sl.r_85,runB.sl.r_86,runB.sl.r_87,runB.sl.r_88,runB.sl.r_89,runB.sl.r_90,runB.sl.r_91,runB.sl.r_92,runB.sl.r_93,runB.sl.r_94,runB.sl.r_95,runB.sl.r_96,runB.sl.r_97,runB.sl.r_98,runB.sl.r_99,runB.sl.r_100,runB.sl.r_101,runB.sl.r_102,runB.sl.r_103,runB.sl.r_104,runB.sl.r_105,runB.sl.r_106,runB.sl.r_107,runB.sl.r_108,runB.sl.r_109,runB.sl.r_110,runB.sl.r_111,runB.sl.r_112,runB.sl.r_113,runB.sl.r_114,runB.sl.r_115,runB.sl.r_116,runB.sl.r_117,runB.sl.r_118,runB.sl.r_119,runB.sl.r_120,runB.sl.r_121,runB.sl.r_122,runB.sl.r_123,runB.sl.r_124,runB.sl.r_125,runB.sl.r_126,runB.sl.r_127,runB.sl.r_128,runB.sl.r_129,runB.sl.r_130,runB.sl.r_131,runB.sl.r_132,runB.sl.r_133,runB.sl.r_134,runB.sl.r_135,runB.sl.r_136,runB.sl.r_137,runB.sl.r_138,runB.sl.r_139,runB.sl.r_140,runB.sl.r_141,runB.sl.r_142,runB.sl.r_143,runB.sl.r_144,runB.sl.r_145,runB.sl.r_146,runB.sl.r_147,runB.sl.r_148,runB.sl.r_149,runB.sl.r_150,runB.sl.r_151,runB.sl.r_152,runB.sl.r_153,runB.sl.r_154,runB.sl.r_155,runB.sl.r_156,runB.sl.r_157,runB.sl.r_158,runB.sl.r_159,runB.sl.r_160,runB.sl.r_161,runB.sl.r_162,runB.sl.r_163,runB.sl.r_164,runB.sl.r_165,runB.sl.r_166,runB.sl.r_167,runB.sl.r_168,runB.sl.r_169,runB.sl.r_170,runB.sl.r_171,runB.sl.r_172,runB.sl.r_173,runB.sl.r_174,runB.sl.r_175,runB.sl.r_176,runB.sl.r_177,runB.sl.r_178,runB.sl.r_179,runB.sl.r_180,runB.sl.r_181,runB.sl.r_182,runB.sl.r_183,runB.sl.r_184,runB.sl.r_185,runB.sl.r_186,runB.sl.r_187,runB.sl.r_188,runB.sl.r_189,runB.sl.r_190,runB.sl.r_191,runB.sl.r_192,runB.sl.r_193,runB.sl.r_194,runB.sl.r_195,runB.sl.r_196,runB.sl.r_197,runB.sl.r_198,runB.sl.r_199,runB.sl.r_200,runB.sl.r_201,runB.sl.r_202,runB.sl.r_203,runB.sl.r_204,runB.sl.r_205,runB.sl.r_206,runB.sl.r_207,runB.sl.r_208,runB.sl.cst_596]
  simp only [dite_eq_ite, ite_self]
  simp only [readAt_closed, readAt_full]
  refine hid_of i x u rk bn cr av 2 a (col 1 b) _ _ _ _ _ _ _ _ _ (Finset.sum_congr rfl fun k _ => ?_) ?_ ?_ ?_ ?_ ?_ ?_ ?_ ?_
  rotate_left
  all_goals try exact gate_of (at3 rk rfl (Nat.zero_add _) rfl) (at3 cr rfl rfl rfl) (at3 bn rfl (Nat.zero_add _) rfl) (at3 av rfl rfl rfl)
  exact congrArg₂ (fun p q : EReal => p * q) (at3 u rfl (by show _ = 128 * 2 + a.val; simp [ClosedOff.form] <;> omega) (Nat.zero_add _)) (at2 x rfl (by show _ = 256 * 1 + b.val; simp <;> omega))

set_option maxHeartbeats 4000000 in
theorem tile_6 (p) (hp : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P).2.1[9]? = some p) :
    Good (hid i x u rk bn cr av) p := by
  unfold runB at hp
  dsimp only [List.getElem?_cons_succ, List.getElem?_cons_zero] at hp
  obtain rfl := Option.some.inj hp
  refine good_of _ 3 0 _ (off24_eq i) _ _ fun a b => ?_
  pointwise [k0_pay7,k0_pay9,k0_pay11,k0_pay13,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,
    runB.sl.r,runB.sl.r_1,runB.sl.r_2,runB.sl.r_3,runB.sl.r_4,runB.sl.r_5,runB.sl.r_6,runB.sl.r_7,runB.sl.r_8,runB.sl.r_9,runB.sl.r_10,runB.sl.r_11,runB.sl.r_12,runB.sl.r_13,runB.sl.r_14,runB.sl.r_15,runB.sl.r_16,runB.sl.r_17,runB.sl.r_18,runB.sl.r_19,runB.sl.r_20,runB.sl.r_21,runB.sl.r_22,runB.sl.r_23,runB.sl.r_24,runB.sl.r_25,runB.sl.r_26,runB.sl.r_27,runB.sl.r_28,runB.sl.r_29,runB.sl.r_30,runB.sl.r_31,runB.sl.r_32,runB.sl.r_33,runB.sl.r_34,runB.sl.r_35,runB.sl.r_36,runB.sl.r_37,runB.sl.r_38,runB.sl.r_39,runB.sl.r_40,runB.sl.r_41,runB.sl.r_42,runB.sl.r_43,runB.sl.r_44,runB.sl.r_45,runB.sl.r_46,runB.sl.r_47,runB.sl.r_48,runB.sl.r_49,runB.sl.r_50,runB.sl.r_51,runB.sl.r_52,runB.sl.r_53,runB.sl.r_54,runB.sl.r_55,runB.sl.r_56,runB.sl.r_57,runB.sl.r_58,runB.sl.r_59,runB.sl.r_60,runB.sl.r_61,runB.sl.r_62,runB.sl.r_63,runB.sl.r_64,runB.sl.r_65,runB.sl.r_66,runB.sl.r_67,runB.sl.r_68,runB.sl.r_69,runB.sl.r_70,runB.sl.r_71,runB.sl.r_72,runB.sl.r_73,runB.sl.r_74,runB.sl.r_75,runB.sl.r_76,runB.sl.r_77,runB.sl.r_78,runB.sl.r_79,runB.sl.r_80,runB.sl.r_81,runB.sl.r_82,runB.sl.r_83,runB.sl.r_84,runB.sl.r_85,runB.sl.r_86,runB.sl.r_87,runB.sl.r_88,runB.sl.r_89,runB.sl.r_90,runB.sl.r_91,runB.sl.r_92,runB.sl.r_93,runB.sl.r_94,runB.sl.r_95,runB.sl.r_96,runB.sl.r_97,runB.sl.r_98,runB.sl.r_99,runB.sl.r_100,runB.sl.r_101,runB.sl.r_102,runB.sl.r_103,runB.sl.r_104,runB.sl.r_105,runB.sl.r_106,runB.sl.r_107,runB.sl.r_108,runB.sl.r_109,runB.sl.r_110,runB.sl.r_111,runB.sl.r_112,runB.sl.r_113,runB.sl.r_114,runB.sl.r_115,runB.sl.r_116,runB.sl.r_117,runB.sl.r_118,runB.sl.r_119,runB.sl.r_120,runB.sl.r_121,runB.sl.r_122,runB.sl.r_123,runB.sl.r_124,runB.sl.r_125,runB.sl.r_126,runB.sl.r_127,runB.sl.r_128,runB.sl.r_129,runB.sl.r_130,runB.sl.r_131,runB.sl.r_132,runB.sl.r_133,runB.sl.r_134,runB.sl.r_135,runB.sl.r_136,runB.sl.r_137,runB.sl.r_138,runB.sl.r_139,runB.sl.r_140,runB.sl.r_141,runB.sl.r_142,runB.sl.r_143,runB.sl.r_144,runB.sl.r_145,runB.sl.r_146,runB.sl.r_147,runB.sl.r_148,runB.sl.r_149,runB.sl.r_150,runB.sl.r_151,runB.sl.r_152,runB.sl.r_153,runB.sl.r_154,runB.sl.r_155,runB.sl.r_156,runB.sl.r_157,runB.sl.r_158,runB.sl.r_159,runB.sl.r_160,runB.sl.r_161,runB.sl.r_162,runB.sl.r_163,runB.sl.r_164,runB.sl.r_165,runB.sl.r_166,runB.sl.r_167,runB.sl.r_168,runB.sl.r_169,runB.sl.r_170,runB.sl.r_171,runB.sl.r_172,runB.sl.r_173,runB.sl.r_174,runB.sl.r_175,runB.sl.r_176,runB.sl.r_177,runB.sl.r_178,runB.sl.r_179,runB.sl.r_180,runB.sl.r_181,runB.sl.r_182,runB.sl.r_183,runB.sl.r_184,runB.sl.r_185,runB.sl.r_186,runB.sl.r_187,runB.sl.r_188,runB.sl.r_189,runB.sl.r_190,runB.sl.r_191,runB.sl.r_192,runB.sl.r_193,runB.sl.r_194,runB.sl.r_195,runB.sl.r_196,runB.sl.r_197,runB.sl.r_198,runB.sl.r_199,runB.sl.r_200,runB.sl.r_201,runB.sl.r_202,runB.sl.r_203,runB.sl.r_204,runB.sl.r_205,runB.sl.r_206,runB.sl.r_207,runB.sl.r_208,runB.sl.cst_596]
  simp only [dite_eq_ite, ite_self]
  simp only [readAt_closed, readAt_full]
  refine hid_of i x u rk bn cr av 3 a (col 0 b) _ _ _ _ _ _ _ _ _ (Finset.sum_congr rfl fun k _ => ?_) ?_ ?_ ?_ ?_ ?_ ?_ ?_ ?_
  rotate_left
  all_goals try exact gate_of (at3 rk rfl (Nat.zero_add _) rfl) (at3 cr rfl rfl rfl) (at3 bn rfl (Nat.zero_add _) rfl) (at3 av rfl rfl rfl)
  exact congrArg₂ (fun p q : EReal => p * q) (at3 u rfl (by show _ = 128 * 3 + a.val; simp [ClosedOff.form] <;> omega) (Nat.zero_add _)) (at2 x rfl (by show _ = 256 * 0 + b.val; simp <;> omega))

set_option maxHeartbeats 4000000 in
theorem tile_7 (p) (hp : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P).2.1[8]? = some p) :
    Good (hid i x u rk bn cr av) p := by
  unfold runB at hp
  dsimp only [List.getElem?_cons_succ, List.getElem?_cons_zero] at hp
  obtain rfl := Option.some.inj hp
  refine good_of _ 3 1 _ (off25_eq i) _ _ fun a b => ?_
  pointwise [k0_pay7,k0_pay9,k0_pay11,k0_pay13,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,
    runB.sl.r,runB.sl.r_1,runB.sl.r_2,runB.sl.r_3,runB.sl.r_4,runB.sl.r_5,runB.sl.r_6,runB.sl.r_7,runB.sl.r_8,runB.sl.r_9,runB.sl.r_10,runB.sl.r_11,runB.sl.r_12,runB.sl.r_13,runB.sl.r_14,runB.sl.r_15,runB.sl.r_16,runB.sl.r_17,runB.sl.r_18,runB.sl.r_19,runB.sl.r_20,runB.sl.r_21,runB.sl.r_22,runB.sl.r_23,runB.sl.r_24,runB.sl.r_25,runB.sl.r_26,runB.sl.r_27,runB.sl.r_28,runB.sl.r_29,runB.sl.r_30,runB.sl.r_31,runB.sl.r_32,runB.sl.r_33,runB.sl.r_34,runB.sl.r_35,runB.sl.r_36,runB.sl.r_37,runB.sl.r_38,runB.sl.r_39,runB.sl.r_40,runB.sl.r_41,runB.sl.r_42,runB.sl.r_43,runB.sl.r_44,runB.sl.r_45,runB.sl.r_46,runB.sl.r_47,runB.sl.r_48,runB.sl.r_49,runB.sl.r_50,runB.sl.r_51,runB.sl.r_52,runB.sl.r_53,runB.sl.r_54,runB.sl.r_55,runB.sl.r_56,runB.sl.r_57,runB.sl.r_58,runB.sl.r_59,runB.sl.r_60,runB.sl.r_61,runB.sl.r_62,runB.sl.r_63,runB.sl.r_64,runB.sl.r_65,runB.sl.r_66,runB.sl.r_67,runB.sl.r_68,runB.sl.r_69,runB.sl.r_70,runB.sl.r_71,runB.sl.r_72,runB.sl.r_73,runB.sl.r_74,runB.sl.r_75,runB.sl.r_76,runB.sl.r_77,runB.sl.r_78,runB.sl.r_79,runB.sl.r_80,runB.sl.r_81,runB.sl.r_82,runB.sl.r_83,runB.sl.r_84,runB.sl.r_85,runB.sl.r_86,runB.sl.r_87,runB.sl.r_88,runB.sl.r_89,runB.sl.r_90,runB.sl.r_91,runB.sl.r_92,runB.sl.r_93,runB.sl.r_94,runB.sl.r_95,runB.sl.r_96,runB.sl.r_97,runB.sl.r_98,runB.sl.r_99,runB.sl.r_100,runB.sl.r_101,runB.sl.r_102,runB.sl.r_103,runB.sl.r_104,runB.sl.r_105,runB.sl.r_106,runB.sl.r_107,runB.sl.r_108,runB.sl.r_109,runB.sl.r_110,runB.sl.r_111,runB.sl.r_112,runB.sl.r_113,runB.sl.r_114,runB.sl.r_115,runB.sl.r_116,runB.sl.r_117,runB.sl.r_118,runB.sl.r_119,runB.sl.r_120,runB.sl.r_121,runB.sl.r_122,runB.sl.r_123,runB.sl.r_124,runB.sl.r_125,runB.sl.r_126,runB.sl.r_127,runB.sl.r_128,runB.sl.r_129,runB.sl.r_130,runB.sl.r_131,runB.sl.r_132,runB.sl.r_133,runB.sl.r_134,runB.sl.r_135,runB.sl.r_136,runB.sl.r_137,runB.sl.r_138,runB.sl.r_139,runB.sl.r_140,runB.sl.r_141,runB.sl.r_142,runB.sl.r_143,runB.sl.r_144,runB.sl.r_145,runB.sl.r_146,runB.sl.r_147,runB.sl.r_148,runB.sl.r_149,runB.sl.r_150,runB.sl.r_151,runB.sl.r_152,runB.sl.r_153,runB.sl.r_154,runB.sl.r_155,runB.sl.r_156,runB.sl.r_157,runB.sl.r_158,runB.sl.r_159,runB.sl.r_160,runB.sl.r_161,runB.sl.r_162,runB.sl.r_163,runB.sl.r_164,runB.sl.r_165,runB.sl.r_166,runB.sl.r_167,runB.sl.r_168,runB.sl.r_169,runB.sl.r_170,runB.sl.r_171,runB.sl.r_172,runB.sl.r_173,runB.sl.r_174,runB.sl.r_175,runB.sl.r_176,runB.sl.r_177,runB.sl.r_178,runB.sl.r_179,runB.sl.r_180,runB.sl.r_181,runB.sl.r_182,runB.sl.r_183,runB.sl.r_184,runB.sl.r_185,runB.sl.r_186,runB.sl.r_187,runB.sl.r_188,runB.sl.r_189,runB.sl.r_190,runB.sl.r_191,runB.sl.r_192,runB.sl.r_193,runB.sl.r_194,runB.sl.r_195,runB.sl.r_196,runB.sl.r_197,runB.sl.r_198,runB.sl.r_199,runB.sl.r_200,runB.sl.r_201,runB.sl.r_202,runB.sl.r_203,runB.sl.r_204,runB.sl.r_205,runB.sl.r_206,runB.sl.r_207,runB.sl.r_208,runB.sl.cst_596]
  simp only [dite_eq_ite, ite_self]
  simp only [readAt_closed, readAt_full]
  refine hid_of i x u rk bn cr av 3 a (col 1 b) _ _ _ _ _ _ _ _ _ (Finset.sum_congr rfl fun k _ => ?_) ?_ ?_ ?_ ?_ ?_ ?_ ?_ ?_
  rotate_left
  all_goals try exact gate_of (at3 rk rfl (Nat.zero_add _) rfl) (at3 cr rfl rfl rfl) (at3 bn rfl (Nat.zero_add _) rfl) (at3 av rfl rfl rfl)
  exact congrArg₂ (fun p q : EReal => p * q) (at3 u rfl (by show _ = 128 * 3 + a.val; simp [ClosedOff.form] <;> omega) (Nat.zero_add _)) (at2 x rfl (by show _ = 256 * 1 + b.val; simp <;> omega))

end Cert.PeerIdeal.Dense

end
-- ==== Proof.Peer.IdealTiles2.lean ====
module

public import proofs.«01_k».proof.Proof.Peer.Spec

/-! The tiles of the expert block, each at every entry: what the body stores is the weighted activation. -/

@[expose] public section

set_option maxRecDepth 16384

noncomputable section

namespace Cert.PeerIdeal.Dense

open Cert.PeerIdeal Cert.PeerIdeal.Gen
open Idealize.ShloMosaic Idealize.ShloMosaic.TcCoe Idealize.SL.Sem Idealize.ShloMosaic.Pipeline

variable (c : Dev nD) (i : grid0.Coords) (arg2 : Memref sig .tc .vmem S1024x512 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .f32) (harg8 : arg8.IsWhole) (arg9 : Memref sig .tc .vmem S8x128x512 .f32) (harg9 : arg9.IsWhole) (arg10 : Memref sig .tc .vmem S512x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S2x1024x512 .bf16) (harg15 : arg15.IsWhole)
  (x : FVec Ideal S1024x512 .bf16) (u : FVec Ideal S1x1024x1024 .bf16) (v : FVec Ideal S1x1024x1024 .bf16) (rk bn : FVec Ideal S8x128x512 .bf16)
  (cr av : FVec Ideal S8x128x512 .f32) (A : FVec Ideal S512x1024 .f32) (P : FVec Ideal S2x1024x512 .bf16)

set_option maxHeartbeats 4000000 in
theorem tile_8 (p) (hp : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P).2.1[7]? = some p) :
    Good (hid i x u rk bn cr av) p := by
  unfold runB at hp
  dsimp only [List.getElem?_cons_succ, List.getElem?_cons_zero] at hp
  obtain rfl := Option.some.inj hp
  refine good_of _ 4 0 _ (off26_eq i) _ _ fun a b => ?_
  pointwise [k0_pay7,k0_pay9,k0_pay11,k0_pay13,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,
    runB.sl.r,runB.sl.r_1,runB.sl.r_2,runB.sl.r_3,runB.sl.r_4,runB.sl.r_5,runB.sl.r_6,runB.sl.r_7,runB.sl.r_8,runB.sl.r_9,runB.sl.r_10,runB.sl.r_11,runB.sl.r_12,runB.sl.r_13,runB.sl.r_14,runB.sl.r_15,runB.sl.r_16,runB.sl.r_17,runB.sl.r_18,runB.sl.r_19,runB.sl.r_20,runB.sl.r_21,runB.sl.r_22,runB.sl.r_23,runB.sl.r_24,runB.sl.r_25,runB.sl.r_26,runB.sl.r_27,runB.sl.r_28,runB.sl.r_29,runB.sl.r_30,runB.sl.r_31,runB.sl.r_32,runB.sl.r_33,runB.sl.r_34,runB.sl.r_35,runB.sl.r_36,runB.sl.r_37,runB.sl.r_38,runB.sl.r_39,runB.sl.r_40,runB.sl.r_41,runB.sl.r_42,runB.sl.r_43,runB.sl.r_44,runB.sl.r_45,runB.sl.r_46,runB.sl.r_47,runB.sl.r_48,runB.sl.r_49,runB.sl.r_50,runB.sl.r_51,runB.sl.r_52,runB.sl.r_53,runB.sl.r_54,runB.sl.r_55,runB.sl.r_56,runB.sl.r_57,runB.sl.r_58,runB.sl.r_59,runB.sl.r_60,runB.sl.r_61,runB.sl.r_62,runB.sl.r_63,runB.sl.r_64,runB.sl.r_65,runB.sl.r_66,runB.sl.r_67,runB.sl.r_68,runB.sl.r_69,runB.sl.r_70,runB.sl.r_71,runB.sl.r_72,runB.sl.r_73,runB.sl.r_74,runB.sl.r_75,runB.sl.r_76,runB.sl.r_77,runB.sl.r_78,runB.sl.r_79,runB.sl.r_80,runB.sl.r_81,runB.sl.r_82,runB.sl.r_83,runB.sl.r_84,runB.sl.r_85,runB.sl.r_86,runB.sl.r_87,runB.sl.r_88,runB.sl.r_89,runB.sl.r_90,runB.sl.r_91,runB.sl.r_92,runB.sl.r_93,runB.sl.r_94,runB.sl.r_95,runB.sl.r_96,runB.sl.r_97,runB.sl.r_98,runB.sl.r_99,runB.sl.r_100,runB.sl.r_101,runB.sl.r_102,runB.sl.r_103,runB.sl.r_104,runB.sl.r_105,runB.sl.r_106,runB.sl.r_107,runB.sl.r_108,runB.sl.r_109,runB.sl.r_110,runB.sl.r_111,runB.sl.r_112,runB.sl.r_113,runB.sl.r_114,runB.sl.r_115,runB.sl.r_116,runB.sl.r_117,runB.sl.r_118,runB.sl.r_119,runB.sl.r_120,runB.sl.r_121,runB.sl.r_122,runB.sl.r_123,runB.sl.r_124,runB.sl.r_125,runB.sl.r_126,runB.sl.r_127,runB.sl.r_128,runB.sl.r_129,runB.sl.r_130,runB.sl.r_131,runB.sl.r_132,runB.sl.r_133,runB.sl.r_134,runB.sl.r_135,runB.sl.r_136,runB.sl.r_137,runB.sl.r_138,runB.sl.r_139,runB.sl.r_140,runB.sl.r_141,runB.sl.r_142,runB.sl.r_143,runB.sl.r_144,runB.sl.r_145,runB.sl.r_146,runB.sl.r_147,runB.sl.r_148,runB.sl.r_149,runB.sl.r_150,runB.sl.r_151,runB.sl.r_152,runB.sl.r_153,runB.sl.r_154,runB.sl.r_155,runB.sl.r_156,runB.sl.r_157,runB.sl.r_158,runB.sl.r_159,runB.sl.r_160,runB.sl.r_161,runB.sl.r_162,runB.sl.r_163,runB.sl.r_164,runB.sl.r_165,runB.sl.r_166,runB.sl.r_167,runB.sl.r_168,runB.sl.r_169,runB.sl.r_170,runB.sl.r_171,runB.sl.r_172,runB.sl.r_173,runB.sl.r_174,runB.sl.r_175,runB.sl.r_176,runB.sl.r_177,runB.sl.r_178,runB.sl.r_179,runB.sl.r_180,runB.sl.r_181,runB.sl.r_182,runB.sl.r_183,runB.sl.r_184,runB.sl.r_185,runB.sl.r_186,runB.sl.r_187,runB.sl.r_188,runB.sl.r_189,runB.sl.r_190,runB.sl.r_191,runB.sl.r_192,runB.sl.r_193,runB.sl.r_194,runB.sl.r_195,runB.sl.r_196,runB.sl.r_197,runB.sl.r_198,runB.sl.r_199,runB.sl.r_200,runB.sl.r_201,runB.sl.r_202,runB.sl.r_203,runB.sl.r_204,runB.sl.r_205,runB.sl.r_206,runB.sl.r_207,runB.sl.r_208,runB.sl.cst_596]
  simp only [dite_eq_ite, ite_self]
  simp only [readAt_closed, readAt_full]
  refine hid_of i x u rk bn cr av 4 a (col 0 b) _ _ _ _ _ _ _ _ _ (Finset.sum_congr rfl fun k _ => ?_) ?_ ?_ ?_ ?_ ?_ ?_ ?_ ?_
  rotate_left
  all_goals try exact gate_of (at3 rk rfl (Nat.zero_add _) rfl) (at3 cr rfl rfl rfl) (at3 bn rfl (Nat.zero_add _) rfl) (at3 av rfl rfl rfl)
  exact congrArg₂ (fun p q : EReal => p * q) (at3 u rfl (by show _ = 128 * 4 + a.val; simp [ClosedOff.form] <;> omega) (Nat.zero_add _)) (at2 x rfl (by show _ = 256 * 0 + b.val; simp <;> omega))

set_option maxHeartbeats 4000000 in
theorem tile_9 (p) (hp : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P).2.1[6]? = some p) :
    Good (hid i x u rk bn cr av) p := by
  unfold runB at hp
  dsimp only [List.getElem?_cons_succ, List.getElem?_cons_zero] at hp
  obtain rfl := Option.some.inj hp
  refine good_of _ 4 1 _ (off27_eq i) _ _ fun a b => ?_
  pointwise [k0_pay7,k0_pay9,k0_pay11,k0_pay13,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,
    runB.sl.r,runB.sl.r_1,runB.sl.r_2,runB.sl.r_3,runB.sl.r_4,runB.sl.r_5,runB.sl.r_6,runB.sl.r_7,runB.sl.r_8,runB.sl.r_9,runB.sl.r_10,runB.sl.r_11,runB.sl.r_12,runB.sl.r_13,runB.sl.r_14,runB.sl.r_15,runB.sl.r_16,runB.sl.r_17,runB.sl.r_18,runB.sl.r_19,runB.sl.r_20,runB.sl.r_21,runB.sl.r_22,runB.sl.r_23,runB.sl.r_24,runB.sl.r_25,runB.sl.r_26,runB.sl.r_27,runB.sl.r_28,runB.sl.r_29,runB.sl.r_30,runB.sl.r_31,runB.sl.r_32,runB.sl.r_33,runB.sl.r_34,runB.sl.r_35,runB.sl.r_36,runB.sl.r_37,runB.sl.r_38,runB.sl.r_39,runB.sl.r_40,runB.sl.r_41,runB.sl.r_42,runB.sl.r_43,runB.sl.r_44,runB.sl.r_45,runB.sl.r_46,runB.sl.r_47,runB.sl.r_48,runB.sl.r_49,runB.sl.r_50,runB.sl.r_51,runB.sl.r_52,runB.sl.r_53,runB.sl.r_54,runB.sl.r_55,runB.sl.r_56,runB.sl.r_57,runB.sl.r_58,runB.sl.r_59,runB.sl.r_60,runB.sl.r_61,runB.sl.r_62,runB.sl.r_63,runB.sl.r_64,runB.sl.r_65,runB.sl.r_66,runB.sl.r_67,runB.sl.r_68,runB.sl.r_69,runB.sl.r_70,runB.sl.r_71,runB.sl.r_72,runB.sl.r_73,runB.sl.r_74,runB.sl.r_75,runB.sl.r_76,runB.sl.r_77,runB.sl.r_78,runB.sl.r_79,runB.sl.r_80,runB.sl.r_81,runB.sl.r_82,runB.sl.r_83,runB.sl.r_84,runB.sl.r_85,runB.sl.r_86,runB.sl.r_87,runB.sl.r_88,runB.sl.r_89,runB.sl.r_90,runB.sl.r_91,runB.sl.r_92,runB.sl.r_93,runB.sl.r_94,runB.sl.r_95,runB.sl.r_96,runB.sl.r_97,runB.sl.r_98,runB.sl.r_99,runB.sl.r_100,runB.sl.r_101,runB.sl.r_102,runB.sl.r_103,runB.sl.r_104,runB.sl.r_105,runB.sl.r_106,runB.sl.r_107,runB.sl.r_108,runB.sl.r_109,runB.sl.r_110,runB.sl.r_111,runB.sl.r_112,runB.sl.r_113,runB.sl.r_114,runB.sl.r_115,runB.sl.r_116,runB.sl.r_117,runB.sl.r_118,runB.sl.r_119,runB.sl.r_120,runB.sl.r_121,runB.sl.r_122,runB.sl.r_123,runB.sl.r_124,runB.sl.r_125,runB.sl.r_126,runB.sl.r_127,runB.sl.r_128,runB.sl.r_129,runB.sl.r_130,runB.sl.r_131,runB.sl.r_132,runB.sl.r_133,runB.sl.r_134,runB.sl.r_135,runB.sl.r_136,runB.sl.r_137,runB.sl.r_138,runB.sl.r_139,runB.sl.r_140,runB.sl.r_141,runB.sl.r_142,runB.sl.r_143,runB.sl.r_144,runB.sl.r_145,runB.sl.r_146,runB.sl.r_147,runB.sl.r_148,runB.sl.r_149,runB.sl.r_150,runB.sl.r_151,runB.sl.r_152,runB.sl.r_153,runB.sl.r_154,runB.sl.r_155,runB.sl.r_156,runB.sl.r_157,runB.sl.r_158,runB.sl.r_159,runB.sl.r_160,runB.sl.r_161,runB.sl.r_162,runB.sl.r_163,runB.sl.r_164,runB.sl.r_165,runB.sl.r_166,runB.sl.r_167,runB.sl.r_168,runB.sl.r_169,runB.sl.r_170,runB.sl.r_171,runB.sl.r_172,runB.sl.r_173,runB.sl.r_174,runB.sl.r_175,runB.sl.r_176,runB.sl.r_177,runB.sl.r_178,runB.sl.r_179,runB.sl.r_180,runB.sl.r_181,runB.sl.r_182,runB.sl.r_183,runB.sl.r_184,runB.sl.r_185,runB.sl.r_186,runB.sl.r_187,runB.sl.r_188,runB.sl.r_189,runB.sl.r_190,runB.sl.r_191,runB.sl.r_192,runB.sl.r_193,runB.sl.r_194,runB.sl.r_195,runB.sl.r_196,runB.sl.r_197,runB.sl.r_198,runB.sl.r_199,runB.sl.r_200,runB.sl.r_201,runB.sl.r_202,runB.sl.r_203,runB.sl.r_204,runB.sl.r_205,runB.sl.r_206,runB.sl.r_207,runB.sl.r_208,runB.sl.cst_596]
  simp only [dite_eq_ite, ite_self]
  simp only [readAt_closed, readAt_full]
  refine hid_of i x u rk bn cr av 4 a (col 1 b) _ _ _ _ _ _ _ _ _ (Finset.sum_congr rfl fun k _ => ?_) ?_ ?_ ?_ ?_ ?_ ?_ ?_ ?_
  rotate_left
  all_goals try exact gate_of (at3 rk rfl (Nat.zero_add _) rfl) (at3 cr rfl rfl rfl) (at3 bn rfl (Nat.zero_add _) rfl) (at3 av rfl rfl rfl)
  exact congrArg₂ (fun p q : EReal => p * q) (at3 u rfl (by show _ = 128 * 4 + a.val; simp [ClosedOff.form] <;> omega) (Nat.zero_add _)) (at2 x rfl (by show _ = 256 * 1 + b.val; simp <;> omega))

set_option maxHeartbeats 4000000 in
theorem tile_10 (p) (hp : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P).2.1[5]? = some p) :
    Good (hid i x u rk bn cr av) p := by
  unfold runB at hp
  dsimp only [List.getElem?_cons_succ, List.getElem?_cons_zero] at hp
  obtain rfl := Option.some.inj hp
  refine good_of _ 5 0 _ (off28_eq i) _ _ fun a b => ?_
  pointwise [k0_pay7,k0_pay9,k0_pay11,k0_pay13,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,
    runB.sl.r,runB.sl.r_1,runB.sl.r_2,runB.sl.r_3,runB.sl.r_4,runB.sl.r_5,runB.sl.r_6,runB.sl.r_7,runB.sl.r_8,runB.sl.r_9,runB.sl.r_10,runB.sl.r_11,runB.sl.r_12,runB.sl.r_13,runB.sl.r_14,runB.sl.r_15,runB.sl.r_16,runB.sl.r_17,runB.sl.r_18,runB.sl.r_19,runB.sl.r_20,runB.sl.r_21,runB.sl.r_22,runB.sl.r_23,runB.sl.r_24,runB.sl.r_25,runB.sl.r_26,runB.sl.r_27,runB.sl.r_28,runB.sl.r_29,runB.sl.r_30,runB.sl.r_31,runB.sl.r_32,runB.sl.r_33,runB.sl.r_34,runB.sl.r_35,runB.sl.r_36,runB.sl.r_37,runB.sl.r_38,runB.sl.r_39,runB.sl.r_40,runB.sl.r_41,runB.sl.r_42,runB.sl.r_43,runB.sl.r_44,runB.sl.r_45,runB.sl.r_46,runB.sl.r_47,runB.sl.r_48,runB.sl.r_49,runB.sl.r_50,runB.sl.r_51,runB.sl.r_52,runB.sl.r_53,runB.sl.r_54,runB.sl.r_55,runB.sl.r_56,runB.sl.r_57,runB.sl.r_58,runB.sl.r_59,runB.sl.r_60,runB.sl.r_61,runB.sl.r_62,runB.sl.r_63,runB.sl.r_64,runB.sl.r_65,runB.sl.r_66,runB.sl.r_67,runB.sl.r_68,runB.sl.r_69,runB.sl.r_70,runB.sl.r_71,runB.sl.r_72,runB.sl.r_73,runB.sl.r_74,runB.sl.r_75,runB.sl.r_76,runB.sl.r_77,runB.sl.r_78,runB.sl.r_79,runB.sl.r_80,runB.sl.r_81,runB.sl.r_82,runB.sl.r_83,runB.sl.r_84,runB.sl.r_85,runB.sl.r_86,runB.sl.r_87,runB.sl.r_88,runB.sl.r_89,runB.sl.r_90,runB.sl.r_91,runB.sl.r_92,runB.sl.r_93,runB.sl.r_94,runB.sl.r_95,runB.sl.r_96,runB.sl.r_97,runB.sl.r_98,runB.sl.r_99,runB.sl.r_100,runB.sl.r_101,runB.sl.r_102,runB.sl.r_103,runB.sl.r_104,runB.sl.r_105,runB.sl.r_106,runB.sl.r_107,runB.sl.r_108,runB.sl.r_109,runB.sl.r_110,runB.sl.r_111,runB.sl.r_112,runB.sl.r_113,runB.sl.r_114,runB.sl.r_115,runB.sl.r_116,runB.sl.r_117,runB.sl.r_118,runB.sl.r_119,runB.sl.r_120,runB.sl.r_121,runB.sl.r_122,runB.sl.r_123,runB.sl.r_124,runB.sl.r_125,runB.sl.r_126,runB.sl.r_127,runB.sl.r_128,runB.sl.r_129,runB.sl.r_130,runB.sl.r_131,runB.sl.r_132,runB.sl.r_133,runB.sl.r_134,runB.sl.r_135,runB.sl.r_136,runB.sl.r_137,runB.sl.r_138,runB.sl.r_139,runB.sl.r_140,runB.sl.r_141,runB.sl.r_142,runB.sl.r_143,runB.sl.r_144,runB.sl.r_145,runB.sl.r_146,runB.sl.r_147,runB.sl.r_148,runB.sl.r_149,runB.sl.r_150,runB.sl.r_151,runB.sl.r_152,runB.sl.r_153,runB.sl.r_154,runB.sl.r_155,runB.sl.r_156,runB.sl.r_157,runB.sl.r_158,runB.sl.r_159,runB.sl.r_160,runB.sl.r_161,runB.sl.r_162,runB.sl.r_163,runB.sl.r_164,runB.sl.r_165,runB.sl.r_166,runB.sl.r_167,runB.sl.r_168,runB.sl.r_169,runB.sl.r_170,runB.sl.r_171,runB.sl.r_172,runB.sl.r_173,runB.sl.r_174,runB.sl.r_175,runB.sl.r_176,runB.sl.r_177,runB.sl.r_178,runB.sl.r_179,runB.sl.r_180,runB.sl.r_181,runB.sl.r_182,runB.sl.r_183,runB.sl.r_184,runB.sl.r_185,runB.sl.r_186,runB.sl.r_187,runB.sl.r_188,runB.sl.r_189,runB.sl.r_190,runB.sl.r_191,runB.sl.r_192,runB.sl.r_193,runB.sl.r_194,runB.sl.r_195,runB.sl.r_196,runB.sl.r_197,runB.sl.r_198,runB.sl.r_199,runB.sl.r_200,runB.sl.r_201,runB.sl.r_202,runB.sl.r_203,runB.sl.r_204,runB.sl.r_205,runB.sl.r_206,runB.sl.r_207,runB.sl.r_208,runB.sl.cst_596]
  simp only [dite_eq_ite, ite_self]
  simp only [readAt_closed, readAt_full]
  refine hid_of i x u rk bn cr av 5 a (col 0 b) _ _ _ _ _ _ _ _ _ (Finset.sum_congr rfl fun k _ => ?_) ?_ ?_ ?_ ?_ ?_ ?_ ?_ ?_
  rotate_left
  all_goals try exact gate_of (at3 rk rfl (Nat.zero_add _) rfl) (at3 cr rfl rfl rfl) (at3 bn rfl (Nat.zero_add _) rfl) (at3 av rfl rfl rfl)
  exact congrArg₂ (fun p q : EReal => p * q) (at3 u rfl (by show _ = 128 * 5 + a.val; simp [ClosedOff.form] <;> omega) (Nat.zero_add _)) (at2 x rfl (by show _ = 256 * 0 + b.val; simp <;> omega))

set_option maxHeartbeats 4000000 in
theorem tile_11 (p) (hp : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P).2.1[4]? = some p) :
    Good (hid i x u rk bn cr av) p := by
  unfold runB at hp
  dsimp only [List.getElem?_cons_succ, List.getElem?_cons_zero] at hp
  obtain rfl := Option.some.inj hp
  refine good_of _ 5 1 _ (off29_eq i) _ _ fun a b => ?_
  pointwise [k0_pay7,k0_pay9,k0_pay11,k0_pay13,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,
    runB.sl.r,runB.sl.r_1,runB.sl.r_2,runB.sl.r_3,runB.sl.r_4,runB.sl.r_5,runB.sl.r_6,runB.sl.r_7,runB.sl.r_8,runB.sl.r_9,runB.sl.r_10,runB.sl.r_11,runB.sl.r_12,runB.sl.r_13,runB.sl.r_14,runB.sl.r_15,runB.sl.r_16,runB.sl.r_17,runB.sl.r_18,runB.sl.r_19,runB.sl.r_20,runB.sl.r_21,runB.sl.r_22,runB.sl.r_23,runB.sl.r_24,runB.sl.r_25,runB.sl.r_26,runB.sl.r_27,runB.sl.r_28,runB.sl.r_29,runB.sl.r_30,runB.sl.r_31,runB.sl.r_32,runB.sl.r_33,runB.sl.r_34,runB.sl.r_35,runB.sl.r_36,runB.sl.r_37,runB.sl.r_38,runB.sl.r_39,runB.sl.r_40,runB.sl.r_41,runB.sl.r_42,runB.sl.r_43,runB.sl.r_44,runB.sl.r_45,runB.sl.r_46,runB.sl.r_47,runB.sl.r_48,runB.sl.r_49,runB.sl.r_50,runB.sl.r_51,runB.sl.r_52,runB.sl.r_53,runB.sl.r_54,runB.sl.r_55,runB.sl.r_56,runB.sl.r_57,runB.sl.r_58,runB.sl.r_59,runB.sl.r_60,runB.sl.r_61,runB.sl.r_62,runB.sl.r_63,runB.sl.r_64,runB.sl.r_65,runB.sl.r_66,runB.sl.r_67,runB.sl.r_68,runB.sl.r_69,runB.sl.r_70,runB.sl.r_71,runB.sl.r_72,runB.sl.r_73,runB.sl.r_74,runB.sl.r_75,runB.sl.r_76,runB.sl.r_77,runB.sl.r_78,runB.sl.r_79,runB.sl.r_80,runB.sl.r_81,runB.sl.r_82,runB.sl.r_83,runB.sl.r_84,runB.sl.r_85,runB.sl.r_86,runB.sl.r_87,runB.sl.r_88,runB.sl.r_89,runB.sl.r_90,runB.sl.r_91,runB.sl.r_92,runB.sl.r_93,runB.sl.r_94,runB.sl.r_95,runB.sl.r_96,runB.sl.r_97,runB.sl.r_98,runB.sl.r_99,runB.sl.r_100,runB.sl.r_101,runB.sl.r_102,runB.sl.r_103,runB.sl.r_104,runB.sl.r_105,runB.sl.r_106,runB.sl.r_107,runB.sl.r_108,runB.sl.r_109,runB.sl.r_110,runB.sl.r_111,runB.sl.r_112,runB.sl.r_113,runB.sl.r_114,runB.sl.r_115,runB.sl.r_116,runB.sl.r_117,runB.sl.r_118,runB.sl.r_119,runB.sl.r_120,runB.sl.r_121,runB.sl.r_122,runB.sl.r_123,runB.sl.r_124,runB.sl.r_125,runB.sl.r_126,runB.sl.r_127,runB.sl.r_128,runB.sl.r_129,runB.sl.r_130,runB.sl.r_131,runB.sl.r_132,runB.sl.r_133,runB.sl.r_134,runB.sl.r_135,runB.sl.r_136,runB.sl.r_137,runB.sl.r_138,runB.sl.r_139,runB.sl.r_140,runB.sl.r_141,runB.sl.r_142,runB.sl.r_143,runB.sl.r_144,runB.sl.r_145,runB.sl.r_146,runB.sl.r_147,runB.sl.r_148,runB.sl.r_149,runB.sl.r_150,runB.sl.r_151,runB.sl.r_152,runB.sl.r_153,runB.sl.r_154,runB.sl.r_155,runB.sl.r_156,runB.sl.r_157,runB.sl.r_158,runB.sl.r_159,runB.sl.r_160,runB.sl.r_161,runB.sl.r_162,runB.sl.r_163,runB.sl.r_164,runB.sl.r_165,runB.sl.r_166,runB.sl.r_167,runB.sl.r_168,runB.sl.r_169,runB.sl.r_170,runB.sl.r_171,runB.sl.r_172,runB.sl.r_173,runB.sl.r_174,runB.sl.r_175,runB.sl.r_176,runB.sl.r_177,runB.sl.r_178,runB.sl.r_179,runB.sl.r_180,runB.sl.r_181,runB.sl.r_182,runB.sl.r_183,runB.sl.r_184,runB.sl.r_185,runB.sl.r_186,runB.sl.r_187,runB.sl.r_188,runB.sl.r_189,runB.sl.r_190,runB.sl.r_191,runB.sl.r_192,runB.sl.r_193,runB.sl.r_194,runB.sl.r_195,runB.sl.r_196,runB.sl.r_197,runB.sl.r_198,runB.sl.r_199,runB.sl.r_200,runB.sl.r_201,runB.sl.r_202,runB.sl.r_203,runB.sl.r_204,runB.sl.r_205,runB.sl.r_206,runB.sl.r_207,runB.sl.r_208,runB.sl.cst_596]
  simp only [dite_eq_ite, ite_self]
  simp only [readAt_closed, readAt_full]
  refine hid_of i x u rk bn cr av 5 a (col 1 b) _ _ _ _ _ _ _ _ _ (Finset.sum_congr rfl fun k _ => ?_) ?_ ?_ ?_ ?_ ?_ ?_ ?_ ?_
  rotate_left
  all_goals try exact gate_of (at3 rk rfl (Nat.zero_add _) rfl) (at3 cr rfl rfl rfl) (at3 bn rfl (Nat.zero_add _) rfl) (at3 av rfl rfl rfl)
  exact congrArg₂ (fun p q : EReal => p * q) (at3 u rfl (by show _ = 128 * 5 + a.val; simp [ClosedOff.form] <;> omega) (Nat.zero_add _)) (at2 x rfl (by show _ = 256 * 1 + b.val; simp <;> omega))

end Cert.PeerIdeal.Dense

end
-- ==== Proof.Peer.IdealTiles3.lean ====
module

public import proofs.«01_k».proof.Proof.Peer.Spec

/-! The tiles of the expert block, each at every entry: what the body stores is the weighted activation. -/

@[expose] public section

set_option maxRecDepth 16384

noncomputable section

namespace Cert.PeerIdeal.Dense

open Cert.PeerIdeal Cert.PeerIdeal.Gen
open Idealize.ShloMosaic Idealize.ShloMosaic.TcCoe Idealize.SL.Sem Idealize.ShloMosaic.Pipeline

variable (c : Dev nD) (i : grid0.Coords) (arg2 : Memref sig .tc .vmem S1024x512 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .f32) (harg8 : arg8.IsWhole) (arg9 : Memref sig .tc .vmem S8x128x512 .f32) (harg9 : arg9.IsWhole) (arg10 : Memref sig .tc .vmem S512x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S2x1024x512 .bf16) (harg15 : arg15.IsWhole)
  (x : FVec Ideal S1024x512 .bf16) (u : FVec Ideal S1x1024x1024 .bf16) (v : FVec Ideal S1x1024x1024 .bf16) (rk bn : FVec Ideal S8x128x512 .bf16)
  (cr av : FVec Ideal S8x128x512 .f32) (A : FVec Ideal S512x1024 .f32) (P : FVec Ideal S2x1024x512 .bf16)

set_option maxHeartbeats 4000000 in
theorem tile_12 (p) (hp : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P).2.1[3]? = some p) :
    Good (hid i x u rk bn cr av) p := by
  unfold runB at hp
  dsimp only [List.getElem?_cons_succ, List.getElem?_cons_zero] at hp
  obtain rfl := Option.some.inj hp
  refine good_of _ 6 0 _ (off30_eq i) _ _ fun a b => ?_
  pointwise [k0_pay7,k0_pay9,k0_pay11,k0_pay13,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,
    runB.sl.r,runB.sl.r_1,runB.sl.r_2,runB.sl.r_3,runB.sl.r_4,runB.sl.r_5,runB.sl.r_6,runB.sl.r_7,runB.sl.r_8,runB.sl.r_9,runB.sl.r_10,runB.sl.r_11,runB.sl.r_12,runB.sl.r_13,runB.sl.r_14,runB.sl.r_15,runB.sl.r_16,runB.sl.r_17,runB.sl.r_18,runB.sl.r_19,runB.sl.r_20,runB.sl.r_21,runB.sl.r_22,runB.sl.r_23,runB.sl.r_24,runB.sl.r_25,runB.sl.r_26,runB.sl.r_27,runB.sl.r_28,runB.sl.r_29,runB.sl.r_30,runB.sl.r_31,runB.sl.r_32,runB.sl.r_33,runB.sl.r_34,runB.sl.r_35,runB.sl.r_36,runB.sl.r_37,runB.sl.r_38,runB.sl.r_39,runB.sl.r_40,runB.sl.r_41,runB.sl.r_42,runB.sl.r_43,runB.sl.r_44,runB.sl.r_45,runB.sl.r_46,runB.sl.r_47,runB.sl.r_48,runB.sl.r_49,runB.sl.r_50,runB.sl.r_51,runB.sl.r_52,runB.sl.r_53,runB.sl.r_54,runB.sl.r_55,runB.sl.r_56,runB.sl.r_57,runB.sl.r_58,runB.sl.r_59,runB.sl.r_60,runB.sl.r_61,runB.sl.r_62,runB.sl.r_63,runB.sl.r_64,runB.sl.r_65,runB.sl.r_66,runB.sl.r_67,runB.sl.r_68,runB.sl.r_69,runB.sl.r_70,runB.sl.r_71,runB.sl.r_72,runB.sl.r_73,runB.sl.r_74,runB.sl.r_75,runB.sl.r_76,runB.sl.r_77,runB.sl.r_78,runB.sl.r_79,runB.sl.r_80,runB.sl.r_81,runB.sl.r_82,runB.sl.r_83,runB.sl.r_84,runB.sl.r_85,runB.sl.r_86,runB.sl.r_87,runB.sl.r_88,runB.sl.r_89,runB.sl.r_90,runB.sl.r_91,runB.sl.r_92,runB.sl.r_93,runB.sl.r_94,runB.sl.r_95,runB.sl.r_96,runB.sl.r_97,runB.sl.r_98,runB.sl.r_99,runB.sl.r_100,runB.sl.r_101,runB.sl.r_102,runB.sl.r_103,runB.sl.r_104,runB.sl.r_105,runB.sl.r_106,runB.sl.r_107,runB.sl.r_108,runB.sl.r_109,runB.sl.r_110,runB.sl.r_111,runB.sl.r_112,runB.sl.r_113,runB.sl.r_114,runB.sl.r_115,runB.sl.r_116,runB.sl.r_117,runB.sl.r_118,runB.sl.r_119,runB.sl.r_120,runB.sl.r_121,runB.sl.r_122,runB.sl.r_123,runB.sl.r_124,runB.sl.r_125,runB.sl.r_126,runB.sl.r_127,runB.sl.r_128,runB.sl.r_129,runB.sl.r_130,runB.sl.r_131,runB.sl.r_132,runB.sl.r_133,runB.sl.r_134,runB.sl.r_135,runB.sl.r_136,runB.sl.r_137,runB.sl.r_138,runB.sl.r_139,runB.sl.r_140,runB.sl.r_141,runB.sl.r_142,runB.sl.r_143,runB.sl.r_144,runB.sl.r_145,runB.sl.r_146,runB.sl.r_147,runB.sl.r_148,runB.sl.r_149,runB.sl.r_150,runB.sl.r_151,runB.sl.r_152,runB.sl.r_153,runB.sl.r_154,runB.sl.r_155,runB.sl.r_156,runB.sl.r_157,runB.sl.r_158,runB.sl.r_159,runB.sl.r_160,runB.sl.r_161,runB.sl.r_162,runB.sl.r_163,runB.sl.r_164,runB.sl.r_165,runB.sl.r_166,runB.sl.r_167,runB.sl.r_168,runB.sl.r_169,runB.sl.r_170,runB.sl.r_171,runB.sl.r_172,runB.sl.r_173,runB.sl.r_174,runB.sl.r_175,runB.sl.r_176,runB.sl.r_177,runB.sl.r_178,runB.sl.r_179,runB.sl.r_180,runB.sl.r_181,runB.sl.r_182,runB.sl.r_183,runB.sl.r_184,runB.sl.r_185,runB.sl.r_186,runB.sl.r_187,runB.sl.r_188,runB.sl.r_189,runB.sl.r_190,runB.sl.r_191,runB.sl.r_192,runB.sl.r_193,runB.sl.r_194,runB.sl.r_195,runB.sl.r_196,runB.sl.r_197,runB.sl.r_198,runB.sl.r_199,runB.sl.r_200,runB.sl.r_201,runB.sl.r_202,runB.sl.r_203,runB.sl.r_204,runB.sl.r_205,runB.sl.r_206,runB.sl.r_207,runB.sl.r_208,runB.sl.cst_596]
  simp only [dite_eq_ite, ite_self]
  simp only [readAt_closed, readAt_full]
  refine hid_of i x u rk bn cr av 6 a (col 0 b) _ _ _ _ _ _ _ _ _ (Finset.sum_congr rfl fun k _ => ?_) ?_ ?_ ?_ ?_ ?_ ?_ ?_ ?_
  rotate_left
  all_goals try exact gate_of (at3 rk rfl (Nat.zero_add _) rfl) (at3 cr rfl rfl rfl) (at3 bn rfl (Nat.zero_add _) rfl) (at3 av rfl rfl rfl)
  exact congrArg₂ (fun p q : EReal => p * q) (at3 u rfl (by show _ = 128 * 6 + a.val; simp [ClosedOff.form] <;> omega) (Nat.zero_add _)) (at2 x rfl (by show _ = 256 * 0 + b.val; simp <;> omega))

set_option maxHeartbeats 4000000 in
theorem tile_13 (p) (hp : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P).2.1[2]? = some p) :
    Good (hid i x u rk bn cr av) p := by
  unfold runB at hp
  dsimp only [List.getElem?_cons_succ, List.getElem?_cons_zero] at hp
  obtain rfl := Option.some.inj hp
  refine good_of _ 6 1 _ (off31_eq i) _ _ fun a b => ?_
  pointwise [k0_pay7,k0_pay9,k0_pay11,k0_pay13,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,
    runB.sl.r,runB.sl.r_1,runB.sl.r_2,runB.sl.r_3,runB.sl.r_4,runB.sl.r_5,runB.sl.r_6,runB.sl.r_7,runB.sl.r_8,runB.sl.r_9,runB.sl.r_10,runB.sl.r_11,runB.sl.r_12,runB.sl.r_13,runB.sl.r_14,runB.sl.r_15,runB.sl.r_16,runB.sl.r_17,runB.sl.r_18,runB.sl.r_19,runB.sl.r_20,runB.sl.r_21,runB.sl.r_22,runB.sl.r_23,runB.sl.r_24,runB.sl.r_25,runB.sl.r_26,runB.sl.r_27,runB.sl.r_28,runB.sl.r_29,runB.sl.r_30,runB.sl.r_31,runB.sl.r_32,runB.sl.r_33,runB.sl.r_34,runB.sl.r_35,runB.sl.r_36,runB.sl.r_37,runB.sl.r_38,runB.sl.r_39,runB.sl.r_40,runB.sl.r_41,runB.sl.r_42,runB.sl.r_43,runB.sl.r_44,runB.sl.r_45,runB.sl.r_46,runB.sl.r_47,runB.sl.r_48,runB.sl.r_49,runB.sl.r_50,runB.sl.r_51,runB.sl.r_52,runB.sl.r_53,runB.sl.r_54,runB.sl.r_55,runB.sl.r_56,runB.sl.r_57,runB.sl.r_58,runB.sl.r_59,runB.sl.r_60,runB.sl.r_61,runB.sl.r_62,runB.sl.r_63,runB.sl.r_64,runB.sl.r_65,runB.sl.r_66,runB.sl.r_67,runB.sl.r_68,runB.sl.r_69,runB.sl.r_70,runB.sl.r_71,runB.sl.r_72,runB.sl.r_73,runB.sl.r_74,runB.sl.r_75,runB.sl.r_76,runB.sl.r_77,runB.sl.r_78,runB.sl.r_79,runB.sl.r_80,runB.sl.r_81,runB.sl.r_82,runB.sl.r_83,runB.sl.r_84,runB.sl.r_85,runB.sl.r_86,runB.sl.r_87,runB.sl.r_88,runB.sl.r_89,runB.sl.r_90,runB.sl.r_91,runB.sl.r_92,runB.sl.r_93,runB.sl.r_94,runB.sl.r_95,runB.sl.r_96,runB.sl.r_97,runB.sl.r_98,runB.sl.r_99,runB.sl.r_100,runB.sl.r_101,runB.sl.r_102,runB.sl.r_103,runB.sl.r_104,runB.sl.r_105,runB.sl.r_106,runB.sl.r_107,runB.sl.r_108,runB.sl.r_109,runB.sl.r_110,runB.sl.r_111,runB.sl.r_112,runB.sl.r_113,runB.sl.r_114,runB.sl.r_115,runB.sl.r_116,runB.sl.r_117,runB.sl.r_118,runB.sl.r_119,runB.sl.r_120,runB.sl.r_121,runB.sl.r_122,runB.sl.r_123,runB.sl.r_124,runB.sl.r_125,runB.sl.r_126,runB.sl.r_127,runB.sl.r_128,runB.sl.r_129,runB.sl.r_130,runB.sl.r_131,runB.sl.r_132,runB.sl.r_133,runB.sl.r_134,runB.sl.r_135,runB.sl.r_136,runB.sl.r_137,runB.sl.r_138,runB.sl.r_139,runB.sl.r_140,runB.sl.r_141,runB.sl.r_142,runB.sl.r_143,runB.sl.r_144,runB.sl.r_145,runB.sl.r_146,runB.sl.r_147,runB.sl.r_148,runB.sl.r_149,runB.sl.r_150,runB.sl.r_151,runB.sl.r_152,runB.sl.r_153,runB.sl.r_154,runB.sl.r_155,runB.sl.r_156,runB.sl.r_157,runB.sl.r_158,runB.sl.r_159,runB.sl.r_160,runB.sl.r_161,runB.sl.r_162,runB.sl.r_163,runB.sl.r_164,runB.sl.r_165,runB.sl.r_166,runB.sl.r_167,runB.sl.r_168,runB.sl.r_169,runB.sl.r_170,runB.sl.r_171,runB.sl.r_172,runB.sl.r_173,runB.sl.r_174,runB.sl.r_175,runB.sl.r_176,runB.sl.r_177,runB.sl.r_178,runB.sl.r_179,runB.sl.r_180,runB.sl.r_181,runB.sl.r_182,runB.sl.r_183,runB.sl.r_184,runB.sl.r_185,runB.sl.r_186,runB.sl.r_187,runB.sl.r_188,runB.sl.r_189,runB.sl.r_190,runB.sl.r_191,runB.sl.r_192,runB.sl.r_193,runB.sl.r_194,runB.sl.r_195,runB.sl.r_196,runB.sl.r_197,runB.sl.r_198,runB.sl.r_199,runB.sl.r_200,runB.sl.r_201,runB.sl.r_202,runB.sl.r_203,runB.sl.r_204,runB.sl.r_205,runB.sl.r_206,runB.sl.r_207,runB.sl.r_208,runB.sl.cst_596]
  simp only [dite_eq_ite, ite_self]
  simp only [readAt_closed, readAt_full]
  refine hid_of i x u rk bn cr av 6 a (col 1 b) _ _ _ _ _ _ _ _ _ (Finset.sum_congr rfl fun k _ => ?_) ?_ ?_ ?_ ?_ ?_ ?_ ?_ ?_
  rotate_left
  all_goals try exact gate_of (at3 rk rfl (Nat.zero_add _) rfl) (at3 cr rfl rfl rfl) (at3 bn rfl (Nat.zero_add _) rfl) (at3 av rfl rfl rfl)
  exact congrArg₂ (fun p q : EReal => p * q) (at3 u rfl (by show _ = 128 * 6 + a.val; simp [ClosedOff.form] <;> omega) (Nat.zero_add _)) (at2 x rfl (by show _ = 256 * 1 + b.val; simp <;> omega))

set_option maxHeartbeats 4000000 in
theorem tile_14 (p) (hp : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P).2.1[1]? = some p) :
    Good (hid i x u rk bn cr av) p := by
  unfold runB at hp
  dsimp only [List.getElem?_cons_succ, List.getElem?_cons_zero] at hp
  obtain rfl := Option.some.inj hp
  refine good_of _ 7 0 _ (off32_eq i) _ _ fun a b => ?_
  pointwise [k0_pay7,k0_pay9,k0_pay11,k0_pay13,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,
    runB.sl.r,runB.sl.r_1,runB.sl.r_2,runB.sl.r_3,runB.sl.r_4,runB.sl.r_5,runB.sl.r_6,runB.sl.r_7,runB.sl.r_8,runB.sl.r_9,runB.sl.r_10,runB.sl.r_11,runB.sl.r_12,runB.sl.r_13,runB.sl.r_14,runB.sl.r_15,runB.sl.r_16,runB.sl.r_17,runB.sl.r_18,runB.sl.r_19,runB.sl.r_20,runB.sl.r_21,runB.sl.r_22,runB.sl.r_23,runB.sl.r_24,runB.sl.r_25,runB.sl.r_26,runB.sl.r_27,runB.sl.r_28,runB.sl.r_29,runB.sl.r_30,runB.sl.r_31,runB.sl.r_32,runB.sl.r_33,runB.sl.r_34,runB.sl.r_35,runB.sl.r_36,runB.sl.r_37,runB.sl.r_38,runB.sl.r_39,runB.sl.r_40,runB.sl.r_41,runB.sl.r_42,runB.sl.r_43,runB.sl.r_44,runB.sl.r_45,runB.sl.r_46,runB.sl.r_47,runB.sl.r_48,runB.sl.r_49,runB.sl.r_50,runB.sl.r_51,runB.sl.r_52,runB.sl.r_53,runB.sl.r_54,runB.sl.r_55,runB.sl.r_56,runB.sl.r_57,runB.sl.r_58,runB.sl.r_59,runB.sl.r_60,runB.sl.r_61,runB.sl.r_62,runB.sl.r_63,runB.sl.r_64,runB.sl.r_65,runB.sl.r_66,runB.sl.r_67,runB.sl.r_68,runB.sl.r_69,runB.sl.r_70,runB.sl.r_71,runB.sl.r_72,runB.sl.r_73,runB.sl.r_74,runB.sl.r_75,runB.sl.r_76,runB.sl.r_77,runB.sl.r_78,runB.sl.r_79,runB.sl.r_80,runB.sl.r_81,runB.sl.r_82,runB.sl.r_83,runB.sl.r_84,runB.sl.r_85,runB.sl.r_86,runB.sl.r_87,runB.sl.r_88,runB.sl.r_89,runB.sl.r_90,runB.sl.r_91,runB.sl.r_92,runB.sl.r_93,runB.sl.r_94,runB.sl.r_95,runB.sl.r_96,runB.sl.r_97,runB.sl.r_98,runB.sl.r_99,runB.sl.r_100,runB.sl.r_101,runB.sl.r_102,runB.sl.r_103,runB.sl.r_104,runB.sl.r_105,runB.sl.r_106,runB.sl.r_107,runB.sl.r_108,runB.sl.r_109,runB.sl.r_110,runB.sl.r_111,runB.sl.r_112,runB.sl.r_113,runB.sl.r_114,runB.sl.r_115,runB.sl.r_116,runB.sl.r_117,runB.sl.r_118,runB.sl.r_119,runB.sl.r_120,runB.sl.r_121,runB.sl.r_122,runB.sl.r_123,runB.sl.r_124,runB.sl.r_125,runB.sl.r_126,runB.sl.r_127,runB.sl.r_128,runB.sl.r_129,runB.sl.r_130,runB.sl.r_131,runB.sl.r_132,runB.sl.r_133,runB.sl.r_134,runB.sl.r_135,runB.sl.r_136,runB.sl.r_137,runB.sl.r_138,runB.sl.r_139,runB.sl.r_140,runB.sl.r_141,runB.sl.r_142,runB.sl.r_143,runB.sl.r_144,runB.sl.r_145,runB.sl.r_146,runB.sl.r_147,runB.sl.r_148,runB.sl.r_149,runB.sl.r_150,runB.sl.r_151,runB.sl.r_152,runB.sl.r_153,runB.sl.r_154,runB.sl.r_155,runB.sl.r_156,runB.sl.r_157,runB.sl.r_158,runB.sl.r_159,runB.sl.r_160,runB.sl.r_161,runB.sl.r_162,runB.sl.r_163,runB.sl.r_164,runB.sl.r_165,runB.sl.r_166,runB.sl.r_167,runB.sl.r_168,runB.sl.r_169,runB.sl.r_170,runB.sl.r_171,runB.sl.r_172,runB.sl.r_173,runB.sl.r_174,runB.sl.r_175,runB.sl.r_176,runB.sl.r_177,runB.sl.r_178,runB.sl.r_179,runB.sl.r_180,runB.sl.r_181,runB.sl.r_182,runB.sl.r_183,runB.sl.r_184,runB.sl.r_185,runB.sl.r_186,runB.sl.r_187,runB.sl.r_188,runB.sl.r_189,runB.sl.r_190,runB.sl.r_191,runB.sl.r_192,runB.sl.r_193,runB.sl.r_194,runB.sl.r_195,runB.sl.r_196,runB.sl.r_197,runB.sl.r_198,runB.sl.r_199,runB.sl.r_200,runB.sl.r_201,runB.sl.r_202,runB.sl.r_203,runB.sl.r_204,runB.sl.r_205,runB.sl.r_206,runB.sl.r_207,runB.sl.r_208,runB.sl.cst_596]
  simp only [dite_eq_ite, ite_self]
  simp only [readAt_closed, readAt_full]
  refine hid_of i x u rk bn cr av 7 a (col 0 b) _ _ _ _ _ _ _ _ _ (Finset.sum_congr rfl fun k _ => ?_) ?_ ?_ ?_ ?_ ?_ ?_ ?_ ?_
  rotate_left
  all_goals try exact gate_of (at3 rk rfl (Nat.zero_add _) rfl) (at3 cr rfl rfl rfl) (at3 bn rfl (Nat.zero_add _) rfl) (at3 av rfl rfl rfl)
  exact congrArg₂ (fun p q : EReal => p * q) (at3 u rfl (by show _ = 128 * 7 + a.val; simp [ClosedOff.form] <;> omega) (Nat.zero_add _)) (at2 x rfl (by show _ = 256 * 0 + b.val; simp <;> omega))

set_option maxHeartbeats 4000000 in
theorem tile_15 (p) (hp : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P).2.1[0]? = some p) :
    Good (hid i x u rk bn cr av) p := by
  unfold runB at hp
  dsimp only [List.getElem?_cons_succ, List.getElem?_cons_zero] at hp
  obtain rfl := Option.some.inj hp
  refine good_of _ 7 1 _ (off33_eq i) _ _ fun a b => ?_
  pointwise [k0_pay7,k0_pay9,k0_pay11,k0_pay13,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,
    runB.sl.r,runB.sl.r_1,runB.sl.r_2,runB.sl.r_3,runB.sl.r_4,runB.sl.r_5,runB.sl.r_6,runB.sl.r_7,runB.sl.r_8,runB.sl.r_9,runB.sl.r_10,runB.sl.r_11,runB.sl.r_12,runB.sl.r_13,runB.sl.r_14,runB.sl.r_15,runB.sl.r_16,runB.sl.r_17,runB.sl.r_18,runB.sl.r_19,runB.sl.r_20,runB.sl.r_21,runB.sl.r_22,runB.sl.r_23,runB.sl.r_24,runB.sl.r_25,runB.sl.r_26,runB.sl.r_27,runB.sl.r_28,runB.sl.r_29,runB.sl.r_30,runB.sl.r_31,runB.sl.r_32,runB.sl.r_33,runB.sl.r_34,runB.sl.r_35,runB.sl.r_36,runB.sl.r_37,runB.sl.r_38,runB.sl.r_39,runB.sl.r_40,runB.sl.r_41,runB.sl.r_42,runB.sl.r_43,runB.sl.r_44,runB.sl.r_45,runB.sl.r_46,runB.sl.r_47,runB.sl.r_48,runB.sl.r_49,runB.sl.r_50,runB.sl.r_51,runB.sl.r_52,runB.sl.r_53,runB.sl.r_54,runB.sl.r_55,runB.sl.r_56,runB.sl.r_57,runB.sl.r_58,runB.sl.r_59,runB.sl.r_60,runB.sl.r_61,runB.sl.r_62,runB.sl.r_63,runB.sl.r_64,runB.sl.r_65,runB.sl.r_66,runB.sl.r_67,runB.sl.r_68,runB.sl.r_69,runB.sl.r_70,runB.sl.r_71,runB.sl.r_72,runB.sl.r_73,runB.sl.r_74,runB.sl.r_75,runB.sl.r_76,runB.sl.r_77,runB.sl.r_78,runB.sl.r_79,runB.sl.r_80,runB.sl.r_81,runB.sl.r_82,runB.sl.r_83,runB.sl.r_84,runB.sl.r_85,runB.sl.r_86,runB.sl.r_87,runB.sl.r_88,runB.sl.r_89,runB.sl.r_90,runB.sl.r_91,runB.sl.r_92,runB.sl.r_93,runB.sl.r_94,runB.sl.r_95,runB.sl.r_96,runB.sl.r_97,runB.sl.r_98,runB.sl.r_99,runB.sl.r_100,runB.sl.r_101,runB.sl.r_102,runB.sl.r_103,runB.sl.r_104,runB.sl.r_105,runB.sl.r_106,runB.sl.r_107,runB.sl.r_108,runB.sl.r_109,runB.sl.r_110,runB.sl.r_111,runB.sl.r_112,runB.sl.r_113,runB.sl.r_114,runB.sl.r_115,runB.sl.r_116,runB.sl.r_117,runB.sl.r_118,runB.sl.r_119,runB.sl.r_120,runB.sl.r_121,runB.sl.r_122,runB.sl.r_123,runB.sl.r_124,runB.sl.r_125,runB.sl.r_126,runB.sl.r_127,runB.sl.r_128,runB.sl.r_129,runB.sl.r_130,runB.sl.r_131,runB.sl.r_132,runB.sl.r_133,runB.sl.r_134,runB.sl.r_135,runB.sl.r_136,runB.sl.r_137,runB.sl.r_138,runB.sl.r_139,runB.sl.r_140,runB.sl.r_141,runB.sl.r_142,runB.sl.r_143,runB.sl.r_144,runB.sl.r_145,runB.sl.r_146,runB.sl.r_147,runB.sl.r_148,runB.sl.r_149,runB.sl.r_150,runB.sl.r_151,runB.sl.r_152,runB.sl.r_153,runB.sl.r_154,runB.sl.r_155,runB.sl.r_156,runB.sl.r_157,runB.sl.r_158,runB.sl.r_159,runB.sl.r_160,runB.sl.r_161,runB.sl.r_162,runB.sl.r_163,runB.sl.r_164,runB.sl.r_165,runB.sl.r_166,runB.sl.r_167,runB.sl.r_168,runB.sl.r_169,runB.sl.r_170,runB.sl.r_171,runB.sl.r_172,runB.sl.r_173,runB.sl.r_174,runB.sl.r_175,runB.sl.r_176,runB.sl.r_177,runB.sl.r_178,runB.sl.r_179,runB.sl.r_180,runB.sl.r_181,runB.sl.r_182,runB.sl.r_183,runB.sl.r_184,runB.sl.r_185,runB.sl.r_186,runB.sl.r_187,runB.sl.r_188,runB.sl.r_189,runB.sl.r_190,runB.sl.r_191,runB.sl.r_192,runB.sl.r_193,runB.sl.r_194,runB.sl.r_195,runB.sl.r_196,runB.sl.r_197,runB.sl.r_198,runB.sl.r_199,runB.sl.r_200,runB.sl.r_201,runB.sl.r_202,runB.sl.r_203,runB.sl.r_204,runB.sl.r_205,runB.sl.r_206,runB.sl.r_207,runB.sl.r_208,runB.sl.cst_596]
  simp only [dite_eq_ite, ite_self]
  simp only [readAt_closed, readAt_full]
  refine hid_of i x u rk bn cr av 7 a (col 1 b) _ _ _ _ _ _ _ _ _ (Finset.sum_congr rfl fun k _ => ?_) ?_ ?_ ?_ ?_ ?_ ?_ ?_ ?_
  rotate_left
  all_goals try exact gate_of (at3 rk rfl (Nat.zero_add _) rfl) (at3 cr rfl rfl rfl) (at3 bn rfl (Nat.zero_add _) rfl) (at3 av rfl rfl rfl)
  exact congrArg₂ (fun p q : EReal => p * q) (at3 u rfl (by show _ = 128 * 7 + a.val; simp [ClosedOff.form] <;> omega) (Nat.zero_add _)) (at2 x rfl (by show _ = 256 * 1 + b.val; simp <;> omega))

end Cert.PeerIdeal.Dense

end
-- ==== Proof.Peer.IdealRunA.lean ====
module

public import proofs.«01_k».proof.Proof.Peer.IdealRunB

/-! The body at the first expert block: what its stores leave, as pieces over the buffers they were stored in. -/

@[expose] public section

set_option maxRecDepth 16384

noncomputable section

namespace Cert.PeerIdeal.Dense

open Cert.PeerIdeal Cert.PeerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces, with the proof that the body leaves them. -/
noncomputable def runA (c : Dev nD) (i : grid0.Coords) (arg2 : Memref sig .tc .vmem S1024x512 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .f32) (harg8 : arg8.IsWhole) (arg9 : Memref sig .tc .vmem S8x128x512 .f32) (harg9 : arg9.IsWhole) (arg10 : Memref sig .tc .vmem S512x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S2x1024x512 .bf16) (harg15 : arg15.IsWhole) (h0 : first i)
    (x : Vec F S1024x512 .bf16) (u : Vec F S1x1024x1024 .bf16) (v : Vec F S1x1024x1024 .bf16) (rk : Vec F S8x128x512 .bf16) (bn : Vec F S8x128x512 .bf16) (cr : Vec F S8x128x512 .f32) (av : Vec F S8x128x512 .f32) (A : Vec F S512x1024 .f32) (P : Vec F S2x1024x512 .bf16) :
    Σ' (LA : List (View.Piece (Elt F) S512x1024 .f32)), { LP : List (View.Piece (Elt F) S2x1024x512 .bf16) //
      ∀ (h1 : ¬ k0_cond2 i = 1#1) (E : Set ℕ) (K : PUnit → sProp 𝕄),
        iprop(owns (c : Thread nD τ) arg2 fullShare x ∗ owns (c : Thread nD τ) arg3 fullShare u ∗ owns (c : Thread nD τ) arg4 fullShare v ∗ owns (c : Thread nD τ) arg6 fullShare rk ∗ owns (c : Thread nD τ) arg7 fullShare bn ∗ owns (c : Thread nD τ) arg8 fullShare cr ∗ owns (c : Thread nD τ) arg9 fullShare av ∗ owns (c : Thread nD τ) arg14 fullShare A ∗ owns (c : Thread nD τ) arg15 fullShare P
            ∗ (iprop(owns (c : Thread nD τ) arg2 fullShare x ∗ owns (c : Thread nD τ) arg3 fullShare u ∗ owns (c : Thread nD τ) arg4 fullShare v ∗ owns (c : Thread nD τ) arg6 fullShare rk ∗ owns (c : Thread nD τ) arg7 fullShare bn ∗ owns (c : Thread nD τ) arg8 fullShare cr ∗ owns (c : Thread nD τ) arg9 fullShare av ∗ (arg14.view.loc (c : Thread nD τ) ↦[arg14.view.set]{fullShare} arg14.view.writes (Elt F) (harg14.unread A) LA) ∗ (arg15.view.loc (c : Thread nD τ) ↦[arg15.view.set]{fullShare} arg15.view.writes (Elt F) (harg15.unread P) LP)) -∗ K ⟨⟩))
          ⊢ wp frame (wpE (defs₀ (F := F)) Variants.none c none) E (cc0_peer_dense i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun h1 E K => ?run⟩
  case run =>
    simp only [cc0_peer_dense_eq_skeleton]; unfold cc0_peer_dense_skel
    unfold owns
    iintro ⟨⟨%f2, %hf2, H2⟩, ⟨%f3, %hf3, H3⟩, ⟨%f4, %hf4, H4⟩, ⟨%f6, %hf6, H6⟩, ⟨%f7, %hf7, H7⟩, ⟨%f8, %hf8, H8⟩, ⟨%f9, %hf9, H9⟩, ⟨%f14, %hf14, H14⟩, ⟨%f15, %hf15, H15⟩, Hk⟩
    obtain rfl := harg2.eq_unread hf2
    obtain rfl := harg3.eq_unread hf3
    obtain rfl := harg4.eq_unread hf4
    obtain rfl := harg6.eq_unread hf6
    obtain rfl := harg7.eq_unread hf7
    obtain rfl := harg8.eq_unread hf8
    obtain rfl := harg9.eq_unread hf9
    obtain rfl := harg14.eq_unread hf14
    obtain rfl := harg15.eq_unread hf15
    haveI : Fact (first i) := ⟨h0⟩
    sl_exec (disch := first | sl_exact h0 | sl_exact h1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H14]; · iexact H14
    iexact H15

end Cert.PeerIdeal.Dense

end
-- ==== Proof.Peer.IdealAcc.lean ====
module

public import proofs.«01_k».proof.Proof.Peer.Spec
public import proofs.«01_k».proof.Proof.Peer.IdealRunA
public import Idealize.ShloMosaic.Lib.Pipeline.ReadBack

/-! What the accumulator holds after a point: what it held, and the preceding block's weighted activations times that block's values. At a first point, zero. -/

@[expose] public section

set_option maxRecDepth 16384

noncomputable section

namespace Cert.PeerIdeal.Dense

open Cert.PeerIdeal Cert.PeerIdeal.Gen
open Idealize.ShloMosaic Idealize.ShloMosaic.TcCoe Idealize.SL.Sem Idealize.ShloMosaic.Pipeline

/-- The slab of the preceding point. -/
def prev (i : grid0.Coords) : Fin 2 := ⟨((i 1).val + 1) % 2, Nat.mod_lt _ (by decide)⟩

/-- The accumulator after a point. -/
def accOf (i : grid0.Coords) (v : FVec Ideal S1x1024x1024 .bf16) (A : FVec Ideal S512x1024 .f32) (P : FVec Ideal S2x1024x512 .bf16) (y : S512x1024.Idx) : EReal :=
  A y + ∑ r : Fin 1024, P (ix3 (prev i) r (y 0)) * v (ix3 0 r (y 1))

theorem acc_piece (G : S512x1024.Idx → EReal) {o : ℕ} (ho : o + 256 ≤ 1024) (inb) (w : S512x256.Idx → EReal)
    (hw : ∀ (a : Fin 512) (b : Fin 256), w (ix2 a b) = G (ix2 a ⟨o + b.val, by omega⟩)) (x : S512x256.Idx) :
    w x = G ((Rect.unit (s := S512x1024) ![0, o] S512x256.size inb).emb x) := by
  have hx : x = ix2 (x 0) (x 1) := funext fun d => match d with | ⟨0, _⟩ => rfl | ⟨1, _⟩ => rfl
  refine (congrArg w hx).trans ((hw (x 0) (x 1)).trans (congrArg G (funext fun d => Fin.ext ?_)))
  match d with
  | ⟨0, _⟩ => exact ((ValueKit.rect_emb_unit_val (s := S512x1024) ![0, o] S512x256.size inb x 0).trans (Nat.zero_add _)).symm
  | ⟨1, _⟩ => exact (ValueKit.rect_emb_unit_val (s := S512x1024) ![0, o] S512x256.size inb x 1).symm

/-- A load of some columns of a whole buffer of rank 2. -/
theorem readAt_cols {e : EltTy} {n0 n1 s1 o : ℕ} (m : Memref sig .tc .vmem ⟨2, ![n0, n1]⟩ e) (hm : m.IsWhole)
    (X : (⟨2, ![n0, n1]⟩ : Shape).Idx → Elt Ideal e) (p) (a : Fin n0) (b : Fin s1) :
    View.readAt (Elt Ideal) m.view (Rect.unit (s := ⟨2, ![n0, n1]⟩) ![0, o] ![n0, s1] p).toLoadRect (hm.unread X) (ix2 a b)
      = X (ix2 a ⟨o + b.val, lt_of_lt_of_le (Nat.add_lt_add_left b.isLt _) (p 1)⟩) := by
  rw [Memref.IsWhole.readAt_unread]
  refine congrArg X (funext fun d => Fin.ext ?_)
  match d with
  | ⟨0, _⟩ => exact (ValueKit.rect_emb_unit_val _ _ _ _ _).trans (Nat.zero_add _)
  | ⟨1, _⟩ => exact ValueKit.rect_emb_unit_val _ _ _ _ _

variable (c : Dev nD) (i : grid0.Coords) (arg2 : Memref sig .tc .vmem S1024x512 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .f32) (harg8 : arg8.IsWhole) (arg9 : Memref sig .tc .vmem S8x128x512 .f32) (harg9 : arg9.IsWhole) (arg10 : Memref sig .tc .vmem S512x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S2x1024x512 .bf16) (harg15 : arg15.IsWhole)
  (x : FVec Ideal S1024x512 .bf16) (u : FVec Ideal S1x1024x1024 .bf16) (v : FVec Ideal S1x1024x1024 .bf16) (rk bn : FVec Ideal S8x128x512 .bf16)
  (cr av : FVec Ideal S8x128x512 .f32) (A : FVec Ideal S512x1024 .f32) (P : FVec Ideal S2x1024x512 .bf16)

section
local instance closedPrev : ClosedOff (k0_off1 i) := ⟨_, off1_eq i⟩

set_option maxHeartbeats 4000000 in
/-- The four stores to the accumulator. -/
theorem accB : View.PiecesOf (accOf i v A P) (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P).1 := by
  unfold runB
  refine ⟨acc_piece _ (o := 768) (by decide) inb_S512x1024_S512x256_0_768 _ fun a b => ?_, acc_piece _ (o := 512) (by decide) inb_S512x1024_S512x256_0_512 _ fun a b => ?_,
    acc_piece _ (o := 256) (by decide) inb_S512x1024_S512x256_0_256 _ fun a b => ?_, acc_piece _ (o := 0) (by decide) inb_S512x1024_S512x256_0_0 _ fun a b => ?_, trivial⟩
  all_goals
    pointwise [k0_pay6,k0_pay8,k0_pay10,k0_pay12,k0_pay14,k0_pay230,k0_pay231,k0_pay232,k0_pay1,k0_pay2,
      runB.sl.r_1,runB.sl.r_3,runB.sl.r_5,runB.sl.r_7,runB.sl.r_9,runB.sl.r_208,runB.sl.v3242,runB.sl.v3247,runB.sl.v3252]
    simp only [readAt_closed, readAt_cols]
    refine congrArg₂ (fun p q : EReal => p + q) (at2 A rfl (by first | rfl | exact Nat.zero_add _)) (Finset.sum_congr rfl fun r _ => congrArg₂ (fun p q : EReal => p * q) (at3 P rfl (Nat.zero_add _) (Nat.zero_add _)) (at3 v rfl (Nat.zero_add _) (by first | rfl | exact Nat.zero_add _)))
end

/-- Stores of zero that fill a buffer. -/
def Zeros {s : Shape} {e : EltTy} [Zero (Elt Ideal e)] (L : List (View.Piece (Elt Ideal) s e)) : Prop :=
  View.PiecesOf (fun _ => 0) L ∧ ∀ y, ∃ p ∈ L, y ∈ p.1.set

theorem Zeros.cons {s : Shape} {e : EltTy} [Zero (Elt Ideal e)] {p : View.Piece (Elt Ideal) s e} {L : List (View.Piece (Elt Ideal) s e)} (h : Zeros L) (hp : ∀ x, p.2 x = 0) :
    Zeros (p :: L) :=
  ⟨⟨hp, h.1⟩, fun y => let ⟨q, hq, hy⟩ := h.2 y; ⟨q, List.mem_cons_of_mem _ hq, hy⟩⟩

theorem Zeros.readCov {s : Shape} {e : EltTy} [Zero (Elt Ideal e)] {L : List (View.Piece (Elt Ideal) s e)} (h : Zeros L)
    (w : View sig .tc .vmem s e) (B : LoadRect s) (x : B.shape.Idx) : w.readCov L B x = 0 :=
  View.read_writes_apply_of_pieces w w.junk (fun _ => 0) L h.1.mem (B.idx x) (h.2 _)

/-- The slab before a first point, which the point has set to zero. -/
theorem prevA (h0 : first i) (x) : runA.sl.v27 (F := Ideal) c i arg15 x = (0 : EReal) := by
  have hoff : k0_off1 i = ![1, 0, 0] := by rw [off1_eq, (first_iff i).mp h0]
  have key : ∀ (off : Fin 3 → ℕ) (h : off = ![1, 0, 0]) (inb) (x), arg15.view.readCov (runA.sl.H15_1 (F := Ideal)) (Rect.unit (s := S2x1024x512) off S1x1024x512.size inb).toLoadRect x = (0 : EReal) := by
    intro off h inb x
    subst h
    unfold runA.sl.H15_1
    rw [View.readCov_cons_toLoadRect]
    have hx : (show S1x1024x512.Idx from x) = ix3 (x 0) (x 1) (x 2) := funext fun d => match d with | ⟨0, _⟩ => rfl | ⟨1, _⟩ => rfl | ⟨2, _⟩ => rfl
    refine (congrArg (k0_pay5 (F := Ideal)) hx).trans ?_
    pointwise [k0_pay5]
  exact key _ hoff _ x

set_option maxHeartbeats 400000 in
/-- The four stores to the accumulator at a first point, over the one that sets it to zero. -/
theorem accA (h0 : first i) : Zeros (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 h0 x u v rk bn cr av A P).1 := by
  have z1 : Zeros (runA.sl.H14_1 (F := Ideal)) := by
    unfold runA.sl.H14_1
    refine ⟨⟨fun x => ?_, trivial⟩, fun y => ⟨_, List.mem_singleton.mpr rfl, ?_⟩⟩
    · have hx : (show S512x1024.Idx from x) = ix2 (x 0) (x 1) := funext fun d => match d with | ⟨0, _⟩ => rfl | ⟨1, _⟩ => rfl
      refine (congrArg (k0_pay4 (F := Ideal)) hx).trans ?_
      pointwise [k0_pay4]
    · exact View.mem_set_unit_zero (by funext a; match a with | ⟨0, _⟩ => rfl | ⟨1, _⟩ => rfl) inb_S512x1024_S512x1024_0_0 y
  have hr1 : ∀ (a : Fin 1024) (b : Fin 512), runA.sl.r_1 (F := Ideal) c i arg15 (ix2 a b) = 0 := fun a b => by
    pointwise [runA.sl.r_1, k0_pay6]
    exact prevA c i arg15 h0 _
  have hz : ∀ (p : FVec Ideal S1024x512 .bf16) (hp : ∀ a b, p (ix2 a b) = (0 : EReal)) (w : Vec Ideal S1x1024x256 .bf16) (a : Fin 512) (b : Fin 256),
      k0_pay8 (F := Ideal) p w (ix2 a b) = (0 : EReal) := fun p hp w a b => by
    pointwise [k0_pay8]
    exact Finset.sum_eq_zero fun k _ => by rw [hp, zero_mul]
  have hp : ∀ (p : FVec Ideal S512x256 .f32), (∀ a b, p (ix2 a b) = (0 : EReal)) → ∀ y : S512x256.Idx, p y = (0 : EReal) := fun p h y => by
    rw [show y = ix2 (y 0) (y 1) from funext fun d => match d with | ⟨0, _⟩ => rfl | ⟨1, _⟩ => rfl]
    exact h _ _
  have p3 := hp (runA.sl.r_3 (F := Ideal) c i arg4 harg4 arg15 v) fun a b => by unfold runA.sl.r_3; exact hz _ hr1 _ a b
  have p5 := hp (runA.sl.r_5 (F := Ideal) c i arg4 harg4 arg15 v) fun a b => by unfold runA.sl.r_5; exact hz _ hr1 _ a b
  have p7 := hp (runA.sl.r_7 (F := Ideal) c i arg4 harg4 arg15 v) fun a b => by unfold runA.sl.r_7; exact hz _ hr1 _ a b
  have p9 := hp (runA.sl.r_9 (F := Ideal) c i arg4 harg4 arg15 v) fun a b => by unfold runA.sl.r_9; exact hz _ hr1 _ a b
  have hs : ∀ (p d : FVec Ideal S512x256 .f32), (∀ x, p x = (0 : EReal)) → (∀ x, d x = (0 : EReal)) → ∀ x, k0_pay230 (F := Ideal) p d x = (0 : EReal) := fun p d hp' hd => by
    have hpd : p = fun _ => (0 : EReal) := funext hp'
    have hdd : d = fun _ => (0 : EReal) := funext hd
    subst hpd hdd
    refine hp _ fun a b => ?_
    pointwise [k0_pay230]
    try rw [add_zero]
  have d0 : ∀ x : S512x256.Idx, runA.sl.v3237 (F := Ideal) c arg14 x = (0 : EReal) := fun x => by unfold runA.sl.v3237; exact z1.readCov arg14.view (Rect.unit (s := S512x1024) ![0, 0] S512x256.size inb_S512x1024_S512x256_0_0).toLoadRect x
  have z2 : Zeros (runA.sl.H14_2 (F := Ideal) c i arg4 harg4 arg14 arg15 v) := by
    unfold runA.sl.H14_2
    exact z1.cons (hs _ _ p3 d0)
  have d1 : ∀ x : S512x256.Idx, runA.sl.v3242 (F := Ideal) c i arg4 harg4 arg14 arg15 v x = (0 : EReal) := fun x => by unfold runA.sl.v3242; exact z2.readCov arg14.view (Rect.unit (s := S512x1024) ![0, 256] S512x256.size inb_S512x1024_S512x256_0_256).toLoadRect x
  have z3 : Zeros (runA.sl.H14_3 (F := Ideal) c i arg4 harg4 arg14 arg15 v) := by
    unfold runA.sl.H14_3
    exact z2.cons (hs _ _ p5 d1)
  have d2 : ∀ x : S512x256.Idx, runA.sl.v3247 (F := Ideal) c i arg4 harg4 arg14 arg15 v x = (0 : EReal) := fun x => by unfold runA.sl.v3247; exact z3.readCov arg14.view (Rect.unit (s := S512x1024) ![0, 512] S512x256.size inb_S512x1024_S512x256_0_512).toLoadRect x
  have z4 : Zeros (runA.sl.H14_4 (F := Ideal) c i arg4 harg4 arg14 arg15 v) := by
    unfold runA.sl.H14_4 runA.sl.r_208
    exact z3.cons (hs _ _ p7 d2)
  have d3 : ∀ x : S512x256.Idx, runA.sl.v3252 (F := Ideal) c i arg4 harg4 arg14 arg15 v x = (0 : EReal) := fun x => by unfold runA.sl.v3252; exact z4.readCov arg14.view (Rect.unit (s := S512x1024) ![0, 768] S512x256.size inb_S512x1024_S512x256_0_768).toLoadRect x
  unfold runA
  exact z4.cons (hs _ _ p9 d3)

end Cert.PeerIdeal.Dense

end
-- ==== Proof.Peer.IdealRunC.lean ====
module

public import proofs.«01_k».proof.Proof.Peer.IdealRunB

/-! The body at the last expert block: what its stores leave, as pieces over the buffers they were stored in. -/

@[expose] public section

set_option maxRecDepth 16384

noncomputable section

namespace Cert.PeerIdeal.Dense

open Cert.PeerIdeal Cert.PeerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces, with the proof that the body leaves them. -/
noncomputable def runC (c : Dev nD) (i : grid0.Coords) (arg2 : Memref sig .tc .vmem S1024x512 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .f32) (harg8 : arg8.IsWhole) (arg9 : Memref sig .tc .vmem S8x128x512 .f32) (harg9 : arg9.IsWhole) (arg10 : Memref sig .tc .vmem S512x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S2x1024x512 .bf16) (harg15 : arg15.IsWhole) (h1 : k0_cond2 i = 1#1)
    (x : Vec F S1024x512 .bf16) (u : Vec F S1x1024x1024 .bf16) (v : Vec F S1x1024x1024 .bf16) (vl : Vec F S1x1024x1024 .bf16) (rk : Vec F S8x128x512 .bf16) (bn : Vec F S8x128x512 .bf16) (cr : Vec F S8x128x512 .f32) (av : Vec F S8x128x512 .f32) (h : Vec F S512x1024 .f32) (g2 : Vec F S1x1x1024 .f32) (fg : Vec F S1x1024 .f32) (A : Vec F S512x1024 .f32) (P : Vec F S2x1024x512 .bf16) :
    Σ' (LO : List (View.Piece (Elt F) S512x1024 .f32)), Σ' (LA : List (View.Piece (Elt F) S512x1024 .f32)), { LP : List (View.Piece (Elt F) S2x1024x512 .bf16) //
      ∀ (h0 : ¬ first i) (E : Set ℕ) (K : PUnit → sProp 𝕄),
        iprop(owns (c : Thread nD τ) arg2 fullShare x ∗ owns (c : Thread nD τ) arg3 fullShare u ∗ owns (c : Thread nD τ) arg4 fullShare v ∗ owns (c : Thread nD τ) arg5 fullShare vl ∗ owns (c : Thread nD τ) arg6 fullShare rk ∗ owns (c : Thread nD τ) arg7 fullShare bn ∗ owns (c : Thread nD τ) arg8 fullShare cr ∗ owns (c : Thread nD τ) arg9 fullShare av ∗ owns (c : Thread nD τ) arg10 fullShare h ∗ owns (c : Thread nD τ) arg11 fullShare g2 ∗ owns (c : Thread nD τ) arg12 fullShare fg ∗ (∃ d, owns (c : Thread nD τ) arg13 fullShare d) ∗ owns (c : Thread nD τ) arg14 fullShare A ∗ owns (c : Thread nD τ) arg15 fullShare P
            ∗ (iprop(owns (c : Thread nD τ) arg2 fullShare x ∗ owns (c : Thread nD τ) arg3 fullShare u ∗ owns (c : Thread nD τ) arg4 fullShare v ∗ owns (c : Thread nD τ) arg5 fullShare vl ∗ owns (c : Thread nD τ) arg6 fullShare rk ∗ owns (c : Thread nD τ) arg7 fullShare bn ∗ owns (c : Thread nD τ) arg8 fullShare cr ∗ owns (c : Thread nD τ) arg9 fullShare av ∗ owns (c : Thread nD τ) arg10 fullShare h ∗ owns (c : Thread nD τ) arg11 fullShare g2 ∗ owns (c : Thread nD τ) arg12 fullShare fg ∗ (∃ f, arg13.view.loc (c : Thread nD τ) ↦[arg13.view.set]{fullShare} arg13.view.writes (Elt F) f LO) ∗ (arg14.view.loc (c : Thread nD τ) ↦[arg14.view.set]{fullShare} arg14.view.writes (Elt F) (harg14.unread A) LA) ∗ (arg15.view.loc (c : Thread nD τ) ↦[arg15.view.set]{fullShare} arg15.view.writes (Elt F) (harg15.unread P) LP)) -∗ K ⟨⟩))
          ⊢ wp frame (wpE (defs₀ (F := F)) Variants.none c none) E (cc0_peer_dense i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun h0 E K => ?run⟩
  case run =>
    simp only [cc0_peer_dense_eq_skeleton]; unfold cc0_peer_dense_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg14.eq_unread hf14
    obtain rfl := harg15.eq_unread hf15
    haveI : Fact (k0_cond2 i = 1#1) := ⟨h1⟩
    sl_exec (disch := first | sl_exact h0 | sl_exact h1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexists _; iexact H13
    isplitl [H14]; · iexact H14
    iexact H15

end Cert.PeerIdeal.Dense

end
-- ==== Proof.Peer.IdealBlock.lean ====
module

public import proofs.«01_k».proof.Proof.Peer.IdealTiles0
public import proofs.«01_k».proof.Proof.Peer.IdealTiles1
public import proofs.«01_k».proof.Proof.Peer.IdealTiles2
public import proofs.«01_k».proof.Proof.Peer.IdealTiles3
public import proofs.«01_k».proof.Proof.Peer.IdealAcc
public import proofs.«01_k».proof.Proof.Peer.IdealRunC

/-! What a point leaves: its slab of weighted activations, its accumulator, and, at the last point of a row of blocks, the layer's result for the row's tokens. -/

@[expose] public section

set_option maxRecDepth 16384

noncomputable section

namespace Cert.PeerIdeal.Dense

open Cert.PeerIdeal Cert.PeerIdeal.Gen
open Idealize.ShloMosaic Idealize.ShloMosaic.TcCoe Idealize.SL.Sem Idealize.ShloMosaic.Pipeline

/-- The slab of this point. -/
def this (i : grid0.Coords) : Fin 2 := ⟨(i 1).val % 2, Nat.mod_lt _ (by decide)⟩

theorem mem_tile {s : ℕ} (q : Fin 8) (hf : Fin 2) (off : Fin 3 → ℕ) (h : off = ![s, 128 * q.val, 256 * hf.val]) (inb) (y : S2x1024x512.Idx)
    (h0 : (y 0).val = s) (h1 : (y 1).val / 128 = q.val) (h2 : (y 2).val / 256 = hf.val) :
    y ∈ (Rect.unit (s := S2x1024x512) off S1x128x256.size inb).set := by
  subst h
  refine Rect.mem_set_unit.mpr fun a => ?_
  match a with
  | ⟨0, _⟩ => exact ⟨h0.ge, by show (y 0).val < s + 1; omega⟩
  | ⟨1, _⟩ => exact ⟨by show 128 * q.val ≤ (y 1).val; omega, by show (y 1).val < 128 * q.val + 128; omega⟩
  | ⟨2, _⟩ => exact ⟨by show 256 * hf.val ≤ (y 2).val; omega, by show (y 2).val < 256 * hf.val + 256; omega⟩

/-- The normalised row: the tokens' row `z` over its root mean square, times the weight. -/
def normed (z : Fin 1024 → EReal) (w : EReal) (d : Fin 1024) : EReal :=
  z d * Ideal.rsqrt (Ideal.div (∑ k : Fin 1024, z k * z k) (Ideal.ofBits .f32 0x44800000#32) + Ideal.ofBits .f32 0x358637BD#32) * w

theorem pay3_apply (s : FVec Ideal S1x1024x512 .bf16) (vl : FVec Ideal S1x1024x1024 .bf16) (h : FVec Ideal S512x1024 .f32) (g2 : FVec Ideal S1x1x1024 .f32)
    (B : FVec Ideal S512x1024 .f32) (fg : FVec Ideal S1x1024 .f32) (a : Fin 512) (d : Fin 1024) :
    k0_pay3 (F := Ideal) s vl h g2 B fg (ix2 a d)
      = normed (fun k => h (ix2 a k) + g2 (ix3 0 0 k) * (B (ix2 a k) + ∑ r : Fin 1024, s (ix3 0 r a) * vl (ix3 0 r k))) (fg (ix2 0 d)) d := by
  pointwise [k0_pay3]
  rfl

variable (c : Dev nD) (i : grid0.Coords) (arg2 : Memref sig .tc .vmem S1024x512 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .f32) (harg8 : arg8.IsWhole) (arg9 : Memref sig .tc .vmem S8x128x512 .f32) (harg9 : arg9.IsWhole) (arg10 : Memref sig .tc .vmem S512x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S2x1024x512 .bf16) (harg15 : arg15.IsWhole)
  (x : FVec Ideal S1024x512 .bf16) (u : FVec Ideal S1x1024x1024 .bf16) (v vl : FVec Ideal S1x1024x1024 .bf16) (rk bn : FVec Ideal S8x128x512 .bf16)
  (cr av : FVec Ideal S8x128x512 .f32) (h : FVec Ideal S512x1024 .f32) (g2 : FVec Ideal S1x1x1024 .f32) (fg : FVec Ideal S1x1024 .f32) (A : FVec Ideal S512x1024 .f32) (P : FVec Ideal S2x1024x512 .bf16)

/-- The sixteen tiles. -/
theorem tiles (p) (hp : p ∈ (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P).2.1) : Good (hid i x u rk bn cr av) p := by
  obtain ⟨n, hn⟩ := List.mem_iff_getElem?.mp hp
  match n, hn with
  | 0, hn => exact tile_15 c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P p hn
  | 1, hn => exact tile_14 c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P p hn
  | 2, hn => exact tile_13 c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P p hn
  | 3, hn => exact tile_12 c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P p hn
  | 4, hn => exact tile_11 c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P p hn
  | 5, hn => exact tile_10 c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P p hn
  | 6, hn => exact tile_9 c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P p hn
  | 7, hn => exact tile_8 c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P p hn
  | 8, hn => exact tile_7 c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P p hn
  | 9, hn => exact tile_6 c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P p hn
  | 10, hn => exact tile_5 c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P p hn
  | 11, hn => exact tile_4 c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P p hn
  | 12, hn => exact tile_3 c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P p hn
  | 13, hn => exact tile_2 c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P p hn
  | 14, hn => exact tile_1 c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P p hn
  | 15, hn => exact tile_0 c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P p hn
  | n + 16, hn =>
    unfold runB at hn
    dsimp only [List.getElem?_cons_succ, List.getElem?_nil] at hn
    exact absurd hn (by simp)

/-- They fill the point's slab. -/
theorem slab_mem (y : S2x1024x512.Idx) (h0 : (y 0).val = (i 1).val % 2) :
    ∃ p ∈ (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P).2.1, y ∈ p.1.set := by
  have b1 : (y 1).val < 1024 := (y 1).isLt
  have b2 : (y 2).val < 512 := (y 2).isLt
  have hq : (y 1).val / 128 = (⟨(y 1).val / 128, by omega⟩ : Fin 8).val := rfl
  have hh : (y 2).val / 256 = (⟨(y 2).val / 256, by omega⟩ : Fin 2).val := rfl
  generalize (⟨(y 1).val / 128, by omega⟩ : Fin 8) = q at hq
  generalize (⟨(y 2).val / 256, by omega⟩ : Fin 2) = hf at hh
  fin_cases q <;> fin_cases hf
  · refine ⟨_, List.mem_of_getElem? (i := 15) rfl, ?_⟩
    exact mem_tile 0 0 _ (off10_eq i) (k0_off10_inb i) y h0 hq hh
  · refine ⟨_, List.mem_of_getElem? (i := 14) rfl, ?_⟩
    exact mem_tile 0 1 _ (off19_eq i) (k0_off19_inb i) y h0 hq hh
  · refine ⟨_, List.mem_of_getElem? (i := 13) rfl, ?_⟩
    exact mem_tile 1 0 _ (off20_eq i) (k0_off20_inb i) y h0 hq hh
  · refine ⟨_, List.mem_of_getElem? (i := 12) rfl, ?_⟩
    exact mem_tile 1 1 _ (off21_eq i) (k0_off21_inb i) y h0 hq hh
  · refine ⟨_, List.mem_of_getElem? (i := 11) rfl, ?_⟩
    exact mem_tile 2 0 _ (off22_eq i) (k0_off22_inb i) y h0 hq hh
  · refine ⟨_, List.mem_of_getElem? (i := 10) rfl, ?_⟩
    exact mem_tile 2 1 _ (off23_eq i) (k0_off23_inb i) y h0 hq hh
  · refine ⟨_, List.mem_of_getElem? (i := 9) rfl, ?_⟩
    exact mem_tile 3 0 _ (off24_eq i) (k0_off24_inb i) y h0 hq hh
  · refine ⟨_, List.mem_of_getElem? (i := 8) rfl, ?_⟩
    exact mem_tile 3 1 _ (off25_eq i) (k0_off25_inb i) y h0 hq hh
  · refine ⟨_, List.mem_of_getElem? (i := 7) rfl, ?_⟩
    exact mem_tile 4 0 _ (off26_eq i) (k0_off26_inb i) y h0 hq hh
  · refine ⟨_, List.mem_of_getElem? (i := 6) rfl, ?_⟩
    exact mem_tile 4 1 _ (off27_eq i) (k0_off27_inb i) y h0 hq hh
  · refine ⟨_, List.mem_of_getElem? (i := 5) rfl, ?_⟩
    exact mem_tile 5 0 _ (off28_eq i) (k0_off28_inb i) y h0 hq hh
  · refine ⟨_, List.mem_of_getElem? (i := 4) rfl, ?_⟩
    exact mem_tile 5 1 _ (off29_eq i) (k0_off29_inb i) y h0 hq hh
  · refine ⟨_, List.mem_of_getElem? (i := 3) rfl, ?_⟩
    exact mem_tile 6 0 _ (off30_eq i) (k0_off30_inb i) y h0 hq hh
  · refine ⟨_, List.mem_of_getElem? (i := 2) rfl, ?_⟩
    exact mem_tile 6 1 _ (off31_eq i) (k0_off31_inb i) y h0 hq hh
  · refine ⟨_, List.mem_of_getElem? (i := 1) rfl, ?_⟩
    exact mem_tile 7 0 _ (off32_eq i) (k0_off32_inb i) y h0 hq hh
  · refine ⟨_, List.mem_of_getElem? (i := 0) rfl, ?_⟩
    exact mem_tile 7 1 _ (off33_eq i) (k0_off33_inb i) y h0 hq hh

theorem lpA (h0 : first i) : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 h0 x u v rk bn cr av A P).2.1 = (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P).2.1
    ++ [⟨Rect.unit (s := S2x1024x512) ![1, 0, 0] S1x1024x512.size inb_S2x1024x512_S1x1024x512_1_0_0, k0_pay5 (F := Ideal)⟩] := rfl

theorem lpC (h1 : k0_cond2 i = 1#1) : (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 h1 x u v vl rk bn cr av h g2 fg A P).2.2.1 = (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P).2.1 := rfl

theorem laC (h1 : k0_cond2 i = 1#1) : (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 h1 x u v vl rk bn cr av h g2 fg A P).2.1 = (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P).1 := rfl

/-- The point's slab, after its stores, over anything. -/
theorem slab_read (f : arg15.view.ty.Contents (Elt Ideal)) (y : S2x1024x512.Idx) (h0 : (y 0).val = (i 1).val % 2) :
    View.read (Elt Ideal) arg15.view (arg15.view.writes (Elt Ideal) f (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P).2.1) y = slabAt (hid i x u rk bn cr av) y :=
  View.read_writes_apply_of_pieces arg15.view f (slabAt (hid i x u rk bn cr av)) _ (fun p hp => tiles c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P p hp) y (slab_mem c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P y h0)

/-- The accumulator, after its stores, over anything. -/
theorem acc_read (f : arg14.view.ty.Contents (Elt Ideal)) (y : S512x1024.Idx) :
    View.read (Elt Ideal) arg14.view (arg14.view.writes (Elt Ideal) f (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P).1) y = accOf i v A P y :=
  View.read_writes_apply_of_pieces arg14.view f (accOf i v A P) _ (accB c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P).mem y (by
    unfold runB
    exact View.cover_of_tiledL (s := S512x1024) _ S512x256.size (by sl_kernel_rfl) y)

theorem acc_read_first (h0 : first i) (f : arg14.view.ty.Contents (Elt Ideal)) (y : S512x1024.Idx) :
    View.read (Elt Ideal) arg14.view (arg14.view.writes (Elt Ideal) f (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 h0 x u v rk bn cr av A P).1) y = 0 :=
  View.read_writes_apply_of_pieces arg14.view f (fun _ => (0 : EReal)) _ (accA c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P h0).1.mem y ((accA c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P h0).2 y)

theorem slab_read_first (h0 : first i) (f : arg15.view.ty.Contents (Elt Ideal)) (y : S2x1024x512.Idx) (hy : (y 0).val = (i 1).val % 2) :
    View.read (Elt Ideal) arg15.view (arg15.view.writes (Elt Ideal) f (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 h0 x u v rk bn cr av A P).2.1) y = slabAt (hid i x u rk bn cr av) y := by
  rw [lpA, View.writes_append]
  exact slab_read c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P _ y hy

end Cert.PeerIdeal.Dense

end
-- ==== Proof.Peer.Layer.lean ====
module

public import proofs.«01_k».proof.Proof.Peer.Spec
public import proofs.«01_k».proof.Proof.Peer.IdealBlock

/-! The expert layer over whole arrays: every expert's activation times its routing weight, their sum of value rows, the stream and its norm. -/

@[expose] public section

set_option maxRecDepth 16384

noncomputable section

namespace Cert.PeerIdeal.Dense

open Cert.PeerIdeal Cert.PeerIdeal.Gen
open Idealize.ShloMosaic Idealize.ShloMosaic.TcCoe Idealize.SL.Sem

variable (X : FVec Ideal S1024x16384 .bf16) (U : FVec Ideal S2x16384x1024 .bf16) (W : FVec Ideal S2x16384x1024 .bf16)
  (RK BN : FVec Ideal S8x128x16384 .bf16) (CR AV : FVec Ideal S8x128x16384 .f32)
  (Hs : FVec Ideal S16384x1024 .f32) (G : FVec Ideal S8x1x1024 .f32) (FG : FVec Ideal S1x1024 .f32)

/-- The first and the second key of an expert. -/
def hi (e : Fin 16384) : Fin 128 := ⟨e.val / 128, by omega⟩
def lo (e : Fin 16384) : Fin 128 := ⟨e.val % 128, by omega⟩

/-- An expert's weighted activation at a token. -/
def mixed (e t : Fin 16384) : EReal :=
  gelu (∑ k : Fin 1024, U (ix3 1 e k) * X (ix2 k t))
    * ∑ hd : Fin 8, gate (RK (ix3 hd (lo e) t)) (CR (ix3 hd (hi e) t)) (BN (ix3 hd (lo e) t)) (AV (ix3 hd (hi e) t))

/-- The layer's output before the residual. -/
def experts (t : Fin 16384) (d : Fin 1024) : EReal := ∑ e : Fin 16384, mixed X U RK BN CR AV e t * W (ix3 1 e d)

/-- The batch of a token. -/
def batch (t : Fin 16384) : Fin 8 := ⟨t.val / 2048, by omega⟩

/-- The stream after the layer. -/
def stream (t : Fin 16384) (d : Fin 1024) : EReal := Hs (ix2 t d) + G (ix3 (batch t) 0 d) * experts X U W RK BN CR AV t d

/-- The result. -/
def result (y : S16384x1024.Idx) : EReal := normed (fun k => stream X U W RK BN CR AV Hs G (y 0) k) (FG (ix2 0 (y 1))) (y 1)

/-- A sum over a number of blocks of 1024 is the sum over all their entries. -/
theorem sum_blocks (f : ℕ → EReal) : ∀ n, ∑ j ∈ Finset.range n, ∑ r : Fin 1024, f (1024 * j + r.val) = ∑ e ∈ Finset.range (1024 * n), f e
  | 0 => rfl
  | n + 1 => by
    rw [Finset.sum_range_succ, sum_blocks f n, Nat.mul_succ, Finset.sum_range_add]
    exact congrArg _ (Fin.sum_univ_eq_sum_range (fun r => f (1024 * n + r)) 1024)

/-- One expert's term, by the expert's number. -/
def term (t : Fin 16384) (d : Fin 1024) (n : ℕ) : EReal := if h : n < 16384 then mixed X U RK BN CR AV ⟨n, h⟩ t * W (ix3 1 ⟨n, h⟩ d) else 0

theorem experts_blocks (t : Fin 16384) (d : Fin 1024) :
    ∑ j ∈ Finset.range 16, ∑ r : Fin 1024, term X U W RK BN CR AV t d (1024 * j + r.val) = experts X U W RK BN CR AV t d := by
  rw [sum_blocks]
  refine (Fin.sum_univ_eq_sum_range (term X U W RK BN CR AV t d) 16384).symm.trans (Finset.sum_congr rfl fun e _ => ?_)
  unfold term
  rw [dif_pos e.isLt]

end Cert.PeerIdeal.Dense

end
-- ==== Proof.Peer.IdealOut.lean ====
module

public import proofs.«01_k».proof.Proof.Peer.IdealBlock
public import Idealize.ShloMosaic.Lib.WritesUnit

/-! What the last point of a row of blocks writes: the layer's result for the row's tokens. -/

@[expose] public section

set_option maxRecDepth 16384

noncomputable section

namespace Cert.PeerIdeal.Dense

open Cert.PeerIdeal Cert.PeerIdeal.Gen
open Idealize.ShloMosaic Idealize.ShloMosaic.TcCoe Idealize.SL.Sem Idealize.ShloMosaic.Pipeline

/-- The result of a row of blocks, from the accumulator before its last point and the slabs. -/
def outOf (i : grid0.Coords) (H : Fin 8 → Fin 128 → Fin 512 → EReal) (v vl : FVec Ideal S1x1024x1024 .bf16) (h : FVec Ideal S512x1024 .f32)
    (g2 : FVec Ideal S1x1x1024 .f32) (fg : FVec Ideal S1x1024 .f32) (A : FVec Ideal S512x1024 .f32) (P : FVec Ideal S2x1024x512 .bf16) (y : S512x1024.Idx) : EReal :=
  normed (fun k => h (ix2 (y 0) k) + g2 (ix3 0 0 k) * (accOf i v A P (ix2 (y 0) k) + ∑ r : Fin 1024, slabAt H (ix3 (this i) r (y 0)) * vl (ix3 0 r k))) (fg (ix2 0 (y 1))) (y 1)

variable (c : Dev nD) (i : grid0.Coords) (arg2 : Memref sig .tc .vmem S1024x512 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .f32) (harg8 : arg8.IsWhole) (arg9 : Memref sig .tc .vmem S8x128x512 .f32) (harg9 : arg9.IsWhole) (arg10 : Memref sig .tc .vmem S512x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S2x1024x512 .bf16) (harg15 : arg15.IsWhole)
  (x : FVec Ideal S1024x512 .bf16) (u : FVec Ideal S1x1024x1024 .bf16) (v vl : FVec Ideal S1x1024x1024 .bf16) (rk bn : FVec Ideal S8x128x512 .bf16)
  (cr av : FVec Ideal S8x128x512 .f32) (h : FVec Ideal S512x1024 .f32) (g2 : FVec Ideal S1x1x1024 .f32) (fg : FVec Ideal S1x1024 .f32) (A : FVec Ideal S512x1024 .f32) (P : FVec Ideal S2x1024x512 .bf16)

include arg2 harg2 arg3 harg3 arg4 harg4 arg5 harg5 arg6 harg6 arg7 harg7 arg8 harg8 arg9 harg9 arg10 harg10 arg11 harg11 arg12 harg12 arg13 harg13 arg14 harg14 arg15 harg15 x u v rk bn cr av A P in
theorem load_slab (h1 : k0_cond2 i = 1#1) (r : Fin 1024) (t : Fin 512) :
    runC.sl.v3261 (F := Ideal) c i arg2 harg2 arg3 harg3 arg6 harg6 arg7 harg7 arg8 harg8 arg9 harg9 arg15 h1 x u rk bn cr av (ix3 0 r t)
      = slabAt (hid i x u rk bn cr av) (ix3 (this i) r t) := by
  have key : ∀ (off : Fin 3 → ℕ) (ho : off = ![(i 1).val % 2, 0, 0]) (inb),
      arg15.view.readCov (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P).2.1 (Rect.unit (s := S2x1024x512) off S1x1024x512.size inb).toLoadRect (ix3 0 r t)
        = slabAt (hid i x u rk bn cr av) (ix3 (this i) r t) := by
    intro off ho inb
    subst ho
    have he : (Rect.unit (s := S2x1024x512) ![(i 1).val % 2, 0, 0] S1x1024x512.size inb).emb (ix3 0 r t) = ix3 (this i) r t := funext fun a => Fin.ext (by
      refine (ValueKit.rect_emb_unit_val _ _ _ _ _).trans ?_
      match a with
      | ⟨0, _⟩ => rfl
      | ⟨1, _⟩ => exact Nat.zero_add _
      | ⟨2, _⟩ => exact Nat.zero_add _)
    refine (slab_read c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P arg15.view.junk
      ((Rect.unit (s := S2x1024x512) ![(i 1).val % 2, 0, 0] S1x1024x512.size inb).emb (ix3 0 r t)) (by rw [he]; rfl)).trans ?_
    rw [he]
  exact key _ (off34_eq i) (k0_off34_inb i h1)

include arg2 harg2 arg3 harg3 arg4 harg4 arg5 harg5 arg6 harg6 arg7 harg7 arg8 harg8 arg9 harg9 arg10 harg10 arg11 harg11 arg12 harg12 arg13 harg13 arg14 harg14 arg15 harg15 x u v rk bn cr av A P in
theorem load_acc (a : Fin 512) (k : Fin 1024) :
    runC.sl.v3269 (F := Ideal) c i arg4 harg4 arg14 harg14 arg15 harg15 v A P (ix2 a k) = accOf i v A P (ix2 a k) := by
  have he : (Rect.unit (s := S512x1024) ![0, 0] S512x1024.size inb_S512x1024_S512x1024_0_0).emb (ix2 a k) = ix2 a k := funext fun d => Fin.ext (by
    refine (ValueKit.rect_emb_unit_val _ _ _ _ _).trans ?_
    match d with
    | ⟨0, _⟩ => exact Nat.zero_add _
    | ⟨1, _⟩ => exact Nat.zero_add _)
  refine (acc_read c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P arg14.view.junk
    ((Rect.unit (s := S512x1024) ![0, 0] S512x1024.size inb_S512x1024_S512x1024_0_0).emb (ix2 a k))).trans ?_
  rw [he]

theorem out_read (h1 : k0_cond2 i = 1#1) (f : arg13.view.ty.Contents (Elt Ideal)) (y : S512x1024.Idx) :
    View.read (Elt Ideal) arg13.view (arg13.view.writes (Elt Ideal) f (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 h1 x u v vl rk bn cr av h g2 fg A P).1) y
      = outOf i (hid i x u rk bn cr av) v vl h g2 fg A P y := by
  obtain ⟨a, d, rfl⟩ : ∃ a d, y = ix2 a d := ⟨y 0, y 1, funext fun e => match e with | ⟨0, _⟩ => rfl | ⟨1, _⟩ => rfl⟩
  unfold runC
  refine (View.read_writes_cons_unit_of_mem arg13.view f inb_S512x1024_S512x1024_0_0 _ [] (ix2 a d) (ix2 a d) rfl fun e => ?_).trans ?_
  · match e with
    | ⟨0, _⟩ => exact (Nat.zero_add _).symm
    | ⟨1, _⟩ => exact (Nat.zero_add _).symm
  refine (pay3_apply _ _ _ _ _ _ a d).trans ?_
  simp only [load_slab c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P h1, load_acc c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P, readAt_closed, readAt_full]
  show normed _ _ _ = normed _ _ _
  refine congrArg₂ (fun z w => normed z w d) (funext fun k => ?_) rfl
  refine congrArg₂ (fun p q : EReal => p + q) rfl (congrArg₂ (fun p q : EReal => p * q) (at3 g2 rfl rfl (Nat.zero_add _)) (congrArg₂ (fun p q : EReal => p + q) rfl
    (Finset.sum_congr rfl fun r _ => congrArg₂ (fun p q : EReal => p * q) rfl (at3 vl rfl (Nat.zero_add _) (Nat.zero_add _)))))

end Cert.PeerIdeal.Dense

end
-- ==== Proof.Peer.IdealPoint.lean ====
module

public import proofs.«01_k».proof.Proof.Peer.IdealOut

/-! A point of the grid, with what it leaves named: the accumulator, the slab, and at a last point the output. -/

@[expose] public section

set_option maxRecDepth 16384

noncomputable section

namespace Cert.PeerIdeal.Dense

open Cert.PeerIdeal Cert.PeerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem owned_as (c : Dev nD) {S : Shape} {e : EltTy} (m : Memref sig .tc .vmem S e) (f) (X : S.Idx → Elt Ideal e) (h : View.read (Elt Ideal) m.view f = X) :
    (m.view.loc (c : Thread nD τ) ↦[m.view.set]{fullShare} f : sProp 𝕄) ⊢ owns (c : Thread nD τ) m fullShare X := by
  unfold owns
  iintro H
  iexists f
  isplitr; · ipureintro; exact h
  iexact H

theorem owned_where (c : Dev nD) {S : Shape} {e : EltTy} (m : Memref sig .tc .vmem S e) (f) (p : (S.Idx → Elt Ideal e) → Prop) (h : p (View.read (Elt Ideal) m.view f)) :
    (m.view.loc (c : Thread nD τ) ↦[m.view.set]{fullShare} f : sProp 𝕄) ⊢ iprop(∃ Q, ⌜p Q⌝ ∗ owns (c : Thread nD τ) m fullShare Q) := by
  iintro H
  iexists (View.read (Elt Ideal) m.view f)
  isplitr; · ipureintro; exact h
  iapply (owned_as c m f _ rfl); iexact H

variable (c : Dev nD) (i : grid0.Coords) (arg2 : Memref sig .tc .vmem S1024x512 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .f32) (harg8 : arg8.IsWhole) (arg9 : Memref sig .tc .vmem S8x128x512 .f32) (harg9 : arg9.IsWhole) (arg10 : Memref sig .tc .vmem S512x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S2x1024x512 .bf16) (harg15 : arg15.IsWhole)
  (x : FVec Ideal S1024x512 .bf16) (u : FVec Ideal S1x1024x1024 .bf16) (v vl : FVec Ideal S1x1024x1024 .bf16) (rk bn : FVec Ideal S8x128x512 .bf16)
  (cr av : FVec Ideal S8x128x512 .f32) (h : FVec Ideal S512x1024 .f32) (g2 : FVec Ideal S1x1x1024 .f32) (fg : FVec Ideal S1x1024 .f32) (A : FVec Ideal S512x1024 .f32) (P : FVec Ideal S2x1024x512 .bf16)

/-- A first point. -/
theorem pointA (h0 : first i) (h1 : ¬ k0_cond2 i = 1#1) (E : Set ℕ) (K : PUnit → sProp 𝕄) :
    iprop(owns (c : Thread nD τ) arg2 fullShare x ∗ owns (c : Thread nD τ) arg3 fullShare u ∗ owns (c : Thread nD τ) arg4 fullShare v ∗ owns (c : Thread nD τ) arg6 fullShare rk ∗ owns (c : Thread nD τ) arg7 fullShare bn ∗ owns (c : Thread nD τ) arg8 fullShare cr ∗ owns (c : Thread nD τ) arg9 fullShare av ∗ owns (c : Thread nD τ) arg14 fullShare A ∗ owns (c : Thread nD τ) arg15 fullShare P ∗ (iprop(owns (c : Thread nD τ) arg2 fullShare x ∗ owns (c : Thread nD τ) arg3 fullShare u ∗ owns (c : Thread nD τ) arg4 fullShare v ∗ owns (c : Thread nD τ) arg6 fullShare rk ∗ owns (c : Thread nD τ) arg7 fullShare bn ∗ owns (c : Thread nD τ) arg8 fullShare cr ∗ owns (c : Thread nD τ) arg9 fullShare av ∗ owns (c : Thread nD τ) arg14 fullShare (fun _ => (0 : EReal)) ∗ (∃ Q, ⌜∀ y : S2x1024x512.Idx, (y 0).val = (i 1).val % 2 → Q y = slabAt (hid i x u rk bn cr av) y⌝ ∗ owns (c : Thread nD τ) arg15 fullShare Q)) -∗ K ⟨⟩))
      ⊢ wp frame (wpE (defs₀ (F := Ideal)) Variants.none c none) E (cc0_peer_dense i arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H2, H3, H4, H6, H7, H8, H9, H14, H15, Hk⟩
  iapply ((runA (F := Ideal) c i arg2 harg2 arg3 harg3 arg4 harg4 arg5 harg5 arg6 harg6 arg7 harg7 arg8 harg8 arg9 harg9 arg10 harg10 arg11 harg11 arg12 harg12 arg13 harg13 arg14 harg14 arg15 harg15 h0 x u v rk bn cr av A P).2.2 h1 E K)
  isplitl [H2]; · iexact H2
  isplitl [H3]; · iexact H3
  isplitl [H4]; · iexact H4
  isplitl [H6]; · iexact H6
  isplitl [H7]; · iexact H7
  isplitl [H8]; · iexact H8
  isplitl [H9]; · iexact H9
  isplitl [H14]; · iexact H14
  isplitl [H15]; · iexact H15
  iintro ⟨H2, H3, H4, H6, H7, H8, H9, H14, H15⟩
  iapply Hk
  isplitl [H2]; · iexact H2
  isplitl [H3]; · iexact H3
  isplitl [H4]; · iexact H4
  isplitl [H6]; · iexact H6
  isplitl [H7]; · iexact H7
  isplitl [H8]; · iexact H8
  isplitl [H9]; · iexact H9
  isplitl [H14]
  · iapply (owned_as c arg14 _ _ (funext fun y => acc_read_first c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P h0 _ y)); iexact H14
  iapply (owned_where c arg15 _ _ fun y hy => slab_read_first c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P h0 _ y hy); iexact H15

/-- A point that is neither first nor last in its row of blocks. -/
theorem pointB (h0 : ¬ first i) (h1 : ¬ k0_cond2 i = 1#1) (E : Set ℕ) (K : PUnit → sProp 𝕄) :
    iprop(owns (c : Thread nD τ) arg2 fullShare x ∗ owns (c : Thread nD τ) arg3 fullShare u ∗ owns (c : Thread nD τ) arg4 fullShare v ∗ owns (c : Thread nD τ) arg6 fullShare rk ∗ owns (c : Thread nD τ) arg7 fullShare bn ∗ owns (c : Thread nD τ) arg8 fullShare cr ∗ owns (c : Thread nD τ) arg9 fullShare av ∗ owns (c : Thread nD τ) arg14 fullShare A ∗ owns (c : Thread nD τ) arg15 fullShare P ∗ (iprop(owns (c : Thread nD τ) arg2 fullShare x ∗ owns (c : Thread nD τ) arg3 fullShare u ∗ owns (c : Thread nD τ) arg4 fullShare v ∗ owns (c : Thread nD τ) arg6 fullShare rk ∗ owns (c : Thread nD τ) arg7 fullShare bn ∗ owns (c : Thread nD τ) arg8 fullShare cr ∗ owns (c : Thread nD τ) arg9 fullShare av ∗ owns (c : Thread nD τ) arg14 fullShare (accOf i v A P) ∗ (∃ Q, ⌜∀ y : S2x1024x512.Idx, (y 0).val = (i 1).val % 2 → Q y = slabAt (hid i x u rk bn cr av) y⌝ ∗ owns (c : Thread nD τ) arg15 fullShare Q)) -∗ K ⟨⟩))
      ⊢ wp frame (wpE (defs₀ (F := Ideal)) Variants.none c none) E (cc0_peer_dense i arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H2, H3, H4, H6, H7, H8, H9, H14, H15, Hk⟩
  iapply ((runB (F := Ideal) c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P).2.2 h0 h1 E K)
  isplitl [H2]; · iexact H2
  isplitl [H3]; · iexact H3
  isplitl [H4]; · iexact H4
  isplitl [H6]; · iexact H6
  isplitl [H7]; · iexact H7
  isplitl [H8]; · iexact H8
  isplitl [H9]; · iexact H9
  isplitl [H14]; · iexact H14
  isplitl [H15]; · iexact H15
  iintro ⟨H2, H3, H4, H6, H7, H8, H9, H14, H15⟩
  iapply Hk
  isplitl [H2]; · iexact H2
  isplitl [H3]; · iexact H3
  isplitl [H4]; · iexact H4
  isplitl [H6]; · iexact H6
  isplitl [H7]; · iexact H7
  isplitl [H8]; · iexact H8
  isplitl [H9]; · iexact H9
  isplitl [H14]
  · iapply (owned_as c arg14 _ _ (funext fun y => acc_read c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P _ y)); iexact H14
  iapply (owned_where c arg15 _ _ fun y hy => slab_read c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P _ y hy); iexact H15

/-- A last point. -/
theorem pointC (h0 : ¬ first i) (h1 : k0_cond2 i = 1#1) (E : Set ℕ) (K : PUnit → sProp 𝕄) :
    iprop(owns (c : Thread nD τ) arg2 fullShare x ∗ owns (c : Thread nD τ) arg3 fullShare u ∗ owns (c : Thread nD τ) arg4 fullShare v ∗ owns (c : Thread nD τ) arg5 fullShare vl ∗ owns (c : Thread nD τ) arg6 fullShare rk ∗ owns (c : Thread nD τ) arg7 fullShare bn ∗ owns (c : Thread nD τ) arg8 fullShare cr ∗ owns (c : Thread nD τ) arg9 fullShare av ∗ owns (c : Thread nD τ) arg10 fullShare h ∗ owns (c : Thread nD τ) arg11 fullShare g2 ∗ owns (c : Thread nD τ) arg12 fullShare fg ∗ (∃ d, owns (c : Thread nD τ) arg13 fullShare d) ∗ owns (c : Thread nD τ) arg14 fullShare A ∗ owns (c : Thread nD τ) arg15 fullShare P ∗ (iprop(owns (c : Thread nD τ) arg2 fullShare x ∗ owns (c : Thread nD τ) arg3 fullShare u ∗ owns (c : Thread nD τ) arg4 fullShare v ∗ owns (c : Thread nD τ) arg5 fullShare vl ∗ owns (c : Thread nD τ) arg6 fullShare rk ∗ owns (c : Thread nD τ) arg7 fullShare bn ∗ owns (c : Thread nD τ) arg8 fullShare cr ∗ owns (c : Thread nD τ) arg9 fullShare av ∗ owns (c : Thread nD τ) arg10 fullShare h ∗ owns (c : Thread nD τ) arg11 fullShare g2 ∗ owns (c : Thread nD τ) arg12 fullShare fg ∗ owns (c : Thread nD τ) arg13 fullShare (outOf i (hid i x u rk bn cr av) v vl h g2 fg A P) ∗ owns (c : Thread nD τ) arg14 fullShare (accOf i v A P) ∗ (∃ Q, ⌜∀ y : S2x1024x512.Idx, (y 0).val = (i 1).val % 2 → Q y = slabAt (hid i x u rk bn cr av) y⌝ ∗ owns (c : Thread nD τ) arg15 fullShare Q)) -∗ K ⟨⟩))
      ⊢ wp frame (wpE (defs₀ (F := Ideal)) Variants.none c none) E (cc0_peer_dense i arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H2, H3, H4, H5, H6, H7, H8, H9, H10, H11, H12, H13, H14, H15, Hk⟩
  iapply ((runC (F := Ideal) c i arg2 harg2 arg3 harg3 arg4 harg4 arg5 harg5 arg6 harg6 arg7 harg7 arg8 harg8 arg9 harg9 arg10 harg10 arg11 harg11 arg12 harg12 arg13 harg13 arg14 harg14 arg15 harg15 h1 x u v vl rk bn cr av h g2 fg A P).2.2.2 h0 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H2, H3, H4, H5, H6, H7, H8, H9, H10, H11, H12, ⟨%f13, H13⟩, H14, H15⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iapply (owned_as c arg13 _ _ (funext fun y => out_read c i arg2 harg2 arg3 harg3 arg4 harg4 arg5 harg5 arg6 harg6 arg7 harg7 arg8 harg8 arg9 harg9 arg10 harg10 arg11 harg11 arg12 harg12 arg13 harg13 arg14 harg14 arg15 harg15 x u v vl rk bn cr av h g2 fg A P h1 _ y)); iexact H13
  isplitl [H14]
  · iapply (owned_as c arg14 _ _ (funext fun y => acc_read c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P _ y)); iexact H14
  iapply (owned_where c arg15 _ _ fun y hy => slab_read c i arg2 harg2 arg3 harg3 arg4 harg4 arg5 harg5 arg6 harg6 arg7 harg7 arg8 harg8 arg9 harg9 arg10 harg10 arg11 harg11 arg12 harg12 arg13 harg13 arg14 harg14 arg15 harg15 x u v rk bn cr av A P _ y hy); iexact H15

end Cert.PeerIdeal.Dense

end
-- ==== Proof.Peer.IdealFrame.lean ====
module

public import proofs.«01_k».proof.Proof.Peer.IdealPoint
public import proofs.«01_k».proof.Proof.Gen.PeerIdeal.Frame

/-! The run of the idealized kernel: before each point the accumulator holds the sum over the row's earlier blocks but the last of them, the slab buffer holds that last one; the last point of a row writes the result. -/

@[expose] public section

set_option maxRecDepth 16384

noncomputable section

namespace Cert.PeerIdeal.Dense

open Cert.PeerIdeal Cert.PeerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg) (c : Dev nD)

/-- The slab of a point. -/
def hidAt (t : Fin cfg0.N) : Fin 8 → Fin 128 → Fin 512 → EReal :=
  hid (grid0.coords t) (iblk m c 0 t) (iblk m c 1 t) (iblk m c 4 t) (iblk m c 5 t) (iblk m c 6 t) (iblk m c 7 t)

/-- The same by the point's number. -/
def slabN (n : ℕ) (r : Fin 1024) (k : Fin 512) : EReal := if h : n < cfg0.N then slabAt (hidAt m c ⟨n, h⟩) (ix3 0 r k) else 0

/-- The values that the point's fetch brings for the preceding block. -/
def valN (n : ℕ) (r : Fin 1024) (d : Fin 1024) : EReal := if h : n < cfg0.N then (iblk m c 2 ⟨n, h⟩ : S1x1024x1024.Idx → EReal) (ix3 0 r d) else 0

/-- The accumulator after a point, by the point's number. -/
def accN : ℕ → S512x1024.Idx → EReal
  | 0 => fun _ => 0
  | n + 1 => fun y => if (n + 1) % 16 = 0 then 0 else accN n y + ∑ r : Fin 1024, slabN m c n r (y 0) * valN m c (n + 1) r (y 1)

/-- What the two scratch buffers hold before a point: nothing is asked at the start of a row. -/
def Held (n : ℕ) (A : FVec Ideal S512x1024 .f32) (P : FVec Ideal S2x1024x512 .bf16) : Prop :=
  n % 16 = 0 ∨ ∃ k, n = k + 1 ∧ A = accN m c k ∧ ∀ y : S2x1024x512.Idx, (y 0).val = k % 2 → P y = slabN m c k (y 1) (y 2)

/-- The blocks that the last point of a row reads. -/
def rd3 (t : Fin cfg0.N) : S1x1024x1024.Idx → EReal := iblk m c 3 t
@[inherit_doc rd3] def rd8 (t : Fin cfg0.N) : S512x1024.Idx → EReal := iblk m c 8 t
@[inherit_doc rd3] def rd9 (t : Fin cfg0.N) : S1x1x1024.Idx → EReal := iblk m c 9 t
@[inherit_doc rd3] def rd10 (t : Fin cfg0.N) : S1x1024.Idx → EReal := iblk m c 10 t

/-- The result that the last point of a row writes. -/
def outAt (t : Fin cfg0.N) (y : S512x1024.Idx) : EReal :=
  normed (fun k => rd8 m c t (ix2 (y 0) k) + rd9 m c t (ix3 0 0 k)
      * (accN m c t.val (ix2 (y 0) k) + ∑ r : Fin 1024, slabN m c t.val r (y 0) * rd3 m c t (ix3 0 r k)))
    (rd10 m c t (ix2 0 (y 1))) (y 1)

theorem coord_val : ∀ t : Fin cfg0.N, ((grid0.coords t) 1).val = t.val % 16 := (by decide +kernel : ∀ t : Fin grid0.N, ((grid0.coords t) 1).val = t.val % 16)

theorem slabN_at (t : Fin cfg0.N) (y : S2x1024x512.Idx) : slabAt (hidAt m c t) y = slabN m c t.val (y 1) (y 2) := by
  unfold slabN; rw [dif_pos t.isLt]; rfl

theorem valN_at (t : Fin cfg0.N) (r d : Fin 1024) : (iblk m c 2 t : S1x1024x1024.Idx → EReal) (ix3 0 r d) = valN m c t.val r d := by
  unfold valN; rw [dif_pos t.isLt]

theorem held_slab (t : Fin cfg0.N) (A : FVec Ideal S512x1024 .f32) (Q : FVec Ideal S2x1024x512 .bf16) (hA : A = accN m c t.val)
    (hQ : ∀ y : S2x1024x512.Idx, (y 0).val = ((grid0.coords t) 1).val % 2 → Q y = slabAt (hidAt m c t) y) : Held m c (t.val + 1) A Q :=
  Or.inr ⟨t.val, rfl, hA, fun y hy => (hQ y (by rw [coord_val]; omega)).trans (slabN_at m c t y)⟩

theorem good_first (t : Fin cfg0.N) (h0 : first (grid0.coords t)) (Q : FVec Ideal S2x1024x512 .bf16)
    (hQ : ∀ y : S2x1024x512.Idx, (y 0).val = ((grid0.coords t) 1).val % 2 → Q y = slabAt (hidAt m c t) y) : Held m c (t.val + 1) (fun _ => (0 : EReal)) Q := by
  refine held_slab m c t _ Q ?_ hQ
  have h := (first_iff _).mp h0
  rw [coord_val] at h
  obtain ⟨n, hn⟩ := t
  cases n with
  | zero => rfl
  | succ k => funext y; exact (if_pos h).symm

theorem acc_next (t : Fin cfg0.N) (h0 : ¬ first (grid0.coords t)) {A : FVec Ideal S512x1024 .f32} {P : FVec Ideal S2x1024x512 .bf16} (hG : Held m c t.val A P) :
    accOf (grid0.coords t) (iblk m c 2 t) A P = accN m c t.val := by
  have h : ¬ t.val % 16 = 0 := fun e => h0 ((first_iff _).mpr (by rw [coord_val]; exact e))
  rcases hG with hz | ⟨k, hk, rfl, hP⟩
  · exact absurd hz h
  · funext y
    unfold accOf
    have e : accN m c t.val y = accN m c k y + ∑ r : Fin 1024, slabN m c k r (y 0) * valN m c t.val r (y 1) := by
      rw [hk]; exact if_neg (by omega)
    rw [e]
    refine congrArg₂ (fun p q : EReal => p + q) rfl (Finset.sum_congr rfl fun r _ => congrArg₂ (fun p q : EReal => p * q) (hP _ ?_) (valN_at m c t r (y 1)))
    show (((grid0.coords t) 1).val + 1) % 2 = k % 2
    rw [coord_val]; omega

theorem good_next (t : Fin cfg0.N) (h0 : ¬ first (grid0.coords t)) {A : FVec Ideal S512x1024 .f32} {P : FVec Ideal S2x1024x512 .bf16} (hG : Held m c t.val A P)
    (Q : FVec Ideal S2x1024x512 .bf16)
    (hQ : ∀ y : S2x1024x512.Idx, (y 0).val = ((grid0.coords t) 1).val % 2 → Q y = slabAt (hidAt m c t) y) :
    Held m c (t.val + 1) (accOf (grid0.coords t) (iblk m c 2 t) A P) Q :=
  held_slab m c t _ Q (acc_next m c t h0 hG) hQ

theorem outAt_eq (t : Fin cfg0.N) (h0 : ¬ first (grid0.coords t)) {A : FVec Ideal S512x1024 .f32} {P : FVec Ideal S2x1024x512 .bf16} (hG : Held m c t.val A P) :
    outOf (grid0.coords t) (hidAt m c t) (iblk m c 2 t) (iblk m c 3 t) (iblk m c 8 t) (iblk m c 9 t) (iblk m c 10 t) A P = outAt m c t := by
  funext y
  unfold outOf outAt
  rw [acc_next m c t h0 hG]
  simp only [slabN_at]
  rfl

/-- The two scratch buffers, as memrefs. -/
theorem rest_eq :
    (Pipeline.ΦA spec0 c : sProp 𝕄)
      = iprop(iprop((∃ d, owns (c : Thread nD τ) (Memref.whole cc0_scratch0) fullShare d) ∗ (∃ d, owns (c : Thread nD τ) (Memref.whole cc0_scratch1) fullShare d))
          ∗ (∃ r, prngReg c r)) := by
  unfold Pipeline.ΦA; rw [scopedRest0_eq]; simp only [owns_whole]; try rfl

/-- The invariant: the scratch buffers hold what they are said to. -/
def Phi (n : ℕ) : sProp 𝕄 :=
  iprop((∃ A P, ⌜Held m c n A P⌝ ∗ owns (c : Thread nD τ) (Memref.whole cc0_scratch0) fullShare A ∗ owns (c : Thread nD τ) (Memref.whole cc0_scratch1) fullShare P) ∗ (∃ r, prngReg c r))

/-- The proof data. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt m c t
  Φ t := Phi m c t.val
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = outAt m c t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d
theorem before_10 (c : Dev nD) (t : Fin cfg0.N) (d) : (dats m 0 c).before 10 t d = iblk m c 10 t := before0_10_of m (dats m 0 c) (A_eq m c 10) (after_10 m c) t d

theorem Phi_castSucc (c : Dev nD) (t : Fin cfg0.N) : (dats m 0 c).Φ t.castSucc = iprop((∃ A P, ⌜Held m c t.val A P⌝ ∗ owns (c : Thread nD τ) (Memref.whole cc0_scratch0) fullShare A ∗ owns (c : Thread nD τ) (Memref.whole cc0_scratch1) fullShare P) ∗ (∃ r, prngReg c r)) := rfl
theorem Phi_succ (c : Dev nD) (t : Fin cfg0.N) : (dats m 0 c).Φ t.succ = iprop((∃ A P, ⌜Held m c (t.val + 1) A P⌝ ∗ owns (c : Thread nD τ) (Memref.whole cc0_scratch0) fullShare A ∗ owns (c : Thread nD τ) (Memref.whole cc0_scratch1) fullShare P) ∗ (∃ r, prngReg c r)) := rfl

set_option maxHeartbeats 1600000 in
theorem body_first (c : Dev nD) (t : Fin cfg0.N) (h0 : first (grid0.coords t)) (h1 : ¬ k0_cond2 (grid0.coords t) = 1#1) :
    iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))
      ⊢ wp frame (wpE (defs₀ (F := Ideal)) Variants.none c none) Set.univ (bodyAt0 t) (fun _ =>
    iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ (∃ d, owns (c : Thread nD τ) (win0_11.stage (cfg0.slots t 11)) fullShare ((dats m 0 c).before 11 t d)))) := by
  unfold bodyAt0
  simp only [before_0, before_1, before_2, before_3, before_4, before_5, before_6, before_7, before_8, before_9, before_10]
  rw [after_0, after_1, after_2, after_3, after_4, after_5, after_6, after_7, after_8, after_9, after_10, show (dats m 0 c).owesAt () t.succ = (dats m 0 c).owesAt () t.castSucc from rfl,
    Phi_castSucc, Phi_succ]
  iintro ⟨⟨⟨%A, %P, %hG, HA, HP⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
  iapply (pointA c (grid0.coords t) _ _ _ _ _ _ _ _ _ _ _ _ _ _ _ _ _ _ _ _ _ _ _ _ _ _ _ _ (iblk m c 0 t) (iblk m c 1 t) (iblk m c 2 t) (iblk m c 4 t) (iblk m c 5 t) (iblk m c 6 t) (iblk m c 7 t) A P h0 h1 Set.univ _)
  isplitl [H0]; · iexact H0
  isplitl [H1]; · iexact H1
  isplitl [H2]; · iexact H2
  isplitl [H4]; · iexact H4
  isplitl [H5]; · iexact H5
  isplitl [H6]; · iexact H6
  isplitl [H7]; · iexact H7
  isplitl [HA]; · iexact HA
  isplitl [HP]; · iexact HP
  iintro ⟨H0, H1, H2, H4, H5, H6, H7, HA, ⟨%Q, %hQ, HP⟩⟩
  isplitl [HA HP Hg]
  · isplitl [HA HP]
    · iexists _; iexists Q
      isplitr; · ipureintro; exact good_first m c t h0 Q hQ
      isplitl [HA]; · iexact HA
      iexact HP
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 1600000 in
theorem body_next (c : Dev nD) (t : Fin cfg0.N) (h0 : ¬ first (grid0.coords t)) (h1 : ¬ k0_cond2 (grid0.coords t) = 1#1) :
    iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))
      ⊢ wp frame (wpE (defs₀ (F := Ideal)) Variants.none c none) Set.univ (bodyAt0 t) (fun _ =>
    iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ (∃ d, owns (c : Thread nD τ) (win0_11.stage (cfg0.slots t 11)) fullShare ((dats m 0 c).before 11 t d)))) := by
  unfold bodyAt0
  simp only [before_0, before_1, before_2, before_3, before_4, before_5, before_6, before_7, before_8, before_9, before_10]
  rw [after_0, after_1, after_2, after_3, after_4, after_5, after_6, after_7, after_8, after_9, after_10, show (dats m 0 c).owesAt () t.succ = (dats m 0 c).owesAt () t.castSucc from rfl,
    Phi_castSucc, Phi_succ]
  iintro ⟨⟨⟨%A, %P, %hG, HA, HP⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
  iapply (pointB c (grid0.coords t) _ _ _ _ _ _ _ _ _ _ _ _ _ _ _ _ _ _ _ _ _ _ _ _ _ _ _ _ (iblk m c 0 t) (iblk m c 1 t) (iblk m c 2 t) (iblk m c 4 t) (iblk m c 5 t) (iblk m c 6 t) (iblk m c 7 t) A P h0 h1 Set.univ _)
  isplitl [H0]; · iexact H0
  isplitl [H1]; · iexact H1
  isplitl [H2]; · iexact H2
  isplitl [H4]; · iexact H4
  isplitl [H5]; · iexact H5
  isplitl [H6]; · iexact H6
  isplitl [H7]; · iexact H7
  isplitl [HA]; · iexact HA
  isplitl [HP]; · iexact HP
  iintro ⟨H0, H1, H2, H4, H5, H6, H7, HA, ⟨%Q, %hQ, HP⟩⟩
  isplitl [HA HP Hg]
  · isplitl [HA HP]
    · iexists _; iexists Q
      isplitr; · ipureintro; exact good_next m c t h0 hG Q hQ
      isplitl [HA]; · iexact HA
      iexact HP
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 1600000 in
theorem body_last (c : Dev nD) (t : Fin cfg0.N) (h0 : ¬ first (grid0.coords t)) (h1 : k0_cond2 (grid0.coords t) = 1#1) :
    iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))
      ⊢ wp frame (wpE (defs₀ (F := Ideal)) Variants.none c none) Set.univ (bodyAt0 t) (fun _ =>
    iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t))) := by
  unfold bodyAt0
  simp only [before_0, before_1, before_2, before_3, before_4, before_5, before_6, before_7, before_8, before_9, before_10]
  rw [after_0, after_1, after_2, after_3, after_4, after_5, after_6, after_7, after_8, after_9, after_10, show (dats m 0 c).owesAt () t.succ = (dats m 0 c).owesAt () t.castSucc from rfl,
    Phi_castSucc, Phi_succ]
  iintro ⟨⟨⟨%A, %P, %hG, HA, HP⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
  iapply (pointC c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) A P h0 h1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · icases H11 with ⟨%d, H11⟩; iexists _; iexact H11
  isplitl [HA]; · iexact HA
  isplitl [HP]; · iexact HP
  iintro ⟨H0, H1, H2, H3, H4, H5, H6, H7, H8, H9, H10, H11, HA, ⟨%Q, %hQ, HP⟩⟩
  rw [after_11, ← outAt_eq m c t h0 hG]
  isplitl [HA HP Hg]
  · isplitl [HA HP]
    · iexists _; iexists Q
      isplitr; · ipureintro; exact good_next m c t h0 hG Q hQ
      isplitl [HA]; · iexact HA
      iexact HP
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_row (t : Fin cfg0.N) :
    defs₀ (F := Ideal) .tc cfg0.body (cfg0.bodyArgs t (cfg0.slots t)) = bodyAt0 t := by
  unfold defs₀; rw [Defs.onTc_tc]

theorem obligation (c : Dev nD) : BodyObligation (dats m 0 c) (defs₀ (F := Ideal)) Variants.none () Set.univ := fun t => by
  rw [bigSep_W0, bigSep_W0, body_row]
  by_cases h1 : k0_cond2 (grid0.coords t) = 1#1
  · have h0 : ¬ first (grid0.coords t) := fun h => by
      have a := (first_iff _).mp h
      have b := (last_iff _).mp h1
      omega
    have hi : cfg0.idle 11 (cfg0.grid.coords t) = false := by
      show (!(k0_cond2 (grid0.coords t) == 1#1)) = false
      simp [h1]
    refine triple_restated (body_last m c t h0 h1) rfl .rfl fun _ => ?_
    rw [hi]
  · have hi : cfg0.idle 11 (cfg0.grid.coords t) = true := by
      show (!(k0_cond2 (grid0.coords t) == 1#1)) = true
      simp [h1]
    have hf : (cfg0.win 11).flush t = false := by
      rw [← Bool.not_eq_true, flush0_11]
      intro e
      exact h1 ((last_iff _).mpr (by rw [coord_val]; exact e))
    by_cases h0 : first (grid0.coords t)
    · refine triple_restated (body_first m c t h0 h1) rfl .rfl fun _ => ?_
      rw [hi, hf]
    · refine triple_restated (body_next m c t h0 h1) rfl .rfl fun _ => ?_
      rw [hi, hf]

theorem hin (c : Dev nD) : (Pipeline.ΦA spec0 c : sProp 𝕄) ⊢ (dats m 0 c).Φ 0 := by
  rw [rest_eq, show (dats m 0 c).Φ 0 = Phi m c 0 from rfl]
  unfold Phi
  iintro ⟨⟨⟨%A, HA⟩, ⟨%P, HP⟩⟩, Hg⟩
  isplitl [HA HP]
  · iexists A; iexists P
    isplitr; · ipureintro; exact Or.inl rfl
    isplitl [HA]; · iexact HA
    iexact HP
  iexact Hg

theorem hout (c : Dev nD) : (dats m 0 c).Φ (Fin.last cfg0.N) ⊢ (Pipeline.ΦA spec0 c : sProp 𝕄) := by
  rw [rest_eq, show (dats m 0 c).Φ (Fin.last cfg0.N) = Phi m c cfg0.N from rfl]
  unfold Phi
  iintro ⟨⟨%A, %P, -, HA, HP⟩, Hg⟩
  isplitl [HA HP]
  · isplitl [HA]; · iexists A; iexact HA
    iexists P; iexact HP
  iexact Hg

set_option backward.isDefEq.respectTransparency.types false in
theorem run_main_quiescent : θ_run defs (onTc (τ := τ) (main (F := Ideal))) (s₀ m ρ) (fun r => (Pipeline.FramePost cfgs (dats m) 0 (V m)) r ∧ r.2.sem = fun _ => 0) :=
  Pipeline.θ_run_frame_track_shared cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := hin m) (hout := hout m) (Q' := _)

theorem run_main : θ_run defs (onTc (τ := τ) (main (F := Ideal))) (s₀ m ρ) (Pipeline.FramePost cfgs (dats m) 0 (V m)) :=
  (θ_run defs _ _).mono (fun _ h => h.1) (run_main_quiescent m ρ)

theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame claim. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

/-- The result's array beside them. -/
theorem run_result : θ_run defs (onTc (τ := τ) (main (F := Ideal))) ⟨m, fun _ => 0, ρ⟩ (fun r => ∀ c : Dev nD,
      r.2.mem ((c.tc : Thread nD τ).loc main_v0) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨h.1 c, h.2 c⟩)
    (θ_run_and (Q₁ := fun r => ∀ c : Dev nD, r.2.mem ((c.tc : Thread nD τ).loc main_v0) = (dats m 0 c).arrAt 11 cfg0.N)
      ((θ_run defs _ _).mono (fun _ h c => (h c).1 11) (run_main m ρ)) (unchanged m ρ))

end Cert.PeerIdeal.Dense

end
-- ==== Proof.Peer.IdealValue.lean ====
module

public import proofs.«01_k».proof.Proof.Peer.Layer
public import proofs.«01_k».proof.Proof.Peer.IdealFrame
public import Idealize.ShloMosaic.Lib.Pointwise
public import Idealize.ShloMosaic.Lib.Pipeline.ValueKit
public import Idealize.ShloMosaic.Lib.Pipeline.ReadBack

/-! The array the kernel leaves: the expert layer's result over its arguments. -/

@[expose] public section

set_option maxRecDepth 16384

noncomputable section

namespace Cert.PeerIdeal.Dense

open Cert.PeerIdeal Cert.PeerIdeal.Gen
open Idealize.ShloMosaic Idealize.ShloMosaic.TcCoe Idealize.SL.Sem
open Idealize.ShloMosaic.Pipeline

variable (m : (ℓ : Loc nD τ sig) → Buf (Elt Ideal) ℓ) (c : Dev nD)

/-- Each window's block at a grid point. -/
theorem idx : ∀ t : Fin cfg0.N, win0_0.index t = ![0, t.val / 16] ∧ win0_1.index t = ![1, t.val % 16, 0] ∧ win0_2.index t = ![1, t.val % 16 - 1, 0]
    ∧ win0_3.index t = ![1, 15, 0] ∧ win0_4.index t = ![0, 0, t.val / 16] ∧ win0_5.index t = ![0, 0, t.val / 16] ∧ win0_6.index t = ![0, 0, t.val / 16]
    ∧ win0_7.index t = ![0, 0, t.val / 16] ∧ win0_8.index t = ![t.val / 16, 0] ∧ win0_9.index t = ![t.val / 64, 0, 0] ∧ win0_10.index t = ![0, 0]
    ∧ win0_11.index t = ![t.val / 16, 0] :=
  (by decide +kernel : ∀ t : Fin grid0.N, _)

theorem lt512 (t : Fin cfg0.N) : t.val < 512 := t.isLt

/-- A token of a point's block, and an expert of it. -/
abbrev tk (t : Fin cfg0.N) (a : Fin 512) : Fin 16384 := ⟨t.val / 16 * 512 + a.val, by have := lt512 t; omega⟩
abbrev ex (t : Fin cfg0.N) (r : Fin 1024) : Fin 16384 := ⟨t.val % 16 * 1024 + r.val, by omega⟩

theorem blk0 (t : Fin cfg0.N) (k : Fin 1024) (a : Fin 512) : iblk m c 0 t (ix2 k a) = m ((c.tc : Thread nD τ).loc main_arg0) (ix2 k (tk t a)) := by
  blk_point [iblk, V, idx t]

theorem blk1 (t : Fin cfg0.N) (r k : Fin 1024) : iblk m c 1 t (ix3 0 r k) = m ((c.tc : Thread nD τ).loc main_arg1) (ix3 1 (ex t r) k) := by
  blk_point [iblk, V, idx t]

theorem blk2 (t : Fin cfg0.N) (r k : Fin 1024) :
    iblk m c 2 t (ix3 0 r k) = m ((c.tc : Thread nD τ).loc main_arg2) (ix3 1 (⟨(t.val % 16 - 1) * 1024 + r.val, by omega⟩ : Fin 16384) k) := by
  blk_point [iblk, V, idx t]

theorem blk3 (t : Fin cfg0.N) (r k : Fin 1024) :
    iblk m c 3 t (ix3 0 r k) = m ((c.tc : Thread nD τ).loc main_arg2) (ix3 1 (⟨15 * 1024 + r.val, by omega⟩ : Fin 16384) k) := by
  blk_point [iblk, V, idx t]

theorem blk4 (t : Fin cfg0.N) (hd : Fin 8) (k : Fin 128) (a : Fin 512) :
    iblk m c 4 t (ix3 hd k a) = m ((c.tc : Thread nD τ).loc main_arg3) (ix3 hd k (tk t a)) := by
  blk_point [iblk, V, idx t]

theorem blk5 (t : Fin cfg0.N) (hd : Fin 8) (k : Fin 128) (a : Fin 512) :
    iblk m c 5 t (ix3 hd k a) = m ((c.tc : Thread nD τ).loc main_arg4) (ix3 hd k (tk t a)) := by
  blk_point [iblk, V, idx t]

theorem blk6 (t : Fin cfg0.N) (hd : Fin 8) (k : Fin 128) (a : Fin 512) :
    iblk m c 6 t (ix3 hd k a) = m ((c.tc : Thread nD τ).loc main_arg5) (ix3 hd k (tk t a)) := by
  blk_point [iblk, V, idx t]

theorem blk7 (t : Fin cfg0.N) (hd : Fin 8) (k : Fin 128) (a : Fin 512) :
    iblk m c 7 t (ix3 hd k a) = m ((c.tc : Thread nD τ).loc main_arg6) (ix3 hd k (tk t a)) := by
  blk_point [iblk, V, idx t]

theorem blk8 (t : Fin cfg0.N) (a : Fin 512) (k : Fin 1024) : iblk m c 8 t (ix2 a k) = m ((c.tc : Thread nD τ).loc main_arg7) (ix2 (tk t a) k) := by
  blk_point [iblk, V, idx t]

theorem blk9 (t : Fin cfg0.N) (a : Fin 512) (k : Fin 1024) : iblk m c 9 t (ix3 0 0 k) = m ((c.tc : Thread nD τ).loc main_arg8) (ix3 (batch (tk t a)) 0 k) := by
  have hb : batch (tk t a) = (⟨t.val / 64, by have := lt512 t; omega⟩ : Fin 8) := Fin.ext (by simp only [batch]; omega)
  rw [hb]
  blk_point [iblk, V, idx t]

theorem blk10 (t : Fin cfg0.N) (k : Fin 1024) : iblk m c 10 t (ix2 0 k) = m ((c.tc : Thread nD τ).loc main_arg9) (ix2 0 k) := by
  blk_point [iblk, V, idx t]

/-- The expert's terms over the kernel's arguments. -/
abbrev mixedOf (e t : Fin 16384) : EReal :=
  mixed (m ((c.tc : Thread nD τ).loc main_arg0)) (m ((c.tc : Thread nD τ).loc main_arg1)) (m ((c.tc : Thread nD τ).loc main_arg3))
    (m ((c.tc : Thread nD τ).loc main_arg4)) (m ((c.tc : Thread nD τ).loc main_arg5)) (m ((c.tc : Thread nD τ).loc main_arg6)) e t
abbrev termOf (t : Fin 16384) (d : Fin 1024) (n : ℕ) : EReal :=
  term (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) t d n
abbrev resultOf : S16384x1024.Idx → EReal :=
  result (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))

/-- A point's slab holds its block's weighted activations. -/
theorem slab_val (t : Fin cfg0.N) (r : Fin 1024) (a : Fin 512) : slabN m c t.val r a = mixedOf m c (ex t r) (tk t a) := by
  unfold slabN
  rw [dif_pos t.isLt]
  show hid (grid0.coords t) (iblk m c 0 t) (iblk m c 1 t) (iblk m c 4 t) (iblk m c 5 t) (iblk m c 6 t) (iblk m c 7 t)
    (⟨r.val / 128, by omega⟩ : Fin 8) (⟨r.val % 128, by omega⟩ : Fin 128) a = _
  have hr : row (⟨r.val / 128, by omega⟩ : Fin 8) (⟨r.val % 128, by omega⟩ : Fin 128) = r := Fin.ext (by simp only [row]; omega)
  have hk : key (grid0.coords t) (⟨r.val / 128, by omega⟩ : Fin 8) = hi (ex t r) := Fin.ext (by simp only [key, hi, coord_val]; omega)
  have hl : (⟨r.val % 128, by omega⟩ : Fin 128) = lo (ex t r) := Fin.ext (by simp only [lo]; omega)
  unfold hid mixedOf mixed
  rw [hr, hk, hl]
  refine congrArg₂ (fun p q : EReal => p * q) (congrArg gelu (Finset.sum_congr rfl fun k _ => congrArg₂ (fun p q : EReal => p * q) (blk1 m c t r k) (blk0 m c t k a)))
    (Finset.sum_congr rfl fun hd _ => ?_)
  exact congr (congr (congr (congrArg gate (blk4 m c t hd _ a)) (blk6 m c t hd _ a)) (blk5 m c t hd _ a)) (blk7 m c t hd _ a)

theorem acc_zero (n : ℕ) (y : S512x1024.Idx) (h : n % 16 = 0) : accN m c n y = 0 := by
  cases n with
  | zero => rfl
  | succ k => exact if_pos h

theorem acc_succ (n : ℕ) (y : S512x1024.Idx) (h : ¬ (n + 1) % 16 = 0) :
    accN m c (n + 1) y = accN m c n y + ∑ r : Fin 1024, slabN m c n r (y 0) * valN m c (n + 1) r (y 1) := if_neg h

/-- The accumulator of the `j`-th point of a row of the grid: the terms of all blocks before `j`. -/
theorem acc_val (i : ℕ) (hi' : i < 32) (y : S512x1024.Idx) : ∀ j, j < 16 →
    accN m c (16 * i + j) y = ∑ b ∈ Finset.range j, ∑ r : Fin 1024, termOf m c (⟨i * 512 + (y 0).val, by have : (y 0).val < 512 := (y 0).isLt; omega⟩ : Fin 16384) (y 1) (1024 * b + r.val)
  | 0, _ => by
    rw [Finset.sum_range_zero]
    exact acc_zero m c _ y (by omega)
  | j + 1, hj => by
    have e : accN m c (16 * i + (j + 1)) y = accN m c (16 * i + j) y + ∑ r : Fin 1024, slabN m c (16 * i + j) r (y 0) * valN m c (16 * i + j + 1) r (y 1) :=
      acc_succ m c (16 * i + j) y (by omega)
    rw [e, acc_val i hi' y j (by omega), Finset.sum_range_succ]
    refine congrArg₂ (fun p q : EReal => p + q) rfl (Finset.sum_congr rfl fun r _ => ?_)
    have hN : 16 * i + j + 1 < cfg0.N := by show _ < 512; omega
    have h1 := slab_val m c ⟨16 * i + j, by omega⟩ r (y 0)
    have h2 := (valN_at m c ⟨16 * i + j + 1, hN⟩ r (y 1)).symm.trans (blk2 m c ⟨16 * i + j + 1, hN⟩ r (y 1))
    refine (congrArg₂ (fun p q : EReal => p * q) h1 h2).trans ?_
    unfold termOf term
    rw [dif_pos (by omega : 1024 * j + r.val < 16384)]
    have e1 : ex ⟨16 * i + j, by omega⟩ r = (⟨1024 * j + r.val, by omega⟩ : Fin 16384) := Fin.ext (by show (16 * i + j) % 16 * 1024 + r.val = 1024 * j + r.val; omega)
    have e2 : tk ⟨16 * i + j, by omega⟩ (y 0) = (⟨i * 512 + (y 0).val, by have : (y 0).val < 512 := (y 0).isLt; omega⟩ : Fin 16384) :=
      Fin.ext (by show (16 * i + j) / 16 * 512 + (y 0).val = i * 512 + (y 0).val; omega)
    have e3 : (⟨((⟨16 * i + j + 1, hN⟩ : Fin cfg0.N).val % 16 - 1) * 1024 + r.val, by omega⟩ : Fin 16384) = (⟨1024 * j + r.val, by omega⟩ : Fin 16384) :=
      Fin.ext (by show ((16 * i + j + 1) % 16 - 1) * 1024 + r.val = 1024 * j + r.val; omega)
    rw [e1, e2, e3]

/-- The last point's sum is over every expert. -/
theorem last_val (t : Fin cfg0.N) (h15 : t.val % 16 = 15) (a : Fin 512) (d : Fin 1024) :
    accN m c t.val (ix2 a d) + ∑ r : Fin 1024, slabN m c t.val r a * rd3 m c t (ix3 0 r d)
      = experts (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (tk t a) d := by
  have ht := lt512 t
  have hA := acc_val m c (t.val / 16) (by omega) (ix2 a d) 15 (by omega)
  rw [show 16 * (t.val / 16) + 15 = t.val by omega] at hA
  rw [← experts_blocks, Finset.sum_range_succ]
  refine congrArg₂ (fun p q : EReal => p + q) hA (Finset.sum_congr rfl fun r _ => ?_)
  refine (congrArg₂ (fun p q : EReal => p * q) (slab_val m c t r a) (blk3 m c t r d)).trans ?_
  unfold term
  rw [dif_pos (by omega : 1024 * 15 + r.val < 16384)]
  have e1 : ex t r = (⟨1024 * 15 + r.val, by omega⟩ : Fin 16384) := Fin.ext (by show t.val % 16 * 1024 + r.val = 1024 * 15 + r.val; omega)
  have e2 : (⟨15 * 1024 + r.val, by omega⟩ : Fin 16384) = (⟨1024 * 15 + r.val, by omega⟩ : Fin 16384) := Fin.ext (by show 15 * 1024 + r.val = 1024 * 15 + r.val; omega)
  rw [e1, e2]

theorem out_val (t : Fin cfg0.N) (h15 : t.val % 16 = 15) (a : Fin 512) (d : Fin 1024) : outAt m c t (ix2 a d) = resultOf m c (ix2 (tk t a) d) := by
  unfold outAt resultOf result
  have hz : (fun k : Fin 1024 => rd8 m c t (ix2 a k) + rd9 m c t (ix3 0 0 k)
      * (accN m c t.val (ix2 a k) + ∑ r : Fin 1024, slabN m c t.val r a * rd3 m c t (ix3 0 r k)))
      = fun k => stream (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (tk t a) k := by
    funext k
    rw [last_val m c t h15 a k]
    unfold stream
    exact congrArg₂ (fun p q : EReal => p + q) (blk8 m c t a k) (congrArg (fun p : EReal => p * _) (blk9 m c t a k))
  exact congrArg₂ (fun z w => normed z w d) hz (blk10 m c t d)

theorem split11 (y : S512x1024.Idx) : ∃ (a : Fin 512) (d : Fin 1024), y = ix2 a d := by
  have y0 : (y 0).val < 512 := (y 0).isLt
  have y1 : (y 1).val < 1024 := (y 1).isLt
  refine ⟨⟨(y 0).val, y0⟩, ⟨(y 1).val, y1⟩, ?_⟩
  blk_ext

/-- The array after the run. -/
theorem fin11 : (dats m 0 c).arrAt 11 cfg0.N = resultOf m c := by
  refine (dats m 0 c).arrAt_eq_of_covers 11 _ (by decide +kernel) fun t hf y => ?_
  blk_simp
  rw [after_11]
  obtain ⟨a, d, hy⟩ := split11 y
  subst hy
  have hemb : (((View.whole main_v0).slice (win0_11.rect t)).emb (ix2 a d)) = ix2 (tk t a) d := by
    blk_ext [idx t]
  rw [hemb]
  exact out_val m c t ((flush0_11 t).mp hf) a d

end Cert.PeerIdeal.Dense

end
-- ==== Proof.Peer.Reference.lean ====
module

public import proofs.«01_k».proof.Proof.Peer.Layer
public import proofs.«01_k».proof.Proof.Gen.PeerRefIdeal.Run
public import Idealize.ShloMosaic.Lib.Pointwise
public import Idealize.ShloMosaic.Lib.Pipeline.ValueKit

/-! What the reference computes: the same result of the expert layer. -/

@[expose] public section

set_option maxRecDepth 16384

noncomputable section

namespace Cert.PeerRefIdeal.Dense

open Cert.PeerRefIdeal Cert.PeerRefIdeal.Gen Idealize.ShloMosaic Idealize.ShloMosaic.TcCoe Idealize.SL.Sem
open Cert.PeerIdeal.Dense (gelu gate normed mixed experts batch stream result hi lo)

/-- The chosen layer of a table of experts, by rows. -/
def table (U : FVec Ideal S2x16384x1024 .bf16) : FVec Ideal S16384x1024 .f32 :=
  extf .f32 (shapeCast S16384x1024 (extractStridedSlice S1x16384x1024 ![1, 0, 0] U slices_S2x16384x1024_S1x16384x1024_1_0_0) shapeCasts_S1x16384x1024_S16384x1024) bitsLt_bf16_f32

/-- Every expert's key against every token. -/
def dots (X : FVec Ideal S1024x16384 .bf16) (U : FVec Ideal S2x16384x1024 .bf16) : FVec Ideal S16384x16384 .f32 :=
  Host.dotGeneral dot_S16384x1024_S1024x16384_S16384x16384_1_0_0_1_n_n none (table U) (extf .f32 X bitsLt_bf16_f32)

/-- The exact GELU of them. -/
def gelus (D : FVec Ideal S16384x16384 .f32) : FVec Ideal S16384x16384 .f32 :=
  mulf (mulf (broadcastInDim S16384x16384 ![] bcast_S_S16384x16384 (constant S_ .f32 0x3F000000#32)) D) (addf (broadcastInDim S16384x16384 ![] bcast_S_S16384x16384 (constant S_ .f32 0x3F800000#32)) (Host.erf (mulf D (broadcastInDim S16384x16384 ![] bcast_S_S16384x16384 (constant S_ .f32 0x3F3504F3#32)))))

/-- Every head's weight of every pair of keys. -/
def gates (RK BN : FVec Ideal S8x128x16384 .bf16) (CR AV : FVec Ideal S8x128x16384 .f32) : FVec Ideal S8x128x128x16384 .f32 :=
  mulf (select (cmpf .olt (broadcastInDim S8x128x128x16384 ![0, 1, 2, 3] bcast_S8x1x128x16384_S8x128x128x16384_0_1_2_3 (broadcastInDim S8x1x128x16384 ![0, 2, 3] bcast_S8x128x16384_S8x1x128x16384_0_2_3 (extf .f32 RK bitsLt_bf16_f32))) (broadcastInDim S8x128x128x16384 ![0, 1, 2, 3] bcast_S8x128x1x16384_S8x128x128x16384_0_1_2_3 (broadcastInDim S8x128x1x16384 ![0, 1, 3] bcast_S8x128x16384_S8x128x1x16384_0_1_3 CR))) (broadcastInDim S8x128x128x16384 ![0, 1, 2, 3] bcast_S8x1x128x16384_S8x128x128x16384_0_1_2_3 (broadcastInDim S8x1x128x16384 ![0, 2, 3] bcast_S8x128x16384_S8x1x128x16384_0_2_3 (extf .f32 BN bitsLt_bf16_f32))) (broadcastInDim S8x128x128x16384 ![] bcast_S_S8x128x128x16384 (sitofp .f32 (constantI S_ 32 0#32)))) (broadcastInDim S8x128x128x16384 ![0, 1, 2, 3] bcast_S8x128x1x16384_S8x128x128x16384_0_1_2_3 (broadcastInDim S8x128x1x16384 ![0, 1, 3] bcast_S8x128x16384_S8x128x1x16384_0_1_3 AV))

/-- Their sum over the heads, by expert. -/
def weights (Gs : FVec Ideal S8x128x128x16384 .f32) : FVec Ideal S16384x16384 .f32 :=
  shapeCast S16384x16384 (Host.reduceAdd Gs (constant S_ .f32 0x00000000#32) reducesTo_S8x128x128x16384_S128x128x16384_d0 h_S_) shapeCasts_S128x128x16384_S16384x16384

/-- The experts' output. -/
def outs (A B : FVec Ideal S16384x16384 .f32) (W : FVec Ideal S2x16384x1024 .bf16) : FVec Ideal S16384x1024 .f32 :=
  Host.dotGeneral dot_S16384x16384_S16384x1024_S16384x1024_1_0_0_1_n_n none (transpose S16384x16384 [1, 0] (mulf A B) transposes_S16384x16384_S16384x16384_1_0) (table W)

/-- The stream. -/
def streams (Y : FVec Ideal S16384x1024 .f32) (Hs : FVec Ideal S16384x1024 .f32) (G : FVec Ideal S8x1x1024 .f32) : FVec Ideal S16384x1024 .f32 :=
  addf Hs (shapeCast S16384x1024 (mulf (broadcastInDim S8x2048x1024 ![0, 1, 2] bcast_S8x1x1024_S8x2048x1024_0_1_2 G) (shapeCast S8x2048x1024 Y shapeCasts_S16384x1024_S8x2048x1024)) shapeCasts_S8x2048x1024_S16384x1024)

/-- Its normed rows. -/
def norms (Z : FVec Ideal S16384x1024 .f32) (FG : FVec Ideal S1x1024 .f32) : FVec Ideal S16384x1024 .f32 :=
  mulf (mulf Z (broadcastInDim S16384x1024 ![0, 1] bcast_S16384x1_S16384x1024_0_1 (Host.rsqrt (addf (Host.divf (broadcastInDim S16384x1 ![0] bcast_S16384_S16384x1_0 (Host.reduceAdd (mulf Z Z) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 FG)

theorem table_at (U : FVec Ideal S2x16384x1024 .bf16) (e : Fin 16384) (k : Fin 1024) : table U (ix2 e k) = U (ix3 1 e k) := by
  pointwise [table]

theorem dots_at (X : FVec Ideal S1024x16384 .bf16) (U : FVec Ideal S2x16384x1024 .bf16) (e t : Fin 16384) :
    dots X U (ix2 e t) = (∑ k : Fin 1024, U (ix3 1 e k) * X (ix2 k t) : EReal) := by
  unfold dots
  simp only [← table_at]
  generalize table U = T
  pointwise

theorem gelus_at (D : FVec Ideal S16384x16384 .f32) (e t : Fin 16384) : gelus D (ix2 e t) = gelu (D (ix2 e t)) := by
  unfold gelu
  pointwise [gelus]
  rfl

theorem zero_of : (FloatOps.sitofp (F := Ideal) FTy.f32 (0#32) : EReal) = 0 := by
  show (((0#32 : BitVec 32).toInt : ℝ) : EReal) = 0
  simp

theorem gates_at (RK BN : FVec Ideal S8x128x16384 .bf16) (CR AV : FVec Ideal S8x128x16384 .f32) (hd : Fin 8) (p q : Fin 128) (t : Fin 16384) :
    gates RK BN CR AV (ix4 hd p q t) = gate (RK (ix3 hd q t)) (CR (ix3 hd p t)) (BN (ix3 hd q t)) (AV (ix3 hd p t)) := by
  pointwise [gates]
  rw [zero_of]
  exact Cert.PeerIdeal.Dense.gate_of rfl rfl rfl rfl

theorem weights_at (Gs : FVec Ideal S8x128x128x16384 .f32) (e t : Fin 16384) :
    weights Gs (ix2 e t) = (∑ hd : Fin 8, Gs (ix4 hd (hi e) (lo e) t) : EReal) := by
  pointwise [weights]
  rfl

theorem outs_at (A B : FVec Ideal S16384x16384 .f32) (W : FVec Ideal S2x16384x1024 .bf16) (t : Fin 16384) (d : Fin 1024) :
    outs A B W (ix2 t d) = (∑ e : Fin 16384, A (ix2 e t) * B (ix2 e t) * W (ix3 1 e d) : EReal) := by
  unfold outs
  simp only [← table_at]
  generalize table W = T
  pointwise

theorem streams_at (Y : FVec Ideal S16384x1024 .f32) (Hs : FVec Ideal S16384x1024 .f32) (G : FVec Ideal S8x1x1024 .f32) (t : Fin 16384) (d : Fin 1024) :
    streams Y Hs G (ix2 t d) = (Hs (ix2 t d) + G (ix3 (batch t) 0 d) * Y (ix2 t d) : EReal) := by
  pointwise [streams]
  rfl

theorem norms_at (Z : FVec Ideal S16384x1024 .f32) (FG : FVec Ideal S1x1024 .f32) (t : Fin 16384) (d : Fin 1024) :
    norms Z FG (ix2 t d) = normed (fun k => Z (ix2 t k)) (FG (ix2 0 d)) d := by
  unfold normed
  pointwise [norms]

/-- The reference's result, as it computes it. -/
def whole (X : FVec Ideal S1024x16384 .bf16) (U W : FVec Ideal S2x16384x1024 .bf16) (RK BN : FVec Ideal S8x128x16384 .bf16) (CR AV : FVec Ideal S8x128x16384 .f32)
    (Hs : FVec Ideal S16384x1024 .f32) (G : FVec Ideal S8x1x1024 .f32) (FG : FVec Ideal S1x1024 .f32) : FVec Ideal S16384x1024 .f32 :=
  norms (streams (outs (gelus (dots X U)) (weights (gates RK BN CR AV)) W) Hs G) FG

theorem whole_eq (X : FVec Ideal S1024x16384 .bf16) (U W : FVec Ideal S2x16384x1024 .bf16) (RK BN : FVec Ideal S8x128x16384 .bf16) (CR AV : FVec Ideal S8x128x16384 .f32)
    (Hs : FVec Ideal S16384x1024 .f32) (G : FVec Ideal S8x1x1024 .f32) (FG : FVec Ideal S1x1024 .f32) :
    whole X U W RK BN CR AV Hs G FG = result X U W RK BN CR AV Hs G FG := by
  funext y
  obtain ⟨t, d, hy⟩ : ∃ (t : Fin 16384) (d : Fin 1024), y = ix2 t d := ⟨⟨(y 0).val, (y 0).isLt⟩, ⟨(y 1).val, (y 1).isLt⟩, by blk_ext⟩
  subst hy
  unfold whole
  refine (norms_at _ FG t d).trans (congrArg (fun z => normed z (FG (ix2 0 d)) d) (funext fun k => ?_))
  refine (streams_at _ Hs G t k).trans (congrArg (fun p : EReal => Hs (ix2 t k) + G (ix3 (batch t) 0 k) * p) ?_)
  refine (outs_at _ _ W t k).trans (Finset.sum_congr rfl fun e _ => congrArg (fun p : EReal => p * W (ix3 1 e k)) ?_)
  show _ = mixed X U RK BN CR AV e t
  unfold mixed
  rw [gelus_at, dots_at, weights_at]
  simp only [gates_at]

theorem res_eq (m : (ℓ : Loc nD τ sig) → Buf (Elt Ideal) ℓ) (c : Dev nD) :
    Value.res_main_v49 (F := Ideal) m c = whole (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) := rfl

end Cert.PeerRefIdeal.Dense

end
-- ==== Proof.Peer.Claims.lean ====
module

public import proofs.«01_k».proof.Defs
public import proofs.«01_k».proof.Proof.Peer.Frame
public import proofs.«01_k».proof.Proof.Peer.IdealValue
public import proofs.«01_k».proof.Proof.Peer.Reference

/-! The claims about the expert layer. -/

@[expose] public section

set_option maxRecDepth 16384

noncomputable section

namespace Cert.Peer.Claims

open Idealize.ShloMosaic Idealize.SL.Sem

theorem kernel_frame : quiescent_Peer := fun m g _ => Cert.Peer.Dense.frame m g

theorem ideal_frame : quiescent_PeerIdeal := fun m g _ => Cert.PeerIdeal.Dense.frame m g

/-- The reference's run leaves its arguments alone and every counter at zero. -/
theorem reference_frame : quiescent_PeerRefIdeal := fun m g _ =>
  (θ_run PeerRefIdeal.defs _ _).mono
    (fun r h => ⟨fun c => (h c).2, Idealize.ShloMosaic.sem_eq_zero_of_no_sems (by decide) r.2⟩)
    (PeerRefIdeal.Value.run (F := Ideal) m g)

/-- The kernel and the reference leave the same result. -/
theorem algebraic : algebraic_PeerIdeal_PeerRefIdeal := by
  intro m g m' g' hpre hagree
  refine ⟨fun c => PeerIdeal.Dense.resultOf m c, ?_, ?_⟩
  · exact (θ_run PeerIdeal.defs _ _).mono (fun r h c => ⟨(h c).1.trans (PeerIdeal.Dense.fin11 m c), (h c).2⟩) (PeerIdeal.Dense.run_result m g)
  · refine (θ_run PeerRefIdeal.defs _ _).mono (fun r h c => ⟨?_, (h c).2⟩) (PeerRefIdeal.Value.run (F := Ideal) m' g')
    obtain ⟨h0, h1, h2, h3, h4, h5, h6, h7, h8, h9⟩ := hagree c
    refine (h c).1.trans ((PeerRefIdeal.Dense.res_eq m' c).trans ?_)
    rw [h0, h1, h2, h3, h4, h5, h6, h7, h8, h9]
    exact PeerRefIdeal.Dense.whole_eq _ _ _ _ _ _ _ _ _ _

end Cert.Peer.Claims

end
-- ==== Proof.lean ====
module

public import proofs.«01_k».proof.Proof.Gen.KernelIdeal.Value
public import proofs.«01_k».proof.Proof.Gen.ReferenceIdeal.Run
public import proofs.«01_k».proof.Proof.Gen.Pre_finite_scores
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Attn.Claims
public import proofs.«01_k».proof.Proof.Gen.Project1
public import proofs.«01_k».proof.Proof.Gen.Project1Ideal
public import proofs.«01_k».proof.Proof.Gen.Project1.Skeleton
public import proofs.«01_k».proof.Proof.Gen.Project1Ideal.Skeleton
public import proofs.«01_k».proof.Proof.Gen.Project1.Launch
public import proofs.«01_k».proof.Proof.Gen.Project1Ideal.Launch
public import proofs.«01_k».proof.Proof.Gen.Project1.Points
public import proofs.«01_k».proof.Proof.Gen.Project1Ideal.Points
public import proofs.«01_k».proof.Proof.Gen.Project1.Frame
public import proofs.«01_k».proof.Proof.Gen.Project1Ideal.Frame
public import proofs.«01_k».proof.Proof.Gen.Project1Ideal.Value
public import proofs.«01_k».proof.Proof.Gen.Project1RefIdeal
public import proofs.«01_k».proof.Proof.Gen.Project1RefIdeal.Run
public import proofs.«01_k».proof.Proof.Proj.Project1Claims
public import proofs.«01_k».proof.Proof.Gen.Project0
public import proofs.«01_k».proof.Proof.Gen.Project0Ideal
public import proofs.«01_k».proof.Proof.Gen.Project0.Skeleton
public import proofs.«01_k».proof.Proof.Gen.Project0Ideal.Skeleton
public import proofs.«01_k».proof.Proof.Gen.Project0.Launch
public import proofs.«01_k».proof.Proof.Gen.Project0Ideal.Launch
public import proofs.«01_k».proof.Proof.Gen.Project0.Points
public import proofs.«01_k».proof.Proof.Gen.Project0Ideal.Points
public import proofs.«01_k».proof.Proof.Gen.Project0.Frame
public import proofs.«01_k».proof.Proof.Gen.Project0Ideal.Frame
public import proofs.«01_k».proof.Proof.Gen.Project0Ideal.Value
public import proofs.«01_k».proof.Proof.Gen.Project0RefIdeal
public import proofs.«01_k».proof.Proof.Gen.Project0RefIdeal.Run
public import proofs.«01_k».proof.Proof.Proj.Project0Claims
public import proofs.«01_k».proof.Proof.Gen.OutProj
public import proofs.«01_k».proof.Proof.Gen.OutProjIdeal
public import proofs.«01_k».proof.Proof.Gen.OutProj.Skeleton
public import proofs.«01_k».proof.Proof.Gen.OutProjIdeal.Skeleton
public import proofs.«01_k».proof.Proof.Gen.OutProj.Launch
public import proofs.«01_k».proof.Proof.Gen.OutProjIdeal.Launch
public import proofs.«01_k».proof.Proof.Gen.OutProj.Points
public import proofs.«01_k».proof.Proof.Gen.OutProjIdeal.Points
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Proj.OutProjClaims
public import proofs.«01_k».proof.Proof.Gen.Readout
public import proofs.«01_k».proof.Proof.Gen.ReadoutIdeal
public import proofs.«01_k».proof.Proof.Gen.Readout.Skeleton
public import proofs.«01_k».proof.Proof.Gen.ReadoutIdeal.Skeleton
public import proofs.«01_k».proof.Proof.Gen.Readout.Launch
public import proofs.«01_k».proof.Proof.Gen.ReadoutIdeal.Launch
public import proofs.«01_k».proof.Proof.Gen.Readout.Points
public import proofs.«01_k».proof.Proof.Gen.ReadoutIdeal.Points
public import proofs.«01_k».proof.Proof.Gen.Readout.Frame
public import proofs.«01_k».proof.Proof.Gen.ReadoutIdeal.Frame
public import proofs.«01_k».proof.Proof.Gen.ReadoutRefIdeal
public import proofs.«01_k».proof.Proof.Gen.ReadoutRefIdeal.Run
public import proofs.«01_k».proof.Proof.Proj.ReadoutClaims
public import proofs.«01_k».proof.Proof.Gen.Project1Ctx
public import proofs.«01_k».proof.Proof.Gen.Project1CtxIdeal
public import proofs.«01_k».proof.Proof.Gen.Project1Ctx.Skeleton
public import proofs.«01_k».proof.Proof.Gen.Project1CtxIdeal.Skeleton
public import proofs.«01_k».proof.Proof.Gen.Project1Ctx.Launch
public import proofs.«01_k».proof.Proof.Gen.Project1CtxIdeal.Launch
public import proofs.«01_k».proof.Proof.Gen.Project1Ctx.Points
public import proofs.«01_k».proof.Proof.Gen.Project1CtxIdeal.Points
public import proofs.«01_k».proof.Proof.Gen.Project1Ctx.Frame
public import proofs.«01_k».proof.Proof.Gen.Project1CtxIdeal.Frame
public import proofs.«01_k».proof.Proof.Gen.Project1CtxIdeal.Value
public import proofs.«01_k».proof.Proof.Gen.Project1CtxRefIdeal
public import proofs.«01_k».proof.Proof.Gen.Project1CtxRefIdeal.Run
public import proofs.«01_k».proof.Proof.Proj.Project1CtxClaims
public import proofs.«01_k».proof.Proof.Gen.Project0Ctx
public import proofs.«01_k».proof.Proof.Gen.Project0CtxIdeal
public import proofs.«01_k».proof.Proof.Gen.Project0Ctx.Skeleton
public import proofs.«01_k».proof.Proof.Gen.Project0CtxIdeal.Skeleton
public import proofs.«01_k».proof.Proof.Gen.Project0Ctx.Launch
public import proofs.«01_k».proof.Proof.Gen.Project0CtxIdeal.Launch
public import proofs.«01_k».proof.Proof.Gen.Project0Ctx.Points
public import proofs.«01_k».proof.Proof.Gen.Project0CtxIdeal.Points
public import proofs.«01_k».proof.Proof.Gen.Project0Ctx.Frame
public import proofs.«01_k».proof.Proof.Gen.Project0CtxIdeal.Frame
public import proofs.«01_k».proof.Proof.Gen.Project0CtxIdeal.Value
public import proofs.«01_k».proof.Proof.Gen.Project0CtxRefIdeal
public import proofs.«01_k».proof.Proof.Gen.Project0CtxRefIdeal.Run
public import proofs.«01_k».proof.Proof.Proj.Project0CtxClaims
public import proofs.«01_k».proof.Proof.Gen.OutProjCtx
public import proofs.«01_k».proof.Proof.Gen.OutProjCtxIdeal
public import proofs.«01_k».proof.Proof.Gen.OutProjCtx.Skeleton
public import proofs.«01_k».proof.Proof.Gen.OutProjCtxIdeal.Skeleton
public import proofs.«01_k».proof.Proof.Gen.OutProjCtx.Launch
public import proofs.«01_k».proof.Proof.Gen.OutProjCtxIdeal.Launch
public import proofs.«01_k».proof.Proof.Gen.OutProjCtx.Points
public import proofs.«01_k».proof.Proof.Gen.OutProjCtxIdeal.Points
public import proofs.«01_k».proof.Proof.Gen.OutProjCtx.Frame
public import proofs.«01_k».proof.Proof.Gen.OutProjCtxIdeal.Frame
public import proofs.«01_k».proof.Proof.Gen.OutProjCtxIdeal.Value
public import proofs.«01_k».proof.Proof.Gen.OutProjCtxRefIdeal
public import proofs.«01_k».proof.Proof.Gen.OutProjCtxRefIdeal.Run
public import proofs.«01_k».proof.Proof.Proj.OutProjCtxClaims
public import proofs.«01_k».proof.Proof.Gen.Peer
public import proofs.«01_k».proof.Proof.Gen.PeerIdeal
public import proofs.«01_k».proof.Proof.Gen.Peer.Skeleton
public import proofs.«01_k».proof.Proof.Gen.PeerIdeal.Skeleton
public import proofs.«01_k».proof.Proof.Gen.Peer.Launch
public import proofs.«01_k».proof.Proof.Gen.PeerIdeal.Launch
public import proofs.«01_k».proof.Proof.Gen.Peer.Points
public import proofs.«01_k».proof.Proof.Gen.PeerIdeal.Points
public import proofs.«01_k».proof.Proof.Gen.Peer.Frame
public import proofs.«01_k».proof.Proof.Gen.PeerIdeal.Frame
public import proofs.«01_k».proof.Proof.Gen.PeerRefIdeal
public import proofs.«01_k».proof.Proof.Gen.PeerRefIdeal.Run
public import proofs.«01_k».proof.Proof.Peer.Claims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts,
    Cert.KernelIdeal.Gen.facts,
    Cert.ReferenceIdeal.Gen.facts,
    Cert.Project1.Gen.facts,
    Cert.Project1Ideal.Gen.facts,
    Cert.Project1RefIdeal.Gen.facts,
    Cert.Project0.Gen.facts,
    Cert.Project0Ideal.Gen.facts,
    Cert.Project0RefIdeal.Gen.facts,
    Cert.OutProj.Gen.facts,
    Cert.OutProjIdeal.Gen.facts,
    Cert.OutProjRefIdeal.Gen.facts,
    Cert.Readout.Gen.facts,
    Cert.ReadoutIdeal.Gen.facts,
    Cert.ReadoutRefIdeal.Gen.facts,
    Cert.Project1Ctx.Gen.facts,
    Cert.Project1CtxIdeal.Gen.facts,
    Cert.Project1CtxRefIdeal.Gen.facts,
    Cert.Project0Ctx.Gen.facts,
    Cert.Project0CtxIdeal.Gen.facts,
    Cert.Project0CtxRefIdeal.Gen.facts,
    Cert.OutProjCtx.Gen.facts,
    Cert.OutProjCtxIdeal.Gen.facts,
    Cert.OutProjCtxRefIdeal.Gen.facts,
    Cert.Peer.Gen.facts,
    Cert.PeerIdeal.Gen.facts,
    Cert.PeerRefIdeal.Gen.facts,
    Cert.Pre_finite_scores.Gen.facts,
    fun m g _ => Cert.Kernel.Gen.frame m g,
    fun m g _ => Cert.KernelIdeal.Gen.frame m g,
    fun m g _ => Cert.KernelIdeal.Gen.frame m g,
    Cert.Attn.Claims.reference_frame,
    fun m g _ => Cert.Attn.Claims.reference_frame m g trivial,
    fun m g _ => Cert.Project1.Gen.frame m g,
    fun m g _ => Cert.Project1Ideal.Gen.frame m g,
    Cert.Proj.Project1.reference_frame,
    fun m g _ => Cert.Project0.Gen.frame m g,
    fun m g _ => Cert.Project0Ideal.Gen.frame m g,
    Cert.Proj.Project0.reference_frame,
    fun m g _ => Cert.OutProj.Gen.frame m g,
    fun m g _ => Cert.OutProjIdeal.Gen.frame m g,
    Cert.Proj.OutProj.reference_frame,
    fun m g _ => Cert.Readout.Gen.frame m g,
    fun m g _ => Cert.ReadoutIdeal.Gen.frame m g,
    Cert.Proj.Readout.reference_frame,
    fun m g _ => Cert.Project1Ctx.Gen.frame m g,
    fun m g _ => Cert.Project1CtxIdeal.Gen.frame m g,
    Cert.Proj.Project1Ctx.reference_frame,
    fun m g _ => Cert.Project0Ctx.Gen.frame m g,
    fun m g _ => Cert.Project0CtxIdeal.Gen.frame m g,
    Cert.Proj.Project0Ctx.reference_frame,
    fun m g _ => Cert.OutProjCtx.Gen.frame m g,
    fun m g _ => Cert.OutProjCtxIdeal.Gen.frame m g,
    Cert.Proj.OutProjCtx.reference_frame,
    Cert.Peer.Claims.kernel_frame,
    Cert.Peer.Claims.ideal_frame,
    Cert.Peer.Claims.reference_frame,
    Cert.Attn.Claims.preserves,
    Cert.Attn.Claims.algebraic,
    trivial,
    Cert.Proj.Project1.algebraic,
    trivial,
    Cert.Proj.Project0.algebraic,
    trivial,
    Cert.Proj.OutProj.algebraic,
    trivial,
    Cert.Proj.Readout.algebraic,
    trivial,
    Cert.Proj.Project1Ctx.algebraic,
    trivial,
    Cert.Proj.Project0Ctx.algebraic,
    trivial,
    Cert.Proj.OutProjCtx.algebraic,
    trivial,
    Cert.Peer.Claims.algebraic⟩

end Cert.Proof

end
